-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v75) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v14)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v30) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v50) = v0 c
          ∧ r.2.mem ((c.tc : Thread Cert.Reference13Ideal.nD Cert.Reference13Ideal.τ).loc Cert.Reference13Ideal.main_v51) = v1 c
          ∧ r.2.mem ((c.tc : Thread Cert.Reference13Ideal.nD Cert.Reference13Ideal.τ).loc Cert.Reference13Ideal.main_v52) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v39) = v0 c
          ∧ r.2.mem ((c.tc : Thread Cert.Reference18Ideal.nD Cert.Reference18Ideal.τ).loc Cert.Reference18Ideal.main_v40) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v14)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v14) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v17) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S1024 .f32) (main_arg2 : FVec F S1024x2816 .f32) (main_arg3 : FVec F S1024x2816 .f32) (main_arg4 : FVec F S2816x1024 .f32) (main_arg5 : FVec F S16384x1024 .f32) : IVec S16384x1024 1 × IVec S1024 1 × IVec S1024x2816 1 × IVec S1024x2816 1 × IVec S2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S16384x1024 .f32 := Host.absf main_arg5
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  (main_v2, main_v5, main_v8, main_v11, main_v14, main_v17)
-- ==== Kernel.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 38
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S2816x1024, .f32⟩
  | .hbm, ⟨24, _⟩ => ⟨S2816x1024, .bf16⟩
  | .hbm, ⟨25, _⟩ => ⟨S2816x1024, .f32⟩
  | .hbm, ⟨26, _⟩ => ⟨S2816x1024, .bf16⟩
  | .hbm, ⟨27, _⟩ => ⟨S16384x2816, .f32⟩
  | .hbm, ⟨28, _⟩ => ⟨S16384x2816, .bf16⟩
  | .hbm, ⟨29, _⟩ => ⟨S16384x2816, .f32⟩
  | .hbm, ⟨30, _⟩ => ⟨S16384x2816, .bf16⟩
  | .hbm, ⟨31, _⟩ => ⟨S2816x1024, .bf16⟩
  | .hbm, ⟨32, _⟩ => ⟨S1x1024, .f32⟩
  | .hbm, ⟨33, _⟩ => ⟨S16384x1024, .f32⟩
  | .hbm, ⟨34, _⟩ => ⟨S16384x2816, .bf16⟩
  | .hbm, ⟨35, _⟩ => ⟨S16384x1024, .bf16⟩
  | .hbm, ⟨36, _⟩ => ⟨S16384x1024, .bf16⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x1024, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384x1024, .f32⟩
  | .hbm, ⟨89, _⟩ => ⟨S16384x1024, .f32⟩
  | .hbm, ⟨90, _⟩ => ⟨S1024x2816, .f32⟩
  | .hbm, ⟨91, _⟩ => ⟨S16384x2816, .f32⟩
  | .hbm, ⟨92, _⟩ => ⟨S16384x2816, .bf16⟩
  | .hbm, ⟨93, _⟩ => ⟨S16384x1024, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S16384x1, .f32⟩
  | .hbm, ⟨104, _⟩ => ⟨S16384x1024, .f32⟩
  | .hbm, ⟨105, _⟩ => ⟨S16384x1024, .f32⟩
  | .hbm, ⟨106, _⟩ => ⟨S1x1024, .f32⟩
  | .hbm, ⟨107, _⟩ => ⟨S16384x1024, .f32⟩
  | .hbm, ⟨108, _⟩ => ⟨S16384x1024, .f32⟩
  | .hbm, ⟨109, _⟩ => ⟨S16384x1024, .bf16⟩
  | .hbm, ⟨110, _⟩ => ⟨S16384x1024, .bf16⟩
  | .hbm, ⟨111, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_11 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 41
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S2816x1024, .f32⟩
  | .hbm, ⟨24, _⟩ => ⟨S2816x1024, .bf16⟩
  | .hbm, ⟨25, _⟩ => ⟨S2816x1024, .f32⟩
  | .hbm, ⟨26, _⟩ => ⟨S2816x1024, .bf16⟩
  | .hbm, ⟨27, _⟩ => ⟨S16384x2816, .f32⟩
  | .hbm, ⟨28, _⟩ => ⟨S16384x2816, .bf16⟩
  | .hbm, ⟨29, _⟩ => ⟨S16384x2816, .f32⟩
  | .hbm, ⟨30, _⟩ => ⟨S16384x2816, .bf16⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .bf16⟩
  | .hbm, ⟨35, _⟩ => ⟨S2816x1024, .bf16⟩
  | .hbm, ⟨36, _⟩ => ⟨S16384x2816, .f32⟩
  | .hbm, ⟨37, _⟩ => ⟨S16384x2816, .bf16⟩
  | .hbm, ⟨38, _⟩ => ⟨S2816x1024, .bf16⟩
  | .hbm, ⟨39, _⟩ => ⟨S2816x1024, .bf16⟩
  | .hbm, ⟨40, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_26 : BitVec 32 := 0#32
  let v51 : BitVec 1 := Scalar.cmpi .ne v50 c0_i32_26
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S1024x2816, .f32⟩
  | .hbm, ⟨47, _⟩ => ⟨S2816x1024, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S2816x1024, .f32⟩
  | .hbm, ⟨52, _⟩ => ⟨S1024x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S2816x1024, .f32⟩
  | .hbm, ⟨58, _⟩ => ⟨S1024x2816, .f32⟩
  | .hbm, ⟨59, _⟩ => ⟨S2816x1024, .f32⟩
  | .hbm, ⟨60, _⟩ => ⟨S2816x1024, .bf16⟩
  | .hbm, ⟨61, _⟩ => ⟨S2816x1024, .f32⟩
  | .hbm, ⟨62, _⟩ => ⟨S2816x1024, .bf16⟩
  | .hbm, ⟨63, _⟩ => ⟨S2816x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== Kernel3.lean ====
abbrev S16384x3072 : Shape := ⟨2, ![16384, 3072]⟩
abbrev S3x1024 : Shape := ⟨2, ![3, 1024]⟩
abbrev S16384x1024 : Shape := ⟨2, ![16384, 1024]⟩
abbrev S_ : Shape := ⟨0, ![]⟩
abbrev S8x1024 : Shape := ⟨2, ![8, 1024]⟩
abbrev S1024x1024 : Shape := ⟨2, ![1024, 1024]⟩
abbrev S1024x3072 : Shape := ⟨2, ![1024, 3072]⟩
abbrev S8x3072 : Shape := ⟨2, ![8, 3072]⟩
abbrev S1024x1 : Shape := ⟨2, ![1024, 1]⟩
abbrev S1x1024 : Shape := ⟨2, ![1, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x3072, .bf16⟩
  | .hbm, ⟨1, _⟩ => ⟨S3x1024, .f32⟩
  | .hbm, ⟨2, _⟩ => ⟨S16384x1024, .bf16⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S16384x3072, .bf16⟩
  | .hbm, ⟨7, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1024, .bf16⟩
  | .local _ .vmem, ⟨3, _⟩ => ⟨S8x1024, .bf16⟩
  | .local _ .vmem, ⟨4, _⟩ => ⟨S1024x3072, .bf16⟩
  | .local _ .vmem, ⟨5, _⟩ => ⟨S1024x3072, .bf16⟩
  | .local _ .vmem, ⟨6, _⟩ => ⟨S8x3072, .bf16⟩
  | .local _ .vmem, ⟨7, _⟩ => ⟨S8x3072, .bf16⟩
  | .local _ .vmem, ⟨8, _⟩ => ⟨S8x3072, .bf16⟩
  | .local _ .vmem, ⟨9, _⟩ => ⟨S8x3072, .bf16⟩
  | .local _ .vmem, ⟨10, _⟩ => ⟨S8x1024, .f32⟩
  | .local _ .vmem, ⟨11, _⟩ => ⟨S1024x3072, .bf16⟩
  | .local _ .vmem, ⟨12, _⟩ => ⟨S1024x3072, .bf16⟩
  | .local _ .vmem, ⟨13, _⟩ => ⟨S8x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S16384x3072 : Shape := ⟨2, ![16384, 3072]⟩
abbrev S3x1024 : Shape := ⟨2, ![3, 1024]⟩
abbrev S16384x1024 : Shape := ⟨2, ![16384, 1024]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S3x1024, .f32⟩
  | .hbm, ⟨2, _⟩ => ⟨S16384x1024, .bf16⟩
  | .hbm, ⟨3, _⟩ => ⟨S16384x3072, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S2x1024, .f32⟩
  | .hbm, ⟨10, _⟩ => ⟨S16386x1024, .f32⟩
  | .hbm, ⟨11, _⟩ => ⟨S_, .f32⟩
  | .hbm, ⟨12, _⟩ => ⟨S2x1024, .f32⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S_, .f32⟩
  | .hbm, ⟨52, _⟩ => ⟨S16386x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S3x1024, .f32⟩
  | .hbm, ⟨64, _⟩ => ⟨S3x1024, .f32⟩
  | .hbm, ⟨65, _⟩ => ⟨S_, .f32⟩
  | .hbm, ⟨66, _⟩ => ⟨S16386x1024, .f32⟩
  | .hbm, ⟨67, _⟩ => ⟨S16386x1024, .f32⟩
  | .hbm, ⟨68, _⟩ => ⟨S16384x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S3x1024, .f32⟩
  | .hbm, ⟨79, _⟩ => ⟨S3x1024, .f32⟩
  | .hbm, ⟨80, _⟩ => ⟨S_, .f32⟩
  | .hbm, ⟨81, _⟩ => ⟨S16386x1024, .f32⟩
  | .hbm, ⟨82, _⟩ => ⟨S16386x1024, .f32⟩
  | .hbm, ⟨83, _⟩ => ⟨S2x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x3072, .f32⟩
  | .hbm, ⟨88, _⟩ => ⟨S16384x3072, .bf16⟩
  | .hbm, ⟨89, _⟩ => ⟨S_, .i32⟩
  | .hbm, ⟨90, _⟩ => ⟨S_, .f32⟩
  | .hbm, ⟨91, _⟩ => ⟨S8x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c : Ref sig .tc := ⟨.hbm, 89, rfl⟩
abbrev main_call0_v0 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 14
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S1x1024, .f32⟩
  | .hbm, ⟨11, _⟩ => ⟨S16384x1024, .f32⟩
  | .hbm, ⟨12, _⟩ => ⟨S16384x2816, .bf16⟩
  | .hbm, ⟨13, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S_, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x2816, .f32⟩
  | .hbm, ⟨55, _⟩ => ⟨S16384x2816, .bf16⟩
  | .hbm, ⟨56, _⟩ => ⟨S16384x2816, .f32⟩
  | .hbm, ⟨57, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S3072x1024 : Shape := ⟨2, ![3072, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S16384x3072, .bf16⟩
  | .hbm, ⟨5, _⟩ => ⟨S3072x1024, .f32⟩
  | .hbm, ⟨6, _⟩ => ⟨S3072x1024, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S16384x3072, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x3072, .f32⟩
  | .hbm, ⟨26, _⟩ => ⟨S16384x3072, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 22
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x3072, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S3072x1024 : Shape := ⟨2, ![3072, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x3072, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3072, .f32⟩
  | .hbm, ⟨21, _⟩ => ⟨S16384x3072, .f32⟩
  | .hbm, ⟨22, _⟩ => ⟨S3072x1024, .f32⟩
  | .hbm, ⟨23, _⟩ => ⟨S1024x3072, .f32⟩
  | .hbm, ⟨24, _⟩ => ⟨S3072x1024, .f32⟩
  | .hbm, ⟨25, _⟩ => ⟨S3072x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S16384x1024 : Shape := ⟨2, ![16384, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S16384x1024 : Shape := ⟨2, ![16384, 1024]⟩
abbrev S1024 : Shape := ⟨1, ![1024]⟩
abbrev S1024x3072 : Shape := ⟨2, ![1024, 3072]⟩
abbrev S3072x1024 : Shape := ⟨2, ![3072, 1024]⟩
abbrev S1x1024 : Shape := ⟨2, ![1, 1024]⟩
abbrev S16384x3072 : Shape := ⟨2, ![16384, 3072]⟩
abbrev S1024x1024 : Shape := ⟨2, ![1024, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S3072x1024, .f32⟩
  | .hbm, ⟨4, _⟩ => ⟨S3072x1024, .bf16⟩
  | .hbm, ⟨5, _⟩ => ⟨S1x1024, .f32⟩
  | .hbm, ⟨6, _⟩ => ⟨S16384x1024, .bf16⟩
  | .hbm, ⟨7, _⟩ => ⟨S16384x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3072x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x3072, .bf16⟩
  | .local _ .vmem, ⟨7, _⟩ => ⟨S1024x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x3072, .f32⟩
  | .hbm, ⟨21, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S16384x3072 : Shape := ⟨2, ![16384, 3072]⟩
abbrev S3x1024 : Shape := ⟨2, ![3, 1024]⟩
abbrev S_ : Shape := ⟨0, ![]⟩
abbrev S8x1024 : Shape := ⟨2, ![8, 1024]⟩
abbrev S16384x1024 : Shape := ⟨2, ![16384, 1024]⟩
abbrev S1024x3072 : Shape := ⟨2, ![1024, 3072]⟩
abbrev S8x3072 : Shape := ⟨2, ![8, 3072]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x3072, .bf16⟩
  | .hbm, ⟨1, _⟩ => ⟨S3x1024, .f32⟩
  | .hbm, ⟨2, _⟩ => ⟨S_, .i32⟩
  | .hbm, ⟨3, _⟩ => ⟨S_, .f32⟩
  | .hbm, ⟨4, _⟩ => ⟨S8x1024, .f32⟩
  | .hbm, ⟨5, _⟩ => ⟨S16384x1024, .bf16⟩
  | .local _ .vmem, ⟨0, _⟩ => ⟨S1024x3072, .bf16⟩
  | .local _ .vmem, ⟨1, _⟩ => ⟨S1024x3072, .bf16⟩
  | .local _ .vmem, ⟨2, _⟩ => ⟨S8x3072, .bf16⟩
  | .local _ .vmem, ⟨3, _⟩ => ⟨S8x3072, .bf16⟩
  | .local _ .vmem, ⟨4, _⟩ => ⟨S8x1024, .f32⟩
  | .local _ .vmem, ⟨5, _⟩ => ⟨S1024x1024, .bf16⟩
  | .local _ .vmem, ⟨6, _⟩ => ⟨S1024x1024, .bf16⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S16384x3072 : Shape := ⟨2, ![16384, 3072]⟩
abbrev S3x1024 : Shape := ⟨2, ![3, 1024]⟩
abbrev S16384x1024 : Shape := ⟨2, ![16384, 1024]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩
abbrev S1024 : Shape := ⟨1, ![1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S3x1024, .f32⟩
  | .hbm, ⟨2, _⟩ => ⟨S16384x3072, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S2x1024, .f32⟩
  | .hbm, ⟨9, _⟩ => ⟨S16386x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x352 : Shape := ⟨2, ![4096, 352]⟩
abbrev S512x352 : Shape := ⟨2, ![512, 352]⟩

abbrev nBuf : Space → Nat
  | .hbm => 7
  | .vmem => 14
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S4096x352, .f32⟩
  | .hbm, ⟨5, _⟩ => ⟨S4096x352, .f32⟩
  | .hbm, ⟨6, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4096x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4096x352 : Shape := ⟨2, ![4096, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S_, .f32⟩
  | .hbm, ⟨5, _⟩ => ⟨S4096x352, .f32⟩
  | .hbm, ⟨6, _⟩ => ⟨S4096x352, .f32⟩
  | .hbm, ⟨7, _⟩ => ⟨S_, .f32⟩
  | .hbm, ⟨8, _⟩ => ⟨S4096x352, .f32⟩
  | .hbm, ⟨9, _⟩ => ⟨S4096x352, .f32⟩
  | .hbm, ⟨10, _⟩ => ⟨S4096x352, .f32⟩
  | .hbm, ⟨11, _⟩ => ⟨S_, .f32⟩
  | .hbm, ⟨12, _⟩ => ⟨S4096x352, .f32⟩
  | .hbm, ⟨13, _⟩ => ⟨S4096x352, .f32⟩
  | .hbm, ⟨14, _⟩ => ⟨S4096x352, .f32⟩
  | .hbm, ⟨15, _⟩ => ⟨S_, .f32⟩
  | .hbm, ⟨16, _⟩ => ⟨S4096x352, .f32⟩
  | .hbm, ⟨17, _⟩ => ⟨S4096x352, .f32⟩
  | .hbm, ⟨18, _⟩ => ⟨S4096x352, .f32⟩
  | .hbm, ⟨19, _⟩ => ⟨S_, .f32⟩
  | .hbm, ⟨20, _⟩ => ⟨S4096x352, .f32⟩
  | .hbm, ⟨21, _⟩ => ⟨S4096x352, .f32⟩
  | .hbm, ⟨22, _⟩ => ⟨S_, .f32⟩
  | .hbm, ⟨23, _⟩ => ⟨S4096x352, .f32⟩
  | .hbm, ⟨24, _⟩ => ⟨S4096x352, .f32⟩
  | .hbm, ⟨25, _⟩ => ⟨S4096x352, .f32⟩
  | .hbm, ⟨26, _⟩ => ⟨S_, .f32⟩
  | .hbm, ⟨27, _⟩ => ⟨S4096x352, .f32⟩
  | .hbm, ⟨28, _⟩ => ⟨S4096x352, .f32⟩
  | .hbm, ⟨29, _⟩ => ⟨S4096x352, .f32⟩
  | .hbm, ⟨30, _⟩ => ⟨S_, .f32⟩
  | .hbm, ⟨31, _⟩ => ⟨S4096x352, .f32⟩
  | .hbm, ⟨32, _⟩ => ⟨S4096x352, .f32⟩
  | .hbm, ⟨33, _⟩ => ⟨S4096x352, .f32⟩
  | .hbm, ⟨34, _⟩ => ⟨S_, .f32⟩
  | .hbm, ⟨35, _⟩ => ⟨S4096x352, .f32⟩
  | .hbm, ⟨36, _⟩ => ⟨S4096x352, .f32⟩
  | _, _ => ⟨S4096x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel14.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x1024, .f32⟩
  | .hbm, ⟨3, _⟩ => ⟨S512x1024, .bf16⟩
  | .hbm, ⟨4, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x1024, .f32⟩
  | .hbm, ⟨3, _⟩ => ⟨S16384x512, .f32⟩
  | .hbm, ⟨4, _⟩ => ⟨S16384x1024, .f32⟩
  | .hbm, ⟨5, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S16384x512 : Shape := ⟨2, ![16384, 512]⟩
abbrev S512x1024 : Shape := ⟨2, ![512, 1024]⟩
abbrev S16384x1024 : Shape := ⟨2, ![16384, 1024]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x1024, .f32⟩
  | .hbm, ⟨3, _⟩ => ⟨S512x1024, .bf16⟩
  | .hbm, ⟨4, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x1024, .f32⟩
  | .hbm, ⟨3, _⟩ => ⟨S16384x512, .f32⟩
  | .hbm, ⟨4, _⟩ => ⟨S16384x1024, .f32⟩
  | .hbm, ⟨5, _⟩ => ⟨S16384x512, .f32⟩
  | .hbm, ⟨6, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S16384x512 : Shape := ⟨2, ![16384, 512]⟩
abbrev S512x1024 : Shape := ⟨2, ![512, 1024]⟩
abbrev S16384x1024 : Shape := ⟨2, ![16384, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x1024, .f32⟩
  | .hbm, ⟨3, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference16Ideal.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x1024, .f32⟩
  | .hbm, ⟨3, _⟩ => ⟨S16384x512, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S16384x1024 : Shape := ⟨2, ![16384, 1024]⟩
abbrev S1024 : Shape := ⟨1, ![1024]⟩
abbrev S1024x1920 : Shape := ⟨2, ![1024, 1920]⟩
abbrev S1920x1024 : Shape := ⟨2, ![1920, 1024]⟩
abbrev S1x1024 : Shape := ⟨2, ![1, 1024]⟩
abbrev S16384x1920 : Shape := ⟨2, ![16384, 1920]⟩
abbrev S1024x1024 : Shape := ⟨2, ![1024, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1920, .f32⟩
  | .hbm, ⟨3, _⟩ => ⟨S1920x1024, .f32⟩
  | .hbm, ⟨4, _⟩ => ⟨S1920x1024, .bf16⟩
  | .hbm, ⟨5, _⟩ => ⟨S1x1024, .f32⟩
  | .hbm, ⟨6, _⟩ => ⟨S16384x1024, .bf16⟩
  | .hbm, ⟨7, _⟩ => ⟨S16384x1920, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1920x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1920, .f32⟩
  | .local _ .vmem, ⟨7, _⟩ => ⟨S1024x1920, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1920x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S16384x1024 : Shape := ⟨2, ![16384, 1024]⟩
abbrev S1024 : Shape := ⟨1, ![1024]⟩
abbrev S1024x1920 : Shape := ⟨2, ![1024, 1920]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1920 : Shape := ⟨2, ![16384, 1920]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1920, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x1920, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel18.lean ====
abbrev S16384x1024 : Shape := ⟨2, ![16384, 1024]⟩
abbrev S1024 : Shape := ⟨1, ![1024]⟩
abbrev S1024x1920 : Shape := ⟨2, ![1024, 1920]⟩
abbrev S16384x1920 : Shape := ⟨2, ![16384, 1920]⟩
abbrev S1920x1024 : Shape := ⟨2, ![1920, 1024]⟩
abbrev S1x1024 : Shape := ⟨2, ![1, 1024]⟩
abbrev S512x1920 : Shape := ⟨2, ![512, 1920]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1920, .f32⟩
  | .hbm, ⟨3, _⟩ => ⟨S16384x1024, .f32⟩
  | .hbm, ⟨4, _⟩ => ⟨S16384x1920, .bf16⟩
  | .hbm, ⟨5, _⟩ => ⟨S1920x1024, .f32⟩
  | .hbm, ⟨6, _⟩ => ⟨S1920x1024, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x1920, .bf16⟩
  | .local _ .vmem, ⟨1, _⟩ => ⟨S512x1920, .bf16⟩
  | .local _ .vmem, ⟨2, _⟩ => ⟨S1920x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S16384x1024 : Shape := ⟨2, ![16384, 1024]⟩
abbrev S1024 : Shape := ⟨1, ![1024]⟩
abbrev S1024x1920 : Shape := ⟨2, ![1024, 1920]⟩
abbrev S16384x1920 : Shape := ⟨2, ![16384, 1920]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1920, .f32⟩
  | .hbm, ⟨3, _⟩ => ⟨S16384x1024, .f32⟩
  | .hbm, ⟨4, _⟩ => ⟨S16384x1920, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1920, .f32⟩
  | .hbm, ⟨26, _⟩ => ⟨S16384x1920, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel19.lean ====
abbrev S16384x1024 : Shape := ⟨2, ![16384, 1024]⟩
abbrev S1024 : Shape := ⟨1, ![1024]⟩
abbrev S1024x1920 : Shape := ⟨2, ![1024, 1920]⟩
abbrev S16384x1920 : Shape := ⟨2, ![16384, 1920]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1920x1024 : Shape := ⟨2, ![1920, 1024]⟩
abbrev S2048x640 : Shape := ⟨2, ![2048, 640]⟩
abbrev S2048x1024 : Shape := ⟨2, ![2048, 1024]⟩
abbrev S640x1024 : Shape := ⟨2, ![640, 1024]⟩

abbrev nBuf : Space → Nat
  | .hbm => 22
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1920, .f32⟩
  | .hbm, ⟨3, _⟩ => ⟨S16384x1920, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S1920x1024, .f32⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference19Ideal.lean ====
abbrev S16384x1024 : Shape := ⟨2, ![16384, 1024]⟩
abbrev S1024 : Shape := ⟨1, ![1024]⟩
abbrev S1024x1920 : Shape := ⟨2, ![1024, 1920]⟩
abbrev S16384x1920 : Shape := ⟨2, ![16384, 1920]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1920x1024 : Shape := ⟨2, ![1920, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1920, .f32⟩
  | .hbm, ⟨3, _⟩ => ⟨S16384x1920, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1920, .f32⟩
  | .hbm, ⟨21, _⟩ => ⟨S16384x1920, .f32⟩
  | .hbm, ⟨22, _⟩ => ⟨S1920x1024, .f32⟩
  | .hbm, ⟨23, _⟩ => ⟨S1024x1920, .f32⟩
  | .hbm, ⟨24, _⟩ => ⟨S1920x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel20.lean ====
abbrev S16384x384 : Shape := ⟨2, ![16384, 384]⟩
abbrev S384x1024 : Shape := ⟨2, ![384, 1024]⟩
abbrev S1024x384 : Shape := ⟨2, ![1024, 384]⟩
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S384x1024, .f32⟩
  | .hbm, ⟨2, _⟩ => ⟨S1024x384, .f32⟩
  | .hbm, ⟨3, _⟩ => ⟨S1024x384, .bf16⟩
  | .hbm, ⟨4, _⟩ => ⟨S16384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x1024, .f32⟩
  | .local _ .vmem, ⟨4, _⟩ => ⟨S1024x1024, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S16384x384 : Shape := ⟨2, ![16384, 384]⟩
abbrev S384x1024 : Shape := ⟨2, ![384, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x1024, .f32⟩
  | .hbm, ⟨2, _⟩ => ⟨S16384x384, .f32⟩
  | .hbm, ⟨3, _⟩ => ⟨S16384x1024, .f32⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S16384x384 : Shape := ⟨2, ![16384, 384]⟩
abbrev S384x1024 : Shape := ⟨2, ![384, 1024]⟩
abbrev S16384x1024 : Shape := ⟨2, ![16384, 1024]⟩
abbrev S1024x384 : Shape := ⟨2, ![1024, 384]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x384, .bf16⟩
  | .hbm, ⟨1, _⟩ => ⟨S384x1024, .f32⟩
  | .hbm, ⟨2, _⟩ => ⟨S16384x1024, .bf16⟩
  | .hbm, ⟨3, _⟩ => ⟨S1024x384, .f32⟩
  | .hbm, ⟨4, _⟩ => ⟨S1024x384, .bf16⟩
  | .hbm, ⟨5, _⟩ => ⟨S16384x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .f32⟩
  | .local _ .vmem, ⟨4, _⟩ => ⟨S1024x384, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S16384x384 : Shape := ⟨2, ![16384, 384]⟩
abbrev S384x1024 : Shape := ⟨2, ![384, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x1024, .f32⟩
  | .hbm, ⟨2, _⟩ => ⟨S16384x1024, .bf16⟩
  | .hbm, ⟨3, _⟩ => ⟨S16384x384, .f32⟩
  | .hbm, ⟨4, _⟩ => ⟨S16384x1024, .f32⟩
  | .hbm, ⟨5, _⟩ => ⟨S16384x1024, .f32⟩
  | .hbm, ⟨6, _⟩ => ⟨S16384x384, .f32⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S16384x384 : Shape := ⟨2, ![16384, 384]⟩
abbrev S384x1024 : Shape := ⟨2, ![384, 1024]⟩
abbrev S16384x1024 : Shape := ⟨2, ![16384, 1024]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 4
  | .vmem => 6
  | .smem => 0
  | _ => 0

abbrev bufTy : (tb : Table) → Fin (tcTables nBuf tb) → BufTy
  | .hbm, ⟨0, _⟩ => ⟨S16384x384, .bf16⟩
  | .hbm, ⟨1, _⟩ => ⟨S384x1024, .f32⟩
  | .hbm, ⟨2, _⟩ => ⟨S16384x1024, .bf16⟩
  | .hbm, ⟨3, _⟩ => ⟨S1024x384, .f32⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference22Ideal.lean ====
abbrev S16384x384 : Shape := ⟨2, ![16384, 384]⟩
abbrev S384x1024 : Shape := ⟨2, ![384, 1024]⟩
abbrev S16384x1024 : Shape := ⟨2, ![16384, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S384x1024, .f32⟩
  | .hbm, ⟨2, _⟩ => ⟨S16384x1024, .bf16⟩
  | .hbm, ⟨3, _⟩ => ⟨S16384x384, .f32⟩
  | .hbm, ⟨4, _⟩ => ⟨S16384x1024, .f32⟩
  | .hbm, ⟨5, _⟩ => ⟨S16384x1024, .f32⟩
  | .hbm, ⟨6, _⟩ => ⟨S1024x384, .f32⟩
  | .hbm, ⟨7, _⟩ => ⟨S384x1024, .f32⟩
  | .hbm, ⟨8, _⟩ => ⟨S1024x384, .f32⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S16384x256 : Shape := ⟨2, ![16384, 256]⟩
abbrev S256x2048 : Shape := ⟨2, ![256, 2048]⟩
abbrev S2048x256 : Shape := ⟨2, ![2048, 256]⟩
abbrev S16384x2048 : Shape := ⟨2, ![16384, 2048]⟩
abbrev S1024x256 : Shape := ⟨2, ![1024, 256]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S256x2048, .f32⟩
  | .hbm, ⟨2, _⟩ => ⟨S2048x256, .f32⟩
  | .hbm, ⟨3, _⟩ => ⟨S2048x256, .bf16⟩
  | .hbm, ⟨4, _⟩ => ⟨S16384x2048, .bf16⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S1024x2048, .bf16⟩
  | .local _ .vmem, ⟨4, _⟩ => ⟨S1024x2048, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S16384x256 : Shape := ⟨2, ![16384, 256]⟩
abbrev S256x2048 : Shape := ⟨2, ![256, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x2048, .f32⟩
  | .hbm, ⟨2, _⟩ => ⟨S16384x256, .f32⟩
  | .hbm, ⟨3, _⟩ => ⟨S16384x2048, .f32⟩
  | .hbm, ⟨4, _⟩ => ⟨S16384x2048, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S16384x256 : Shape := ⟨2, ![16384, 256]⟩
abbrev S256x2048 : Shape := ⟨2, ![256, 2048]⟩
abbrev S16384x2048 : Shape := ⟨2, ![16384, 2048]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S256x2048, .f32⟩
  | .hbm, ⟨2, _⟩ => ⟨S16384x2048, .bf16⟩
  | .hbm, ⟨3, _⟩ => ⟨S2048x256, .f32⟩
  | .hbm, ⟨4, _⟩ => ⟨S2048x256, .bf16⟩
  | .hbm, ⟨5, _⟩ => ⟨S16384x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S16384x256 : Shape := ⟨2, ![16384, 256]⟩
abbrev S256x2048 : Shape := ⟨2, ![256, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x2048, .f32⟩
  | .hbm, ⟨2, _⟩ => ⟨S16384x2048, .bf16⟩
  | .hbm, ⟨3, _⟩ => ⟨S16384x256, .f32⟩
  | .hbm, ⟨4, _⟩ => ⟨S16384x2048, .f32⟩
  | .hbm, ⟨5, _⟩ => ⟨S16384x2048, .f32⟩
  | .hbm, ⟨6, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S16384x256 : Shape := ⟨2, ![16384, 256]⟩
abbrev S256x2048 : Shape := ⟨2, ![256, 2048]⟩
abbrev S16384x2048 : Shape := ⟨2, ![16384, 2048]⟩
abbrev S2048x256 : Shape := ⟨2, ![2048, 256]⟩
abbrev S2048x1024 : Shape := ⟨2, ![2048, 1024]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S16384x256, .bf16⟩
  | .hbm, ⟨1, _⟩ => ⟨S256x2048, .f32⟩
  | .hbm, ⟨2, _⟩ => ⟨S16384x2048, .bf16⟩
  | .hbm, ⟨3, _⟩ => ⟨S2048x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference25Ideal.lean ====
abbrev S16384x256 : Shape := ⟨2, ![16384, 256]⟩
abbrev S256x2048 : Shape := ⟨2, ![256, 2048]⟩
abbrev S16384x2048 : Shape := ⟨2, ![16384, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x2048, .f32⟩
  | .hbm, ⟨2, _⟩ => ⟨S16384x2048, .bf16⟩
  | .hbm, ⟨3, _⟩ => ⟨S16384x256, .f32⟩
  | .hbm, ⟨4, _⟩ => ⟨S16384x2048, .f32⟩
  | .hbm, ⟨5, _⟩ => ⟨S16384x2048, .f32⟩
  | .hbm, ⟨6, _⟩ => ⟨S2048x256, .f32⟩
  | .hbm, ⟨7, _⟩ => ⟨S256x2048, .f32⟩
  | .hbm, ⟨8, _⟩ => ⟨S2048x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference26Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Ffn.lean ====
/- The half-step feed-forward layer `x + 0.5 * (silu (h Wg) * (h Wu)) Wd` with `h = rms_norm x`, and its gradient,
   over the REAL numbers: the functions that the kernels' arrays and the references' arrays are both read as. -/
module

public import Idealize.ShloMosaic.PureOps.Ideal.Laws
public import Idealize.ShloMosaic.Lib.IdealHost
public import Idealize.ShloMosaic.Lib.ValueIdx

@[expose] public section

noncomputable section

open scoped BigOperators

namespace Cert.Ffn

open Idealize.ShloMosaic

/-! ## Extended reals that are real numbers -/

/-- A finite sum of real numbers, read in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- An extended real whose absolute value is below `⊤` is a real number. -/
theorem coe_of_abs_lt_top {y : EReal} (h : max y (-y) < ⊤) : ((y.toReal : ℝ) : EReal) = y := by
  refine EReal.coe_toReal ?_ ?_
  · rintro rfl; simp at h
  · rintro rfl; simp at h

/-- The 32-bit pattern of one half. -/
theorem half_f32 : Ideal.ofBits .f32 0x3F000000#32 = ((1 / 2 : ℝ) : EReal) := by
  simp [Ideal.ofBits, Ideal.ieee, -EReal.coe_mul]; norm_num

/-- The 32-bit pattern of 1024. -/
theorem width_f32 : Ideal.ofBits .f32 0x44800000#32 = ((1024 : ℝ) : EReal) := by
  simp [Ideal.ofBits, Ideal.ieee, -EReal.coe_mul]; norm_num

/-- The 32-bit pattern of `+∞`. -/
theorem inf_f32 : Ideal.ofBits .f32 0x7F800000#32 = ⊤ := by
  simp [Ideal.ofBits, Ideal.ieee]

/-- The number the normalisation adds to the mean square before the root: the 32-bit float nearest `1e-6`. -/
def eps : ℝ := 8796093 / 8796093022208
theorem eps_f32 : Ideal.ofBits .f32 0x358637BD#32 = ((eps : ℝ) : EReal) := by
  unfold eps
  simp [Ideal.ofBits, Ideal.ieee, -EReal.coe_mul]; norm_num
theorem eps_pos : 0 < eps := by unfold eps; norm_num

/-- A matrix of real numbers as an array of extended reals. -/
def arr {n k : ℕ} (f : Fin n → Fin k → ℝ) : (⟨2, ![n, k]⟩ : Shape).Idx → EReal := fun i => ((f (i 0) (i 1) : ℝ) : EReal)
/-- A vector of real numbers as an array of extended reals. -/
def arr1 {n : ℕ} (f : Fin n → ℝ) : (⟨1, ![n]⟩ : Shape).Idx → EReal := fun i => ((f (i 0) : ℝ) : EReal)
theorem arr_apply {n k : ℕ} (f : Fin n → Fin k → ℝ) (i : (⟨2, ![n, k]⟩ : Shape).Idx) : arr f i = ((f (i 0) (i 1) : ℝ) : EReal) := rfl
theorem arr1_apply {n : ℕ} (f : Fin n → ℝ) (i : (⟨1, ![n]⟩ : Shape).Idx) : arr1 f i = ((f (i 0) : ℝ) : EReal) := rfl
/-- The matrix of real numbers an array holds. -/
def mat {n k : ℕ} (a : (⟨2, ![n, k]⟩ : Shape).Idx → EReal) : Fin n → Fin k → ℝ := fun i j => (a (ValueIdx.ix2 i j)).toReal
/-- The vector of real numbers an array holds. -/
def vec {n : ℕ} (a : (⟨1, ![n]⟩ : Shape).Idx → EReal) : Fin n → ℝ := fun i => (a (ValueIdx.ix1 i)).toReal
theorem eq_arr {n k : ℕ} {a : (⟨2, ![n, k]⟩ : Shape).Idx → EReal} (h : ∀ i, (((a i).toReal : ℝ) : EReal) = a i) : a = arr (mat a) :=
  funext fun i => (h i).symm.trans (congrArg (fun j => (((a j).toReal : ℝ) : EReal)) (ValueIdx.eq_ix2 i))
theorem eq_arr1 {n : ℕ} {a : (⟨1, ![n]⟩ : Shape).Idx → EReal} (h : ∀ i, (((a i).toReal : ℝ) : EReal) = a i) : a = arr1 (vec a) :=
  funext fun i => (h i).symm.trans (congrArg (fun j => (((a j).toReal : ℝ) : EReal)) (ValueIdx.eq_ix1 i))

/-! ## The layer -/

/-- The logistic function. -/
def sg (t : ℝ) : ℝ := (1 + Real.exp (-t))⁻¹
/-- `silu t = t * sg t`. -/
def silu (t : ℝ) : ℝ := t * sg t
/-- The derivative of `silu`. -/
def dsilu (t : ℝ) : ℝ := sg t * (1 + t * (1 - sg t))

variable (x : Fin 16384 → Fin 1024 → ℝ) (gn : Fin 1024 → ℝ) (wg wu : Fin 1024 → Fin 2816 → ℝ)
  (wd : Fin 2816 → Fin 1024 → ℝ) (ct : Fin 16384 → Fin 1024 → ℝ)

/-- The mean square of a row, plus `eps`. -/
def ms (s : Fin 16384) : ℝ := (∑ d, x s d * x s d) * (1 / 1024) + eps
theorem ms_pos (s : Fin 16384) : 0 < ms x s :=
  add_pos_of_nonneg_of_pos (mul_nonneg (Finset.sum_nonneg fun d _ => mul_self_nonneg _) (by norm_num)) eps_pos
/-- The reciprocal root of it. -/
def rr (s : Fin 16384) : ℝ := (Real.sqrt (ms x s))⁻¹
/-- The row scaled to mean square one. -/
def xhat (s : Fin 16384) (d : Fin 1024) : ℝ := x s d * rr x s
/-- The normed input. -/
def nrm (s : Fin 16384) (d : Fin 1024) : ℝ := xhat x s d * gn d
/-- The gate projection. -/
def gate (s : Fin 16384) (f : Fin 2816) : ℝ := ∑ d, nrm x gn s d * wg d f
/-- The cotangent of the layer's inner result. -/
def dy (s : Fin 16384) (d : Fin 1024) : ℝ := 1 / 2 * ct s d
/-- The cotangent of the hidden row. -/
def dz (s : Fin 16384) (f : Fin 2816) : ℝ := ∑ d, dy ct s d * wd f d
/-- The cotangent of the gate projection (the up projection is `gate` at the up weights). -/
def dgate (s : Fin 16384) (f : Fin 2816) : ℝ := dz wd ct s f * gate x gn wu s f * dsilu (gate x gn wg s f)
/-- The cotangent of the up projection. -/
def dup (s : Fin 16384) (f : Fin 2816) : ℝ := dz wd ct s f * silu (gate x gn wg s f)
/-- The hidden row. -/
def hid (s : Fin 16384) (f : Fin 2816) : ℝ := silu (gate x gn wg s f) * gate x gn wu s f
/-- The gate weights' gradient, transposed. -/
def dwg (f : Fin 2816) (d : Fin 1024) : ℝ := ∑ s, dgate x gn wg wu wd ct s f * nrm x gn s d
/-- The up weights' gradient, transposed. -/
def dwu (f : Fin 2816) (d : Fin 1024) : ℝ := ∑ s, dup x gn wg wd ct s f * nrm x gn s d
/-- The down weights' gradient. -/
def dwd (f : Fin 2816) (d : Fin 1024) : ℝ := ∑ s, hid x gn wg wu s f * dy ct s d
/-- The cotangent of the normed input. -/
def dh (s : Fin 16384) (d : Fin 1024) : ℝ :=
  (∑ f, dgate x gn wg wu wd ct s f * wg d f) + ∑ f, dup x gn wg wd ct s f * wu d f
/-- The gain's gradient. -/
def dgn (d : Fin 1024) : ℝ := ∑ s, dh x gn wg wu wd ct s d * xhat x s d
/-- The input's gradient. -/
def dx (s : Fin 16384) (d : Fin 1024) : ℝ :=
  ct s d + rr x s * (dh x gn wg wu wd ct s d * gn d
    - xhat x s d * ((∑ e, dh x gn wg wu wd ct s e * gn e * xhat x s e) * (1 / 1024)))

/-- The reciprocal root of a row's mean square as the extended reals compute it. -/
theorem rsqrt_ms (s : Fin 16384) : Ideal.rsqrt ((ms x s : ℝ) : EReal) = ((rr x s : ℝ) : EReal) := by
  rw [Ideal.rsqrt_coe, if_neg (not_lt.2 (ms_pos x s).le), if_neg (ms_pos x s).ne', rr]

/-- Division by 1024. -/
theorem div_width (y : ℝ) : Ideal.div (y : EReal) ((1024 : ℝ) : EReal) = ((y * (1 / 1024) : ℝ) : EReal) := by
  rw [Ideal.div_coe (by norm_num), EReal.coe_mul]

/-- The quotient `1 / (1 + e)` the host writes for the logistic function. -/
theorem one_div_coe (t : ℝ) : Ideal.div 1 (1 + Ideal.exp (-(t : EReal))) = ((sg t : ℝ) : EReal) :=
  Ideal.logistic_coe (r := t)

end Cert.Ffn

end
-- ==== Proof.Ref1.lean ====
/- What the reference of the input's gradient computes: each of its arrays, at arguments holding real numbers, is the
   real function of the same name in `Ffn.lean`. -/
module

public import proofs.«01_k».proof.Proof.Gen.ReferenceIdeal.Read
public import proofs.«01_k».proof.Proof.Ffn

@[expose] public section

noncomputable section

open scoped BigOperators

namespace Cert.Ffn.Ref1

open Idealize.ShloMosaic Cert.ReferenceIdeal Cert.ReferenceIdeal.Read

variable (x : Fin 16384 → Fin 1024 → ℝ) (gn : Fin 1024 → ℝ) (wg wu : Fin 1024 → Fin 2816 → ℝ)
  (wd : Fin 2816 → Fin 1024 → ℝ) (ct : Fin 16384 → Fin 1024 → ℝ)

/-- The 32-bit pattern of `-1/2`. -/
theorem neg_half_f32 : Ideal.ofBits .f32 0xBF000000#32 = ((-(1 / 2) : ℝ) : EReal) := by
  simp [Ideal.ofBits, Ideal.ieee, -EReal.coe_mul, -EReal.coe_neg]; norm_num

/-- Each row's mean square. -/
theorem v6 (i) : val_main_v6 (F := Ideal) (arr x) i = ((ms x (i 0) : ℝ) : EReal) := by
  rw [val_main_v6_apply, val_main_v4_apply, val_main_v2_apply, val_main_v1_apply, val_main_v3_apply,
    val_main_v5_apply, val_main_cst_apply, val_main_cst_0_apply, val_main_cst_1_apply]
  simp only [val_main_v0_apply, Ideal.ofBits_def, Ideal.ofBits_zero_f32, width_f32, eps_f32, zero_add, Ideal.mulf_def,
    Ideal.addf_def, Ideal.hostDivf_def, arr_apply, ← EReal.coe_mul, coe_sum, div_width, ← EReal.coe_add]
  rfl

/-- The reciprocal root of each row's mean square. -/
theorem v7 (i) : val_main_v7 (F := Ideal) (arr x) i = ((rr x (i 0) : ℝ) : EReal) := by
  rw [val_main_v7_apply, v6, Ideal.hostUnary_rsqrt_def]
  exact rsqrt_ms x _

/-- The square of the reciprocal root is the reciprocal. -/
theorem rr_sq (s) : rr x s * rr x s = 1 / ms x s := by
  rw [rr, ← mul_inv, Real.mul_self_sqrt (ms_pos x s).le, one_div]

/-- Minus half the quotient of the reciprocal root by the mean square. -/
theorem cube (s) : ((-(1 / 2) : ℝ) : EReal) * Ideal.div ((rr x s : ℝ) : EReal) ((ms x s : ℝ) : EReal)
    = ((-(1 / 2) * (rr x s * (rr x s * rr x s)) : ℝ) : EReal) := by
  rw [Ideal.div_coe (ms_pos x s).ne', ← EReal.coe_mul, ← EReal.coe_mul, rr_sq]

/-- Minus half the cube of the reciprocal root. -/
theorem v10 (i) : val_main_v10 (F := Ideal) (arr x) i = ((-(1 / 2) * (rr x (i 0) * (rr x (i 0) * rr x (i 0))) : ℝ) : EReal) := by
  rw [val_main_v10_apply, val_main_v9_apply, val_main_cst_2_apply, val_main_v8_apply, v7, v6, Ideal.ofBits_def, neg_half_f32,
    Ideal.mulf_def, Ideal.hostDivf_def]
  exact cube x (i 0)

/-- The rows scaled to mean square one. -/
theorem v12 : val_main_v12 (F := Ideal) (arr x) = arr (xhat x) := by
  funext i
  rw [val_main_v12_apply, val_main_v11_apply, v7]
  simp only [Ideal.mulf_def, arr_apply, ← EReal.coe_mul]
  rfl

/-- The normed input. -/
theorem v15 : val_main_v15 (F := Ideal) (arr x) (arr1 gn) = arr (nrm x gn) := by
  funext i
  rw [val_main_v15_apply, v12, val_main_v14_apply, val_main_v13_apply]
  simp only [Ideal.mulf_def, arr_apply, arr1_apply, ← EReal.coe_mul]
  rfl

/-- The gate projection. -/
theorem v16 : val_main_v16 (F := Ideal) (arr x) (arr1 gn) (arr wg) = arr (gate x gn wg) := by
  funext i
  rw [val_main_v16_apply, v15]
  simp only [arr_apply, ← EReal.coe_mul, coe_sum]
  rfl

/-- The up projection. -/
theorem v18 : val_main_v18 (F := Ideal) (arr x) (arr1 gn) (arr wu) = arr (gate x gn wu) := by
  funext i
  rw [val_main_v18_apply, v15]
  simp only [arr_apply, ← EReal.coe_mul, coe_sum]
  rfl

/-- The logistic function of the gate projection. -/
theorem v17_2 : val_main_v17_2 (F := Ideal) (arr x) (arr1 gn) (arr wg) = arr fun s f => sg (gate x gn wg s f) := by
  funext i
  rw [val_main_v17_2_apply, val_main_call0_v4_apply, val_main_call0_v3_apply, val_main_call0_v2_apply, val_main_call0_v1_apply,
    val_main_call0_v0_apply, val_main_call0_cst_0_apply, val_main_call0_cst_apply, v16]
  simp only [Ideal.ofBits_def, Ideal.ofBits_one_f32, Ideal.addf_def, Ideal.hostDivf_def, Ideal.hostUnary_exp_def, arr_apply]
  exact one_div_coe _

/-- The logistic function's derivative. -/
theorem v17_1 : val_main_v17_1 (F := Ideal) (arr x) (arr1 gn) (arr wg)
    = arr fun s f => sg (gate x gn wg s f) * (1 - sg (gate x gn wg s f)) := by
  funext i
  rw [val_main_v17_1_apply, val_main_call0_v7_apply, val_main_call0_v6_apply, val_main_call0_cst_1_apply, v17_2]
  simp only [Ideal.ofBits_def, Ideal.ofBits_one_f32, Ideal.mulf_def, Ideal.subf_def, arr_apply, ← EReal.coe_one,
    ← EReal.coe_sub, ← EReal.coe_mul]

/-- `silu` of the gate projection. -/
theorem v17_0 : val_main_v17_0 (F := Ideal) (arr x) (arr1 gn) (arr wg) = arr fun s f => silu (gate x gn wg s f) := by
  funext i
  rw [val_main_v17_0_apply, v16, v17_2]
  simp only [Ideal.mulf_def, arr_apply, ← EReal.coe_mul]
  rfl

/-- The reshaped cotangent is the cotangent. -/
theorem v24 : val_main_v24 (F := Ideal) (arr ct) = arr ct := by
  funext i
  rw [val_main_v24_apply]
  have h : (i 1).val < 1024 := (i 1).isLt
  refine congrArg (arr ct) (funext fun a => ?_)
  match a with
  | ⟨0, _⟩ => exact Fin.ext (by show ((i 0).val * 1024 + (i 1).val) / 1024 = (i 0).val; omega)
  | ⟨1, _⟩ => exact Fin.ext (by show ((i 0).val * 1024 + (i 1).val) % 1024 = (i 1).val; omega)

/-- Half the cotangent. -/
theorem v26 : val_main_v26 (F := Ideal) (arr ct) = arr (dy ct) := by
  funext i
  rw [val_main_v26_apply, val_main_v25_apply, val_main_cst_4_apply, v24]
  simp only [Ideal.ofBits_def, half_f32, Ideal.mulf_def, arr_apply, ← EReal.coe_mul]
  rfl

/-- The cotangent of the hidden rows. -/
theorem v27 : val_main_v27 (F := Ideal) (arr wd) (arr ct) = arr (dz wd ct) := by
  funext i
  rw [val_main_v27_apply, v26]
  simp only [arr_apply, ← EReal.coe_mul, coe_sum]
  rfl

/-- The cotangent of the up projection. -/
theorem v28 : val_main_v28 (F := Ideal) (arr x) (arr1 gn) (arr wg) (arr wd) (arr ct) = arr (dup x gn wg wd ct) := by
  funext i
  rw [val_main_v28_apply, v17_0, v27]
  simp only [Ideal.mulf_def, arr_apply, ← EReal.coe_mul]
  rw [mul_comm]; rfl

/-- The cotangent of the gate projection. -/
theorem v31 : val_main_v31 (F := Ideal) (arr x) (arr1 gn) (arr wg) (arr wu) (arr wd) (arr ct) = arr (dgate x gn wg wu wd ct) := by
  funext i
  rw [val_main_v31_apply, val_main_call1_v1_apply, val_main_call1_v2_apply, val_main_call1_v0_apply, val_main_v29_apply,
    v16, v17_1, v17_2, v18, v27]
  simp only [Ideal.mulf_def, Ideal.addf_def, arr_apply, ← EReal.coe_mul, ← EReal.coe_add]
  refine congrArg _ ?_
  simp only [dgate, dsilu]
  ring

/-- The cotangent of the normed input. -/
theorem v33 : val_main_v33 (F := Ideal) (arr x) (arr1 gn) (arr wg) (arr wu) (arr wd) (arr ct) = arr (dh x gn wg wu wd ct) := by
  funext i
  rw [val_main_v33_apply, val_main_v30_apply, val_main_v32_apply, v28, v31]
  simp only [Ideal.addf_def, arr_apply, ← EReal.coe_mul, coe_sum, ← EReal.coe_add]
  refine congrArg _ ?_
  rw [add_comm]
  rfl

/-- The cotangent of the scaled rows. -/
theorem v38 : val_main_v38 (F := Ideal) (arr x) (arr1 gn) (arr wg) (arr wu) (arr wd) (arr ct)
    = arr fun s d => dh x gn wg wu wd ct s d * gn d := by
  funext i
  rw [val_main_v38_apply, v33, val_main_v37_apply, val_main_v13_apply]
  simp only [Ideal.mulf_def, arr_apply, arr1_apply, ← EReal.coe_mul]
  rfl

/-- The row sums the mean square's cotangent needs. -/
theorem v41 (i) : val_main_v41 (F := Ideal) (arr x) (arr1 gn) (arr wg) (arr wu) (arr wd) (arr ct) i
    = ((∑ e, x (i 0) e * (dh x gn wg wu wd ct (i 0) e * gn e) : ℝ) : EReal) := by
  rw [val_main_v41_apply, val_main_cst_7_apply]
  simp only [val_main_v40_apply, v38, Ideal.ofBits_def, Ideal.ofBits_zero_f32, zero_add, Ideal.mulf_def, arr_apply,
    ← EReal.coe_mul, coe_sum]
  rfl

/-- The cotangent of each row's mean square, a 1024th of it. -/
theorem v49 (i) : val_main_v49 (F := Ideal) (arr x) (arr1 gn) (arr wg) (arr wu) (arr wd) (arr ct) i
    = (((∑ e, x (i 0) e * (dh x gn wg wu wd ct (i 0) e * gn e)) * (-(1 / 2) * (rr x (i 0) * (rr x (i 0) * rr x (i 0))))
        * (1 / 1024) : ℝ) : EReal) := by
  rw [val_main_v49_apply, val_main_cst_9_apply, Fin.sum_univ_one, val_main_v48_apply, val_main_v46_apply, val_main_v47_apply,
    val_main_cst_8_apply, val_main_v42_apply, v41, v10]
  simp only [Ideal.ofBits_def, Ideal.ofBits_zero_f32, width_f32, zero_add, Ideal.mulf_def, Ideal.hostDivf_def,
    ← EReal.coe_mul, div_width]
  have e : (idx_main_v42 (idx_main_v49 i 0)) 0 = i 0 := Fin.ext (by show (i 0).val * 1 + 0 = (i 0).val; omega)
  have e' : (idx_main_v49 i 0) 0 = i 0 := rfl
  rw [e, e']

/-- The input's gradient from the cotangent of the mean square. -/
theorem sum_dx (s d) : ct s d + dh x gn wg wu wd ct s d * gn d * rr x s
      + x s d * ((∑ e, x s e * (dh x gn wg wu wd ct s e * gn e)) * (-(1 / 2) * (rr x s * (rr x s * rr x s))) * (1 / 1024))
      + (∑ e, x s e * (dh x gn wg wu wd ct s e * gn e)) * (-(1 / 2) * (rr x s * (rr x s * rr x s))) * (1 / 1024) * x s d
    = dx x gn wg wu wd ct s d := by
  have h : (∑ e, dh x gn wg wu wd ct s e * gn e * xhat x s e) = (∑ e, x s e * (dh x gn wg wu wd ct s e * gn e)) * rr x s := by
    rw [Finset.sum_mul]
    exact Finset.sum_congr rfl fun e _ => by rw [xhat]; ring
  rw [dx, h]
  simp only [xhat]
  ring

/-- The input's gradient. -/
theorem v54 : val_main_v54 (F := Ideal) (arr x) (arr1 gn) (arr wg) (arr wu) (arr wd) (arr ct) = arr (dx x gn wg wu wd ct) := by
  funext i
  rw [val_main_v54_apply, val_main_v52_apply, val_main_v45_apply, val_main_v44_apply, v38, val_main_v43_apply, v7,
    val_main_v51_apply, val_main_v53_apply, val_main_v50_apply, v49]
  simp only [Ideal.addf_def, Ideal.mulf_def, arr_apply, ← EReal.coe_mul, ← EReal.coe_add]
  refine congrArg Real.toEReal ?_
  exact sum_dx x gn wg wu wd ct (i 0) (i 1)

/-- The gain's gradient, as a row. -/
theorem v75 : val_main_v75 (F := Ideal) (arr x) (arr1 gn) (arr wg) (arr wu) (arr wd) (arr ct)
    = arr fun (_ : Fin 1) d => dgn x gn wg wu wd ct d := by
  funext i
  rw [val_main_v75_apply, val_main_v39_apply, val_main_cst_6_apply, Fin.sum_univ_one, val_main_v36_apply, val_main_v35_apply,
    val_main_cst_5_apply]
  simp only [val_main_v34_apply, v12, v33, Ideal.ofBits_def, Ideal.ofBits_zero_f32, zero_add, Ideal.mulf_def, arr_apply,
    ← EReal.coe_mul, coe_sum]
  refine congrArg Real.toEReal ?_
  have e : ∀ k, (idx_main_v35 (idx_main_v36 (idx_main_v39 (idx_main_v75 i) 0)) k) 1 = i 1 := fun k =>
    Fin.ext (by
      have h0 : (i 0).val < 1 := (i 0).isLt
      show 0 * 1024 + ((i 0).val * 1024 + (i 1).val) = (i 1).val
      omega)
  simp only [e]
  exact Finset.sum_congr rfl fun k _ => mul_comm _ _

/-- The half cotangent again. -/
theorem v56 : val_main_v56 (F := Ideal) (arr ct) = arr (dy ct) := by
  funext i
  rw [val_main_v56_apply, val_main_v55_apply, val_main_cst_10_apply]
  simp only [Ideal.ofBits_def, half_f32, Ideal.mulf_def, arr_apply, ← EReal.coe_mul]
  rfl

/-- The half cotangent as a result. -/
theorem v74 : val_main_v74 (F := Ideal) (arr ct) = arr (dy ct) := by
  funext i
  rw [val_main_v74_apply, v56]
  rfl

/-- The cotangent of the hidden rows. -/
theorem v59 : val_main_v59 (F := Ideal) (arr wd) (arr ct) = arr (dz wd ct) := by
  funext i
  rw [val_main_v59_apply, val_main_v58_apply, v56]
  simp only [val_main_v57_apply, Ideal.truncf_def, arr_apply, ← EReal.coe_mul, coe_sum]
  rfl

/-- The normed input as a result: the reference computes it a second time. -/
theorem v73 : val_main_v73 (F := Ideal) (arr x) (arr1 gn) = arr (nrm x gn) :=
  v15 x gn

end Cert.Ffn.Ref1

end
-- ==== Proof.Bwd.Host.lean ====
/- What the host operations leave in the arrays the input-gradient kernel reads. -/
module

public import proofs.«01_k».proof.Proof.Gen.KernelIdeal.Frame
public import proofs.«01_k».proof.Proof.Ref1
public import Idealize.ShloMosaic.Lib.Claim
public import Idealize.ShloMosaic.Lib.Pointwise

@[expose] public section

set_option maxRecDepth 16384

noncomputable section

namespace Cert.Ffn.Bwd

open Idealize.ShloMosaic Idealize.ShloMosaic.TcCoe Idealize.ShloMosaic.Tactic
open Cert.KernelIdeal Cert.KernelIdeal.Gen
open Cert.ReferenceIdeal.Read (val_main_v15)

variable (m : (ℓ : Loc nD τ sig) → Buf (Elt Ideal) ℓ) (c : Dev nD)
variable (x : Fin 16384 → Fin 1024 → ℝ) (gn : Fin 1024 → ℝ) (wg wu : Fin 1024 → Fin 2816 → ℝ)
  (wd : Fin 2816 → Fin 1024 → ℝ) (ct : Fin 16384 → Fin 1024 → ℝ)

/-- A transposed real matrix. -/
theorem flip (w : Fin 1024 → Fin 2816 → ℝ) :
    transpose (α := EReal) S2816x1024 [1, 0] (arr w) transposes_S1024x2816_S2816x1024_1_0 = arr fun f d => w d f := by
  funext i
  pointwise
  rfl

/-- The product of real rows with the transpose of a transposed real matrix. -/
theorem product (p : Fin 16384 → Fin 1024 → ℝ) (w : Fin 1024 → Fin 2816 → ℝ) :
    Host.dotGeneral (F := Ideal) (φ₁ := .bf16) (φ₂ := .bf16) dot_S16384x1024_S2816x1024_S16384x2816_1_1_0_0_n_n none (arr p)
      (transpose S2816x1024 [1, 0] (arr w) transposes_S1024x2816_S2816x1024_1_0)
    = arr fun s f => ∑ k, p s k * w k f := by
  funext i
  pointwise
  simp only [arr_apply, ← EReal.coe_mul, coe_sum]
  rfl

/-- The gate projection. -/
theorem v19 (hx : m ((c : Thread nD τ).loc main_arg0) = arr x) (hg : m ((c : Thread nD τ).loc main_arg1) = arr1 gn)
    (hw : m ((c : Thread nD τ).loc main_arg2) = arr wg) : V m c main_v19 = arr (gate x gn wg) := by
  have e : V m c main_v19 = Host.dotGeneral (F := Ideal) (φ₁ := .bf16) (φ₂ := .bf16) dot_S16384x1024_S2816x1024_S16384x2816_1_1_0_0_n_n none
      (val_main_v15 (F := Ideal) (m ((c : Thread nD τ).loc main_arg0)) (m ((c : Thread nD τ).loc main_arg1)))
      (transpose S2816x1024 [1, 0] (m ((c : Thread nD τ).loc main_arg2)) transposes_S1024x2816_S2816x1024_1_0) := by
    dsimp only [V, hostOps0]
    after_results
    rfl
  rw [e, hx, hg, hw, Ref1.v15, product]
  rfl

/-- The up projection. -/
theorem v21 (hx : m ((c : Thread nD τ).loc main_arg0) = arr x) (hg : m ((c : Thread nD τ).loc main_arg1) = arr1 gn)
    (hw : m ((c : Thread nD τ).loc main_arg3) = arr wu) : V m c main_v21 = arr (gate x gn wu) := by
  have e : V m c main_v21 = Host.dotGeneral (F := Ideal) (φ₁ := .bf16) (φ₂ := .bf16) dot_S16384x1024_S2816x1024_S16384x2816_1_1_0_0_n_n none
      (val_main_v15 (F := Ideal) (m ((c : Thread nD τ).loc main_arg0)) (m ((c : Thread nD τ).loc main_arg1)))
      (transpose S2816x1024 [1, 0] (m ((c : Thread nD τ).loc main_arg3)) transposes_S1024x2816_S2816x1024_1_0) := by
    dsimp only [V, hostOps0]
    after_results
    rfl
  rw [e, hx, hg, hw, Ref1.v15, product]
  rfl

/-- The transposed gate weights. -/
theorem v15 (hw : m ((c : Thread nD τ).loc main_arg2) = arr wg) : V m c main_v15 = arr fun f d => wg d f := by
  have e : V m c main_v15 = transpose (α := EReal) S2816x1024 [1, 0] (m ((c : Thread nD τ).loc main_arg2)) transposes_S1024x2816_S2816x1024_1_0 := by
    dsimp only [V, hostOps0]
    after_results
    rfl
  rw [e, hw, flip]

/-- The transposed up weights. -/
theorem v17 (hw : m ((c : Thread nD τ).loc main_arg3) = arr wu) : V m c main_v17 = arr fun f d => wu d f := by
  have e : V m c main_v17 = transpose (α := EReal) S2816x1024 [1, 0] (m ((c : Thread nD τ).loc main_arg3)) transposes_S1024x2816_S2816x1024_1_0 := by
    dsimp only [V, hostOps0]
    after_results
    rfl
  rw [e, hw, flip]

/-- The down weights. -/
theorem v22 (hw : m ((c : Thread nD τ).loc main_arg4) = arr wd) : V m c main_v22 = arr wd := by
  have e : V m c main_v22 = m ((c : Thread nD τ).loc main_arg4) := by
    dsimp only [V, hostOps0]
    after_results
    rfl
  rw [e, hw]

/-- The gain as a row. -/
theorem v23 (hg : m ((c : Thread nD τ).loc main_arg1) = arr1 gn) : V m c main_v23 = arr fun (_ : Fin 1) d => gn d := by
  have e : V m c main_v23 = shapeCast (α := EReal) S1x1024 (m ((c : Thread nD τ).loc main_arg1)) shapeCasts_S1024_S1x1024 := by
    dsimp only [V, hostOps0]
    after_results
    rfl
  rw [e, hg]
  funext i
  pointwise
  rfl

end Cert.Ffn.Bwd

end
-- ==== Proof.Bwd.Step.lean ====
/- What one grid point of the input-gradient kernel leaves in each output block, from the point's input blocks; the
   gain's gradient adds to zeros at the first point and to what the point before left at the others. -/
module

public import proofs.«01_k».proof.Proof.Gen.KernelIdeal.Frame
public import Idealize.ShloMosaic.Lib.Pipeline.Value

@[expose] public section

set_option maxRecDepth 16384

noncomputable section

namespace Cert.Ffn.Bwd

open Idealize.ShloMosaic Idealize.ShloMosaic.TcCoe Idealize.ShloMosaic.Tactic
open Cert.KernelIdeal Cert.KernelIdeal.Gen

private theorem hz : (![0, 0] : Fin 2 → Nat) = fun _ => 0 := funext fun a => by fin_cases a <;> rfl

variable {F : FTy → Type} [FloatOps F]
  (c : Dev nD) (i : grid0.Coords)
  (arg1 : Memref sig .tc .vmem S256x1024 .f32) (h1 : arg1.IsWhole) (arg2 : Memref sig .tc .vmem S256x1024 .f32) (h2 : arg2.IsWhole)
  (arg3 : Memref sig .tc .vmem S1x1024 .f32) (h3 : arg3.IsWhole) (arg4 : Memref sig .tc .vmem S256x2816 .bf16) (h4 : arg4.IsWhole)
  (arg5 : Memref sig .tc .vmem S256x2816 .bf16) (h5 : arg5.IsWhole) (arg6 : Memref sig .tc .vmem S2816x1024 .bf16) (h6 : arg6.IsWhole)
  (arg7 : Memref sig .tc .vmem S2816x1024 .bf16) (h7 : arg7.IsWhole) (arg8 : Memref sig .tc .vmem S2816x1024 .bf16) (h8 : arg8.IsWhole)
  (arg9 : Memref sig .tc .vmem S256x1024 .f32) (h9 : arg9.IsWhole) (arg10 : Memref sig .tc .vmem S256x2816 .bf16) (h10 : arg10.IsWhole)
  (arg11 : Memref sig .tc .vmem S256x1024 .bf16) (h11 : arg11.IsWhole) (arg12 : Memref sig .tc .vmem S256x1024 .bf16) (h12 : arg12.IsWhole)
  (arg13 : Memref sig .tc .vmem S1x1024 .f32) (h13 : arg13.IsWhole)
  (x0 x1 : Vec F S256x1024 .f32) (x2 : Vec F S1x1024 .f32) (x3 x4 : Vec F S256x2816 .bf16) (x5 x6 x7 : Vec F S2816x1024 .bf16)

/-- The input's gradient after the first point. -/
theorem outA_8 (hc0 : cond0_0 i) :
    out0_A_8 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 = k0_pay1 x0 (k0_pay3 x1) (k0_pay4 x1) (k0_pay13 (k0_pay6 x0) (k0_pay7 (F := F)) (k0_pay8 x3) (k0_pay9 x4) x7 x5 x6 x2) (k0_pay14 (k0_pay4 x1) (k0_pay6 x0) (k0_pay7 (F := F)) (k0_pay8 x3) (k0_pay9 x4) x7 x5 x6 x2) := by
  unfold out0_A_8
  rw [View.read_writes_eq_canon _ _ _ (cover0_A_8 c i arg1 h1 arg2 h2 arg3 h3 arg4 h4 arg5 h5 arg6 h6 arg7 h7 arg8 h8 arg9 h9 arg10 h10 arg11 h11 arg12 h12 arg13 h13 hc0 x0 x1 x2 x3 x4 x5 x6 x7)]
  unfold kernelRun0_A
  dsimp only
  sl_unfold_words
  rw [View.canon_unit_zero (S := S256x1024) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

/-- The hidden rows' cotangent after the first point. -/
theorem outA_9 (hc0 : cond0_0 i) :
    out0_A_9 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 = k0_pay10 (k0_pay6 x0) x7 := by
  unfold out0_A_9
  rw [View.read_writes_eq_canon _ _ _ (cover0_A_9 c i arg1 h1 arg2 h2 arg3 h3 arg4 h4 arg5 h5 arg6 h6 arg7 h7 arg8 h8 arg9 h9 arg10 h10 arg11 h11 arg12 h12 arg13 h13 hc0 x0 x1 x2 x3 x4 x5 x6 x7)]
  unfold kernelRun0_A
  dsimp only
  sl_unfold_words
  rw [View.canon_unit_zero (S := S256x2816) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

/-- The normed input after the first point. -/
theorem outA_10 (hc0 : cond0_0 i) :
    out0_A_10 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 = k0_pay5 x1 x2 := by
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 arg13 h13 hc0 x0 x1 x2 x3 x4 x5 x6 x7)]
  unfold kernelRun0_A
  dsimp only
  sl_unfold_words
  rw [View.canon_unit_zero (S := S256x1024) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

/-- The half cotangent after the first point. -/
theorem outA_11 (hc0 : cond0_0 i) :
    out0_A_11 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 = k0_pay6 x0 := by
  unfold out0_A_11
  rw [View.read_writes_eq_canon _ _ _ (cover0_A_11 c i arg1 h1 arg2 h2 arg3 h3 arg4 h4 arg5 h5 arg6 h6 arg7 h7 arg8 h8 arg9 h9 arg10 h10 arg11 h11 arg12 h12 arg13 h13 hc0 x0 x1 x2 x3 x4 x5 x6 x7)]
  unfold kernelRun0_A
  dsimp only
  sl_unfold_words
  rw [View.canon_unit_zero (S := S256x1024) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

/-- The gain's gradient after the first point. -/
theorem outA_12 (hc0 : cond0_0 i) :
    out0_A_12 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 = k0_pay12 (k0_pay4 x1) (k0_pay6 x0) (k0_pay7 (F := F)) (k0_pay8 x3) (k0_pay9 x4) x7 x5 x6 (k0_pay2 (F := F)) := by
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 hc0 x0 x1 x2 x3 x4 x5 x6 x7)]
  unfold kernelRun0_A
  dsimp only
  sl_unfold_words
  rw [View.canon_cons_unit_zero (S := S1x1024) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

/-- The input's gradient after a later point. -/
theorem outB_8 (hc0 : ¬cond0_0 i) (xo : Vec F S1x1024 .f32) :
    out0_B_8 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 xo = k0_pay1 x0 (k0_pay3 x1) (k0_pay4 x1) (k0_pay13 (k0_pay6 x0) (k0_pay7 (F := F)) (k0_pay8 x3) (k0_pay9 x4) x7 x5 x6 x2) (k0_pay14 (k0_pay4 x1) (k0_pay6 x0) (k0_pay7 (F := F)) (k0_pay8 x3) (k0_pay9 x4) x7 x5 x6 x2) := by
  unfold out0_B_8
  rw [View.read_writes_eq_canon _ _ _ (cover0_B_8 c i arg1 h1 arg2 h2 arg3 h3 arg4 h4 arg5 h5 arg6 h6 arg7 h7 arg8 h8 arg9 h9 arg10 h10 arg11 h11 arg12 h12 arg13 h13 hc0 x0 x1 x2 x3 x4 x5 x6 x7 xo)]
  unfold kernelRun0_B
  dsimp only
  sl_unfold_words
  rw [View.canon_unit_zero (S := S256x1024) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

/-- The hidden rows' cotangent after a later point. -/
theorem outB_9 (hc0 : ¬cond0_0 i) (xo : Vec F S1x1024 .f32) :
    out0_B_9 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 xo = k0_pay10 (k0_pay6 x0) x7 := by
  unfold out0_B_9
  rw [View.read_writes_eq_canon _ _ _ (cover0_B_9 c i arg1 h1 arg2 h2 arg3 h3 arg4 h4 arg5 h5 arg6 h6 arg7 h7 arg8 h8 arg9 h9 arg10 h10 arg11 h11 arg12 h12 arg13 h13 hc0 x0 x1 x2 x3 x4 x5 x6 x7 xo)]
  unfold kernelRun0_B
  dsimp only
  sl_unfold_words
  rw [View.canon_unit_zero (S := S256x2816) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

/-- The normed input after a later point. -/
theorem outB_10 (hc0 : ¬cond0_0 i) (xo : Vec F S1x1024 .f32) :
    out0_B_10 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 xo = k0_pay5 x1 x2 := by
  unfold out0_B_10
  rw [View.read_writes_eq_canon _ _ _ (cover0_B_10 c i arg1 h1 arg2 h2 arg3 h3 arg4 h4 arg5 h5 arg6 h6 arg7 h7 arg8 h8 arg9 h9 arg10 h10 arg11 h11 arg12 h12 arg13 h13 hc0 x0 x1 x2 x3 x4 x5 x6 x7 xo)]
  unfold kernelRun0_B
  dsimp only
  sl_unfold_words
  rw [View.canon_unit_zero (S := S256x1024) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

/-- The half cotangent after a later point. -/
theorem outB_11 (hc0 : ¬cond0_0 i) (xo : Vec F S1x1024 .f32) :
    out0_B_11 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 xo = k0_pay6 x0 := by
  unfold out0_B_11
  rw [View.read_writes_eq_canon _ _ _ (cover0_B_11 c i arg1 h1 arg2 h2 arg3 h3 arg4 h4 arg5 h5 arg6 h6 arg7 h7 arg8 h8 arg9 h9 arg10 h10 arg11 h11 arg12 h12 arg13 h13 hc0 x0 x1 x2 x3 x4 x5 x6 x7 xo)]
  unfold kernelRun0_B
  dsimp only
  sl_unfold_words
  rw [View.canon_unit_zero (S := S256x1024) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

/-- The gain's gradient after a later point. -/
theorem outB_12 (hc0 : ¬cond0_0 i) (xo : Vec F S1x1024 .f32) :
    out0_B_12 (F := F) c i arg1 h1 arg2 h2 arg3 h3 arg4 h4 arg5 h5 arg6 h6 arg7 h7 arg8 h8 arg9 h9 arg10 h10 arg11 h11 arg12 h12 arg13 h13 hc0 x0 x1 x2 x3 x4 x5 x6 x7 xo = k0_pay12 (k0_pay4 x1) (k0_pay6 x0) (k0_pay7 (F := F)) (k0_pay8 x3) (k0_pay9 x4) x7 x5 x6 xo := by
  unfold out0_B_12
  rw [View.read_writes_eq_canon _ _ _ (cover0_B_12 c i arg1 h1 arg2 h2 arg3 h3 arg4 h4 arg5 h5 arg6 h6 arg7 h7 arg8 h8 arg9 h9 arg10 h10 arg11 h11 arg12 h12 arg13 h13 hc0 x0 x1 x2 x3 x4 x5 x6 x7 xo)]
  unfold kernelRun0_B
  dsimp only
  sl_unfold_words
  rw [View.canon_unit_zero (S := S1x1024) hz]
  simp only [View.readAt_eq_ld, h1.read_unread, h2.read_unread, h3.read_unread, h4.read_unread, h5.read_unread, h6.read_unread,
    h7.read_unread, h8.read_unread, h13.read_unread, View.ld_unit_zero (S := S256x1024) hz, View.ld_unit_zero (S := S1x1024) hz,
    View.ld_unit_zero (S := S256x2816) hz, View.ld_unit_zero (S := S2816x1024) hz, View.readCov_unit_zero (S := S1x1024) _ hz]

end Cert.Ffn.Bwd

end
-- ==== Proof.Bwd.Points.lean ====
/- The input-gradient kernel's output blocks after each point, from the point's input blocks. -/
module

public import proofs.«01_k».proof.Proof.Bwd.Step

@[expose] public section

set_option maxRecDepth 16384

noncomputable section

namespace Cert.Ffn.Bwd

open Idealize.ShloMosaic Idealize.ShloMosaic.TcCoe Idealize.ShloMosaic.Tactic
open Cert.KernelIdeal Cert.KernelIdeal.Gen

variable {F : FTy → Type} [FloatOps F] (m : (ℓ : Loc nD τ sig) → Buf (Elt F) ℓ) (c : Dev nD) (t : Fin cfg0.N)

/-- The input's gradient after the first point. -/
theorem ptA_8 (h0 : t.val % 64 = 0) :
    (outsAt0 m c t.val t.isLt).1 = k0_pay1 (iblk m c 0 t) (k0_pay3 (iblk m c 1 t)) (k0_pay4 (iblk m c 1 t)) (k0_pay13 (k0_pay6 (iblk m c 0 t)) (k0_pay7 (F := F)) (k0_pay8 (iblk m c 3 t)) (k0_pay9 (iblk m c 4 t)) (iblk m c 7 t) (iblk m c 5 t) (iblk m c 6 t) (iblk m c 2 t)) (k0_pay14 (k0_pay4 (iblk m c 1 t)) (k0_pay6 (iblk m c 0 t)) (k0_pay7 (F := F)) (k0_pay8 (iblk m c 3 t)) (k0_pay9 (iblk m c 4 t)) (iblk m c 7 t) (iblk m c 5 t) (iblk m c 6 t) (iblk m c 2 t)) := by
  rw [outsAt0_A m c t h0]
  dsimp only
  rw [outA_8]

/-- The hidden rows' cotangent after the first point. -/
theorem ptA_9 (h0 : t.val % 64 = 0) :
    (outsAt0 m c t.val t.isLt).2.1 = k0_pay10 (k0_pay6 (iblk m c 0 t)) (iblk m c 7 t) := by
  rw [outsAt0_A m c t h0]
  dsimp only
  rw [outA_9]

/-- The normed input after the first point. -/
theorem ptA_10 (h0 : t.val % 64 = 0) :
    (outsAt0 m c t.val t.isLt).2.2.1 = k0_pay5 (iblk m c 1 t) (iblk m c 2 t) := by
  rw [outsAt0_A m c t h0]
  dsimp only
  rw [outA_10]

/-- The half cotangent after the first point. -/
theorem ptA_11 (h0 : t.val % 64 = 0) :
    (outsAt0 m c t.val t.isLt).2.2.2.1 = k0_pay6 (iblk m c 0 t) := by
  rw [outsAt0_A m c t h0]
  dsimp only
  rw [outA_11]

/-- The gain's gradient after the first point. -/
theorem ptA_12 (h0 : t.val % 64 = 0) :
    (outsAt0 m c t.val t.isLt).2.2.2.2 = k0_pay12 (k0_pay4 (iblk m c 1 t)) (k0_pay6 (iblk m c 0 t)) (k0_pay7 (F := F)) (k0_pay8 (iblk m c 3 t)) (k0_pay9 (iblk m c 4 t)) (iblk m c 7 t) (iblk m c 5 t) (iblk m c 6 t) (k0_pay2 (F := F)) := by
  rw [outsAt0_A m c t h0]
  dsimp only
  rw [outA_12]

/-- The input's gradient after a later point. -/
theorem ptB_8 (h0 : ¬t.val % 64 = 0) :
    (outsAt0 m c t.val t.isLt).1 = k0_pay1 (iblk m c 0 t) (k0_pay3 (iblk m c 1 t)) (k0_pay4 (iblk m c 1 t)) (k0_pay13 (k0_pay6 (iblk m c 0 t)) (k0_pay7 (F := F)) (k0_pay8 (iblk m c 3 t)) (k0_pay9 (iblk m c 4 t)) (iblk m c 7 t) (iblk m c 5 t) (iblk m c 6 t) (iblk m c 2 t)) (k0_pay14 (k0_pay4 (iblk m c 1 t)) (k0_pay6 (iblk m c 0 t)) (k0_pay7 (F := F)) (k0_pay8 (iblk m c 3 t)) (k0_pay9 (iblk m c 4 t)) (iblk m c 7 t) (iblk m c 5 t) (iblk m c 6 t) (iblk m c 2 t)) := by
  rw [outsAt0_B m c t h0]
  dsimp only
  rw [outB_8]

/-- The hidden rows' cotangent after a later point. -/
theorem ptB_9 (h0 : ¬t.val % 64 = 0) :
    (outsAt0 m c t.val t.isLt).2.1 = k0_pay10 (k0_pay6 (iblk m c 0 t)) (iblk m c 7 t) := by
  rw [outsAt0_B m c t h0]
  dsimp only
  rw [outB_9]

/-- The normed input after a later point. -/
theorem ptB_10 (h0 : ¬t.val % 64 = 0) :
    (outsAt0 m c t.val t.isLt).2.2.1 = k0_pay5 (iblk m c 1 t) (iblk m c 2 t) := by
  rw [outsAt0_B m c t h0]
  dsimp only
  rw [outB_10]

/-- The half cotangent after a later point. -/
theorem ptB_11 (h0 : ¬t.val % 64 = 0) :
    (outsAt0 m c t.val t.isLt).2.2.2.1 = k0_pay6 (iblk m c 0 t) := by
  rw [outsAt0_B m c t h0]
  dsimp only
  rw [outB_11]

/-- The gain's gradient after a later point. -/
theorem ptB_12 (h0 : ¬t.val % 64 = 0) :
    (outsAt0 m c t.val t.isLt).2.2.2.2 = k0_pay12 (k0_pay4 (iblk m c 1 t)) (k0_pay6 (iblk m c 0 t)) (k0_pay7 (F := F)) (k0_pay8 (iblk m c 3 t)) (k0_pay9 (iblk m c 4 t)) (iblk m c 7 t) (iblk m c 5 t) (iblk m c 6 t) (outsAt0 m c (t.val - 1) (Nat.lt_of_le_of_lt (Nat.sub_le _ _) t.isLt)).2.2.2.2 := by
  rw [outsAt0_B m c t h0]
  dsimp only
  rw [outB_12]

/-- The input's gradient after any point. -/
theorem pt_8 : (outsAt0 m c t.val t.isLt).1 = k0_pay1 (iblk m c 0 t) (k0_pay3 (iblk m c 1 t)) (k0_pay4 (iblk m c 1 t)) (k0_pay13 (k0_pay6 (iblk m c 0 t)) (k0_pay7 (F := F)) (k0_pay8 (iblk m c 3 t)) (k0_pay9 (iblk m c 4 t)) (iblk m c 7 t) (iblk m c 5 t) (iblk m c 6 t) (iblk m c 2 t)) (k0_pay14 (k0_pay4 (iblk m c 1 t)) (k0_pay6 (iblk m c 0 t)) (k0_pay7 (F := F)) (k0_pay8 (iblk m c 3 t)) (k0_pay9 (iblk m c 4 t)) (iblk m c 7 t) (iblk m c 5 t) (iblk m c 6 t) (iblk m c 2 t)) := by
  by_cases h0 : t.val % 64 = 0
  · exact ptA_8 m c t h0
  · exact ptB_8 m c t h0

/-- The hidden rows' cotangent after any point. -/
theorem pt_9 : (outsAt0 m c t.val t.isLt).2.1 = k0_pay10 (k0_pay6 (iblk m c 0 t)) (iblk m c 7 t) := by
  by_cases h0 : t.val % 64 = 0
  · exact ptA_9 m c t h0
  · exact ptB_9 m c t h0

/-- The normed input after any point. -/
theorem pt_10 : (outsAt0 m c t.val t.isLt).2.2.1 = k0_pay5 (iblk m c 1 t) (iblk m c 2 t) := by
  by_cases h0 : t.val % 64 = 0
  · exact ptA_10 m c t h0
  · exact ptB_10 m c t h0

/-- The half cotangent after any point. -/
theorem pt_11 : (outsAt0 m c t.val t.isLt).2.2.2.1 = k0_pay6 (iblk m c 0 t) := by
  by_cases h0 : t.val % 64 = 0
  · exact ptA_11 m c t h0
  · exact ptB_11 m c t h0

end Cert.Ffn.Bwd

end
-- ==== Proof.Arr.lean ====
/- The element-by-element operations on arrays of real numbers. -/
module

public import proofs.«01_k».proof.Proof.Ffn
public import Idealize.ShloMosaic.Lib.Pointwise

@[expose] public section

noncomputable section

namespace Cert.Ffn

open Idealize.ShloMosaic

/-- The product of two real blocks, element by element. -/
theorem mul_arr {n k : ℕ} (p q : Fin n → Fin k → ℝ) : mulf (F := Ideal) (φ := .f32) (arr p) (arr q) = arr fun i j => p i j * q i j := by
  funext i
  show arr p i * arr q i = _
  simp only [arr_apply, ← EReal.coe_mul]

/-- The sum of two real blocks, element by element. -/
theorem add_arr {n k : ℕ} (p q : Fin n → Fin k → ℝ) : addf (F := Ideal) (φ := .f32) (arr p) (arr q) = arr fun i j => p i j + q i j := by
  funext i
  show arr p i + arr q i = _
  simp only [arr_apply, ← EReal.coe_add]

/-- The difference of two real blocks, element by element. -/
theorem sub_arr {n k : ℕ} (p q : Fin n → Fin k → ℝ) : subf (F := Ideal) (φ := .f32) (arr p) (arr q) = arr fun i j => p i j - q i j := by
  funext i
  show arr p i - arr q i = _
  simp only [arr_apply, ← EReal.coe_sub]

/-- A block of ones. -/
theorem ones {n k : ℕ} : broadcast (⟨2, ![n, k]⟩ : Shape) (Scalar.ofBits (F := Ideal) .f32 0x3F800000#32) = arr fun _ _ => 1 := by
  funext i
  show Ideal.ofBits .f32 0x3F800000#32 = _
  rw [Ideal.ofBits_one_f32, arr_apply, EReal.coe_one]

/-- A block of zeros. -/
theorem zeros {n k : ℕ} : broadcast (⟨2, ![n, k]⟩ : Shape) (Scalar.ofBits (F := Ideal) .f32 0x00000000#32) = arr fun _ _ => 0 := by
  funext i
  show Ideal.ofBits .f32 0x00000000#32 = _
  rw [Ideal.ofBits_zero_f32, arr_apply, EReal.coe_zero]

/-- Narrowing a block keeps it. -/
theorem narrow {s : Shape} (v : s.Idx → EReal) (h) : truncf (F := Ideal) (s := s) (φ := .f32) .bf16 v h = v := rfl

/-- Widening a block keeps it. -/
theorem widen {s : Shape} (v : s.Idx → EReal) (h) : extf (F := Ideal) (s := s) (φ := .bf16) .f32 v h = v := rfl

end Cert.Ffn

end
-- ==== Proof.Bwd.Block.lean ====
/- What one block of the input-gradient kernel computes: at 256 rows of the real arrays, the same rows of the real
   gradients. -/
module

public import proofs.«01_k».proof.Proof.Gen.KernelIdeal.Frame
public import proofs.«01_k».proof.Proof.Arr
public import Idealize.ShloMosaic.Lib.Pointwise

@[expose] public section

set_option maxRecDepth 16384

noncomputable section

namespace Cert.Ffn.Bwd

open Idealize.ShloMosaic Idealize.ShloMosaic.TcCoe Idealize.ShloMosaic.Tactic
open Cert.KernelIdeal Cert.KernelIdeal.Gen

variable (x : Fin 16384 → Fin 1024 → ℝ) (gn : Fin 1024 → ℝ) (wg wu : Fin 1024 → Fin 2816 → ℝ)
  (wd : Fin 2816 → Fin 1024 → ℝ) (ct : Fin 16384 → Fin 1024 → ℝ) (ρ : Fin 256 → Fin 16384)

/-- A column repeated along the rows. -/
theorem spread (v : Fin 256 → ℝ) (h) : broadcastTo (α := EReal) S256x1024 (arr fun k (_ : Fin 1) => v k) h = arr fun k (_ : Fin 1024) => v k := by
  funext i
  pointwise
  rfl

/-- A row repeated down the block. -/
theorem tower (v : Fin 1024 → ℝ) (h) : broadcastTo (α := EReal) S256x1024 (arr fun (_ : Fin 1) d => v d) h = arr fun (_ : Fin 256) d => v d := by
  funext i
  pointwise
  rfl

/-- The row sums of a block. -/
theorem rowsum (v : Fin 256 → Fin 1024 → ℝ) (h) :
    multiReduction (F := Ideal) (φ := .f32) .add [1] S256 (arr v) 0x00000000#32 h (.inl rfl) rfl = arr1 fun k => ∑ d, v k d := by
  funext i
  pointwise
  simp only [arr_apply, coe_sum, Ideal.ofBits_zero_f32, zero_add]
  rfl

/-- The column sums of a block. -/
theorem colsum (v : Fin 256 → Fin 1024 → ℝ) (h) :
    multiReduction (F := Ideal) (φ := .f32) .add [0] S1024 (arr v) 0x00000000#32 h (.inl rfl) rfl = arr1 fun d => ∑ k, v k d := by
  funext i
  pointwise
  simp only [arr_apply, coe_sum, Ideal.ofBits_zero_f32, zero_add]
  rfl

/-- A vector as a column. -/
theorem column (v : Fin 256 → ℝ) (h) : shapeCast (α := EReal) S256x1 (arr1 v) h = arr fun k (_ : Fin 1) => v k := by
  funext i
  pointwise
  rfl

/-- A vector as a row. -/
theorem line (v : Fin 1024 → ℝ) (h) : shapeCast (α := EReal) S1x1024 (arr1 v) h = arr fun (_ : Fin 1) d => v d := by
  funext i
  pointwise
  rfl

/-- A product of rows with a matrix's rows, over zeros. -/
theorem productT (p : Fin 256 → Fin 1024 → ℝ) (q : Fin 2816 → Fin 1024 → ℝ) :
    matmul (F := Ideal) (φ₁ := .bf16) (φ₂ := .bf16) dot_S256x1024_S2816x1024_S256x2816_1_1_0_0_n_n none (arr p) (arr q) (constant S256x2816 .f32 0x00000000#32)
    = arr fun k f => ∑ d, p k d * q f d := by
  funext i
  pointwise
  simp only [Ideal.ofBits_zero_f32, zero_add, arr_apply, ← EReal.coe_mul, coe_sum]
  rfl

/-- A product of rows with a matrix, over zeros. -/
theorem productN (p : Fin 256 → Fin 2816 → ℝ) (q : Fin 2816 → Fin 1024 → ℝ) :
    matmul (F := Ideal) (φ₁ := .bf16) (φ₂ := .bf16) dot_S256x2816_S2816x1024_S256x1024_1_0_0_1_n_n none (arr p) (arr q) (constant S256x1024 .f32 0x00000000#32)
    = arr fun k d => ∑ f, p k f * q f d := by
  funext i
  pointwise
  simp only [Ideal.ofBits_zero_f32, zero_add, arr_apply, ← EReal.coe_mul, coe_sum]
  rfl

/-- The logistic function of a block. -/
theorem logis (v : Fin 256 → Fin 2816 → ℝ) : logistic (F := Ideal) (φ := .f32) (arr v) = arr fun k f => sg (v k f) := by
  funext i
  show Ideal.logistic (((v (i 0) (i 1) : ℝ) : EReal)) = _
  rw [Ideal.logistic_coe]
  rfl

/-- A column divided by 1024. -/
theorem mean (v : Fin 256 → ℝ) :
    divf (F := Ideal) (φ := .f32) (arr fun k (_ : Fin 1) => v k) (broadcast S256x1 (Scalar.ofBits (F := Ideal) .f32 0x44800000#32))
    = arr fun k (_ : Fin 1) => v k * (1 / 1024) := by
  funext i
  show Ideal.div (((v (i 0) : ℝ) : EReal)) (Ideal.ofBits .f32 0x44800000#32) = _
  rw [width_f32, div_width]
  rfl

/-- The reciprocal root of each row's mean square. -/
theorem pay3 : k0_pay3 (F := Ideal) (arr fun k d => x (ρ k) d) = arr fun k (_ : Fin 1) => rr x (ρ k) := by
  unfold k0_pay3
  simp only [mul_arr]
  erw [rowsum]
  rw [column, mean]
  funext i
  show Ideal.rsqrt ((((∑ d, x (ρ (i 0)) d * x (ρ (i 0)) d) * (1 / 1024) : ℝ) : EReal) + Ideal.ofBits .f32 0x358637BD#32) = _
  rw [eps_f32, ← EReal.coe_add]
  exact rsqrt_ms x (ρ (i 0))

/-- The rows scaled to mean square one. -/
theorem pay4 : k0_pay4 (F := Ideal) (arr fun k d => x (ρ k) d) = arr fun k d => xhat x (ρ k) d := by
  unfold k0_pay4
  simp only [pay3, spread, mul_arr]
  rfl

/-- The normed input. -/
theorem pay5 : k0_pay5 (F := Ideal) (arr fun k d => x (ρ k) d) (arr fun (_ : Fin 1) d => gn d) = arr fun k d => nrm x gn (ρ k) d := by
  unfold k0_pay5
  simp only [shapeCast_self, pay4, tower, mul_arr, narrow]
  rfl

/-- Half the cotangent. -/
theorem pay6 : k0_pay6 (F := Ideal) (arr fun k d => ct (ρ k) d) = arr fun k d => dy ct (ρ k) d := by
  unfold k0_pay6
  funext i
  show Ideal.ofBits .f32 0x3F000000#32 * (((ct (ρ (i 0)) (i 1) : ℝ)) : EReal) = _
  rw [half_f32, ← EReal.coe_mul]
  rfl

/-- The sum starts at zero. -/
theorem pay7 : k0_pay7 (F := Ideal) = arr fun _ _ => 0 := by
  unfold k0_pay7
  exact zeros

/-- Widening a gate block keeps it. -/
theorem pay8 (v : S256x2816.Idx → EReal) : k0_pay8 (F := Ideal) v = v := by
  unfold k0_pay8
  simp only [shapeCast_self]
  rfl

/-- Widening an up block keeps it. -/
theorem pay9 (v : S256x2816.Idx → EReal) : k0_pay9 (F := Ideal) v = v := by
  unfold k0_pay9
  simp only [shapeCast_self]
  rfl

/-- The gain's gradient starts at zero. -/
theorem pay2 : k0_pay2 (F := Ideal) = arr fun _ _ => 0 := by
  unfold k0_pay2
  exact zeros

/-- The hidden rows' cotangent. -/
theorem pay10 : k0_pay10 (F := Ideal) (arr fun k d => dy ct (ρ k) d) (arr wd) = arr fun k f => dz wd ct (ρ k) f := by
  unfold k0_pay10
  simp only [shapeCast_self, productT, narrow]
  rfl

/-- The normed input's cotangent. -/
theorem pay11 : k0_pay11 (F := Ideal) (arr fun k d => dy ct (ρ k) d) (arr fun _ _ => 0) (arr fun k f => gate x gn wg (ρ k) f)
    (arr fun k f => gate x gn wu (ρ k) f) (arr wd) (arr fun f d => wg d f) (arr fun f d => wu d f)
    = arr fun k d => dh x gn wg wu wd ct (ρ k) d := by
  unfold k0_pay11
  simp only [shapeCast_self, pay10, logis, ones, sub_arr, mul_arr, add_arr, narrow, widen, productN, zero_add]
  rfl

/-- The gain's gradient after a block. -/
theorem pay12 (acc : Fin 1024 → ℝ) : k0_pay12 (F := Ideal) (arr fun k d => xhat x (ρ k) d) (arr fun k d => dy ct (ρ k) d) (arr fun _ _ => 0)
    (arr fun k f => gate x gn wg (ρ k) f) (arr fun k f => gate x gn wu (ρ k) f) (arr wd) (arr fun f d => wg d f) (arr fun f d => wu d f)
    (arr fun (_ : Fin 1) d => acc d)
    = arr fun (_ : Fin 1) d => acc d + ∑ k, dh x gn wg wu wd ct (ρ k) d * xhat x (ρ k) d := by
  unfold k0_pay12
  simp only [shapeCast_self, pay11, mul_arr]
  erw [colsum]
  rw [line, add_arr]

/-- The scaled rows' cotangent. -/
theorem pay13 : k0_pay13 (F := Ideal) (arr fun k d => dy ct (ρ k) d) (arr fun _ _ => 0)
    (arr fun k f => gate x gn wg (ρ k) f) (arr fun k f => gate x gn wu (ρ k) f) (arr wd) (arr fun f d => wg d f) (arr fun f d => wu d f)
    (arr fun (_ : Fin 1) d => gn d)
    = arr fun k d => dh x gn wg wu wd ct (ρ k) d * gn d := by
  unfold k0_pay13
  simp only [shapeCast_self, pay11, tower, mul_arr]

/-- The scaled rows' products with their cotangents, summed along each row. -/
theorem pay14 : k0_pay14 (F := Ideal) (arr fun k d => xhat x (ρ k) d) (arr fun k d => dy ct (ρ k) d) (arr fun _ _ => 0)
    (arr fun k f => gate x gn wg (ρ k) f) (arr fun k f => gate x gn wu (ρ k) f) (arr wd) (arr fun f d => wg d f) (arr fun f d => wu d f)
    (arr fun (_ : Fin 1) d => gn d)
    = arr1 fun k => ∑ e, dh x gn wg wu wd ct (ρ k) e * gn e * xhat x (ρ k) e := by
  unfold k0_pay14
  simp only [pay13, mul_arr]
  erw [rowsum]

/-- The input's gradient. -/
theorem pay1 : k0_pay1 (F := Ideal) (arr fun k d => ct (ρ k) d) (arr fun k (_ : Fin 1) => rr x (ρ k)) (arr fun k d => xhat x (ρ k) d)
    (arr fun k d => dh x gn wg wu wd ct (ρ k) d * gn d) (arr1 fun k => ∑ e, dh x gn wg wu wd ct (ρ k) e * gn e * xhat x (ρ k) e)
    = arr fun k d => dx x gn wg wu wd ct (ρ k) d := by
  unfold k0_pay1
  simp only [column, mean, spread, mul_arr, sub_arr, add_arr]
  rfl

end Cert.Ffn.Bwd

end
-- ==== Proof.Bwd.Sum.lean ====
/- The input-gradient kernel point by point: each output block holds its rows of the gradient, and the gain's gradient
   is summed over the rows up to the point's. -/
module

public import proofs.«01_k».proof.Proof.Bwd.Points
public import proofs.«01_k».proof.Proof.Bwd.Block

@[expose] public section

set_option maxRecDepth 16384

noncomputable section

namespace Cert.Ffn.Bwd

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- Row `k` of row tile `n`. -/
def row (n : ℕ) (k : Fin 256) : Fin 16384 := Fin.ofNat 16384 (256 * n + k.val)

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = t.val ∧ win0_4.index t (1 : Fin 2) = 0 := by decide +kernel
theorem idx8 : ∀ t : Fin grid0.N, win0_8.index t (0 : Fin 2) = t.val ∧ win0_8.index t (1 : Fin 2) = 0 := by decide +kernel
theorem idx9 : ∀ t : Fin grid0.N, win0_9.index t (0 : Fin 2) = t.val ∧ win0_9.index t (1 : Fin 2) = 0 := by decide +kernel
theorem idx10 : ∀ t : Fin grid0.N, win0_10.index t (0 : Fin 2) = t.val ∧ win0_10.index t (1 : Fin 2) = 0 := by decide +kernel
theorem idx11 : ∀ t : Fin grid0.N, win0_11.index t (0 : Fin 2) = t.val ∧ win0_11.index t (1 : Fin 2) = 0 := by decide +kernel
theorem idx2 : ∀ t : Fin grid0.N, win0_2.index t (0 : Fin 2) = 0 ∧ win0_2.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 0 := by decide +kernel
theorem idx12 : ∀ t : Fin grid0.N, win0_12.index t (0 : Fin 2) = 0 ∧ win0_12.index t (1 : Fin 2) = 0 := by decide +kernel

/-- The cotangent block of a point. -/
theorem blk0 (t : Fin cfg0.N) (M : Fin 16384 → Fin 1024 → ℝ) (h : V m c main_arg5 = arr M) :
    iblk m c 0 t = arr fun k d => M (row t.val k) d := by
  funext i
  unfold iblk
  rw [View.read_apply]
  show V m c main_arg5 _ = _
  rw [h, arr_apply, arr_apply]
  have ht : t.val < 64 := lt_of_lt_of_eq t.isLt N_0
  have h0 : (i 0).val < 256 := (i 0).isLt
  congr 2
  · apply Fin.ext
    show win0_0.index t (0 : Fin 2) * 256 + 1 * (i 0).val = (256 * t.val + (i 0).val) % 16384
    rw [(idx0 t).1]; omega
  · apply Fin.ext
    show win0_0.index t (1 : Fin 2) * 1024 + 1 * (i 1).val = (i 1).val
    rw [(idx0 t).2]; omega

/-- The input block of a point. -/
theorem blk1 (t : Fin cfg0.N) (M : Fin 16384 → Fin 1024 → ℝ) (h : V m c main_arg0 = arr M) :
    iblk m c 1 t = arr fun k d => M (row t.val k) d := by
  funext i
  unfold iblk
  rw [View.read_apply]
  show V m c main_arg0 _ = _
  rw [h, arr_apply, arr_apply]
  have ht : t.val < 64 := lt_of_lt_of_eq t.isLt N_0
  have h0 : (i 0).val < 256 := (i 0).isLt
  congr 2
  · apply Fin.ext
    show win0_1.index t (0 : Fin 2) * 256 + 1 * (i 0).val = (256 * t.val + (i 0).val) % 16384
    rw [(idx1 t).1]; omega
  · apply Fin.ext
    show win0_1.index t (1 : Fin 2) * 1024 + 1 * (i 1).val = (i 1).val
    rw [(idx1 t).2]; omega

/-- The gate block of a point. -/
theorem blk3 (t : Fin cfg0.N) (M : Fin 16384 → Fin 2816 → ℝ) (h : V m c main_v19 = arr M) :
    iblk m c 3 t = arr fun k d => M (row t.val k) d := by
  funext i
  unfold iblk
  rw [View.read_apply]
  show V m c main_v19 _ = _
  rw [h, arr_apply, arr_apply]
  have ht : t.val < 64 := lt_of_lt_of_eq t.isLt N_0
  have h0 : (i 0).val < 256 := (i 0).isLt
  congr 2
  · apply Fin.ext
    show win0_3.index t (0 : Fin 2) * 256 + 1 * (i 0).val = (256 * t.val + (i 0).val) % 16384
    rw [(idx3 t).1]; omega
  · apply Fin.ext
    show win0_3.index t (1 : Fin 2) * 2816 + 1 * (i 1).val = (i 1).val
    rw [(idx3 t).2]; omega

/-- The up block of a point. -/
theorem blk4 (t : Fin cfg0.N) (M : Fin 16384 → Fin 2816 → ℝ) (h : V m c main_v21 = arr M) :
    iblk m c 4 t = arr fun k d => M (row t.val k) d := by
  funext i
  unfold iblk
  rw [View.read_apply]
  show V m c main_v21 _ = _
  rw [h, arr_apply, arr_apply]
  have ht : t.val < 64 := lt_of_lt_of_eq t.isLt N_0
  have h0 : (i 0).val < 256 := (i 0).isLt
  congr 2
  · apply Fin.ext
    show win0_4.index t (0 : Fin 2) * 256 + 1 * (i 0).val = (256 * t.val + (i 0).val) % 16384
    rw [(idx4 t).1]; omega
  · apply Fin.ext
    show win0_4.index t (1 : Fin 2) * 2816 + 1 * (i 1).val = (i 1).val
    rw [(idx4 t).2]; omega

/-- The gain row at a point. -/
theorem blk2 (t : Fin cfg0.N) (M : Fin 1 → Fin 1024 → ℝ) (h : V m c main_v23 = arr M) : iblk m c 2 t = arr M := by
  funext i
  unfold iblk
  rw [View.read_apply]
  show V m c main_v23 _ = _
  rw [h, arr_apply, arr_apply]
  congr 2
  · apply Fin.ext
    show win0_2.index t (0 : Fin 2) * 1 + 1 * (i 0).val = (i 0).val
    rw [(idx2 t).1]; omega
  · apply Fin.ext
    show win0_2.index t (1 : Fin 2) * 1024 + 1 * (i 1).val = (i 1).val
    rw [(idx2 t).2]; omega

/-- The gate weights at a point. -/
theorem blk5 (t : Fin cfg0.N) (M : Fin 2816 → Fin 1024 → ℝ) (h : V m c main_v15 = arr M) : iblk m c 5 t = arr M := by
  funext i
  unfold iblk
  rw [View.read_apply]
  show V m c main_v15 _ = _
  rw [h, arr_apply, arr_apply]
  congr 2
  · apply Fin.ext
    show win0_5.index t (0 : Fin 2) * 2816 + 1 * (i 0).val = (i 0).val
    rw [(idx5 t).1]; omega
  · apply Fin.ext
    show win0_5.index t (1 : Fin 2) * 1024 + 1 * (i 1).val = (i 1).val
    rw [(idx5 t).2]; omega

/-- The up weights at a point. -/
theorem blk6 (t : Fin cfg0.N) (M : Fin 2816 → Fin 1024 → ℝ) (h : V m c main_v17 = arr M) : iblk m c 6 t = arr M := by
  funext i
  unfold iblk
  rw [View.read_apply]
  show V m c main_v17 _ = _
  rw [h, arr_apply, arr_apply]
  congr 2
  · apply Fin.ext
    show win0_6.index t (0 : Fin 2) * 2816 + 1 * (i 0).val = (i 0).val
    rw [(idx6 t).1]; omega
  · apply Fin.ext
    show win0_6.index t (1 : Fin 2) * 1024 + 1 * (i 1).val = (i 1).val
    rw [(idx6 t).2]; omega

/-- The down weights at a point. -/
theorem blk7 (t : Fin cfg0.N) (M : Fin 2816 → Fin 1024 → ℝ) (h : V m c main_v22 = arr M) : iblk m c 7 t = arr M := by
  funext i
  unfold iblk
  rw [View.read_apply]
  show V m c main_v22 _ = _
  rw [h, arr_apply, arr_apply]
  congr 2
  · apply Fin.ext
    show win0_7.index t (0 : Fin 2) * 2816 + 1 * (i 0).val = (i 0).val
    rw [(idx7 t).1]; omega
  · apply Fin.ext
    show win0_7.index t (1 : Fin 2) * 1024 + 1 * (i 1).val = (i 1).val
    rw [(idx7 t).2]; omega

variable (x : Fin 16384 → Fin 1024 → ℝ) (gn : Fin 1024 → ℝ) (wg wu : Fin 1024 → Fin 2816 → ℝ)
  (wd : Fin 2816 → Fin 1024 → ℝ) (ct : Fin 16384 → Fin 1024 → ℝ)
variable (hc : V m c main_arg5 = arr ct) (hx : V m c main_arg0 = arr x) (hg : V m c main_v23 = arr fun (_ : Fin 1) d => gn d)
  (hA : V m c main_v19 = arr (gate x gn wg)) (hB : V m c main_v21 = arr (gate x gn wu))
  (hG : V m c main_v15 = arr fun f d => wg d f) (hU : V m c main_v17 = arr fun f d => wu d f) (hD : V m c main_v22 = arr wd)

include hc hx hg hA hB hG hU hD in
/-- The input's gradient after a point. -/
theorem at8 (t : Fin cfg0.N) : (outsAt0 m c t.val t.isLt).1 = arr fun k d => dx x gn wg wu wd ct (row t.val k) d := by
  rw [pt_8, blk0 m c t ct hc, blk1 m c t x hx, blk2 m c t (fun _ d => gn d) hg, blk3 m c t (gate x gn wg) hA, blk4 m c t (gate x gn wu) hB, blk5 m c t (fun f d => wg d f) hG, blk6 m c t (fun f d => wu d f) hU, blk7 m c t wd hD, pay8, pay9]
  simp only [pay3, pay4, pay6, pay7, pay13, pay14, pay1]

include hc hD in
/-- The hidden rows' cotangent after a point. -/
theorem at9 (t : Fin cfg0.N) : (outsAt0 m c t.val t.isLt).2.1 = arr fun k f => dz wd ct (row t.val k) f := by
  rw [pt_9, blk0 m c t ct hc, blk7 m c t wd hD, pay6, pay10]

include hx hg in
/-- The normed input after a point. -/
theorem at10 (t : Fin cfg0.N) : (outsAt0 m c t.val t.isLt).2.2.1 = arr fun k d => nrm x gn (row t.val k) d := by
  rw [pt_10, blk1 m c t x hx, blk2 m c t (fun _ d => gn d) hg, pay5]

include hc in
/-- Half the cotangent after a point. -/
theorem at11 (t : Fin cfg0.N) : (outsAt0 m c t.val t.isLt).2.2.2.1 = arr fun k d => dy ct (row t.val k) d := by
  rw [pt_11, blk0 m c t ct hc, pay6]

/-- The gain's gradient over the first `n` row tiles. -/
def part (n : ℕ) (d : Fin 1024) : ℝ :=
  ∑ j ∈ Finset.range n, ∑ k : Fin 256, dh x gn wg wu wd ct (row j k) d * xhat x (row j k) d

include hc hx hg hA hB hG hU hD in
/-- The gain's gradient after the first point. -/
theorem first (t : Fin cfg0.N) (h : t.val % 64 = 0) :
    (outsAt0 m c t.val t.isLt).2.2.2.2 = arr fun (_ : Fin 1) d => 0 + ∑ k : Fin 256, dh x gn wg wu wd ct (row t.val k) d * xhat x (row t.val k) d := by
  rw [ptA_12 m c t h, blk0 m c t ct hc, blk1 m c t x hx, blk3 m c t (gate x gn wg) hA, blk4 m c t (gate x gn wu) hB, blk5 m c t (fun f d => wg d f) hG, blk6 m c t (fun f d => wu d f) hU, blk7 m c t wd hD, pay8, pay9, pay2]
  simp only [pay4, pay6, pay7]
  exact pay12 x gn wg wu wd ct (row t.val) (fun _ => 0)

include hc hx hg hA hB hG hU hD in
/-- The gain's gradient after a later point. -/
theorem next (t : Fin cfg0.N) (h : ¬t.val % 64 = 0) (acc : Fin 1024 → ℝ)
    (hp : (outsAt0 m c (t.val - 1) (Nat.lt_of_le_of_lt (Nat.sub_le _ _) t.isLt)).2.2.2.2 = arr fun (_ : Fin 1) d => acc d) :
    (outsAt0 m c t.val t.isLt).2.2.2.2 = arr fun (_ : Fin 1) d => acc d + ∑ k : Fin 256, dh x gn wg wu wd ct (row t.val k) d * xhat x (row t.val k) d := by
  rw [ptB_12 m c t h, blk0 m c t ct hc, blk1 m c t x hx, blk3 m c t (gate x gn wg) hA, blk4 m c t (gate x gn wu) hB, blk5 m c t (fun f d => wg d f) hG, blk6 m c t (fun f d => wu d f) hU, blk7 m c t wd hD, pay8, pay9, hp]
  simp only [pay4, pay6, pay7]
  exact pay12 x gn wg wu wd ct (row t.val) acc

include hc hx hg hA hB hG hU hD in
/-- The gain's gradient after every point: the sum over the row tiles so far. -/
theorem at12 (n : ℕ) : ∀ hn : n < cfg0.N, (outsAt0 m c n hn).2.2.2.2 = arr fun (_ : Fin 1) d => part x gn wg wu wd ct (n + 1) d := by
  induction n with
  | zero =>
    intro hn
    refine (first m c x gn wg wu wd ct hc hx hg hA hB hG hU hD ⟨0, hn⟩ rfl).trans (congrArg arr ?_)
    funext _ d
    rw [part, Finset.sum_range_succ, Finset.sum_range_zero]
  | succ n ih =>
    intro hn
    have hN : n + 1 < 64 := lt_of_lt_of_eq hn N_0
    refine (next m c x gn wg wu wd ct hc hx hg hA hB hG hU hD ⟨n + 1, hn⟩ (by show ¬(n + 1) % 64 = 0; omega) _ (ih (Nat.lt_of_succ_lt hn))).trans (congrArg arr ?_)
    funext _ d
    rw [part, part, Finset.sum_range_succ _ (n + 1)]

/-- All the row tiles together are all the rows. -/
theorem part_all (d : Fin 1024) : part x gn wg wu wd ct 64 d = dgn x gn wg wu wd ct d := by
  rw [part, dgn, Finset.sum_range]
  rw [← Fintype.sum_prod_type' (f := fun (j : Fin 64) (k : Fin 256) => dh x gn wg wu wd ct (row j.val k) d * xhat x (row j.val k) d)]
  refine Fintype.sum_equiv (finProdFinEquiv (m := 64) (n := 256)) _ _ fun p => ?_
  have e : row p.1.val p.2 = finProdFinEquiv p := by
    apply Fin.ext
    have h1 := p.1.isLt
    have h2 := p.2.isLt
    show (256 * p.1.val + p.2.val) % 16384 = p.2.val + 256 * p.1.val
    omega
  rw [e]

end Cert.Ffn.Bwd

end
-- ==== Proof.Finite.lean ====
/- The precondition `finite`, read: each argument array holds real numbers. -/
module

public import proofs.«01_k».proof.Proof.Gen.Pre_finite
public import proofs.«01_k».proof.Proof.Ffn
public import Idealize.ShloMosaic.Lib.Pointwise

@[expose] public section

noncomputable section

namespace Cert.Ffn

open Idealize.ShloMosaic Cert.Pre_finite

/-- An array whose absolute values all compare below `+∞` holds real numbers. -/
theorem reals_of_abs_lt {S : Shape} (hb : S_.BroadcastsInDim S ![]) (a : FVec Ideal S .f32)
    (h : cmpf .olt (Host.absf a) (broadcastInDim S ![] hb (constant (F := Ideal) S_ .f32 0x7F800000#32)) = fun _ => 1#1)
    (i : S.Idx) : (((a i : EReal).toReal : ℝ) : EReal) = a i := by
  have hi := congrFun h i
  refine coe_of_abs_lt_top ?_
  rw [cmpf, Host.absf] at hi
  rw [broadcastInDim_apply _ hb _ i ValueIdx.ix0 (fun a => a.elim0)] at hi
  change Ideal.cmp .olt (max (a i : EReal) (-a i)) (Ideal.ofBits .f32 0x7F800000#32) = 1#1 at hi
  rw [inf_f32] at hi
  by_contra hn
  simp [Ideal.cmp, hn] at hi

variable {a0 a5 : FVec Ideal S16384x1024 .f32} {a1 : FVec Ideal S1024 .f32} {a2 a3 : FVec Ideal S1024x2816 .f32}
  {a4 : FVec Ideal S2816x1024 .f32}

/-- The six arrays hold real numbers. -/
theorem reals_of_finite
    (h : (fn (F := Ideal) a0 a1 a2 a3 a4 a5).1 = (fun _ => 1#1) ∧ (fn (F := Ideal) a0 a1 a2 a3 a4 a5).2.1 = (fun _ => 1#1)
      ∧ (fn (F := Ideal) a0 a1 a2 a3 a4 a5).2.2.1 = (fun _ => 1#1) ∧ (fn (F := Ideal) a0 a1 a2 a3 a4 a5).2.2.2.1 = (fun _ => 1#1)
      ∧ (fn (F := Ideal) a0 a1 a2 a3 a4 a5).2.2.2.2.1 = (fun _ => 1#1) ∧ (fn (F := Ideal) a0 a1 a2 a3 a4 a5).2.2.2.2.2 = (fun _ => 1#1)) :
    (∀ i, (((a0 i : EReal).toReal : ℝ) : EReal) = a0 i) ∧ (∀ i, (((a1 i : EReal).toReal : ℝ) : EReal) = a1 i)
      ∧ (∀ i, (((a2 i : EReal).toReal : ℝ) : EReal) = a2 i) ∧ (∀ i, (((a3 i : EReal).toReal : ℝ) : EReal) = a3 i)
      ∧ (∀ i, (((a4 i : EReal).toReal : ℝ) : EReal) = a4 i) ∧ (∀ i, (((a5 i : EReal).toReal : ℝ) : EReal) = a5 i) :=
  ⟨reals_of_abs_lt _ _ h.1, reals_of_abs_lt _ _ h.2.1, reals_of_abs_lt _ _ h.2.2.1, reals_of_abs_lt _ _ h.2.2.2.1,
    reals_of_abs_lt _ _ h.2.2.2.2.1, reals_of_abs_lt _ _ h.2.2.2.2.2⟩

end Cert.Ffn

end
-- ==== Proof.Bwd.Result.lean ====
/- The input-gradient kernel's results are the gradient with respect to the input, the hidden rows' cotangent, the
   normed input, half the cotangent and the gain's gradient, and the reference's are the same. -/
module

public import proofs.«01_k».proof.Defs
public import proofs.«01_k».proof.Proof.Gen.KernelIdeal.Value
public import proofs.«01_k».proof.Proof.Gen.ReferenceIdeal.Run
public import proofs.«01_k».proof.Proof.Bwd.Host
public import proofs.«01_k».proof.Proof.Bwd.Sum
public import proofs.«01_k».proof.Proof.Ref1
public import proofs.«01_k».proof.Proof.Finite
public import Idealize.ShloMosaic.Lib.Pipeline.ValueKit.Geometry

@[expose] public section

set_option maxRecDepth 16384

noncomputable section

namespace Cert.Ffn.Bwd

open Idealize.ShloMosaic Idealize.ShloMosaic.TcCoe Idealize.ShloMosaic.Tactic Idealize.SL.Sem
open Cert.KernelIdeal Cert.KernelIdeal.Gen Cert.KernelIdeal.Value

/-- Rows of a tile, at the place its block has in the array. -/
theorem spot {w : ℕ} (M : Fin 16384 → Fin w → ℝ) (n : ℕ) (k : Fin 256) (d : Fin w) (i : Fin 16384) (j : Fin w)
    (hi : i.val = n * 256 + 1 * k.val) (hj : j.val = 0 * w + 1 * d.val) : M (row n k) d = M i j := by
  have e : row n k = i := by
    apply Fin.ext
    have := i.isLt
    show (256 * n + k.val) % 16384 = i.val
    omega
  have f : d = j := by apply Fin.ext; omega
  rw [e, f]

section Arrays

variable (m : (ℓ : Loc nD τ sig) → Buf (Elt Ideal) ℓ) (c : Dev nD)
variable (x : Fin 16384 → Fin 1024 → ℝ) (gn : Fin 1024 → ℝ) (wg wu : Fin 1024 → Fin 2816 → ℝ)
  (wd : Fin 2816 → Fin 1024 → ℝ) (ct : Fin 16384 → Fin 1024 → ℝ)
variable (h0 : m ((c : Thread nD τ).loc main_arg0) = arr x) (h1 : m ((c : Thread nD τ).loc main_arg1) = arr1 gn)
  (h2 : m ((c : Thread nD τ).loc main_arg2) = arr wg) (h3 : m ((c : Thread nD τ).loc main_arg3) = arr wu)
  (h4 : m ((c : Thread nD τ).loc main_arg4) = arr wd) (h5 : m ((c : Thread nD τ).loc main_arg5) = arr ct)
include h0 h1 h2 h3 h4 h5

/-- The input's gradient. -/
theorem final8 : (dats m 0 c).arrAt 8 cfg0.N = arr (dx x gn wg wu wd ct) := by
  have hc : V m c main_arg5 = arr ct := (V_main_arg5 m c).trans h5
  have hx : V m c main_arg0 = arr x := (V_main_arg0 m c).trans h0
  have hg := v23 m c gn h1
  have hA := v19 m c x gn wg h0 h1 h2
  have hB := v21 m c x gn wu h0 h1 h3
  have hG := v15 m c wg h2
  have hU := v17 m c wu h3
  have hD := v22 m c wd h4
  refine (dats m 0 c).arrAt_eq_of_covers 8 _ (by decide +kernel) fun t hf y => ?_
  rw [after0_8, at8 m c x gn wg wu wd ct hc hx hg hA hB hG hU hD t]
  refine congrArg Real.toEReal (spot (dx x gn wg wu wd ct) t.val _ _ _ _ ?_ ?_)
  · show win0_8.index t (0 : Fin 2) * 256 + 1 * (y 0).val = _
    rw [(idx8 t).1]
  · show win0_8.index t (1 : Fin 2) * 1024 + 1 * (y 1).val = _
    rw [(idx8 t).2]

/-- The hidden rows' cotangent. -/
theorem final9 : (dats m 0 c).arrAt 9 cfg0.N = arr (dz wd ct) := by
  have hc : V m c main_arg5 = arr ct := (V_main_arg5 m c).trans h5
  have hx : V m c main_arg0 = arr x := (V_main_arg0 m c).trans h0
  have hg := v23 m c gn h1
  have hA := v19 m c x gn wg h0 h1 h2
  have hB := v21 m c x gn wu h0 h1 h3
  have hG := v15 m c wg h2
  have hU := v17 m c wu h3
  have hD := v22 m c wd h4
  refine (dats m 0 c).arrAt_eq_of_covers 9 _ (by decide +kernel) fun t hf y => ?_
  rw [after0_9, at9 m c wd ct hc hD t]
  refine congrArg Real.toEReal (spot (dz wd ct) t.val _ _ _ _ ?_ ?_)
  · show win0_9.index t (0 : Fin 2) * 256 + 1 * (y 0).val = _
    rw [(idx9 t).1]
  · show win0_9.index t (1 : Fin 2) * 2816 + 1 * (y 1).val = _
    rw [(idx9 t).2]

/-- The normed input. -/
theorem final10 : (dats m 0 c).arrAt 10 cfg0.N = arr (nrm x gn) := by
  have hc : V m c main_arg5 = arr ct := (V_main_arg5 m c).trans h5
  have hx : V m c main_arg0 = arr x := (V_main_arg0 m c).trans h0
  have hg := v23 m c gn h1
  have hA := v19 m c x gn wg h0 h1 h2
  have hB := v21 m c x gn wu h0 h1 h3
  have hG := v15 m c wg h2
  have hU := v17 m c wu h3
  have hD := v22 m c wd h4
  refine (dats m 0 c).arrAt_eq_of_covers 10 _ (by decide +kernel) fun t hf y => ?_
  rw [after0_10, at10 m c x gn hx hg t]
  refine congrArg Real.toEReal (spot (nrm x gn) t.val _ _ _ _ ?_ ?_)
  · show win0_10.index t (0 : Fin 2) * 256 + 1 * (y 0).val = _
    rw [(idx10 t).1]
  · show win0_10.index t (1 : Fin 2) * 1024 + 1 * (y 1).val = _
    rw [(idx10 t).2]

/-- Half the cotangent. -/
theorem final11 : (dats m 0 c).arrAt 11 cfg0.N = arr (dy ct) := by
  have hc : V m c main_arg5 = arr ct := (V_main_arg5 m c).trans h5
  have hx : V m c main_arg0 = arr x := (V_main_arg0 m c).trans h0
  have hg := v23 m c gn h1
  have hA := v19 m c x gn wg h0 h1 h2
  have hB := v21 m c x gn wu h0 h1 h3
  have hG := v15 m c wg h2
  have hU := v17 m c wu h3
  have hD := v22 m c wd h4
  refine (dats m 0 c).arrAt_eq_of_covers 11 _ (by decide +kernel) fun t hf y => ?_
  rw [after0_11, at11 m c ct hc t]
  refine congrArg Real.toEReal (spot (dy ct) t.val _ _ _ _ ?_ ?_)
  · show win0_11.index t (0 : Fin 2) * 256 + 1 * (y 0).val = _
    rw [(idx11 t).1]
  · show win0_11.index t (1 : Fin 2) * 1024 + 1 * (y 1).val = _
    rw [(idx11 t).2]

/-- The gain's gradient. -/
theorem final12 : (dats m 0 c).arrAt 12 cfg0.N = arr fun (_ : Fin 1) d => dgn x gn wg wu wd ct d := by
  have hc : V m c main_arg5 = arr ct := (V_main_arg5 m c).trans h5
  have hx : V m c main_arg0 = arr x := (V_main_arg0 m c).trans h0
  have hg := v23 m c gn h1
  have hA := v19 m c x gn wg h0 h1 h2
  have hB := v21 m c x gn wu h0 h1 h3
  have hG := v15 m c wg h2
  have hU := v17 m c wu h3
  have hD := v22 m c wd h4
  refine (dats m 0 c).arrAt_eq_of_covers 12 _ (by decide +kernel) fun t hf y => ?_
  have ht : t.val < 64 := lt_of_lt_of_eq t.isLt N_0
  have hm : t.val % 64 = 63 := (flush0_12 t).mp hf
  have hn : t.val + 1 = 64 := by omega
  rw [after0_12, at12 m c x gn wg wu wd ct hc hx hg hA hB hG hU hD t.val t.isLt, hn]
  have e : (fun (_ : Fin 1) d => part x gn wg wu wd ct 64 d) = fun (_ : Fin 1) d => dgn x gn wg wu wd ct d := by
    funext _ d; exact part_all x gn wg wu wd ct d
  rw [e]
  refine congrArg Real.toEReal (congrArg (dgn x gn wg wu wd ct) (Fin.ext ?_))
  show (y 1).val = win0_12.index t (1 : Fin 2) * 1024 + 1 * (y 1).val
  rw [(idx12 t).2]; omega

end Arrays

/-- Under the precondition, every run of the kernel and every run of the reference end with the same five arrays. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hr := fun c => reals_of_finite (hpre c)
  refine ⟨fun c => arr (dx (mat (m ((c : Thread nD τ).loc main_arg0))) (vec (m ((c : Thread nD τ).loc main_arg1))) (mat (m ((c : Thread nD τ).loc main_arg2)))
      (mat (m ((c : Thread nD τ).loc main_arg3))) (mat (m ((c : Thread nD τ).loc main_arg4))) (mat (m ((c : Thread nD τ).loc main_arg5)))),
    fun c => arr (dz (mat (m ((c : Thread nD τ).loc main_arg4))) (mat (m ((c : Thread nD τ).loc main_arg5)))),
    fun c => arr (nrm (mat (m ((c : Thread nD τ).loc main_arg0))) (vec (m ((c : Thread nD τ).loc main_arg1)))),
    fun c => arr (dy (mat (m ((c : Thread nD τ).loc main_arg5)))),
    fun c => arr fun (_ : Fin 1) d => dgn (mat (m ((c : Thread nD τ).loc main_arg0))) (vec (m ((c : Thread nD τ).loc main_arg1))) (mat (m ((c : Thread nD τ).loc main_arg2)))
      (mat (m ((c : Thread nD τ).loc main_arg3))) (mat (m ((c : Thread nD τ).loc main_arg4))) (mat (m ((c : Thread nD τ).loc main_arg5))) d,
    (θ_run _ _ _).mono (fun r h c => ?_) (Cert.KernelIdeal.Value.run_blocks m g),
    (θ_run _ _ _).mono (fun r h c => ?_) (Cert.ReferenceIdeal.Value.run m' g')⟩
  · obtain ⟨r0, r1, r2, r3, r4, r5⟩ := hr c
    have e0 := eq_arr r0
    have e1 := eq_arr1 r1
    have e2 := eq_arr r2
    have e3 := eq_arr r3
    have e4 := eq_arr r4
    have e5 := eq_arr r5
    obtain ⟨p0, p1, p2, p3, p4, rest⟩ := h c
    exact ⟨p0.trans (final8 m c _ _ _ _ _ _ e0 e1 e2 e3 e4 e5), p1.trans (final9 m c _ _ _ _ _ _ e0 e1 e2 e3 e4 e5),
      p2.trans (final10 m c _ _ _ _ _ _ e0 e1 e2 e3 e4 e5), p3.trans (final11 m c _ _ _ _ _ _ e0 e1 e2 e3 e4 e5),
      p4.trans (final12 m c _ _ _ _ _ _ e0 e1 e2 e3 e4 e5), rest⟩
  · obtain ⟨r0, r1, r2, r3, r4, r5⟩ := hr c
    have e0 := eq_arr r0
    have e1 := eq_arr1 r1
    have e2 := eq_arr r2
    have e3 := eq_arr r3
    have e4 := eq_arr r4
    have e5 := eq_arr r5
    obtain ⟨a0, a1, a2, a3, a4, a5⟩ := hargs c
    obtain ⟨p0, p1, p2, p3, p4, rest⟩ := h c
    refine ⟨p0.trans ?_, p1.trans ?_, p2.trans ?_, p3.trans ?_, p4.trans ?_, rest⟩
    · rw [Cert.ReferenceIdeal.Read.val_main_v54_eq, a0, a1, a2, a3, a4, a5, e0, e1, e2, e3, e4, e5]
      exact Ref1.v54 ..
    · refine (Cert.ReferenceIdeal.Read.val_main_v59_eq ..).trans ?_
      rw [a4, a5, e4, e5]
      exact Ref1.v59 ..
    · refine (Cert.ReferenceIdeal.Read.val_main_v73_eq ..).trans ?_
      rw [a0, a1, e0, e1]
      exact Ref1.v73 ..
    · refine (Cert.ReferenceIdeal.Read.val_main_v74_eq ..).trans ?_
      rw [a5, e5]
      exact Ref1.v74 ..
    · rw [Cert.ReferenceIdeal.Read.val_main_v75_eq, a0, a1, a2, a3, a4, a5, e0, e1, e2, e3, e4, e5]
      exact Ref1.v75 ..

end Cert.Ffn.Bwd

end
-- ==== Proof.Ref2.lean ====
/- What the weight-gradient reference computes: each of its arrays, at arguments holding real numbers, is the real
   function of the same name in `Ffn.lean`. -/
module

public import proofs.«01_k».proof.Proof.Gen.Reference2Ideal.Read
public import proofs.«01_k».proof.Proof.Ffn

@[expose] public section

noncomputable section

open scoped BigOperators

namespace Cert.Ffn.Ref2

open Idealize.ShloMosaic Cert.Reference2Ideal Cert.Reference2Ideal.Read

variable (x : Fin 16384 → Fin 1024 → ℝ) (gn : Fin 1024 → ℝ) (wg wu : Fin 1024 → Fin 2816 → ℝ)
  (wd : Fin 2816 → Fin 1024 → ℝ) (ct : Fin 16384 → Fin 1024 → ℝ)

/-- The reciprocal root of each row's mean square. -/
theorem v7 (i) : val_main_v7 (F := Ideal) (arr x) i = ((rr x (i 0) : ℝ) : EReal) := by
  rw [val_main_v7_apply, val_main_v6_apply, val_main_v4_apply, val_main_v2_apply, val_main_v1_apply, val_main_v3_apply,
    val_main_v5_apply, val_main_cst_apply, val_main_cst_0_apply, val_main_cst_1_apply]
  simp only [val_main_v0_apply, Ideal.ofBits_def, Ideal.ofBits_zero_f32, width_f32, eps_f32, zero_add, Ideal.mulf_def,
    Ideal.addf_def, Ideal.hostDivf_def, Ideal.hostUnary_rsqrt_def, arr_apply, ← EReal.coe_mul, coe_sum, div_width,
    ← EReal.coe_add]
  exact rsqrt_ms x _

/-- The normed input. -/
theorem v12 : val_main_v12 (F := Ideal) (arr x) (arr1 gn) = arr (nrm x gn) := by
  funext i
  rw [val_main_v12_apply, val_main_v9_apply, val_main_v8_apply, v7, val_main_v11_apply, val_main_v10_apply]
  simp only [Ideal.mulf_def, arr_apply, arr1_apply, ← EReal.coe_mul]
  rfl

/-- The gate projection. -/
theorem v13 : val_main_v13 (F := Ideal) (arr x) (arr1 gn) (arr wg) = arr (gate x gn wg) := by
  funext i
  rw [val_main_v13_apply, v12]
  simp only [arr_apply, ← EReal.coe_mul, coe_sum]
  rfl

/-- The up projection. -/
theorem v15 : val_main_v15 (F := Ideal) (arr x) (arr1 gn) (arr wu) = arr (gate x gn wu) := by
  funext i
  rw [val_main_v15_apply, v12]
  simp only [arr_apply, ← EReal.coe_mul, coe_sum]
  rfl

/-- The logistic function of the gate projection. -/
theorem v14_2 : val_main_v14_2 (F := Ideal) (arr x) (arr1 gn) (arr wg) = arr fun s f => sg (gate x gn wg s f) := by
  funext i
  rw [val_main_v14_2_apply, val_main_call0_v4_apply, val_main_call0_v3_apply, val_main_call0_v2_apply, val_main_call0_v1_apply,
    val_main_call0_v0_apply, val_main_call0_cst_0_apply, val_main_call0_cst_apply, v13]
  simp only [Ideal.ofBits_def, Ideal.ofBits_one_f32, Ideal.addf_def, Ideal.hostDivf_def, Ideal.hostUnary_exp_def, arr_apply]
  exact one_div_coe _

/-- The logistic function's derivative. -/
theorem v14_1 : val_main_v14_1 (F := Ideal) (arr x) (arr1 gn) (arr wg)
    = arr fun s f => sg (gate x gn wg s f) * (1 - sg (gate x gn wg s f)) := by
  funext i
  rw [val_main_v14_1_apply, val_main_call0_v7_apply, val_main_call0_v6_apply, val_main_call0_cst_1_apply, v14_2]
  simp only [Ideal.ofBits_def, Ideal.ofBits_one_f32, Ideal.mulf_def, Ideal.subf_def, arr_apply, ← EReal.coe_one,
    ← EReal.coe_sub, ← EReal.coe_mul]

/-- `silu` of the gate projection. -/
theorem v14_0 : val_main_v14_0 (F := Ideal) (arr x) (arr1 gn) (arr wg) = arr fun s f => silu (gate x gn wg s f) := by
  funext i
  rw [val_main_v14_0_apply, v13, v14_2]
  simp only [Ideal.mulf_def, arr_apply, ← EReal.coe_mul]
  rfl

/-- The hidden rows. -/
theorem v16 : val_main_v16 (F := Ideal) (arr x) (arr1 gn) (arr wg) (arr wu) = arr (hid x gn wg wu) := by
  funext i
  rw [val_main_v16_apply, v14_0, v15]
  simp only [Ideal.mulf_def, arr_apply, ← EReal.coe_mul]
  rfl

/-- Half the cotangent. -/
theorem v22 : val_main_v22 (F := Ideal) (arr ct) = arr (dy ct) := by
  funext i
  rw [val_main_v22_apply, val_main_v21_apply, val_main_cst_3_apply]
  simp only [Ideal.ofBits_def, half_f32, Ideal.mulf_def, arr_apply, ← EReal.coe_mul]
  rfl

/-- The cotangent of the hidden rows. -/
theorem v25 : val_main_v25 (F := Ideal) (arr wd) (arr ct) = arr (dz wd ct) := by
  funext i
  rw [val_main_v25_apply, v22]
  simp only [arr_apply, ← EReal.coe_mul, coe_sum]
  rfl

/-- The cotangent of the up projection. -/
theorem v26 : val_main_v26 (F := Ideal) (arr x) (arr1 gn) (arr wg) (arr wd) (arr ct) = arr (dup x gn wg wd ct) := by
  funext i
  rw [val_main_v26_apply, v14_0, v25]
  simp only [Ideal.mulf_def, arr_apply, ← EReal.coe_mul]
  rw [mul_comm]; rfl

/-- The cotangent of the gate projection. -/
theorem v30 : val_main_v30 (F := Ideal) (arr x) (arr1 gn) (arr wg) (arr wu) (arr wd) (arr ct) = arr (dgate x gn wg wu wd ct) := by
  funext i
  rw [val_main_v30_apply, val_main_call1_v1_apply, val_main_call1_v2_apply, val_main_call1_v0_apply, val_main_v27_apply,
    v13, v14_1, v14_2, v15, v25]
  simp only [Ideal.mulf_def, Ideal.addf_def, arr_apply, ← EReal.coe_mul, ← EReal.coe_add]
  refine congrArg _ ?_
  simp only [dgate, dsilu]
  ring

/-- The gate weights' gradient. -/
theorem v34 : val_main_v34 (F := Ideal) (arr x) (arr1 gn) (arr wg) (arr wu) (arr wd) (arr ct) = arr (dwg x gn wg wu wd ct) := by
  funext i
  rw [val_main_v34_apply, val_main_v33_apply, val_main_v32_apply, val_main_v31_apply, v30, v12]
  simp only [Ideal.truncf_def, arr_apply, ← EReal.coe_mul, coe_sum]
  rfl

/-- The up weights' gradient. -/
theorem v36 : val_main_v36 (F := Ideal) (arr x) (arr1 gn) (arr wg) (arr wd) (arr ct) = arr (dwu x gn wg wd ct) := by
  funext i
  rw [val_main_v36_apply, val_main_v35_apply, val_main_v29_apply, val_main_v28_apply, v26, v12]
  simp only [Ideal.truncf_def, arr_apply, ← EReal.coe_mul, coe_sum]
  rfl

/-- The down weights' gradient. -/
theorem v37 : val_main_v37 (F := Ideal) (arr x) (arr1 gn) (arr wg) (arr wu) (arr ct) = arr (dwd x gn wg wu ct) := by
  funext i
  rw [val_main_v37_apply, val_main_v24_apply, val_main_v23_apply, v22, v16]
  simp only [Ideal.truncf_def, arr_apply, ← EReal.coe_mul, coe_sum]
  exact congrArg _ (Finset.sum_congr rfl fun k _ => mul_comm _ _)

end Cert.Ffn.Ref2

end
-- ==== Proof.Dw.Host.lean ====
/- What the host operations leave in the arrays the weight-gradient kernel reads. -/
module

public import proofs.«01_k».proof.Proof.Gen.Kernel2Ideal.Frame
public import proofs.«01_k».proof.Proof.Ref2
public import Idealize.ShloMosaic.Lib.Claim
public import Idealize.ShloMosaic.Lib.Pointwise

@[expose] public section

set_option maxRecDepth 16384

noncomputable section

namespace Cert.Ffn.Dw

open Idealize.ShloMosaic Idealize.ShloMosaic.TcCoe Idealize.ShloMosaic.Tactic
open Cert.Kernel2Ideal Cert.Kernel2Ideal.Gen
open Cert.Reference2Ideal.Read (val_main_v12 val_main_v22 val_main_v25)

variable (m : (ℓ : Loc nD τ sig) → Buf (Elt Ideal) ℓ) (c : Dev nD)
variable (x : Fin 16384 → Fin 1024 → ℝ) (gn : Fin 1024 → ℝ) (wg wu : Fin 1024 → Fin 2816 → ℝ)
  (wd : Fin 2816 → Fin 1024 → ℝ) (ct : Fin 16384 → Fin 1024 → ℝ)

/-- The product of real rows with the transpose of a transposed real matrix. -/
theorem product (p : Fin 16384 → Fin 1024 → ℝ) (w : Fin 1024 → Fin 2816 → ℝ) :
    Host.dotGeneral (F := Ideal) (φ₁ := .bf16) (φ₂ := .bf16) dot_S16384x1024_S2816x1024_S16384x2816_1_1_0_0_n_n none (arr p)
      (transpose S2816x1024 [1, 0] (arr w) transposes_S1024x2816_S2816x1024_1_0)
    = arr fun s f => ∑ k, p s k * w k f := by
  funext i
  pointwise
  simp only [arr_apply, ← EReal.coe_mul, coe_sum]
  rfl

/-- The normed input. -/
theorem v13 (hx : m ((c : Thread nD τ).loc main_arg0) = arr x) (hg : m ((c : Thread nD τ).loc main_arg1) = arr1 gn) :
    V m c main_v13 = arr (nrm x gn) := by
  have e : V m c main_v13 = val_main_v12 (F := Ideal) (m ((c : Thread nD τ).loc main_arg0)) (m ((c : Thread nD τ).loc main_arg1)) := by
    dsimp only [V, hostOps0]
    after_results
    rfl
  rw [e, hx, hg, Ref2.v12]

/-- Half the cotangent. -/
theorem v24 (hc : m ((c : Thread nD τ).loc main_arg5) = arr ct) : V m c main_v24 = arr (dy ct) := by
  have e : V m c main_v24 = val_main_v22 (F := Ideal) (m ((c : Thread nD τ).loc main_arg5)) := by
    dsimp only [V, hostOps0]
    after_results
    rfl
  rw [e, hc, Ref2.v22]

/-- The cotangent of the hidden rows. -/
theorem v27 (hd : m ((c : Thread nD τ).loc main_arg4) = arr wd) (hc : m ((c : Thread nD τ).loc main_arg5) = arr ct) :
    V m c main_v27 = arr (dz wd ct) := by
  have e : V m c main_v27 = val_main_v25 (F := Ideal) (m ((c : Thread nD τ).loc main_arg4)) (m ((c : Thread nD τ).loc main_arg5)) := by
    dsimp only [V, hostOps0]
    after_results
    rfl
  rw [e, hd, hc, Ref2.v25]

/-- The gate projection. -/
theorem v19 (hx : m ((c : Thread nD τ).loc main_arg0) = arr x) (hg : m ((c : Thread nD τ).loc main_arg1) = arr1 gn)
    (hw : m ((c : Thread nD τ).loc main_arg2) = arr wg) : V m c main_v19 = arr (gate x gn wg) := by
  have e : V m c main_v19 = Host.dotGeneral (F := Ideal) (φ₁ := .bf16) (φ₂ := .bf16) dot_S16384x1024_S2816x1024_S16384x2816_1_1_0_0_n_n none
      (val_main_v12 (F := Ideal) (m ((c : Thread nD τ).loc main_arg0)) (m ((c : Thread nD τ).loc main_arg1)))
      (transpose S2816x1024 [1, 0] (m ((c : Thread nD τ).loc main_arg2)) transposes_S1024x2816_S2816x1024_1_0) := by
    dsimp only [V, hostOps0]
    after_results
    rfl
  rw [e, hx, hg, hw, Ref2.v12, product]
  rfl

/-- The up projection. -/
theorem v21 (hx : m ((c : Thread nD τ).loc main_arg0) = arr x) (hg : m ((c : Thread nD τ).loc main_arg1) = arr1 gn)
    (hw : m ((c : Thread nD τ).loc main_arg3) = arr wu) : V m c main_v21 = arr (gate x gn wu) := by
  have e : V m c main_v21 = Host.dotGeneral (F := Ideal) (φ₁ := .bf16) (φ₂ := .bf16) dot_S16384x1024_S2816x1024_S16384x2816_1_1_0_0_n_n none
      (val_main_v12 (F := Ideal) (m ((c : Thread nD τ).loc main_arg0)) (m ((c : Thread nD τ).loc main_arg1)))
      (transpose S2816x1024 [1, 0] (m ((c : Thread nD τ).loc main_arg3)) transposes_S1024x2816_S2816x1024_1_0) := by
    dsimp only [V, hostOps0]
    after_results
    rfl
  rw [e, hx, hg, hw, Ref2.v12, product]
  rfl

end Cert.Ffn.Dw

end
-- ==== Proof.Dw.Step.lean ====
/- What one grid point of the weight-gradient kernel leaves: each accumulator receives the transposed product of its
   block pair, over zeros at the first row tile and over the accumulator before it otherwise; at the last row tile the
   outputs are the accumulators. -/
module

public import proofs.«01_k».proof.Proof.Gen.Kernel2Ideal.Frame
public import Idealize.ShloMosaic.Lib.Pipeline.Value

@[expose] public section

set_option maxRecDepth 16384

noncomputable section

namespace Cert.Ffn.Dw

open Idealize.ShloMosaic Idealize.ShloMosaic.TcCoe Idealize.ShloMosaic.Tactic
open Cert.Kernel2Ideal Cert.Kernel2Ideal.Gen

private theorem hz : (![0, 0] : Fin 2 → Nat) = fun _ => 0 := funext fun a => by fin_cases a <;> rfl

variable {F : FTy → Type} [FloatOps F]
  (c : Dev nD) (i : grid0.Coords) (arg2 : Memref sig .tc .vmem S2048x256 .bf16) (h2 : arg2.IsWhole) (arg3 : Memref sig .tc .vmem S2048x256 .bf16) (h3 : arg3.IsWhole)
  (arg4 : Memref sig .tc .vmem S2048x256 .bf16) (h4 : arg4.IsWhole) (arg5 : Memref sig .tc .vmem S2048x1024 .bf16) (h5 : arg5.IsWhole) (arg6 : Memref sig .tc .vmem S2048x1024 .bf16) (h6 : arg6.IsWhole)
  (arg7 : Memref sig .tc .vmem S256x1024 .bf16) (h7 : arg7.IsWhole) (arg8 : Memref sig .tc .vmem S256x1024 .bf16) (h8 : arg8.IsWhole) (arg9 : Memref sig .tc .vmem S256x1024 .bf16) (h9 : arg9.IsWhole)
  (arg10 : Memref sig .tc .vmem S256x1024 .f32) (h10 : arg10.IsWhole) (arg11 : Memref sig .tc .vmem S256x1024 .f32) (h11 : arg11.IsWhole) (arg12 : Memref sig .tc .vmem S256x1024 .f32) (h12 : arg12.IsWhole)
  (x0 x1 x2 : Vec F S2048x256 .bf16) (x3 x4 : Vec F S2048x1024 .bf16)

/-- The gate accumulator after a first row tile. -/
theorem accA_0 (hc0 : cond0_0 i) (hc1 : ¬cond0_1 i) :
    sout0_A_0 (F := F) c i arg2 h2 arg3 h3 arg4 h4 arg5 h5 arg6 h6 arg7 h7 arg8 h8 arg9 h9 arg10 h10 arg11 h11 arg12 h12 hc0 hc1 x0 x1 x2 x3 x4 = k0_pay17 x0 x1 x2 x3 (k0_pay6 (F := F)) := by
  unfold sout0_A_0
  rw [View.read_writes_eq_canon _ _ _ (scover0_A_0 c i arg2 h2 arg3 h3 arg4 h4 arg5 h5 arg6 h6 arg7 h7 arg8 h8 arg9 h9 arg10 h10 arg11 h11 arg12 h12 hc0 hc1 x0 x1 x2 x3 x4)]
  unfold kernelRun0_A
  dsimp only
  sl_unfold_words
  rw [View.canon_cons_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The up accumulator after a first row tile. -/
theorem accA_1 (hc0 : cond0_0 i) (hc1 : ¬cond0_1 i) :
    sout0_A_1 (F := F) c i arg2 h2 arg3 h3 arg4 h4 arg5 h5 arg6 h6 arg7 h7 arg8 h8 arg9 h9 arg10 h10 arg11 h11 arg12 h12 hc0 hc1 x0 x1 x2 x3 x4 = k0_pay1 (k0_pay14 x0 x2) (k0_pay16 x3) (k0_pay7 (F := F)) (constant S256x1024 .f32 0x00000000#32) := by
  unfold sout0_A_1
  rw [View.read_writes_eq_canon _ _ _ (scover0_A_1 c i arg2 h2 arg3 h3 arg4 h4 arg5 h5 arg6 h6 arg7 h7 arg8 h8 arg9 h9 arg10 h10 arg11 h11 arg12 h12 hc0 hc1 x0 x1 x2 x3 x4)]
  unfold kernelRun0_A
  dsimp only
  sl_unfold_words
  rw [View.canon_cons_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The down accumulator after a first row tile. -/
theorem accA_2 (hc0 : cond0_0 i) (hc1 : ¬cond0_1 i) :
    sout0_A_2 (F := F) c i arg2 h2 arg3 h3 arg4 h4 arg5 h5 arg6 h6 arg7 h7 arg8 h8 arg9 h9 arg10 h10 arg11 h11 arg12 h12 hc0 hc1 x0 x1 x2 x3 x4 = k0_pay2 (k0_pay15 x0 x1) (k0_pay8 (F := F)) x4 := by
  unfold sout0_A_2
  rw [View.read_writes_eq_canon _ _ _ (scover0_A_2 c i arg2 h2 arg3 h3 arg4 h4 arg5 h5 arg6 h6 arg7 h7 arg8 h8 arg9 h9 arg10 h10 arg11 h11 arg12 h12 hc0 hc1 x0 x1 x2 x3 x4)]
  unfold kernelRun0_A
  dsimp only
  sl_unfold_words
  rw [View.canon_cons_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The gate accumulator after a middle row tile. -/
theorem accB_0 (hc0 : ¬cond0_0 i) (hc1 : ¬cond0_1 i)
    (xs0 xs1 xs2 : Vec F S256x1024 .f32) :
    sout0_B_0 (F := F) c i arg2 h2 arg3 h3 arg4 h4 arg5 h5 arg6 h6 arg7 h7 arg8 h8 arg9 h9 arg10 h10 arg11 h11 arg12 h12 hc0 hc1 x0 x1 x2 x3 x4 xs0 xs1 xs2 = k0_pay17 x0 x1 x2 x3 (xs0) := by
  unfold sout0_B_0
  rw [View.read_writes_eq_canon _ _ _ (scover0_B_0 c i arg2 h2 arg3 h3 arg4 h4 arg5 h5 arg6 h6 arg7 h7 arg8 h8 arg9 h9 arg10 h10 arg11 h11 arg12 h12 hc0 hc1 x0 x1 x2 x3 x4 xs0 xs1 xs2)]
  unfold kernelRun0_B
  dsimp only
  sl_unfold_words
  rw [View.canon_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The up accumulator after a middle row tile. -/
theorem accB_1 (hc0 : ¬cond0_0 i) (hc1 : ¬cond0_1 i)
    (xs0 xs1 xs2 : Vec F S256x1024 .f32) :
    sout0_B_1 (F := F) c i arg2 h2 arg3 h3 arg4 h4 arg5 h5 arg6 h6 arg7 h7 arg8 h8 arg9 h9 arg10 h10 arg11 h11 arg12 h12 hc0 hc1 x0 x1 x2 x3 x4 xs0 xs1 xs2 = k0_pay1 (k0_pay14 x0 x2) (k0_pay16 x3) (xs1) (constant S256x1024 .f32 0x00000000#32) := by
  unfold sout0_B_1
  rw [View.read_writes_eq_canon _ _ _ (scover0_B_1 c i arg2 h2 arg3 h3 arg4 h4 arg5 h5 arg6 h6 arg7 h7 arg8 h8 arg9 h9 arg10 h10 arg11 h11 arg12 h12 hc0 hc1 x0 x1 x2 x3 x4 xs0 xs1 xs2)]
  unfold kernelRun0_B
  dsimp only
  sl_unfold_words
  rw [View.canon_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The down accumulator after a middle row tile. -/
theorem accB_2 (hc0 : ¬cond0_0 i) (hc1 : ¬cond0_1 i)
    (xs0 xs1 xs2 : Vec F S256x1024 .f32) :
    sout0_B_2 (F := F) c i arg2 h2 arg3 h3 arg4 h4 arg5 h5 arg6 h6 arg7 h7 arg8 h8 arg9 h9 arg10 h10 arg11 h11 arg12 h12 hc0 hc1 x0 x1 x2 x3 x4 xs0 xs1 xs2 = k0_pay2 (k0_pay15 x0 x1) (xs2) x4 := by
  unfold sout0_B_2
  rw [View.read_writes_eq_canon _ _ _ (scover0_B_2 c i arg2 h2 arg3 h3 arg4 h4 arg5 h5 arg6 h6 arg7 h7 arg8 h8 arg9 h9 arg10 h10 arg11 h11 arg12 h12 hc0 hc1 x0 x1 x2 x3 x4 xs0 xs1 xs2)]
  unfold kernelRun0_B
  dsimp only
  sl_unfold_words
  rw [View.canon_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The gate accumulator after a last row tile. -/
theorem accC_0 (hc0 : ¬cond0_0 i) (hc1 : cond0_1 i)
    (xs0 xs1 xs2 : Vec F S256x1024 .f32) :
    sout0_C_0 (F := F) c i arg2 h2 arg3 h3 arg4 h4 arg5 h5 arg6 h6 arg7 h7 arg8 h8 arg9 h9 arg10 h10 arg11 h11 arg12 h12 hc0 hc1 x0 x1 x2 x3 x4 xs0 xs1 xs2 = k0_pay17 x0 x1 x2 x3 (xs0) := by
  unfold sout0_C_0
  rw [View.read_writes_eq_canon _ _ _ (scover0_C_0 c i arg2 h2 arg3 h3 arg4 h4 arg5 h5 arg6 h6 arg7 h7 arg8 h8 arg9 h9 arg10 h10 arg11 h11 arg12 h12 hc0 hc1 x0 x1 x2 x3 x4 xs0 xs1 xs2)]
  unfold kernelRun0_C
  dsimp only
  sl_unfold_words
  rw [View.canon_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The up accumulator after a last row tile. -/
theorem accC_1 (hc0 : ¬cond0_0 i) (hc1 : cond0_1 i)
    (xs0 xs1 xs2 : Vec F S256x1024 .f32) :
    sout0_C_1 (F := F) c i arg2 h2 arg3 h3 arg4 h4 arg5 h5 arg6 h6 arg7 h7 arg8 h8 arg9 h9 arg10 h10 arg11 h11 arg12 h12 hc0 hc1 x0 x1 x2 x3 x4 xs0 xs1 xs2 = k0_pay1 (k0_pay14 x0 x2) (k0_pay16 x3) (xs1) (constant S256x1024 .f32 0x00000000#32) := by
  unfold sout0_C_1
  rw [View.read_writes_eq_canon _ _ _ (scover0_C_1 c i arg2 h2 arg3 h3 arg4 h4 arg5 h5 arg6 h6 arg7 h7 arg8 h8 arg9 h9 arg10 h10 arg11 h11 arg12 h12 hc0 hc1 x0 x1 x2 x3 x4 xs0 xs1 xs2)]
  unfold kernelRun0_C
  dsimp only
  sl_unfold_words
  rw [View.canon_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The down accumulator after a last row tile. -/
theorem accC_2 (hc0 : ¬cond0_0 i) (hc1 : cond0_1 i)
    (xs0 xs1 xs2 : Vec F S256x1024 .f32) :
    sout0_C_2 (F := F) c i arg2 h2 arg3 h3 arg4 h4 arg5 h5 arg6 h6 arg7 h7 arg8 h8 arg9 h9 arg10 h10 arg11 h11 arg12 h12 hc0 hc1 x0 x1 x2 x3 x4 xs0 xs1 xs2 = k0_pay2 (k0_pay15 x0 x1) (xs2) x4 := by
  unfold sout0_C_2
  rw [View.read_writes_eq_canon _ _ _ (scover0_C_2 c i arg2 h2 arg3 h3 arg4 h4 arg5 h5 arg6 h6 arg7 h7 arg8 h8 arg9 h9 arg10 h10 arg11 h11 arg12 h12 hc0 hc1 x0 x1 x2 x3 x4 xs0 xs1 xs2)]
  unfold kernelRun0_C
  dsimp only
  sl_unfold_words
  rw [View.canon_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The gate output after the last row tile is its accumulator. -/
theorem out_0 (hc0 : ¬cond0_0 i) (hc1 : cond0_1 i)
    (xs0 xs1 xs2 : Vec F S256x1024 .f32) :
    out0_C_5 (F := F) c i arg2 h2 arg3 h3 arg4 h4 arg5 h5 arg6 h6 arg7 h7 arg8 h8 arg9 h9 arg10 h10 arg11 h11 arg12 h12 hc0 hc1 x0 x1 x2 x3 x4 xs0 xs1 xs2 = k0_pay3 (k0_pay17 x0 x1 x2 x3 (xs0)) := by
  unfold out0_C_5
  rw [View.read_writes_eq_canon _ _ _ (cover0_C_5 c i arg2 h2 arg3 h3 arg4 h4 arg5 h5 arg6 h6 arg7 h7 arg8 h8 arg9 h9 arg10 h10 arg11 h11 arg12 h12 hc0 hc1 x0 x1 x2 x3 x4 xs0 xs1 xs2)]
  unfold kernelRun0_C
  dsimp only
  sl_unfold_words
  rw [View.canon_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The up output after the last row tile is its accumulator. -/
theorem out_1 (hc0 : ¬cond0_0 i) (hc1 : cond0_1 i)
    (xs0 xs1 xs2 : Vec F S256x1024 .f32) :
    out0_C_6 (F := F) c i arg2 h2 arg3 h3 arg4 h4 arg5 h5 arg6 h6 arg7 h7 arg8 h8 arg9 h9 arg10 h10 arg11 h11 arg12 h12 hc0 hc1 x0 x1 x2 x3 x4 xs0 xs1 xs2 = k0_pay4 (k0_pay1 (k0_pay14 x0 x2) (k0_pay16 x3) (xs1) (constant S256x1024 .f32 0x00000000#32)) := by
  unfold out0_C_6
  rw [View.read_writes_eq_canon _ _ _ (cover0_C_6 c i arg2 h2 arg3 h3 arg4 h4 arg5 h5 arg6 h6 arg7 h7 arg8 h8 arg9 h9 arg10 h10 arg11 h11 arg12 h12 hc0 hc1 x0 x1 x2 x3 x4 xs0 xs1 xs2)]
  unfold kernelRun0_C
  dsimp only
  sl_unfold_words
  rw [View.canon_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

/-- The down output after the last row tile is its accumulator. -/
theorem out_2 (hc0 : ¬cond0_0 i) (hc1 : cond0_1 i)
    (xs0 xs1 xs2 : Vec F S256x1024 .f32) :
    out0_C_7 (F := F) c i arg2 h2 arg3 h3 arg4 h4 arg5 h5 arg6 h6 arg7 h7 arg8 h8 arg9 h9 arg10 h10 arg11 h11 arg12 h12 hc0 hc1 x0 x1 x2 x3 x4 xs0 xs1 xs2 = k0_pay5 (k0_pay2 (k0_pay15 x0 x1) (xs2) x4) := by
  unfold out0_C_7
  rw [View.read_writes_eq_canon _ _ _ (cover0_C_7 c i arg2 h2 arg3 h3 arg4 h4 arg5 h5 arg6 h6 arg7 h7 arg8 h8 arg9 h9 arg10 h10 arg11 h11 arg12 h12 hc0 hc1 x0 x1 x2 x3 x4 xs0 xs1 xs2)]
  unfold kernelRun0_C
  dsimp only
  sl_unfold_words
  rw [View.canon_unit_zero (S := S256x1024) hz]
  simp only [View.readAt_eq_ld, h2.read_unread, h3.read_unread, h4.read_unread, h5.read_unread, h6.read_unread, h10.read_unread,
    h11.read_unread, h12.read_unread, View.ld_unit_zero (S := S2048x256) hz, View.ld_unit_zero (S := S2048x1024) hz,
    View.ld_unit_zero (S := S256x1024) hz, View.readCov_unit_zero (S := S256x1024) _ hz]

end Cert.Ffn.Dw

end
-- ==== Proof.Dw.Points.lean ====
/- The weight-gradient kernel's accumulators and outputs after each point, from the point's blocks and the accumulators
   before it. -/
module

public import proofs.«01_k».proof.Proof.Dw.Step

@[expose] public section

set_option maxRecDepth 16384

noncomputable section

namespace Cert.Ffn.Dw

open Idealize.ShloMosaic Idealize.ShloMosaic.TcCoe Idealize.ShloMosaic.Tactic
open Cert.Kernel2Ideal Cert.Kernel2Ideal.Gen

variable {F : FTy → Type} [FloatOps F] (m : (ℓ : Loc nD τ sig) → Buf (Elt F) ℓ) (c : Dev nD) (t : Fin cfg0.N)

/-- The gate accumulator after a first row tile. -/
theorem ptA_0 (h0 : t.val % 8 = 0) (h1 : ¬t.val % 8 = 7) :
    (outsAt0 m c t.val t.isLt).2.2.2.1 = k0_pay17 (iblk m c 0 t) (iblk m c 1 t) (iblk m c 2 t) (iblk m c 3 t) (k0_pay6 (F := F)) := by
  rw [outsAt0_A m c t h0 h1]
  dsimp only
  rw [accA_0]

/-- The up accumulator after a first row tile. -/
theorem ptA_1 (h0 : t.val % 8 = 0) (h1 : ¬t.val % 8 = 7) :
    (outsAt0 m c t.val t.isLt).2.2.2.2.1 = k0_pay1 (k0_pay14 (iblk m c 0 t) (iblk m c 2 t)) (k0_pay16 (iblk m c 3 t)) (k0_pay7 (F := F)) (constant S256x1024 .f32 0x00000000#32) := by
  rw [outsAt0_A m c t h0 h1]
  dsimp only
  rw [accA_1]

/-- The down accumulator after a first row tile. -/
theorem ptA_2 (h0 : t.val % 8 = 0) (h1 : ¬t.val % 8 = 7) :
    (outsAt0 m c t.val t.isLt).2.2.2.2.2 = k0_pay2 (k0_pay15 (iblk m c 0 t) (iblk m c 1 t)) (k0_pay8 (F := F)) (iblk m c 4 t) := by
  rw [outsAt0_A m c t h0 h1]
  dsimp only
  rw [accA_2]

/-- The gate accumulator after a middle row tile. -/
theorem ptB_0 (h0 : ¬t.val % 8 = 0) (h1 : ¬t.val % 8 = 7) :
    (outsAt0 m c t.val t.isLt).2.2.2.1 = k0_pay17 (iblk m c 0 t) (iblk m c 1 t) (iblk m c 2 t) (iblk m c 3 t) ((outsAt0 m c (t.val - 1) (Nat.lt_of_le_of_lt (Nat.sub_le _ _) t.isLt)).2.2.2.1) := by
  rw [outsAt0_B m c t h0 h1]
  dsimp only
  rw [accB_0]

/-- The up accumulator after a middle row tile. -/
theorem ptB_1 (h0 : ¬t.val % 8 = 0) (h1 : ¬t.val % 8 = 7) :
    (outsAt0 m c t.val t.isLt).2.2.2.2.1 = k0_pay1 (k0_pay14 (iblk m c 0 t) (iblk m c 2 t)) (k0_pay16 (iblk m c 3 t)) ((outsAt0 m c (t.val - 1) (Nat.lt_of_le_of_lt (Nat.sub_le _ _) t.isLt)).2.2.2.2.1) (constant S256x1024 .f32 0x00000000#32) := by
  rw [outsAt0_B m c t h0 h1]
  dsimp only
  rw [accB_1]

/-- The down accumulator after a middle row tile. -/
theorem ptB_2 (h0 : ¬t.val % 8 = 0) (h1 : ¬t.val % 8 = 7) :
    (outsAt0 m c t.val t.isLt).2.2.2.2.2 = k0_pay2 (k0_pay15 (iblk m c 0 t) (iblk m c 1 t)) ((outsAt0 m c (t.val - 1) (Nat.lt_of_le_of_lt (Nat.sub_le _ _) t.isLt)).2.2.2.2.2) (iblk m c 4 t) := by
  rw [outsAt0_B m c t h0 h1]
  dsimp only
  rw [accB_2]

/-- The gate accumulator after a last row tile. -/
theorem ptC_0 (h0 : ¬t.val % 8 = 0) (h1 : t.val % 8 = 7) :
    (outsAt0 m c t.val t.isLt).2.2.2.1 = k0_pay17 (iblk m c 0 t) (iblk m c 1 t) (iblk m c 2 t) (iblk m c 3 t) ((outsAt0 m c (t.val - 1) (Nat.lt_of_le_of_lt (Nat.sub_le _ _) t.isLt)).2.2.2.1) := by
  rw [outsAt0_C m c t h0 h1]
  dsimp only
  rw [accC_0]

/-- The up accumulator after a last row tile. -/
theorem ptC_1 (h0 : ¬t.val % 8 = 0) (h1 : t.val % 8 = 7) :
    (outsAt0 m c t.val t.isLt).2.2.2.2.1 = k0_pay1 (k0_pay14 (iblk m c 0 t) (iblk m c 2 t)) (k0_pay16 (iblk m c 3 t)) ((outsAt0 m c (t.val - 1) (Nat.lt_of_le_of_lt (Nat.sub_le _ _) t.isLt)).2.2.2.2.1) (constant S256x1024 .f32 0x00000000#32) := by
  rw [outsAt0_C m c t h0 h1]
  dsimp only
  rw [accC_1]

/-- The down accumulator after a last row tile. -/
theorem ptC_2 (h0 : ¬t.val % 8 = 0) (h1 : t.val % 8 = 7) :
    (outsAt0 m c t.val t.isLt).2.2.2.2.2 = k0_pay2 (k0_pay15 (iblk m c 0 t) (iblk m c 1 t)) ((outsAt0 m c (t.val - 1) (Nat.lt_of_le_of_lt (Nat.sub_le _ _) t.isLt)).2.2.2.2.2) (iblk m c 4 t) := by
  rw [outsAt0_C m c t h0 h1]
  dsimp only
  rw [accC_2]

/-- The gate output after a last row tile. -/
theorem ptOut_0 (h0 : ¬t.val % 8 = 0) (h1 : t.val % 8 = 7) :
    (outsAt0 m c t.val t.isLt).1 = k0_pay3 (k0_pay17 (iblk m c 0 t) (iblk m c 1 t) (iblk m c 2 t) (iblk m c 3 t) ((outsAt0 m c (t.val - 1) (Nat.lt_of_le_of_lt (Nat.sub_le _ _) t.isLt)).2.2.2.1)) := by
  rw [outsAt0_C m c t h0 h1]
  dsimp only
  rw [out_0]

/-- The up output after a last row tile. -/
theorem ptOut_1 (h0 : ¬t.val % 8 = 0) (h1 : t.val % 8 = 7) :
    (outsAt0 m c t.val t.isLt).2.1 = k0_pay4 (k0_pay1 (k0_pay14 (iblk m c 0 t) (iblk m c 2 t)) (k0_pay16 (iblk m c 3 t)) ((outsAt0 m c (t.val - 1) (Nat.lt_of_le_of_lt (Nat.sub_le _ _) t.isLt)).2.2.2.2.1) (constant S256x1024 .f32 0x00000000#32)) := by
  rw [outsAt0_C m c t h0 h1]
  dsimp only
  rw [out_1]

/-- The down output after a last row tile. -/
theorem ptOut_2 (h0 : ¬t.val % 8 = 0) (h1 : t.val % 8 = 7) :
    (outsAt0 m c t.val t.isLt).2.2.1 = k0_pay5 (k0_pay2 (k0_pay15 (iblk m c 0 t) (iblk m c 1 t)) ((outsAt0 m c (t.val - 1) (Nat.lt_of_le_of_lt (Nat.sub_le _ _) t.isLt)).2.2.2.2.2) (iblk m c 4 t)) := by
  rw [outsAt0_C m c t h0 h1]
  dsimp only
  rw [out_2]

end Cert.Ffn.Dw

end
-- ==== Proof.Dw.Block.lean ====
/- What one block of the weight-gradient kernel contributes, at blocks holding real numbers. -/
module

public import proofs.«01_k».proof.Proof.Gen.Kernel2Ideal.Frame
public import proofs.«01_k».proof.Proof.Arr
public import Idealize.ShloMosaic.Lib.Pointwise

@[expose] public section

set_option maxRecDepth 16384

noncomputable section

namespace Cert.Ffn.Dw

open Idealize.ShloMosaic Idealize.ShloMosaic.TcCoe Idealize.ShloMosaic.Tactic
open Cert.Kernel2Ideal Cert.Kernel2Ideal.Gen

variable (a b z : Fin 2048 → Fin 256 → ℝ) (h y : Fin 2048 → Fin 1024 → ℝ) (acc : Fin 256 → Fin 1024 → ℝ)

/-- Widening a gate block keeps it. -/
theorem pay9 (v : S2048x256.Idx → EReal) : k0_pay9 (F := Ideal) v = v := by
  unfold k0_pay9
  simp only [shapeCast_self]
  rfl

/-- Widening an up block keeps it. -/
theorem pay10 (v : S2048x256.Idx → EReal) : k0_pay10 (F := Ideal) v = v := by
  unfold k0_pay10
  simp only [shapeCast_self]
  rfl

/-- Widening a cotangent block keeps it. -/
theorem pay11 (v : S2048x256.Idx → EReal) : k0_pay11 (F := Ideal) v = v := by
  unfold k0_pay11
  simp only [shapeCast_self]
  rfl

/-- The logistic function of the gate block. -/
theorem pay12 : k0_pay12 (F := Ideal) (arr a) = arr fun k f => sg (a k f) := by
  unfold k0_pay12
  rw [pay9]
  funext i
  show Ideal.logistic (((a (i 0) (i 1) : ℝ) : EReal)) = _
  rw [Ideal.logistic_coe]
  rfl

/-- `silu` of the gate block. -/
theorem pay13 : k0_pay13 (F := Ideal) (arr a) = arr fun k f => silu (a k f) := by
  unfold k0_pay13
  rw [pay9, pay12]
  exact mul_arr _ _

/-- The up cotangent's block. -/
theorem pay14 : k0_pay14 (F := Ideal) (arr a) (arr z) = arr fun k f => z k f * silu (a k f) := by
  unfold k0_pay14
  rw [pay11, pay13]
  exact mul_arr _ _

/-- The hidden block. -/
theorem pay15 : k0_pay15 (F := Ideal) (arr a) (arr b) = arr fun k f => silu (a k f) * b k f := by
  unfold k0_pay15
  rw [pay10, pay13]
  exact mul_arr _ _

/-- A transposed product of two real blocks, over zeros. -/
theorem product2 (p : Fin 2048 → Fin 256 → ℝ) (q : Fin 2048 → Fin 1024 → ℝ) :
    matmul (F := Ideal) (φ₁ := .bf16) (φ₂ := .bf16) dot_S2048x256_S2048x1024_S256x1024_0_0_1_1_n_n none (arr p) (arr q) (constant S256x1024 .f32 0x00000000#32)
    = arr fun f d => ∑ k, p k f * q k d := by
  funext i
  pointwise
  simp only [Ideal.ofBits_zero_f32, zero_add, arr_apply, ← EReal.coe_mul, coe_sum]
  rfl

/-- The up accumulator after a block. -/
theorem pay1 : k0_pay1 (F := Ideal) (k0_pay14 (arr a) (arr z)) (k0_pay16 (arr h)) (arr acc) (constant S256x1024 .f32 0x00000000#32)
    = arr fun f d => acc f d + ∑ k, z k f * silu (a k f) * h k d := by
  unfold k0_pay1 k0_pay16
  simp only [shapeCast_self, pay14, product2]
  exact add_arr _ _

/-- The down accumulator after a block. -/
theorem pay2 : k0_pay2 (F := Ideal) (k0_pay15 (arr a) (arr b)) (arr acc) (arr y)
    = arr fun f d => acc f d + ∑ k, silu (a k f) * b k f * y k d := by
  unfold k0_pay2
  simp only [shapeCast_self, pay15, product2]
  exact add_arr _ _

/-- The gate accumulator after a block. -/
theorem pay17 : k0_pay17 (F := Ideal) (arr a) (arr b) (arr z) (arr h) (arr acc)
    = arr fun f d => acc f d + ∑ k, z k f * b k f * dsilu (a k f) * h k d := by
  unfold k0_pay17 k0_pay16
  simp only [shapeCast_self, pay9, pay10, pay11, pay12, ones, sub_arr, mul_arr, add_arr, narrow]
  rw [product2]
  exact add_arr _ _

/-- The gate accumulator starts at zero. -/
theorem pay6 : k0_pay6 (F := Ideal) = arr fun _ _ => 0 := by
  unfold k0_pay6
  simp only [shapeCast_self]
  exact zeros

/-- The up accumulator starts at zero. -/
theorem pay7 : k0_pay7 (F := Ideal) = arr fun _ _ => 0 := by
  unfold k0_pay7
  simp only [shapeCast_self]
  exact zeros

/-- The down accumulator starts at zero. -/
theorem pay8 : k0_pay8 (F := Ideal) = arr fun _ _ => 0 := by
  unfold k0_pay8
  simp only [shapeCast_self]
  exact zeros

end Cert.Ffn.Dw

end
-- ==== Proof.Dw.Sum.lean ====
/- The accumulators of the weight-gradient kernel point by point: after the row tiles up to a point's, each holds the
   partial sum of the gradient over those rows. -/
module

public import proofs.«01_k».proof.Proof.Dw.Points
public import proofs.«01_k».proof.Proof.Dw.Block

@[expose] public section

set_option maxRecDepth 16384

noncomputable section

namespace Cert.Ffn.Dw

open Idealize.ShloMosaic Idealize.ShloMosaic.TcCoe Idealize.ShloMosaic.Tactic
open Cert.Kernel2Ideal Cert.Kernel2Ideal.Gen

variable (m : (ℓ : Loc nD τ sig) → Buf (Elt Ideal) ℓ) (c : Dev nD)

/-- Row `k` of row tile `n`. -/
def row (n : ℕ) (k : Fin 2048) : Fin 16384 := Fin.ofNat 16384 (2048 * n + k.val)
/-- Column `f` of column tile `n`. -/
def col (n : ℕ) (f : Fin 256) : Fin 2816 := Fin.ofNat 2816 (256 * n + f.val)

theorem idx0 : ∀ t : Fin grid0.N, win0_0.index t (0 : Fin 2) = t.val % 8 ∧ win0_0.index t (1 : Fin 2) = t.val / 8 := by decide +kernel
theorem idx1 : ∀ t : Fin grid0.N, win0_1.index t (0 : Fin 2) = t.val % 8 ∧ win0_1.index t (1 : Fin 2) = t.val / 8 := by decide +kernel
theorem idx2 : ∀ t : Fin grid0.N, win0_2.index t (0 : Fin 2) = t.val % 8 ∧ win0_2.index t (1 : Fin 2) = t.val / 8 := by decide +kernel
theorem idx3 : ∀ t : Fin grid0.N, win0_3.index t (0 : Fin 2) = t.val % 8 ∧ win0_3.index t (1 : Fin 2) = 0 := by decide +kernel
theorem idx4 : ∀ t : Fin grid0.N, win0_4.index t (0 : Fin 2) = t.val % 8 ∧ win0_4.index t (1 : Fin 2) = 0 := by decide +kernel

/-- The gate block of a point. -/
theorem blk0 (t : Fin cfg0.N) (M : Fin 16384 → Fin 2816 → ℝ) (h : V m c main_v19 = arr M) :
    iblk m c 0 t = arr fun k f => M (row (t.val % 8) k) (col (t.val / 8) f) := by
  funext i
  unfold iblk
  rw [View.read_apply]
  show V m c main_v19 _ = _
  rw [h, arr_apply, arr_apply]
  have ht : t.val < 88 := lt_of_lt_of_eq t.isLt N_0
  have h0 : (i 0).val < 2048 := (i 0).isLt
  have h1 : (i 1).val < 256 := (i 1).isLt
  congr 2
  · apply Fin.ext
    show win0_0.index t (0 : Fin 2) * 2048 + 1 * (i 0).val = (2048 * (t.val % 8) + (i 0).val) % 16384
    rw [(idx0 t).1]; omega
  · apply Fin.ext
    show win0_0.index t (1 : Fin 2) * 256 + 1 * (i 1).val = (256 * (t.val / 8) + (i 1).val) % 2816
    rw [(idx0 t).2]; omega

/-- The up block of a point. -/
theorem blk1 (t : Fin cfg0.N) (M : Fin 16384 → Fin 2816 → ℝ) (h : V m c main_v21 = arr M) :
    iblk m c 1 t = arr fun k f => M (row (t.val % 8) k) (col (t.val / 8) f) := by
  funext i
  unfold iblk
  rw [View.read_apply]
  show V m c main_v21 _ = _
  rw [h, arr_apply, arr_apply]
  have ht : t.val < 88 := lt_of_lt_of_eq t.isLt N_0
  have h0 : (i 0).val < 2048 := (i 0).isLt
  have h1 : (i 1).val < 256 := (i 1).isLt
  congr 2
  · apply Fin.ext
    show win0_1.index t (0 : Fin 2) * 2048 + 1 * (i 0).val = (2048 * (t.val % 8) + (i 0).val) % 16384
    rw [(idx1 t).1]; omega
  · apply Fin.ext
    show win0_1.index t (1 : Fin 2) * 256 + 1 * (i 1).val = (256 * (t.val / 8) + (i 1).val) % 2816
    rw [(idx1 t).2]; omega

/-- The cotangent block of a point. -/
theorem blk2 (t : Fin cfg0.N) (M : Fin 16384 → Fin 2816 → ℝ) (h : V m c main_v27 = arr M) :
    iblk m c 2 t = arr fun k f => M (row (t.val % 8) k) (col (t.val / 8) f) := by
  funext i
  unfold iblk
  rw [View.read_apply]
  show V m c main_v27 _ = _
  rw [h, arr_apply, arr_apply]
  have ht : t.val < 88 := lt_of_lt_of_eq t.isLt N_0
  have h0 : (i 0).val < 2048 := (i 0).isLt
  have h1 : (i 1).val < 256 := (i 1).isLt
  congr 2
  · apply Fin.ext
    show win0_2.index t (0 : Fin 2) * 2048 + 1 * (i 0).val = (2048 * (t.val % 8) + (i 0).val) % 16384
    rw [(idx2 t).1]; omega
  · apply Fin.ext
    show win0_2.index t (1 : Fin 2) * 256 + 1 * (i 1).val = (256 * (t.val / 8) + (i 1).val) % 2816
    rw [(idx2 t).2]; omega

/-- The normed input block of a point. -/
theorem blk3 (t : Fin cfg0.N) (M : Fin 16384 → Fin 1024 → ℝ) (h : V m c main_v13 = arr M) :
    iblk m c 3 t = arr fun k d => M (row (t.val % 8) k) d := by
  funext i
  unfold iblk
  rw [View.read_apply]
  show V m c main_v13 _ = _
  rw [h, arr_apply, arr_apply]
  have ht : t.val < 88 := lt_of_lt_of_eq t.isLt N_0
  have h0 : (i 0).val < 2048 := (i 0).isLt
  congr 2
  · apply Fin.ext
    show win0_3.index t (0 : Fin 2) * 2048 + 1 * (i 0).val = (2048 * (t.val % 8) + (i 0).val) % 16384
    rw [(idx3 t).1]; omega
  · apply Fin.ext
    show win0_3.index t (1 : Fin 2) * 1024 + 1 * (i 1).val = (i 1).val
    rw [(idx3 t).2]; omega

/-- The half cotangent block of a point. -/
theorem blk4 (t : Fin cfg0.N) (M : Fin 16384 → Fin 1024 → ℝ) (h : V m c main_v24 = arr M) :
    iblk m c 4 t = arr fun k d => M (row (t.val % 8) k) d := by
  funext i
  unfold iblk
  rw [View.read_apply]
  show V m c main_v24 _ = _
  rw [h, arr_apply, arr_apply]
  have ht : t.val < 88 := lt_of_lt_of_eq t.isLt N_0
  have h0 : (i 0).val < 2048 := (i 0).isLt
  congr 2
  · apply Fin.ext
    show win0_4.index t (0 : Fin 2) * 2048 + 1 * (i 0).val = (2048 * (t.val % 8) + (i 0).val) % 16384
    rw [(idx4 t).1]; omega
  · apply Fin.ext
    show win0_4.index t (1 : Fin 2) * 1024 + 1 * (i 1).val = (i 1).val
    rw [(idx4 t).2]; omega

/-! ## The partial sums -/

variable (A B Z : Fin 16384 → Fin 2816 → ℝ) (H Y : Fin 16384 → Fin 1024 → ℝ)

/-- Row `s`'s term of the gate weights' gradient. -/
def termG (f : Fin 2816) (d : Fin 1024) (s : Fin 16384) : ℝ := Z s f * B s f * dsilu (A s f) * H s d
/-- Row `s`'s term of the up weights' gradient. -/
def termU (f : Fin 2816) (d : Fin 1024) (s : Fin 16384) : ℝ := Z s f * silu (A s f) * H s d
/-- Row `s`'s term of the down weights' gradient. -/
def termD (f : Fin 2816) (d : Fin 1024) (s : Fin 16384) : ℝ := silu (A s f) * B s f * Y s d

/-- The sum of `T` over the first `n` row tiles. -/
def part (T : Fin 2816 → Fin 1024 → Fin 16384 → ℝ) (g n : ℕ) : Fin 256 → Fin 1024 → ℝ :=
  fun f d => ∑ j ∈ Finset.range n, ∑ k : Fin 2048, T (col g f) d (row j k)

theorem part_zero (T : Fin 2816 → Fin 1024 → Fin 16384 → ℝ) (g : ℕ) : part T g 0 = fun _ _ => 0 := by
  funext f d; simp [part]

theorem part_succ (T : Fin 2816 → Fin 1024 → Fin 16384 → ℝ) (g n : ℕ) :
    (fun f d => part T g n f d + ∑ k : Fin 2048, T (col g f) d (row n k)) = part T g (n + 1) := by
  funext f d; rw [part, part, Finset.sum_range_succ]

variable (hA : V m c main_v19 = arr A) (hB : V m c main_v21 = arr B) (hZ : V m c main_v27 = arr Z)
  (hH : V m c main_v13 = arr H) (hY : V m c main_v24 = arr Y)
include hA hB hZ hH hY

/-- What the accumulators hold after a point. -/
def Holds (n : ℕ) (hn : n < cfg0.N) : Prop :=
  (outsAt0 m c n hn).2.2.2.1 = arr (part (termG A B Z H) (n / 8) (n % 8 + 1))
  ∧ (outsAt0 m c n hn).2.2.2.2.1 = arr (part (termU A Z H) (n / 8) (n % 8 + 1))
  ∧ (outsAt0 m c n hn).2.2.2.2.2 = arr (part (termD A B Y) (n / 8) (n % 8 + 1))

/-- The gate accumulator of a point from the one before. -/
theorem stepG (t : Fin cfg0.N) (n : ℕ) (hn : n = t.val % 8) :
    k0_pay17 (F := Ideal) (iblk m c 0 t) (iblk m c 1 t) (iblk m c 2 t) (iblk m c 3 t) (arr (part (termG A B Z H) (t.val / 8) n))
    = arr (part (termG A B Z H) (t.val / 8) (n + 1)) := by
  rw [blk0 m c t A hA, blk1 m c t B hB, blk2 m c t Z hZ, blk3 m c t H hH, pay17, ← part_succ, hn]
  rfl

/-- The up accumulator of a point from the one before. -/
theorem stepU (t : Fin cfg0.N) (n : ℕ) (hn : n = t.val % 8) :
    k0_pay1 (F := Ideal) (k0_pay14 (iblk m c 0 t) (iblk m c 2 t)) (k0_pay16 (iblk m c 3 t)) (arr (part (termU A Z H) (t.val / 8) n))
      (constant S256x1024 .f32 0x00000000#32)
    = arr (part (termU A Z H) (t.val / 8) (n + 1)) := by
  rw [blk0 m c t A hA, blk2 m c t Z hZ, blk3 m c t H hH, pay1, ← part_succ, hn]
  rfl

/-- The down accumulator of a point from the one before. -/
theorem stepD (t : Fin cfg0.N) (n : ℕ) (hn : n = t.val % 8) :
    k0_pay2 (F := Ideal) (k0_pay15 (iblk m c 0 t) (iblk m c 1 t)) (arr (part (termD A B Y) (t.val / 8) n)) (iblk m c 4 t)
    = arr (part (termD A B Y) (t.val / 8) (n + 1)) := by
  rw [blk0 m c t A hA, blk1 m c t B hB, blk4 m c t Y hY, pay2, ← part_succ, hn]
  rfl

/-- The first row tile. -/
theorem holds_first (t : Fin cfg0.N) (h0 : t.val % 8 = 0) : Holds m c A B Z H Y t.val t.isLt := by
  have h1 : ¬t.val % 8 = 7 := by omega
  have e : t.val % 8 + 1 = 0 + 1 := by omega
  unfold Holds
  rw [ptA_0 m c t h0 h1, ptA_1 m c t h0 h1, ptA_2 m c t h0 h1, e, pay6, pay7, pay8]
  refine ⟨?_, ?_, ?_⟩
  · rw [← part_zero (termG A B Z H) (t.val / 8)]
    exact stepG m c A B Z H Y hA hB hZ hH hY t 0 h0.symm
  · rw [← part_zero (termU A Z H) (t.val / 8)]
    exact stepU m c A B Z H Y hA hB hZ hH hY t 0 h0.symm
  · rw [← part_zero (termD A B Y) (t.val / 8)]
    exact stepD m c A B Z H Y hA hB hZ hH hY t 0 h0.symm

/-- A later row tile, the one before it given. -/
theorem holds_next (t : Fin cfg0.N) (h0 : ¬t.val % 8 = 0)
    (ih : Holds m c A B Z H Y (t.val - 1) (Nat.lt_of_le_of_lt (Nat.sub_le _ _) t.isLt)) : Holds m c A B Z H Y t.val t.isLt := by
  have hd : (t.val - 1) / 8 = t.val / 8 := by omega
  have hm : (t.val - 1) % 8 + 1 = t.val % 8 := by omega
  unfold Holds at ih ⊢
  rw [hd, hm] at ih
  obtain ⟨i0, i1, i2⟩ := ih
  by_cases h1 : t.val % 8 = 7
  · rw [ptC_0 m c t h0 h1, ptC_1 m c t h0 h1, ptC_2 m c t h0 h1, i0, i1, i2]
    exact ⟨stepG m c A B Z H Y hA hB hZ hH hY t _ rfl, stepU m c A B Z H Y hA hB hZ hH hY t _ rfl, stepD m c A B Z H Y hA hB hZ hH hY t _ rfl⟩
  · rw [ptB_0 m c t h0 h1, ptB_1 m c t h0 h1, ptB_2 m c t h0 h1, i0, i1, i2]
    exact ⟨stepG m c A B Z H Y hA hB hZ hH hY t _ rfl, stepU m c A B Z H Y hA hB hZ hH hY t _ rfl, stepD m c A B Z H Y hA hB hZ hH hY t _ rfl⟩

/-- The accumulators after every point. -/
theorem holds : ∀ (n : ℕ) (hn : n < cfg0.N), Holds m c A B Z H Y n hn
  | 0, hn => holds_first m c A B Z H Y hA hB hZ hH hY ⟨0, hn⟩ (Nat.zero_mod _)
  | n + 1, hn => by
    by_cases h0 : (n + 1) % 8 = 0
    · exact holds_first m c A B Z H Y hA hB hZ hH hY ⟨n + 1, hn⟩ h0
    · exact holds_next m c A B Z H Y hA hB hZ hH hY ⟨n + 1, hn⟩ h0 (holds n (by omega))

/-- The outputs after a last row tile. -/
theorem outs_last (t : Fin cfg0.N) (h1 : t.val % 8 = 7) :
    (outsAt0 m c t.val t.isLt).1 = arr (part (termG A B Z H) (t.val / 8) 8)
    ∧ (outsAt0 m c t.val t.isLt).2.1 = arr (part (termU A Z H) (t.val / 8) 8)
    ∧ (outsAt0 m c t.val t.isLt).2.2.1 = arr (part (termD A B Y) (t.val / 8) 8) := by
  have h0 : ¬t.val % 8 = 0 := by omega
  have ih := holds m c A B Z H Y hA hB hZ hH hY (t.val - 1) (Nat.lt_of_le_of_lt (Nat.sub_le _ _) t.isLt)
  have hd : (t.val - 1) / 8 = t.val / 8 := by omega
  have hm : (t.val - 1) % 8 + 1 = 7 := by omega
  unfold Holds at ih
  rw [hd, hm] at ih
  obtain ⟨i0, i1, i2⟩ := ih
  rw [ptOut_0 m c t h0 h1, ptOut_1 m c t h0 h1, ptOut_2 m c t h0 h1, i0, i1, i2,
    stepG m c A B Z H Y hA hB hZ hH hY t 7 h1.symm, stepU m c A B Z H Y hA hB hZ hH hY t 7 h1.symm, stepD m c A B Z H Y hA hB hZ hH hY t 7 h1.symm]
  exact ⟨narrow _ _, narrow _ _, narrow _ _⟩

omit hA hB hZ hH hY in
/-- All row tiles together are all rows. -/
theorem part_all (T : Fin 2816 → Fin 1024 → Fin 16384 → ℝ) (g : ℕ) (f : Fin 256) (d : Fin 1024) :
    part T g 8 f d = ∑ s, T (col g f) d s := by
  rw [part, Finset.sum_range, ← Fintype.sum_prod_type']
  rw [← Equiv.sum_comp (finProdFinEquiv (m := 8) (n := 2048)) (fun s => T (col g f) d s)]
  refine Finset.sum_congr rfl fun p _ => congrArg _ (Fin.ext ?_)
  show (2048 * p.1.val + p.2.val) % 16384 = p.2.val + 2048 * p.1.val
  have := p.1.isLt; have := p.2.isLt; omega

omit hA hB hZ hH hY in
/-- The whole sum at an entry of a column tile. -/
theorem part_at (T : Fin 2816 → Fin 1024 → Fin 16384 → ℝ) (g : ℕ) (f : Fin 256) (d : Fin 1024) (f' : Fin 2816) (d' : Fin 1024)
    (hf : col g f = f') (hd : d = d') : part T g 8 f d = ∑ s, T f' d' s := by
  rw [part_all, hf, hd]

end Cert.Ffn.Dw

end
-- ==== Proof.Dw.Result.lean ====
/- The weight-gradient kernel's results are the gradients of the three weight matrices, and the reference's are the
   same. -/
module

public import proofs.«01_k».proof.Defs
public import proofs.«01_k».proof.Proof.Gen.Kernel2Ideal.Value
public import proofs.«01_k».proof.Proof.Gen.Reference2Ideal.Run
public import proofs.«01_k».proof.Proof.Dw.Host
public import proofs.«01_k».proof.Proof.Dw.Sum
public import proofs.«01_k».proof.Proof.Finite

@[expose] public section

set_option maxRecDepth 16384

noncomputable section

namespace Cert.Ffn.Dw

open Idealize.ShloMosaic Idealize.ShloMosaic.TcCoe Idealize.ShloMosaic.Tactic Idealize.SL.Sem
open Cert.Kernel2Ideal Cert.Kernel2Ideal.Gen Cert.Kernel2Ideal.Value

section Arrays

variable (m : (ℓ : Loc nD τ sig) → Buf (Elt Ideal) ℓ) (c : Dev nD)
variable (x : Fin 16384 → Fin 1024 → ℝ) (gn : Fin 1024 → ℝ) (wg wu : Fin 1024 → Fin 2816 → ℝ)
  (wd : Fin 2816 → Fin 1024 → ℝ) (ct : Fin 16384 → Fin 1024 → ℝ)
variable (h0 : m ((c : Thread nD τ).loc main_arg0) = arr x) (h1 : m ((c : Thread nD τ).loc main_arg1) = arr1 gn)
  (h2 : m ((c : Thread nD τ).loc main_arg2) = arr wg) (h3 : m ((c : Thread nD τ).loc main_arg3) = arr wu)
  (h4 : m ((c : Thread nD τ).loc main_arg4) = arr wd) (h5 : m ((c : Thread nD τ).loc main_arg5) = arr ct)
include h0 h1 h2 h3 h4 h5

/-- The gate weights' gradient. -/
theorem final5 : G5 m c = arr (dwg x gn wg wu wd ct) := by
  funext i
  have hi0 : (i 0).val < 2816 := (i 0).isLt
  have hi1 : (i 1).val < 1024 := (i 1).isLt
  have hp : pt5Of i = 8 * ((i 0).val / 256) + 7 := by
    show 8 * (1 * ((i 0).val / 256 - 0) + 1 * ((i 1).val / 1024 - 0)) + 7 = _
    omega
  have hN : pt5Of i < cfg0.N := by rw [hp]; exact lt_of_lt_of_eq (by omega : _ < 88) N_0.symm
  unfold G5
  rw [dif_pos hN, ← outsAt0_sweep]
  have hm : pt5Of i % 8 = 7 := by rw [hp]; omega
  have hd : pt5Of i / 8 = (i 0).val / 256 := by rw [hp]; omega
  have e := (outs_last m c (gate x gn wg) (gate x gn wu) (dz wd ct) (nrm x gn) (dy ct) (v19 m c x gn wg h0 h1 h2)
    (v21 m c x gn wu h0 h1 h3) (v27 m c wd ct h4 h5) (v13 m c x gn h0 h1) (v24 m c ct h5) ⟨pt5Of i, hN⟩ hm).1
  refine (congrFun e (loc5Of i)).trans ?_
  have hf : col (pt5Of i / 8) (loc5Of i 0) = i 0 := by
    rw [hd]
    apply Fin.ext
    show (256 * ((i 0).val / 256) + (i 0).val % 256) % 2816 = (i 0).val
    omega
  have hk : (loc5Of i 1 : Fin 1024) = i 1 := by
    apply Fin.ext
    show (i 1).val % 1024 = (i 1).val
    omega
  exact congrArg Real.toEReal (part_at (termG (gate x gn wg) (gate x gn wu) (dz wd ct) (nrm x gn)) _ _ _ _ _ hf hk)

/-- The up weights' gradient. -/
theorem final6 : G6 m c = arr (dwu x gn wg wd ct) := by
  funext i
  have hi0 : (i 0).val < 2816 := (i 0).isLt
  have hi1 : (i 1).val < 1024 := (i 1).isLt
  have hp : pt6Of i = 8 * ((i 0).val / 256) + 7 := by
    show 8 * (1 * ((i 0).val / 256 - 0) + 1 * ((i 1).val / 1024 - 0)) + 7 = _
    omega
  have hN : pt6Of i < cfg0.N := by rw [hp]; exact lt_of_lt_of_eq (by omega : _ < 88) N_0.symm
  unfold G6
  rw [dif_pos hN, ← outsAt0_sweep]
  have hm : pt6Of i % 8 = 7 := by rw [hp]; omega
  have hd : pt6Of i / 8 = (i 0).val / 256 := by rw [hp]; omega
  have e := (outs_last m c (gate x gn wg) (gate x gn wu) (dz wd ct) (nrm x gn) (dy ct) (v19 m c x gn wg h0 h1 h2)
    (v21 m c x gn wu h0 h1 h3) (v27 m c wd ct h4 h5) (v13 m c x gn h0 h1) (v24 m c ct h5) ⟨pt6Of i, hN⟩ hm).2.1
  refine (congrFun e (loc6Of i)).trans ?_
  have hf : col (pt6Of i / 8) (loc6Of i 0) = i 0 := by
    rw [hd]
    apply Fin.ext
    show (256 * ((i 0).val / 256) + (i 0).val % 256) % 2816 = (i 0).val
    omega
  have hk : (loc6Of i 1 : Fin 1024) = i 1 := by
    apply Fin.ext
    show (i 1).val % 1024 = (i 1).val
    omega
  exact congrArg Real.toEReal (part_at (termU (gate x gn wg) (dz wd ct) (nrm x gn)) _ _ _ _ _ hf hk)

/-- The down weights' gradient. -/
theorem final7 : G7 m c = arr (dwd x gn wg wu ct) := by
  funext i
  have hi0 : (i 0).val < 2816 := (i 0).isLt
  have hi1 : (i 1).val < 1024 := (i 1).isLt
  have hp : pt7Of i = 8 * ((i 0).val / 256) + 7 := by
    show 8 * (1 * ((i 0).val / 256 - 0) + 1 * ((i 1).val / 1024 - 0)) + 7 = _
    omega
  have hN : pt7Of i < cfg0.N := by rw [hp]; exact lt_of_lt_of_eq (by omega : _ < 88) N_0.symm
  unfold G7
  rw [dif_pos hN, ← outsAt0_sweep]
  have hm : pt7Of i % 8 = 7 := by rw [hp]; omega
  have hd : pt7Of i / 8 = (i 0).val / 256 := by rw [hp]; omega
  have e := (outs_last m c (gate x gn wg) (gate x gn wu) (dz wd ct) (nrm x gn) (dy ct) (v19 m c x gn wg h0 h1 h2)
    (v21 m c x gn wu h0 h1 h3) (v27 m c wd ct h4 h5) (v13 m c x gn h0 h1) (v24 m c ct h5) ⟨pt7Of i, hN⟩ hm).2.2
  refine (congrFun e (loc7Of i)).trans ?_
  have hf : col (pt7Of i / 8) (loc7Of i 0) = i 0 := by
    rw [hd]
    apply Fin.ext
    show (256 * ((i 0).val / 256) + (i 0).val % 256) % 2816 = (i 0).val
    omega
  have hk : (loc7Of i 1 : Fin 1024) = i 1 := by
    apply Fin.ext
    show (i 1).val % 1024 = (i 1).val
    omega
  exact congrArg Real.toEReal (part_at (termD (gate x gn wg) (gate x gn wu) (dy ct)) _ _ _ _ _ hf hk)

end Arrays

/-- Under the precondition, every run of the kernel and every run of the reference end with the same three gradients. -/
theorem equal : Cert.algebraic_Kernel2Ideal_Reference2Ideal_pre_finite (hKernel2Ideal := Cert.Kernel2Ideal.Gen.facts)
    (hReference2Ideal := Cert.Reference2Ideal.Gen.facts) (hPre_finite := Cert.Pre_finite.Gen.facts) := by
  intro m g m' g' hpre hargs
  have hr := fun c => reals_of_finite (hpre c)
  refine ⟨fun c => arr (dwg (mat (m ((c : Thread nD τ).loc main_arg0))) (vec (m ((c : Thread nD τ).loc main_arg1)))
      (mat (m ((c : Thread nD τ).loc main_arg2))) (mat (m ((c : Thread nD τ).loc main_arg3)))
      (mat (m ((c : Thread nD τ).loc main_arg4))) (mat (m ((c : Thread nD τ).loc main_arg5)))),
    fun c => arr (dwu (mat (m ((c : Thread nD τ).loc main_arg0))) (vec (m ((c : Thread nD τ).loc main_arg1)))
      (mat (m ((c : Thread nD τ).loc main_arg2))) (mat (m ((c : Thread nD τ).loc main_arg4))) (mat (m ((c : Thread nD τ).loc main_arg5)))),
    fun c => arr (dwd (mat (m ((c : Thread nD τ).loc main_arg0))) (vec (m ((c : Thread nD τ).loc main_arg1)))
      (mat (m ((c : Thread nD τ).loc main_arg2))) (mat (m ((c : Thread nD τ).loc main_arg3))) (mat (m ((c : Thread nD τ).loc main_arg5)))),
    (θ_run _ _ _).mono (fun r h c => ?_) (Cert.Kernel2Ideal.Value.run m g),
    (θ_run _ _ _).mono (fun r h c => ?_) (Cert.Reference2Ideal.Value.run m' g')⟩
  · obtain ⟨r0, r1, r2, r3, r4, r5⟩ := hr c
    have e0 := eq_arr r0
    have e1 := eq_arr1 r1
    have e2 := eq_arr r2
    have e3 := eq_arr r3
    have e4 := eq_arr r4
    have e5 := eq_arr r5
    obtain ⟨p0, p1, p2, rest⟩ := h c
    exact ⟨p0.trans (final5 m c _ _ _ _ _ _ e0 e1 e2 e3 e4 e5), p1.trans (final6 m c _ _ _ _ _ _ e0 e1 e2 e3 e4 e5),
      p2.trans (final7 m c _ _ _ _ _ _ e0 e1 e2 e3 e4 e5), rest⟩
  · obtain ⟨r0, r1, r2, r3, r4, r5⟩ := hr c
    have e0 := eq_arr r0
    have e1 := eq_arr1 r1
    have e2 := eq_arr r2
    have e3 := eq_arr r3
    have e4 := eq_arr r4
    have e5 := eq_arr r5
    obtain ⟨a0, a1, a2, a3, a4, a5⟩ := hargs c
    obtain ⟨p0, p1, p2, rest⟩ := h c
    refine ⟨p0.trans ?_, p1.trans ?_, p2.trans ?_, rest⟩
    · rw [Cert.Reference2Ideal.Read.val_main_v34_eq, a0, a1, a2, a3, a4, a5, e0, e1, e2, e3, e4, e5]
      exact Ref2.v34 ..
    · refine (Cert.Reference2Ideal.Read.val_main_v36_eq ..).trans ?_
      rw [a0, a1, a2, a4, a5, e0, e1, e2, e4, e5]
      exact Ref2.v36 ..
    · refine (Cert.Reference2Ideal.Read.val_main_v37_eq ..).trans ?_
      rw [a0, a1, a2, a3, a5, e0, e1, e2, e3, e5]
      exact Ref2.v37 ..

end Cert.Ffn.Dw

end
-- ==== Proof.Tab.lean ====
/- Arrays of extended reals as functions of their row and column, and the element-by-element operations on them. -/
module

public import proofs.«01_k».proof.Proof.Arr

@[expose] public section

noncomputable section

open scoped BigOperators

namespace Cert.Ffn

open Idealize.ShloMosaic

/-- The array with these entries. -/
def tab {n k : ℕ} (f : Fin n → Fin k → EReal) : (⟨2, ![n, k]⟩ : Shape).Idx → EReal := fun i => f (i 0) (i 1)
/-- The vector with these entries. -/
def tab1 {n : ℕ} (f : Fin n → EReal) : (⟨1, ![n]⟩ : Shape).Idx → EReal := fun i => f (i 0)
/-- The entries of an array. -/
def ent {n k : ℕ} (a : (⟨2, ![n, k]⟩ : Shape).Idx → EReal) : Fin n → Fin k → EReal := fun i j => a (ValueIdx.ix2 i j)
/-- The entries of a vector. -/
def ent1 {n : ℕ} (a : (⟨1, ![n]⟩ : Shape).Idx → EReal) : Fin n → EReal := fun i => a (ValueIdx.ix1 i)
theorem tab_apply {n k : ℕ} (f : Fin n → Fin k → EReal) (i : (⟨2, ![n, k]⟩ : Shape).Idx) : tab f i = f (i 0) (i 1) := rfl
theorem tab1_apply {n : ℕ} (f : Fin n → EReal) (i : (⟨1, ![n]⟩ : Shape).Idx) : tab1 f i = f (i 0) := rfl
theorem eq_tab {n k : ℕ} (a : (⟨2, ![n, k]⟩ : Shape).Idx → EReal) : a = tab (ent a) :=
  funext fun i => congrArg a (ValueIdx.eq_ix2 i)
theorem eq_tab1 {n : ℕ} (a : (⟨1, ![n]⟩ : Shape).Idx → EReal) : a = tab1 (ent1 a) :=
  funext fun i => congrArg a (ValueIdx.eq_ix1 i)

variable {n k : ℕ} (p q : Fin n → Fin k → EReal)

/-- The product of two blocks, element by element. -/
theorem mul_tab : mulf (F := Ideal) (φ := .f32) (tab p) (tab q) = tab fun i j => p i j * q i j := rfl

/-- The sum of two blocks, element by element. -/
theorem add_tab : addf (F := Ideal) (φ := .f32) (tab p) (tab q) = tab fun i j => p i j + q i j := rfl

/-- The logistic function of a block. -/
theorem logistic_tab : logistic (F := Ideal) (φ := .f32) (tab p) = tab fun i j => Ideal.logistic (p i j) := rfl

/-- A block of one number. -/
theorem fill_tab (b : BitVec 32) : broadcast (⟨2, ![n, k]⟩ : Shape) (Scalar.ofBits (F := Ideal) .f32 b) = tab fun _ _ => Ideal.ofBits .f32 b := rfl

end Cert.Ffn

end
-- ==== Proof.Conv.Math.lean ====
/- The gradient of the gated short convolution, entry by entry over the extended reals. -/
module

public import proofs.«01_k».proof.Proof.Tab

@[expose] public section

noncomputable section

open scoped BigOperators

namespace Cert.Conv

open Idealize.ShloMosaic Cert.Ffn

/-- Two blocks with the same entries are one. -/
theorem tab_ext {n k : ℕ} {f g : Fin n → Fin k → EReal} (h : ∀ r d, f r d = g r d) : tab f = tab g :=
  congrArg tab (funext fun r => funext fun d => h r d)
/-- A block told by its entries. -/
theorem tab_of {n k : ℕ} {f : Fin n → Fin k → EReal} {a : (⟨2, ![n, k]⟩ : Shape).Idx → EReal} (h : ∀ r d, a (ValueIdx.ix2 r d) = f r d) :
    a = tab f :=
  (eq_tab a).trans (tab_ext h)

/-- An array's rows, continued by rows of zeros below the last. -/
def ext {n w : ℕ} (M : Fin n → Fin w → EReal) (s : ℕ) (j : Fin w) : EReal := if h : s < n then M ⟨s, h⟩ j else 0

/-- Column `j` of the first third of the projected input, the outer gate. -/
def colB (j : Fin 1024) : Fin 3072 := ⟨j.val, by omega⟩
/-- Column `j` of the second third, the inner gate. -/
def colC (j : Fin 1024) : Fin 3072 := ⟨1024 + j.val, by omega⟩
/-- Column `j` of the last third, the gated values. -/
def colZ (j : Fin 1024) : Fin 3072 := ⟨2048 + j.val, by omega⟩

variable (W : ℕ → Fin 1024 → EReal) (P : ℕ → Fin 3072 → EReal) (V : ℕ → Fin 1024 → EReal)

/-- What the convolution reads: the inner gate times the values. -/
def u (s : ℕ) (j : Fin 1024) : EReal := P s (colC j) * P s (colZ j)
/-- The same with two rows of zeros in front. -/
def up (s : ℕ) (j : Fin 1024) : EReal := if s < 2 then 0 else u P (s - 2) j
/-- The convolution's cotangent. -/
def dy (s : ℕ) (j : Fin 1024) : EReal := V s j * P s (colB j)
/-- The convolution. -/
def y (r : ℕ) (j : Fin 1024) : EReal := W 0 j * up P r j + W 1 j * up P (r + 1) j + W 2 j * up P (r + 2) j
/-- The cotangent of what the convolution reads. -/
def du (r : ℕ) (j : Fin 1024) : EReal := W 2 j * dy P V r j + W 1 j * dy P V (r + 1) j + W 0 j * dy P V (r + 2) j

/-- The gradient with respect to the projected input: of the outer gate, the inner gate and the values. -/
def dp (r : ℕ) (j : Fin 3072) : EReal :=
  if h : j.val < 1024 then V r ⟨j.val, h⟩ * y W P r ⟨j.val, h⟩
  else if h' : j.val < 2048 then du W P V r ⟨j.val - 1024, by omega⟩ * P r (colZ ⟨j.val - 1024, by omega⟩)
  else du W P V r ⟨j.val - 2048, by omega⟩ * P r (colC ⟨j.val - 2048, by omega⟩)

theorem dp_B (r : ℕ) (j : Fin 1024) : dp W P V r (colB j) = V r j * y W P r j := by
  have h : (colB j).val < 1024 := j.isLt
  rw [dp, dif_pos h]
  rfl

theorem dp_C (r : ℕ) (j : Fin 1024) : dp W P V r (colC j) = du W P V r j * P r (colZ j) := by
  have hv : (colC j).val = 1024 + j.val := rfl
  have e : (⟨(colC j).val - 1024, by omega⟩ : Fin 1024) = j := Fin.ext (by show 1024 + j.val - 1024 = j.val; omega)
  rw [dp, dif_neg (by omega), dif_pos (by omega), e]

theorem dp_Z (r : ℕ) (j : Fin 1024) : dp W P V r (colZ j) = du W P V r j * P r (colC j) := by
  have hv : (colZ j).val = 2048 + j.val := rfl
  have e : (⟨(colZ j).val - 2048, by omega⟩ : Fin 1024) = j := Fin.ext (by show 2048 + j.val - 2048 = j.val; omega)
  rw [dp, dif_neg (by omega), dif_neg (by omega), e]

/-- Every column is one of the three thirds' columns. -/
theorem cols {p : Fin 3072 → Prop} (hB : ∀ j, p (colB j)) (hC : ∀ j, p (colC j)) (hZ : ∀ j, p (colZ j)) (j : Fin 3072) : p j := by
  by_cases h : j.val < 1024
  · exact hB ⟨j.val, h⟩
  · by_cases h' : j.val < 2048
    · have e : colC ⟨j.val - 1024, by omega⟩ = j := Fin.ext (by show 1024 + (j.val - 1024) = j.val; omega)
      exact e ▸ hC _
    · have e : colZ ⟨j.val - 2048, by omega⟩ = j := Fin.ext (by show 2048 + (j.val - 2048) = j.val; omega)
      exact e ▸ hZ _

/-- What 1024 rows add to the gradient of tap `k`. -/
def part (k n : ℕ) (j : Fin 1024) : EReal := ∑ r : Fin 1024, dy P V (1024 * n + r.val) j * up P (1024 * n + r.val + k) j
/-- What the first tiles of 1024 rows add up to, in rows of which the first three are taps. -/
def acc (n : ℕ) (k : Fin 8) (j : Fin 1024) : EReal := if k.val < 3 then ∑ b ∈ Finset.range n, part P V k.val b j else 0
/-- The gradient with respect to the taps. -/
def dw (k : Fin 8) (j : Fin 1024) : EReal := if k.val < 3 then ∑ r : Fin 16384, dy P V r.val j * up P (r.val + k.val) j else 0

theorem acc_succ (n : ℕ) (k : Fin 8) (j : Fin 1024) (hk : k.val < 3) : acc P V (n + 1) k j = acc P V n k j + part P V k.val n j := by
  rw [acc, acc, if_pos hk, if_pos hk, Finset.sum_range_succ]

/-- The sixteen tiles are all the rows. -/
theorem acc_all (k : Fin 8) (j : Fin 1024) : acc P V 16 k j = dw P V k j := by
  unfold acc dw
  split
  · have e : ∀ g : ℕ → EReal, ∑ b ∈ Finset.range 16, ∑ r : Fin 1024, g (1024 * b + r.val) = ∑ r : Fin 16384, g r.val := by
      intro g
      rw [← Fin.sum_univ_eq_sum_range (fun b => ∑ r : Fin 1024, g (1024 * b + r.val)) 16, ← Fintype.sum_prod_type']
      refine Fintype.sum_equiv finProdFinEquiv _ _ fun x => ?_
      show g (1024 * x.1.val + x.2.val) = g (x.2.val + 1024 * x.1.val)
      rw [Nat.add_comm]
    exact e fun s => dy P V s j * up P (s + k.val) j
  · rfl

end Cert.Conv

end
-- ==== Proof.Conv.Block.lean ====
/- What one block of the convolution's gradient computes: 1024 rows, with the rows that it reads from its neighbours. -/
module

public import proofs.«01_k».proof.Proof.Gen.Kernel3Ideal.Frame
public import proofs.«01_k».proof.Proof.Conv.Math
public import Idealize.ShloMosaic.Lib.Pointwise
public import Idealize.ShloMosaic.Lib.Pipeline.Value

@[expose] public section

set_option maxRecDepth 16384

noncomputable section

open scoped BigOperators

namespace Cert.Conv

open Idealize.ShloMosaic Idealize.ShloMosaic.TcCoe Idealize.ShloMosaic.Tactic
open Cert.Kernel3Ideal Cert.Kernel3Ideal.Gen Cert.Ffn

private theorem hz : (![0, 0] : Fin 2 → Nat) = fun _ => 0 := funext fun a => by fin_cases a <;> rfl

/-- A block widened from bfloat16. -/
theorem widen {n k : ℕ} (p : Fin n → Fin k → EReal) (h) : extf (F := Ideal) (φ := .bf16) .f32 (tab p) h = tab p := rfl
/-- A block narrowed to bfloat16. -/
theorem narrow {n k : ℕ} (p : Fin n → Fin k → EReal) (h) : truncf (F := Ideal) (φ := .f32) .bf16 (tab p) h = tab p := rfl

/-- Whether a row's number is `q`. -/
theorem marks (q : ℕ) (hq : q < 1024) (k : Fin 1024) (a b : EReal) :
    Scalar.select (Scalar.cmpi .eq (BitVec.ofNat 32 k.val) (BitVec.ofNat 32 q)) a b = if k.val = q then a else b := by
  have e : (BitVec.ofNat 32 k.val = BitVec.ofNat 32 q) ↔ k.val = q := by
    rw [← BitVec.toNat_inj, BitVec.toNat_ofNat, BitVec.toNat_ofNat, Nat.mod_eq_of_lt (by omega), Nat.mod_eq_of_lt (by omega)]
  by_cases h : k.val = q
  · rw [if_pos h, h]
    simp [Scalar.select, Scalar.cmpi, IntOp.cmpi]
  · have h' := mt e.mp h
    rw [if_neg h]
    simp [Scalar.select, Scalar.cmpi, IntOp.cmpi, beq_false_of_ne h']

/-- One row of the block replaced by a row of a neighbour's. -/
theorem pick (q o : ℕ) (hq : q < 1024) (ho : o < 8) (g : Fin 8 → Fin 1024 → EReal) (f : Fin 1024 → Fin 1024 → EReal) (h₁ h₂ h₃ h₄ h₅ h₆) :
    select (broadcastTo S1024x1024 (shapeCast S1024x1 (cmpi .eq (iota .tc S1024x1 32 [0] h₁) (broadcast S1024x1 (BitVec.ofNat 32 q))) h₂) h₃)
      (broadcastTo (α := EReal) S1024x1024 (shapeCast S1x1024 (extractStridedSlice (α := EReal) S1x1024 ![o, 0] (tab g) h₄) h₅) h₆) (tab f)
    = tab fun k d => if k.val = q then g ⟨o, ho⟩ d else f k d := by
  funext i
  pointwise
  simp only [tab_apply]
  exact marks q hq (i 0) _ _

/-- The rows of a block moved down around its end. -/
theorem turn (b : BitVec 32) (s : ℕ) (hb : b.toNat = s) (hs : s < 1024) (f : Fin 1024 → Fin 1024 → EReal) (h) :
    dynamicRotate (α := EReal) (s := S1024x1024) 0 b none (tab f) h = tab fun k d => f (Fin.ofNat 1024 (k.val + (1024 - s))) d := by
  funext i
  pointwise
  simp only [tab_apply]
  refine congrArg₂ f (Fin.ext ?_) rfl
  show ((i 0).val + 1024 - b.toNat % 1024) % 1024 = ((i 0).val + (1024 - s)) % 1024
  have h0 : (i 0).val < 1024 := (i 0).isLt
  rw [hb]
  omega

/-- A row repeated down the block. -/
theorem tower (v : Fin 1024 → EReal) (h) : broadcastTo (α := EReal) S1024x1024 (tab fun (_ : Fin 1) d => v d) h = tab fun (_ : Fin 1024) d => v d := by
  funext i
  pointwise
  rfl

/-- The column sums of a block, as a row. -/
theorem colsum (v : Fin 1024 → Fin 1024 → EReal) (h h') :
    shapeCast (α := EReal) S1x1024 (multiReduction (F := Ideal) (φ := .f32) .add [0] S1024 (tab v) 0x00000000#32 h (.inl rfl) rfl) h'
    = tab fun (_ : Fin 1) d => ∑ k, v k d := by
  funext i
  pointwise
  simp only [Ideal.ofBits_zero_f32, zero_add, tab_apply]
  rfl

section Payloads

variable (W : ℕ → Fin 1024 → EReal) (P : ℕ → Fin 3072 → EReal) (V : ℕ → Fin 1024 → EReal) (n : ℕ) (hn : n < 16)
  (hend : ∀ s, 16384 ≤ s → ∀ d, dy P V s d = 0)

/-- The rows of an array from row `o` on. -/
abbrev rows {w : ℕ} (m : ℕ) (X : ℕ → Fin w → EReal) (o : ℕ) : (⟨2, ![m, w]⟩ : Shape).Idx → EReal := tab fun (k : Fin m) d => X (o + k.val) d
/-- The outer gate's columns of such rows. -/
abbrev rowsB (m o : ℕ) : (⟨2, ![m, 1024]⟩ : Shape).Idx → EReal := rows m (fun s d => P s (colB d)) o
/-- The inner gate's columns. -/
abbrev rowsC (m o : ℕ) : (⟨2, ![m, 1024]⟩ : Shape).Idx → EReal := rows m (fun s d => P s (colC d)) o
/-- The values' columns. -/
abbrev rowsZ (m o : ℕ) : (⟨2, ![m, 1024]⟩ : Shape).Idx → EReal := rows m (fun s d => P s (colZ d)) o

/-- What the convolution reads of the block's own rows. -/
theorem pay7 : k0_pay7 (F := Ideal) (rowsC P 1024 (1024 * n)) (rowsZ P 1024 (1024 * n)) = rows 1024 (u P) (1024 * n) := rfl

include hn in
/-- What it reads of the eight rows before, which at the first block are zeros. -/
theorem pay8 (i : grid0.Coords) (hi : (i 0).val = n) :
    k0_pay8 (F := Ideal) i (rowsC P 8 (8 * (128 * n - 1))) (rowsZ P 8 (8 * (128 * n - 1)))
    = tab fun (k : Fin 8) d => up P (1024 * n + k.val - 6) d := by
  unfold k0_pay8
  rw [hi]
  have e : Scalar.cmpi .sgt (BitVec.ofNat 32 n) 0#32 = if n = 0 then 0#1 else 1#1 := by
    interval_cases n <;> decide
  dsimp only
  rw [e]
  refine tab_of fun r d => ?_
  by_cases h : n = 0
  · rw [if_pos h, up, if_pos (by omega)]
    exact Ideal.ofBits_zero_f32
  · rw [if_neg h, up, if_neg (by omega)]
    have e' : 1024 * n + r.val - 6 - 2 = 8 * (128 * n - 1) + r.val := by omega
    rw [e']
    rfl

theorem up_two (s : ℕ) (d : Fin 1024) : up P (s + 2) d = u P s d := by
  rw [up, if_neg (by omega), Nat.add_sub_cancel]

section Down
variable (i : grid0.Coords) (hi : (i 0).val = n)
include hn hi

/-- The convolution's input one row down. -/
theorem pay9 : k0_pay9 (F := Ideal) i (rowsC P 1024 (1024 * n)) (rowsZ P 1024 (1024 * n)) (rowsC P 8 (8 * (128 * n - 1))) (rowsZ P 8 (8 * (128 * n - 1)))
    = tab fun (k : Fin 1024) d => up P (1024 * n + k.val + 1) d := by
  unfold k0_pay9
  rw [pay7, pay8 P n hn i hi]
  dsimp only
  rw [turn 1#32 1 rfl (by decide), pick 0 7 (by decide) (by decide)]
  refine tab_ext fun r d => ?_
  split
  · rename_i h
    rw [h]
    exact congrArg (fun s => up P s d) (by show 1024 * n + 7 - 6 = _; omega)
  · rename_i h
    rw [← up_two]
    refine congrArg (fun s => up P s d) ?_
    show 1024 * n + (r.val + (1024 - 1)) % 1024 + 2 = _
    omega

/-- The convolution's input two rows down, but for its second row. -/
theorem pay10 : k0_pay10 (F := Ideal) i (rowsC P 1024 (1024 * n)) (rowsZ P 1024 (1024 * n)) (rowsC P 8 (8 * (128 * n - 1))) (rowsZ P 8 (8 * (128 * n - 1)))
    = tab fun (k : Fin 1024) d => if k.val = 1 then u P (1024 * n + 1023) d else up P (1024 * n + k.val) d := by
  unfold k0_pay10
  rw [pay7, pay8 P n hn i hi]
  dsimp only
  rw [turn 2#32 2 rfl (by decide), pick 0 6 (by decide) (by decide)]
  refine tab_ext fun r d => ?_
  split
  · rename_i h
    rw [h, if_neg (by decide)]
    exact congrArg (fun s => up P s d) (by show 1024 * n + 6 - 6 = _; omega)
  · rename_i h
    split
    · rename_i h1
      refine congrArg (fun s => u P s d) ?_
      show 1024 * n + (r.val + (1024 - 2)) % 1024 = _
      omega
    · rename_i h1
      rw [← up_two]
      refine congrArg (fun s => up P s d) ?_
      show 1024 * n + (r.val + (1024 - 2)) % 1024 + 2 = _
      omega

/-- The convolution's input two rows down. -/
theorem pay12 : k0_pay12 (F := Ideal) (k0_pay8 i (rowsC P 8 (8 * (128 * n - 1))) (rowsZ P 8 (8 * (128 * n - 1))))
      (k0_pay10 i (rowsC P 1024 (1024 * n)) (rowsZ P 1024 (1024 * n)) (rowsC P 8 (8 * (128 * n - 1))) (rowsZ P 8 (8 * (128 * n - 1)))) k0_pay11
    = rows 1024 (up P) (1024 * n) := by
  unfold k0_pay12 k0_pay11
  rw [pay10 P n hn i hi, pay8 P n hn i hi]
  dsimp only
  rw [pick 1 7 (by decide) (by decide)]
  refine tab_ext fun r d => ?_
  split
  · rename_i h
    rw [h]
    exact congrArg (fun s => up P s d) (by show 1024 * n + 7 - 6 = _; omega)
  · rfl

/-- The convolution. -/
theorem pay16 : k0_pay16 (F := Ideal) (rows 1024 (u P) (1024 * n)) (k0_pay8 i (rowsC P 8 (8 * (128 * n - 1))) (rowsZ P 8 (8 * (128 * n - 1))))
      (k0_pay9 i (rowsC P 1024 (1024 * n)) (rowsZ P 1024 (1024 * n)) (rowsC P 8 (8 * (128 * n - 1))) (rowsZ P 8 (8 * (128 * n - 1))))
      (k0_pay10 i (rowsC P 1024 (1024 * n)) (rowsZ P 1024 (1024 * n)) (rowsC P 8 (8 * (128 * n - 1))) (rowsZ P 8 (8 * (128 * n - 1)))) k0_pay11
      (tab fun (_ : Fin 1) d => W 0 d) (tab fun (_ : Fin 1) d => W 1 d) (tab fun (_ : Fin 1) d => W 2 d)
    = rows 1024 (y W P) (1024 * n) := by
  unfold k0_pay16 k0_pay13 k0_pay14 k0_pay15
  rw [pay12 P n hn i hi, pay9 P n hn i hi]
  simp only [shapeCast_self, tower, mul_tab, add_tab]
  refine tab_ext fun r d => ?_
  rw [y, up_two]

end Down

/-- The cotangent of the block's own rows. -/
theorem pay18 : k0_pay18 (F := Ideal) (k0_pay4 (rowsB P 1024 (1024 * n))) (rows 1024 V (1024 * n)) = rows 1024 (dy P V) (1024 * n) := rfl

section Up
include hn hend

/-- The cotangent of the eight rows after, which at the last block are zeros. -/
theorem pay19 (i : grid0.Coords) (hi : (i 0).val = n) :
    k0_pay19 (F := Ideal) (BitVec.ofNat 32 (i 0).val) (rows 8 V (8 * min (128 * (n + 1)) 2047)) (rowsB P 8 (8 * min (128 * (n + 1)) 2047))
    = rows 8 (dy P V) (1024 * (n + 1)) := by
  unfold k0_pay19
  rw [hi]
  have e : Scalar.cmpi .slt (BitVec.ofNat 32 n) 15#32 = if n = 15 then 0#1 else 1#1 := by
    interval_cases n <;> decide
  dsimp only
  rw [e]
  refine tab_of fun r d => ?_
  by_cases h : n = 15
  · rw [if_pos h, hend _ (by omega)]
    exact Ideal.ofBits_zero_f32
  · rw [if_neg h]
    have e' : 1024 * (n + 1) + r.val = 8 * min (128 * (n + 1)) 2047 + r.val := by omega
    rw [e']
    rfl

/-- The cotangent one row up. -/
theorem pay20 (i : grid0.Coords) (hi : (i 0).val = n) :
    k0_pay20 (F := Ideal) (BitVec.ofNat 32 (i 0).val) (k0_pay4 (rowsB P 1024 (1024 * n))) (iota .tc S1024x1 32 [0] iota_S1024x1_d0_w32)
      (rows 1024 V (1024 * n)) (rows 8 V (8 * min (128 * (n + 1)) 2047)) (rowsB P 8 (8 * min (128 * (n + 1)) 2047))
    = tab fun (k : Fin 1024) d => dy P V (1024 * n + k.val + 1) d := by
  unfold k0_pay20
  rw [pay18, pay19 P V n hn hend i hi]
  dsimp only
  rw [turn 1023#32 1023 rfl (by decide), pick 1023 0 (by decide) (by decide)]
  refine tab_ext fun r d => ?_
  split
  · rename_i h
    rw [h]
    exact congrArg (fun s => dy P V s d) (by show 1024 * (n + 1) + 0 = _; omega)
  · rename_i h
    refine congrArg (fun s => dy P V s d) ?_
    show 1024 * n + (r.val + (1024 - 1023)) % 1024 = _
    omega

end Up

/-- The cotangent of what the convolution reads. -/
theorem pay23 : k0_pay23 (F := Ideal) (iota .tc S1024x1 32 [0] iota_S1024x1_d0_w32) (tab fun (_ : Fin 1) d => W 0 d) (tab fun (_ : Fin 1) d => W 1 d)
      (tab fun (_ : Fin 1) d => W 2 d) (rows 1024 (dy P V) (1024 * n)) (rows 8 (dy P V) (1024 * (n + 1)))
      (tab fun (k : Fin 1024) d => dy P V (1024 * n + k.val + 1) d)
      (k0_pay21 (k0_pay4 (rowsB P 1024 (1024 * n))) (rows 1024 V (1024 * n))) k0_pay22
    = rows 1024 (du W P V) (1024 * n) := by
  unfold k0_pay23 k0_pay21 k0_pay22
  rw [pay18]
  dsimp only
  rw [turn 1022#32 1022 rfl (by decide), pick 1022 0 (by decide) (by decide), pick 1023 1 (by decide) (by decide)]
  simp only [tower, mul_tab, add_tab]
  refine tab_ext fun r d => ?_
  rw [du]
  refine congrArg (fun s => W 2 d * dy P V (1024 * n + r.val) d + W 1 d * dy P V (1024 * n + r.val + 1) d + W 0 d * s) ?_
  split
  · rename_i h
    rw [h]
    exact congrArg (fun s => dy P V s d) (by show 1024 * (n + 1) + 1 = _; omega)
  · rename_i h
    split
    · rename_i h1
      rw [h1]
      exact congrArg (fun s => dy P V s d) (by show 1024 * (n + 1) + 0 = _; omega)
    · rename_i h1
      refine congrArg (fun s => dy P V s d) ?_
      show 1024 * n + (r.val + (1024 - 1022)) % 1024 = _
      omega

/-- The first tap's gradient over the block, added to a row. -/
theorem pay27 (a : Fin 1024 → EReal) : k0_pay27 (F := Ideal) (rows 1024 (up P) (1024 * n)) (rows 1024 (dy P V) (1024 * n)) (tab fun (_ : Fin 1) d => a d)
    = tab fun (_ : Fin 1) d => a d + part P V 0 n d := by
  unfold k0_pay27
  simp only [shapeCast_self, mul_tab]
  erw [colsum, add_tab]
  rfl

/-- The second tap's. -/
theorem pay1 (a : Fin 1024 → EReal) : k0_pay1 (F := Ideal) (k0_pay28 (tab fun (_ : Fin 1) d => a d))
      (k0_pay29 (tab fun (k : Fin 1024) d => up P (1024 * n + k.val + 1) d) (rows 1024 (dy P V) (1024 * n)))
    = tab fun (_ : Fin 1) d => a d + part P V 1 n d := by
  unfold k0_pay1 k0_pay28 k0_pay29
  simp only [shapeCast_self, mul_tab]
  erw [colsum, add_tab]
  rfl

/-- The third tap's. -/
theorem pay2 (a : Fin 1024 → EReal) : k0_pay2 (F := Ideal) (rows 1024 (u P) (1024 * n)) (rows 1024 (dy P V) (1024 * n)) (tab fun (_ : Fin 1) d => a d)
    = tab fun (_ : Fin 1) d => a d + part P V 2 n d := by
  unfold k0_pay2
  simp only [shapeCast_self, mul_tab]
  erw [colsum, add_tab]
  simp only [part, up_two]

end Payloads

end Cert.Conv

end
-- ==== Proof.Conv.Step.lean ====
/- What one grid point of the convolution's gradient leaves in its two output blocks, from the point's input blocks: 1024 rows of
   the projected input's gradient, and the taps' gradient with the point's rows added to it. -/
module

public import proofs.«01_k».proof.Proof.Conv.Block
public import Idealize.ShloMosaic.Lib.Pipeline.ReadBack
public import Idealize.ShloMosaic.Lib.WritesUnit
public import Idealize.ShloMosaic.Lib.VecWindow
public import Idealize.ShloMosaic.Lib.Pipeline.FrameBody

@[expose] public section

set_option maxRecDepth 16384

noncomputable section

namespace Cert.Conv

open Idealize.ShloMosaic Idealize.ShloMosaic.TcCoe Idealize.ShloMosaic.Tactic
open Cert.Kernel3Ideal Cert.Kernel3Ideal.Gen Cert.Ffn

private theorem hz : (![0, 0] : Fin 2 → Nat) = fun _ => 0 := funext fun a => by fin_cases a <;> rfl

section Loads

variable (P : ℕ → Fin 3072 → EReal) (o : ℕ)

/-- The outer gate's columns of the block's rows. -/
theorem ldB (inb) : View.ld (Val := Elt Ideal) (e' := .bf16) (S := S1024x3072) (rows 1024 P o) (Rect.unit (s := S1024x3072) ![0, 0] ![1024, 1024] inb)
    = rowsB P 1024 o := by
  funext i
  refine congrArg₂ (fun s d => P (o + s) d) ?_ (Fin.ext ?_)
  · show 0 + 1 * (i 0).val = (i 0).val
    omega
  · show 0 + 1 * (i 1).val = (i 1).val
    omega

/-- The inner gate's columns of the block's rows. -/
theorem ldC (inb) : View.ld (Val := Elt Ideal) (e' := .bf16) (S := S1024x3072) (rows 1024 P o) (Rect.unit (s := S1024x3072) ![0, 1024] ![1024, 1024] inb)
    = rowsC P 1024 o := by
  funext i
  refine congrArg₂ (fun s d => P (o + s) d) ?_ (Fin.ext ?_)
  · show 0 + 1 * (i 0).val = (i 0).val
    omega
  · show 1024 + 1 * (i 1).val = 1024 + (i 1).val
    omega

/-- The values' columns of the block's rows. -/
theorem ldZ (inb) : View.ld (Val := Elt Ideal) (e' := .bf16) (S := S1024x3072) (rows 1024 P o) (Rect.unit (s := S1024x3072) ![0, 2048] ![1024, 1024] inb)
    = rowsZ P 1024 o := by
  funext i
  refine congrArg₂ (fun s d => P (o + s) d) ?_ (Fin.ext ?_)
  · show 0 + 1 * (i 0).val = (i 0).val
    omega
  · show 2048 + 1 * (i 1).val = 2048 + (i 1).val
    omega

/-- The outer gate's columns of eight rows. -/
theorem ldB8 (inb) : View.ld (Val := Elt Ideal) (e' := .bf16) (S := S8x3072) (rows 8 P o) (Rect.unit (s := S8x3072) ![0, 0] ![8, 1024] inb)
    = rowsB P 8 o := by
  funext i
  refine congrArg₂ (fun s d => P (o + s) d) ?_ (Fin.ext ?_)
  · show 0 + 1 * (i 0).val = (i 0).val
    omega
  · show 0 + 1 * (i 1).val = (i 1).val
    omega

/-- The inner gate's columns of eight rows. -/
theorem ldC8 (inb) : View.ld (Val := Elt Ideal) (e' := .bf16) (S := S8x3072) (rows 8 P o) (Rect.unit (s := S8x3072) ![0, 1024] ![8, 1024] inb)
    = rowsC P 8 o := by
  funext i
  refine congrArg₂ (fun s d => P (o + s) d) ?_ (Fin.ext ?_)
  · show 0 + 1 * (i 0).val = (i 0).val
    omega
  · show 1024 + 1 * (i 1).val = 1024 + (i 1).val
    omega

/-- The values' columns of eight rows. -/
theorem ldZ8 (inb) : View.ld (Val := Elt Ideal) (e' := .bf16) (S := S8x3072) (rows 8 P o) (Rect.unit (s := S8x3072) ![0, 2048] ![8, 1024] inb)
    = rowsZ P 8 o := by
  funext i
  refine congrArg₂ (fun s d => P (o + s) d) ?_ (Fin.ext ?_)
  · show 0 + 1 * (i 0).val = (i 0).val
    omega
  · show 2048 + 1 * (i 1).val = 2048 + (i 1).val
    omega

end Loads

/-- One of eight rows. -/
theorem ldRow (a : Fin 8 → Fin 1024 → EReal) (o : ℕ) (ho : o < 8) (inb) :
    View.ld (Val := Elt Ideal) (e' := .f32) (S := S8x1024) (tab a) (Rect.unit (s := S8x1024) ![o, 0] ![1, 1024] inb)
    = tab fun (_ : Fin 1) d => a ⟨o, ho⟩ d := by
  funext i
  have h0 : (i 0).val < 1 := (i 0).isLt
  refine congrArg₂ a (Fin.ext ?_) (Fin.ext ?_)
  · show o + 1 * (i 0).val = o
    omega
  · show 0 + 1 * (i 1).val = (i 1).val
    omega

/-- The rows that three stores of a row each leave, the first three of eight. -/
theorem threeRows {κ : Kind} {sp : Space} (v : View sig κ sp S8x1024 .f32) (f : v.ty.Contents (Elt Ideal)) (L : List (View.Piece (Elt Ideal) S8x1024 .f32))
    (a : Fin 8 → Fin 1024 → EReal) (b₀ b₁ b₂ : Fin 1024 → EReal) (i₀ i₁ i₂) (hL : v.read (Elt Ideal) (v.writes (Elt Ideal) f L) = tab a) :
    v.read (Elt Ideal) (v.writes (Elt Ideal) f (
      (⟨Rect.unit (s := S8x1024) ![2, 0] ![1, 1024] i₂, tab fun (_ : Fin 1) d => b₂ d⟩ : View.Piece (Elt Ideal) S8x1024 .f32)
      :: (⟨Rect.unit (s := S8x1024) ![1, 0] ![1, 1024] i₁, tab fun (_ : Fin 1) d => b₁ d⟩ : View.Piece (Elt Ideal) S8x1024 .f32)
      :: (⟨Rect.unit (s := S8x1024) ![0, 0] ![1, 1024] i₀, tab fun (_ : Fin 1) d => b₀ d⟩ : View.Piece (Elt Ideal) S8x1024 .f32) :: L))
    = tab fun k d => if k.val = 0 then b₀ d else if k.val = 1 then b₁ d else if k.val = 2 then b₂ d else a k d := by
  refine tab_of fun k d => ?_
  have here : ∀ (o : ℕ) (inb) (b : Fin 1024 → EReal) (L : List (View.Piece (Elt Ideal) S8x1024 .f32)), k.val = o →
      v.read (Elt Ideal) (v.writes (Elt Ideal) f ((⟨Rect.unit (s := S8x1024) ![o, 0] ![1, 1024] inb, tab fun (_ : Fin 1) d => b d⟩
        : View.Piece (Elt Ideal) S8x1024 .f32) :: L)) (ValueIdx.ix2 k d) = b d := fun o inb b L h =>
    View.read_writes_cons_rows_of_mem v f inb _ L (ValueIdx.ix2 k d) (ValueIdx.ix2 (0 : Fin 1) d) rfl (h.trans (Nat.add_zero o).symm) rfl
  have there : ∀ (o : ℕ) (inb) (b : Fin 1024 → EReal) (L : List (View.Piece (Elt Ideal) S8x1024 .f32)), k.val ≠ o →
      v.read (Elt Ideal) (v.writes (Elt Ideal) f ((⟨Rect.unit (s := S8x1024) ![o, 0] ![1, 1024] inb, tab fun (_ : Fin 1) d => b d⟩
        : View.Piece (Elt Ideal) S8x1024 .f32) :: L)) (ValueIdx.ix2 k d) = v.read (Elt Ideal) (v.writes (Elt Ideal) f L) (ValueIdx.ix2 k d) := fun o inb b L h =>
    View.read_writes_cons_rows_of_not_mem (o := o) (W := 1) v f inb _ L (ValueIdx.ix2 k d) rfl rfl (by
      have : k.val ≠ o := h
      show k.val < o ∨ o + 1 ≤ k.val
      omega)
  by_cases k0 : k.val = 0
  · rw [if_pos k0, there 2 _ _ _ (by omega), there 1 _ _ _ (by omega), here 0 _ _ _ k0]
  · rw [if_neg k0]
    by_cases k1 : k.val = 1
    · rw [if_pos k1, there 2 _ _ _ (by omega), here 1 _ _ _ k1]
    · rw [if_neg k1]
      by_cases k2 : k.val = 2
      · rw [if_pos k2, here 2 _ _ _ k2]
      · rw [if_neg k2, there 2 _ _ _ k2, there 1 _ _ _ k1, there 0 _ _ _ k0, hL]
        rfl

variable (W : ℕ → Fin 1024 → EReal) (P : ℕ → Fin 3072 → EReal) (V : ℕ → Fin 1024 → EReal) (n : ℕ)

/-- A tile's sums added to the first three rows. -/
theorem step_acc : (tab fun (k : Fin 8) d => if k.val = 0 then acc P V n 0 d + part P V 0 n d else if k.val = 1 then acc P V n 1 d + part P V 1 n d
      else if k.val = 2 then acc P V n 2 d + part P V 2 n d else acc P V n k d)
    = tab (acc P V (n + 1)) := by
  refine tab_ext fun k d => ?_
  fin_cases k
  · exact (acc_succ P V n 0 d (by decide)).symm
  · exact (acc_succ P V n 1 d (by decide)).symm
  · exact (acc_succ P V n 2 d (by decide)).symm
  all_goals rfl

/-- Before the first tile. -/
theorem acc_none : tab (acc P V 0) = tab fun _ _ => 0 := by
  refine tab_ext fun k d => ?_
  rw [acc, Finset.range_zero, Finset.sum_empty, ite_self]

/-- The outer gate's part of the gradient. -/
theorem pay24 : k0_pay24 (F := Ideal) (rows 1024 (y W P) (1024 * n)) (k0_pay17 (rows 1024 V (1024 * n)))
    = tab fun (r : Fin 1024) d => dp W P V (1024 * n + r.val) (colB d) := by
  unfold k0_pay24 k0_pay17
  exact tab_of fun r d => (dp_B W P V (1024 * n + r.val) d).symm

/-- The inner gate's part. -/
theorem pay25 : k0_pay25 (F := Ideal) (k0_pay6 (rowsZ P 1024 (1024 * n))) (iota .tc S1024x1 32 [0] iota_S1024x1_d0_w32) (k0_pay13 (tab fun (_ : Fin 1) d => W 0 d))
      (k0_pay14 (tab fun (_ : Fin 1) d => W 1 d)) (k0_pay15 (tab fun (_ : Fin 1) d => W 2 d)) (rows 1024 (dy P V) (1024 * n)) (rows 8 (dy P V) (1024 * (n + 1)))
      (tab fun (k : Fin 1024) d => dy P V (1024 * n + k.val + 1) d) (k0_pay21 (k0_pay4 (rowsB P 1024 (1024 * n))) (rows 1024 V (1024 * n))) k0_pay22
    = tab fun (r : Fin 1024) d => dp W P V (1024 * n + r.val) (colC d) := by
  unfold k0_pay25 k0_pay13 k0_pay14 k0_pay15
  simp only [shapeCast_self]
  rw [pay23]
  exact tab_of fun r d => (dp_C W P V (1024 * n + r.val) d).symm

/-- The values' part. -/
theorem pay26 : k0_pay26 (F := Ideal) (k0_pay5 (rowsC P 1024 (1024 * n))) (iota .tc S1024x1 32 [0] iota_S1024x1_d0_w32) (k0_pay13 (tab fun (_ : Fin 1) d => W 0 d))
      (k0_pay14 (tab fun (_ : Fin 1) d => W 1 d)) (k0_pay15 (tab fun (_ : Fin 1) d => W 2 d)) (rows 1024 (dy P V) (1024 * n)) (rows 8 (dy P V) (1024 * (n + 1)))
      (tab fun (k : Fin 1024) d => dy P V (1024 * n + k.val + 1) d) (k0_pay21 (k0_pay4 (rowsB P 1024 (1024 * n))) (rows 1024 V (1024 * n))) k0_pay22
    = tab fun (r : Fin 1024) d => dp W P V (1024 * n + r.val) (colZ d) := by
  unfold k0_pay26 k0_pay13 k0_pay14 k0_pay15
  simp only [shapeCast_self]
  rw [pay23]
  exact tab_of fun r d => (dp_Z W P V (1024 * n + r.val) d).symm

/-- A third of the columns, at its place in the block. -/
theorem place (g : Fin 1024 → Fin 3072 → EReal) (o : ℕ) (col : Fin 1024 → Fin 3072) (hc : ∀ j, (col j).val = o + j.val) (inb) (i) :
    (tab fun r d => g r (col d)) i = tab g ((Rect.unit (s := S1024x3072) ![0, o] ![1024, 1024] inb).emb i) := by
  refine congrArg₂ g (Fin.ext ?_) (Fin.ext ?_)
  · show (i 0).val = 0 + 1 * (i 0).val
    omega
  · refine (hc (i 1)).trans ?_
    show o + (i 1).val = o + 1 * (i 1).val
    omega

section Outputs

variable (c : Dev nD) (i : grid0.Coords)
  (arg1 : Memref sig .tc .vmem S1024x1024 .bf16) (h1 : arg1.IsWhole) (arg2 : Memref sig .tc .vmem S8x1024 .bf16) (h2 : arg2.IsWhole)
  (arg3 : Memref sig .tc .vmem S1024x3072 .bf16) (h3 : arg3.IsWhole) (arg4 : Memref sig .tc .vmem S8x3072 .bf16) (h4 : arg4.IsWhole)
  (arg5 : Memref sig .tc .vmem S8x3072 .bf16) (h5 : arg5.IsWhole) (arg6 : Memref sig .tc .vmem S8x1024 .f32) (h6 : arg6.IsWhole)
  (arg7 : Memref sig .tc .vmem S1024x3072 .bf16) (h7 : arg7.IsWhole) (arg8 : Memref sig .tc .vmem S8x1024 .f32) (h8 : arg8.IsWhole)
  (hn : n < 16) (hi : (i 0).val = n) (hend : ∀ s, 16384 ≤ s → ∀ d, dy P V s d = 0)

include hn hi hend in
/-- The block of the projected input's gradient at the first point. -/
theorem outA_6 (hc0 : cond0_0 i) : out0_A_6 (F := Ideal) c i arg1 h1 arg2 h2 arg3 h3 arg4 h4 arg5 h5 arg6 h6 arg7 h7 arg8 h8 hc0
      (rows 1024 V (1024 * n)) (rows 8 V (8 * min (128 * (n + 1)) 2047)) (rows 1024 P (1024 * n)) (rows 8 P (8 * (128 * n - 1))) (rows 8 P (8 * min (128 * (n + 1)) 2047)) (tab fun (r : Fin 8) d => W r.val d)
    = tab fun (r : Fin 1024) d => dp W P V (1024 * n + r.val) d := by
  unfold out0_A_6
  rw [View.read_writes_eq_canon _ _ _ (cover0_A_6 c i arg1 h1 arg2 h2 arg3 h3 arg4 h4 arg5 h5 arg6 h6 arg7 h7 arg8 h8 hc0 _ _ _ _ _ _)]
  funext p
  refine View.canon_apply_of_pieces (Val := Elt Ideal) (tab fun (r : Fin 1024) d => dp W P V (1024 * n + r.val) d) _ ?_ p
    (cover0_A_6 c i arg1 h1 arg2 h2 arg3 h3 arg4 h4 arg5 h5 arg6 h6 arg7 h7 arg8 h8 hc0 _ _ _ _ _ _ p)
  unfold kernelRun0_A
  dsimp only
  sl_unfold_words
  simp only [View.readAt_eq_ld, h1.read_unread, h2.read_unread, h3.read_unread, h4.read_unread, h5.read_unread, h6.read_unread,
    View.ld_unit_zero (S := S1024x1024) hz, View.ld_unit_zero (S := S8x1024) hz, ldB, ldC, ldZ, ldB8, ldC8, ldZ8,
    ldRow _ 0 (by decide), ldRow _ 1 (by decide), ldRow _ 2 (by decide)]
  rw [pay7, pay16 W P n hn i hi, pay20 P V n hn hend i hi, pay19 P V n hn hend i hi, pay18, pay24 W P V n, pay25 W P V n, pay26 W P V n]
  intro p hp
  simp only [List.mem_cons, List.not_mem_nil, or_false] at hp
  rcases hp with rfl | rfl | rfl <;> intro i
  · exact place (fun r d => dp W P V (1024 * n + r.val) d) 2048 colZ (fun _ => rfl) inb_S1024x3072_S1024x1024_0_2048 i
  · exact place (fun r d => dp W P V (1024 * n + r.val) d) 1024 colC (fun _ => rfl) inb_S1024x3072_S1024x1024_0_1024 i
  · exact place (fun r d => dp W P V (1024 * n + r.val) d) 0 colB (fun _ => (Nat.zero_add _).symm) inb_S1024x3072_S1024x1024_0_0 i

include hn hi hend in
/-- The block of the projected input's gradient at a later point. -/
theorem outB_6 (hc0 : ¬cond0_0 i) (a : Fin 8 → Fin 1024 → EReal) : out0_B_6 (F := Ideal) c i arg1 h1 arg2 h2 arg3 h3 arg4 h4 arg5 h5 arg6 h6 arg7 h7 arg8 h8 hc0
      (rows 1024 V (1024 * n)) (rows 8 V (8 * min (128 * (n + 1)) 2047)) (rows 1024 P (1024 * n)) (rows 8 P (8 * (128 * n - 1))) (rows 8 P (8 * min (128 * (n + 1)) 2047)) (tab fun (r : Fin 8) d => W r.val d) (tab a)
    = tab fun (r : Fin 1024) d => dp W P V (1024 * n + r.val) d := by
  unfold out0_B_6
  rw [View.read_writes_eq_canon _ _ _ (cover0_B_6 c i arg1 h1 arg2 h2 arg3 h3 arg4 h4 arg5 h5 arg6 h6 arg7 h7 arg8 h8 hc0 _ _ _ _ _ _ _)]
  funext p
  refine View.canon_apply_of_pieces (Val := Elt Ideal) (tab fun (r : Fin 1024) d => dp W P V (1024 * n + r.val) d) _ ?_ p
    (cover0_B_6 c i arg1 h1 arg2 h2 arg3 h3 arg4 h4 arg5 h5 arg6 h6 arg7 h7 arg8 h8 hc0 _ _ _ _ _ _ _ p)
  unfold kernelRun0_B
  dsimp only
  sl_unfold_words
  simp only [View.readAt_eq_ld, h1.read_unread, h2.read_unread, h3.read_unread, h4.read_unread, h5.read_unread, h6.read_unread, h8.read_unread,
    View.ld_unit_zero (S := S1024x1024) hz, View.ld_unit_zero (S := S8x1024) hz, ldB, ldC, ldZ, ldB8, ldC8, ldZ8,
    ldRow _ 0 (by decide), ldRow _ 1 (by decide), ldRow _ 2 (by decide)]
  rw [pay7, pay16 W P n hn i hi, pay20 P V n hn hend i hi, pay19 P V n hn hend i hi, pay18, pay24 W P V n, pay25 W P V n, pay26 W P V n]
  intro p hp
  simp only [List.mem_cons, List.not_mem_nil, or_false] at hp
  rcases hp with rfl | rfl | rfl <;> intro i
  · exact place (fun r d => dp W P V (1024 * n + r.val) d) 2048 colZ (fun _ => rfl) inb_S1024x3072_S1024x1024_0_2048 i
  · exact place (fun r d => dp W P V (1024 * n + r.val) d) 1024 colC (fun _ => rfl) inb_S1024x3072_S1024x1024_0_1024 i
  · exact place (fun r d => dp W P V (1024 * n + r.val) d) 0 colB (fun _ => (Nat.zero_add _).symm) inb_S1024x3072_S1024x1024_0_0 i

/-- The taps' gradient after the first point. -/
theorem outA_7 (hc0 : cond0_0 i) (hi : (i 0).val = 0) : out0_A_7 (F := Ideal) c i arg1 h1 arg2 h2 arg3 h3 arg4 h4 arg5 h5 arg6 h6 arg7 h7 arg8 h8 hc0
      (rows 1024 V (1024 * 0)) (rows 8 V (8 * min (128 * (0 + 1)) 2047)) (rows 1024 P (1024 * 0)) (rows 8 P (8 * (128 * 0 - 1))) (rows 8 P (8 * min (128 * (0 + 1)) 2047)) (tab fun (r : Fin 8) d => W r.val d)
    = tab (acc P V 1) := by
  have zeros : k0_pay3 (F := Ideal) = tab (acc P V 0) := by
    rw [acc_none]
    exact funext fun _ => Ideal.ofBits_zero_f32
  unfold out0_A_7 kernelRun0_A
  dsimp only
  sl_unfold_words
  simp only [View.readAt_eq_ld, h1.read_unread, h2.read_unread, h3.read_unread, h4.read_unread, h5.read_unread, h6.read_unread,
    View.ld_unit_zero (S := S1024x1024) hz, View.ld_unit_zero (S := S8x1024) hz, ldB, ldC, ldZ, ldB8, ldC8, ldZ8,
    ldRow _ 0 (by decide), ldRow _ 1 (by decide), ldRow _ 2 (by decide)]
  rw [zeros, View.readCov_skip _ _ _ _ _ (by decide), View.readCov_skip _ _ _ _ _ (by decide), View.readCov_fill _ _ _ _ _ (by decide),
    View.readCov_skip _ _ _ _ _ (by decide), View.readCov_fill _ _ _ _ _ (by decide), View.readCov_fill _ _ _ _ _ (by decide),
    ldRow _ 0 (by decide), ldRow _ 1 (by decide), ldRow _ 2 (by decide), pay7, pay12 P 0 (by decide) i hi, pay9 P 0 (by decide) i hi,
    pay18, pay27 P V 0, pay1 P V 0, pay2 P V 0]
  refine (threeRows VO0_7 VO0_7.junk [⟨Rect.unit ![0, 0] ![8, 1024] inb_S8x1024_S8x1024_0_0, tab (acc P V 0)⟩] (acc P V 0)
    (fun d => acc P V 0 0 d + part P V 0 0 d) (fun d => acc P V 0 1 d + part P V 1 0 d) (fun d => acc P V 0 2 d + part P V 2 0 d) _ _ _ ?_).trans (step_acc P V 0)
  exact View.read_writes_full VO0_7 _ _ _ _

include hn hi in
/-- The taps' gradient after a later point, from what the point before left. -/
theorem outB_7 (hc0 : ¬cond0_0 i) : out0_B_7 (F := Ideal) c i arg1 h1 arg2 h2 arg3 h3 arg4 h4 arg5 h5 arg6 h6 arg7 h7 arg8 h8 hc0
      (rows 1024 V (1024 * n)) (rows 8 V (8 * min (128 * (n + 1)) 2047)) (rows 1024 P (1024 * n)) (rows 8 P (8 * (128 * n - 1))) (rows 8 P (8 * min (128 * (n + 1)) 2047)) (tab fun (r : Fin 8) d => W r.val d) (tab (acc P V n))
    = tab (acc P V (n + 1)) := by
  unfold out0_B_7 kernelRun0_B
  dsimp only
  sl_unfold_words
  simp only [View.readAt_eq_ld, h1.read_unread, h2.read_unread, h3.read_unread, h4.read_unread, h5.read_unread, h6.read_unread, h8.read_unread,
    View.ld_unit_zero (S := S1024x1024) hz, View.ld_unit_zero (S := S8x1024) hz, ldB, ldC, ldZ, ldB8, ldC8, ldZ8,
    ldRow _ 0 (by decide), ldRow _ 1 (by decide), ldRow _ 2 (by decide)]
  rw [pay7, pay12 P n hn i hi, pay9 P n hn i hi, pay18, pay27 P V n, pay1 P V n, pay2 P V n]
  exact (threeRows arg8.view (h8.unread (tab (acc P V n))) [] (acc P V n) (fun d => acc P V n 0 d + part P V 0 n d)
    (fun d => acc P V n 1 d + part P V 1 n d) (fun d => acc P V n 2 d + part P V 2 n d) _ _ _ (h8.read_unread _)).trans (step_acc P V n)

end Outputs

end Cert.Conv

end
-- ==== Proof.Conv.Ref.lean ====
/- What the reference of the convolution's gradient computes: its two results are the functions of `Math.lean`. -/
module

public import proofs.«01_k».proof.Proof.Gen.Reference3Ideal.Read
public import proofs.«01_k».proof.Proof.Conv.Math
public import Idealize.ShloMosaic.Lib.Pointwise
public import Idealize.ShloMosaic.Lib.KernelVsHost

@[expose] public section

set_option maxRecDepth 16384

noncomputable section

open scoped BigOperators

namespace Cert.Conv.Ref

open Idealize.ShloMosaic Idealize.ShloMosaic.Tactic Cert.Reference3Ideal Cert.Reference3Ideal.Read Cert.Ffn

/-- Rows of zeros put before and after an array. -/
theorem padRows {n m k lo hi : ℕ} (f : Fin n → Fin k → EReal) (z : S_.Idx → EReal) (h hu) (hz : z (Shape.Idx.first hu) = 0) :
    pad (s := ⟨2, ![n, k]⟩) ⟨2, ![m, k]⟩ ![lo, 0] ![hi, 0] ![0, 0] (tab f) z h hu
    = tab fun s d => if s.val < lo then 0 else ext f (s.val - lo) d := by
  refine tab_of fun s d => ?_
  by_cases h1 : s.val < lo
  · rw [if_pos h1, ← hz]
    refine pad_apply_of_not_inside _ _ _ _ _ _ _ _ 0 fun hh => ?_
    have : lo ≤ s.val := hh.1
    omega
  · rw [if_neg h1, ext]
    split
    · rename_i h2
      refine (pad_apply_of_inside _ _ _ _ _ _ _ _ (ValueIdx.ix2 ⟨s.val - lo, h2⟩ d) fun a => ?_).trans rfl
      fin_cases a
      · show s.val = lo + (s.val - lo) * (0 + 1)
        omega
      · show d.val = 0 + d.val * (0 + 1)
        omega
    · rename_i h2
      rw [← hz]
      refine pad_apply_of_not_inside _ _ _ _ _ _ _ _ 0 fun hh => ?_
      have : (s.val - lo) / (0 + 1) < n := hh.2.2
      simp only [zero_add, Nat.div_one] at this
      exact h2 this

theorem ext_val {n w : ℕ} (M : Fin n → Fin w → EReal) (s : Fin n) (j : Fin w) : ext M s.val j = M s j := dif_pos s.isLt

variable (p : Fin 16384 → Fin 3072 → EReal) (w : Fin 3 → Fin 1024 → EReal) (g : Fin 16384 → Fin 1024 → EReal)

/-- The outer gate. -/
theorem v1 : val_main_v1 (F := Ideal) (tab p) = tab fun r d => ext p r.val (colB d) := by
  refine tab_of fun r d => ?_
  rw [val_main_v1_apply, val_main_v0_apply]
  exact (ext_val p r (colB d)).symm
/-- The inner gate. -/
theorem v2 : val_main_v2 (F := Ideal) (tab p) = tab fun r d => ext p r.val (colC d) := by
  refine tab_of fun r d => ?_
  rw [val_main_v2_apply, val_main_v0_apply]
  exact (ext_val p r (colC d)).symm
/-- The gated values. -/
theorem v3 : val_main_v3 (F := Ideal) (tab p) = tab fun r d => ext p r.val (colZ d) := by
  refine tab_of fun r d => ?_
  rw [val_main_v3_apply, val_main_v0_apply]
  exact (ext_val p r (colZ d)).symm

/-- What the convolution reads, without its two rows of zeros. -/
theorem v4 : val_main_v4 (F := Ideal) (tab p) = tab fun r d => u (ext p) r.val d := by
  rw [val_main_v4, v2, v3]
  rfl

/-- What the convolution reads. -/
theorem v6 : val_main_v6 (F := Ideal) (tab p) = tab fun s d => up (ext p) s.val d := by
  refine tab_of fun r d => ?_
  rw [val_main_v6, v4, concatenate_pair_apply]
  by_cases h : r.val < 2
  · refine (dif_pos h).trans ?_
    rw [val_main_v5_apply, val_main_cst_apply]
    exact (Ideal.ofBits_zero_f32).trans (if_pos h).symm
  · exact (dif_neg h).trans (if_neg h).symm

/-- The rows that the first tap multiplies. -/
theorem v8 : val_main_v8 (F := Ideal) (tab p) = tab fun r d => up (ext p) r.val d := by
  refine tab_of fun r d => ?_
  rw [val_main_v8_apply, v6]
  exact congrArg (fun s => up (ext p) s d) (rfl)
/-- The rows that the second tap multiplies. -/
theorem v16 : val_main_v16 (F := Ideal) (tab p) = tab fun r d => up (ext p) (r.val + 1) d := by
  refine tab_of fun r d => ?_
  rw [val_main_v16_apply, v6]
  exact congrArg (fun s => up (ext p) s d) (Nat.add_comm 1 r.val)
/-- The rows that the third tap multiplies. -/
theorem v23 : val_main_v23 (F := Ideal) (tab p) = tab fun r d => up (ext p) (r.val + 2) d := by
  refine tab_of fun r d => ?_
  rw [val_main_v23_apply, v6]
  exact congrArg (fun s => up (ext p) s d) (Nat.add_comm 2 r.val)

/-- The first tap as a row. -/
theorem v11 : val_main_v11 (F := Ideal) (tab w) = tab fun (_ : Fin 1) d => ext w 0 d := by
  refine tab_of fun r d => ?_
  rw [val_main_v11_apply, val_main_v10_apply, val_main_v9_apply]
  exact (congrArg (w 0) (Fin.ext (Nat.mod_eq_of_lt d.isLt))).trans (ext_val w 0 d).symm
/-- The second tap as a row. -/
theorem v19 : val_main_v19 (F := Ideal) (tab w) = tab fun (_ : Fin 1) d => ext w 1 d := by
  refine tab_of fun r d => ?_
  rw [val_main_v19_apply, val_main_v18_apply, val_main_v17_apply]
  exact (congrArg (w 1) (Fin.ext (Nat.mod_eq_of_lt d.isLt))).trans (ext_val w 1 d).symm
/-- The third tap as a row. -/
theorem v26 : val_main_v26 (F := Ideal) (tab w) = tab fun (_ : Fin 1) d => ext w 2 d := by
  refine tab_of fun r d => ?_
  rw [val_main_v26_apply, val_main_v25_apply, val_main_v24_apply]
  exact (congrArg (w 2) (Fin.ext (Nat.mod_eq_of_lt d.isLt))).trans (ext_val w 2 d).symm

/-- The convolution. -/
theorem v29 : val_main_v29 (F := Ideal) (tab p) (tab w) = tab fun r d => y (ext w) (ext p) r.val d := by
  funext i
  rw [val_main_v29_apply, val_main_v22_apply, val_main_v15_apply, val_main_v14_apply, val_main_cst_1_apply, val_main_v13_apply,
    val_main_v21_apply, val_main_v28_apply, val_main_v12_apply, val_main_v20_apply, val_main_v27_apply, v8, v16, v23, v11, v19, v26]
  simp only [Ideal.ofBits_def, Ideal.ofBits_zero_f32, zero_add, Ideal.mulf_def, Ideal.addf_def, tab_apply]
  exact congrArg₂ (· + ·) (congrArg₂ (· + ·) (mul_comm _ _) (mul_comm _ _)) (mul_comm _ _)

/-- The result's cotangent. -/
theorem v31 : val_main_v31 (F := Ideal) (tab g) = tab fun r d => ext g r.val d := by
  refine tab_of fun r d => ?_
  rw [val_main_v31_apply]
  exact (ext_val g r d).symm

/-- The convolution's cotangent. -/
theorem v32 : val_main_v32 (F := Ideal) (tab p) (tab g) = tab fun r d => dy (ext p) (ext g) r.val d := by
  rw [val_main_v32, v1, v31]
  funext i
  exact mul_comm _ _

/-- The outer gate's gradient. -/
theorem v33 : val_main_v33 (F := Ideal) (tab p) (tab w) (tab g) = tab fun r d => dp (ext w) (ext p) (ext g) r.val (colB d) := by
  rw [val_main_v33, v31, v29]
  funext i
  exact (dp_B _ _ _ _ _).symm

/-- A sum over rows that is put back as a row, of the rows' products with the third tap's. -/
theorem v40 : val_main_v40 (F := Ideal) (tab p) (tab g) = tab fun (_ : Fin 1) d => ∑ r : Fin 16384, dy (ext p) (ext g) r.val d * up (ext p) (r.val + 2) d := by
  refine tab_of fun _ d => ?_
  rw [val_main_v40_apply, val_main_v39_apply, val_main_cst_3_apply]
  simp only [val_main_v36_apply, val_main_v35_apply, val_main_cst_2_apply, val_main_v34_apply, v23, v32,
    Ideal.ofBits_def, Ideal.ofBits_zero_f32, zero_add, Ideal.mulf_def, tab_apply, Fin.sum_univ_one]
  have sum : ∀ j : Fin 1024, j = d → ∑ r : Fin 16384, up (ext p) (r.val + 2) j * dy (ext p) (ext g) r.val j
      = ∑ r : Fin 16384, dy (ext p) (ext g) r.val d * up (ext p) (r.val + 2) d := by
    rintro j rfl
    exact Finset.sum_congr rfl fun r _ => mul_comm _ _
  exact sum _ (Fin.ext (by show 0 * 1024 + d.val = d.val; omega))
/-- The same with the second tap's. -/
theorem v49 : val_main_v49 (F := Ideal) (tab p) (tab g) = tab fun (_ : Fin 1) d => ∑ r : Fin 16384, dy (ext p) (ext g) r.val d * up (ext p) (r.val + 1) d := by
  refine tab_of fun _ d => ?_
  rw [val_main_v49_apply, val_main_v48_apply, val_main_cst_7_apply]
  simp only [val_main_v45_apply, val_main_v44_apply, val_main_cst_6_apply, val_main_v43_apply, v16, v32,
    Ideal.ofBits_def, Ideal.ofBits_zero_f32, zero_add, Ideal.mulf_def, tab_apply, Fin.sum_univ_one]
  have sum : ∀ j : Fin 1024, j = d → ∑ r : Fin 16384, up (ext p) (r.val + 1) j * dy (ext p) (ext g) r.val j
      = ∑ r : Fin 16384, dy (ext p) (ext g) r.val d * up (ext p) (r.val + 1) d := by
    rintro j rfl
    exact Finset.sum_congr rfl fun r _ => mul_comm _ _
  exact sum _ (Fin.ext (by show 0 * 1024 + d.val = d.val; omega))
/-- The same with the first tap's. -/
theorem v60 : val_main_v60 (F := Ideal) (tab p) (tab g) = tab fun (_ : Fin 1) d => ∑ r : Fin 16384, dy (ext p) (ext g) r.val d * up (ext p) r.val d := by
  refine tab_of fun _ d => ?_
  rw [val_main_v60_apply, val_main_v59_apply, val_main_cst_11_apply]
  simp only [val_main_v56_apply, val_main_v55_apply, val_main_cst_10_apply, val_main_v54_apply, v8, v32,
    Ideal.ofBits_def, Ideal.ofBits_zero_f32, zero_add, Ideal.mulf_def, tab_apply, Fin.sum_univ_one]
  have sum : ∀ j : Fin 1024, j = d → ∑ r : Fin 16384, up (ext p) (r.val) j * dy (ext p) (ext g) r.val j
      = ∑ r : Fin 16384, dy (ext p) (ext g) r.val d * up (ext p) (r.val) d := by
    rintro j rfl
    exact Finset.sum_congr rfl fun r _ => mul_comm _ _
  exact sum _ (Fin.ext (by show 0 * 1024 + d.val = d.val; omega))

/-- The taps' gradient, in eight rows. -/
theorem v71 : val_main_v71 (F := Ideal) (tab p) (tab g) = tab (dw (ext p) (ext g)) := by
  have e : val_main_v62 (F := Ideal) (tab p) (tab g)
      = tab fun (k : Fin 3) d => ∑ r : Fin 16384, dy (ext p) (ext g) r.val d * up (ext p) (r.val + k.val) d := by
    rw [val_main_v62, val_main_v51, val_main_v41, val_main_v50, val_main_v61, v40, v49, v60, padRows _ _ _ _ Ideal.ofBits_zero_f32,
      padRows _ _ _ _ Ideal.ofBits_zero_f32, padRows _ _ _ _ Ideal.ofBits_zero_f32]
    have : ∀ (k : Fin 3) (d : Fin 1024), ((if k.val < 2 then (0 : EReal) else ext (fun (_ : Fin 1) d => ∑ r : Fin 16384, dy (ext p) (ext g) r.val d * up (ext p) (r.val + 2) d) (k.val - 2) d)
        + (if k.val < 1 then 0 else ext (fun (_ : Fin 1) d => ∑ r : Fin 16384, dy (ext p) (ext g) r.val d * up (ext p) (r.val + 1) d) (k.val - 1) d))
        + (if k.val < 0 then 0 else ext (fun (_ : Fin 1) d => ∑ r : Fin 16384, dy (ext p) (ext g) r.val d * up (ext p) r.val d) (k.val - 0) d)
        = ∑ r : Fin 16384, dy (ext p) (ext g) r.val d * up (ext p) (r.val + k.val) d := by
      intro k d
      fin_cases k <;> simp [ext]
    exact funext fun i => this (i 0) (i 1)
  have zero : val_main_call0_v0 (F := Ideal) (Shape.Idx.first Gen.h_S_) = 0 := by
    rw [val_main_call0_v0_apply, val_main_c_apply]
    exact (Ideal.scalar_sitofp_def (φ := .f32) 0#32).trans (by simp)
  rw [val_main_v71, e, padRows _ _ _ _ zero]
  refine tab_ext fun r d => ?_
  rw [if_neg (Nat.not_lt_zero _), Nat.sub_zero, dw, ext]
  split <;> rfl

/-- Rows of zeros below the last change nothing in a product with the cotangent. -/
theorem ext_dy (c : Fin 1024 → EReal) (s : ℕ) (d : Fin 1024) :
    ext (fun (r : Fin 16384) d => dy (ext p) (ext g) r.val d * c d) s d = c d * dy (ext p) (ext g) s d := by
  rw [mul_comm]
  by_cases h : s < 16384
  · exact dif_pos h
  · have e : dy (ext p) (ext g) s d = 0 := by
      rw [dy, ext, dif_neg h, zero_mul]
    rw [e, zero_mul]
    exact dif_neg h

/-- The cotangent of what the convolution reads. -/
theorem v66 : val_main_v66 (F := Ideal) (tab p) (tab w) (tab g) = tab fun r d => du (ext w) (ext p) (ext g) r.val d := by
  have e38 : val_main_v38 (F := Ideal) (tab p) (tab w) (tab g) = tab fun r d => dy (ext p) (ext g) r.val d * ext w 2 d := by
    funext i
    rw [val_main_v38_apply, val_main_v37_apply, v32, v26]
    rfl
  have e47 : val_main_v47 (F := Ideal) (tab p) (tab w) (tab g) = tab fun r d => dy (ext p) (ext g) r.val d * ext w 1 d := by
    funext i
    rw [val_main_v47_apply, val_main_v46_apply, v32, v19]
    rfl
  have e58 : val_main_v58 (F := Ideal) (tab p) (tab w) (tab g) = tab fun r d => dy (ext p) (ext g) r.val d * ext w 0 d := by
    funext i
    rw [val_main_v58_apply, val_main_v57_apply, v32, v11]
    rfl
  refine tab_of fun r d => ?_
  rw [val_main_v66_apply, val_main_v64_apply, val_main_v53_apply, val_main_v42, val_main_v52, val_main_v63, e38, e47, e58,
    padRows _ _ _ _ Ideal.ofBits_zero_f32, padRows _ _ _ _ Ideal.ofBits_zero_f32, padRows _ _ _ _ Ideal.ofBits_zero_f32]
  simp only [tab_apply, ext_dy, Ideal.addf_def]
  have sum : ∀ s : ℕ, s = 2 + r.val → ∀ j : Fin 1024, j = d →
      (((if s < 2 then 0 else ext w 2 j * dy (ext p) (ext g) (s - 2) j) + if s < 1 then 0 else ext w 1 j * dy (ext p) (ext g) (s - 1) j)
        + if s < 0 then 0 else ext w 0 j * dy (ext p) (ext g) (s - 0) j) = du (ext w) (ext p) (ext g) r.val d := by
    rintro s rfl j rfl
    have e2 : 2 + r.val - 2 = r.val := by omega
    have e1 : 2 + r.val - 1 = r.val + 1 := by omega
    have e0 : 2 + r.val - 0 = r.val + 2 := by omega
    rw [if_neg (by omega), if_neg (by omega), if_neg (by omega), du, e2, e1, e0]
  exact sum _ rfl _ rfl

/-- The projected input's gradient. -/
theorem v70 : val_main_v70 (F := Ideal) (tab p) (tab w) (tab g) = tab fun r d => dp (ext w) (ext p) (ext g) r.val d := by
  have e68 : val_main_v68 (F := Ideal) (tab p) (tab w) (tab g) = tab fun r d => dp (ext w) (ext p) (ext g) r.val (colC d) := by
    rw [val_main_v68, v66, v3]
    funext i
    exact (dp_C _ _ _ _ _).symm
  have e67 : val_main_v67 (F := Ideal) (tab p) (tab w) (tab g) = tab fun r d => dp (ext w) (ext p) (ext g) r.val (colZ d) := by
    rw [val_main_v67, v66, v2]
    funext i
    exact (mul_comm _ _).trans (dp_Z _ _ _ _ _).symm
  refine tab_of fun r d => ?_
  rw [val_main_v70_apply, val_main_v69, v33, e68, e67]
  revert d
  refine cols (fun j => ?_) (fun j => ?_) (fun j => ?_)
  · pointwise
    exact dif_pos j.isLt
  · pointwise
    refine (dif_neg (by show ¬ 1024 + j.val < 1024; omega)).trans ((dif_pos (by show 1024 + j.val - 1024 < 1024; omega)).trans ?_)
    exact congrArg (fun d => dp (ext w) (ext p) (ext g) r.val (colC d)) (Fin.ext (by show 1024 + j.val - 1024 = j.val; omega))
  · pointwise
    refine (dif_neg (by show ¬ 2048 + j.val < 1024; omega)).trans ((dif_neg (by show ¬ 2048 + j.val - 1024 < 1024; omega)).trans ?_)
    exact congrArg (fun d => dp (ext w) (ext p) (ext g) r.val (colZ d)) (Fin.ext (by show 2048 + j.val - 1024 - 1024 = j.val; omega))

end Cert.Conv.Ref

end
-- ==== Proof.Conv.Result.lean ====
/- The kernel of the convolution's gradient ends with the gradients of the projected input and of the taps, and so does the reference. -/
module

public import proofs.«01_k».proof.Defs
public import proofs.«01_k».proof.Proof.Gen.Kernel3Ideal.Value
public import proofs.«01_k».proof.Proof.Gen.Reference3Ideal.Run
public import proofs.«01_k».proof.Proof.Conv.Step
public import proofs.«01_k».proof.Proof.Conv.Ref
public import Idealize.ShloMosaic.Lib.Claim
public import Idealize.ShloMosaic.Lib.Pointwise
public import Idealize.ShloMosaic.Lib.Pipeline.ValueKit.Geometry

@[expose] public section

set_option maxRecDepth 16384

noncomputable section

namespace Cert.Conv

open Idealize.ShloMosaic Idealize.ShloMosaic.TcCoe Idealize.ShloMosaic.Tactic Idealize.SL.Sem
open Cert.Kernel3Ideal Cert.Kernel3Ideal.Gen Cert.Kernel3Ideal.Value Cert.Ffn

/-- An entry of an array, by its row's number. -/
theorem spot {n w : ℕ} (M : Fin n → Fin w → EReal) (s : ℕ) (d : Fin w) (i : Fin n) (j : Fin w)
    (hi : i.val = s) (hj : j.val = d.val) : M i j = ext M s d := by
  have f : j = d := Fin.ext hj
  rw [← hi, f]
  exact (Ref.ext_val M i d).symm

theorem idx0 : ∀ t : Fin grid0.N, win0_0.index t (0 : Fin 2) = t.val ∧ win0_0.index t (1 : Fin 2) = 0 := by decide +kernel
theorem idx1 : ∀ t : Fin grid0.N, win0_1.index t (0 : Fin 2) = min (128 * (t.val + 1)) 2047 ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = 128 * t.val - 1 ∧ win0_3.index t (1 : Fin 2) = 0 := by decide +kernel
theorem idx4 : ∀ t : Fin grid0.N, win0_4.index t (0 : Fin 2) = min (128 * (t.val + 1)) 2047 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = t.val ∧ win0_6.index t (1 : Fin 2) = 0 := by decide +kernel
theorem idx7 : ∀ t : Fin grid0.N, win0_7.index t (0 : Fin 2) = 0 ∧ win0_7.index t (1 : Fin 2) = 0 := by decide +kernel
theorem coord : ∀ t : Fin grid0.N, (grid0.coords t 0).val = t.val := by decide +kernel

section Arrays

variable (m : (ℓ : Loc nD τ sig) → Buf (Elt Ideal) ℓ) (c : Dev nD) (t : Fin cfg0.N)
variable (p : Fin 16384 → Fin 3072 → EReal) (w : Fin 3 → Fin 1024 → EReal) (g : Fin 16384 → Fin 1024 → EReal)

/-- The taps, with rows of zeros below. -/
theorem v0 (hw : m ((c : Thread nD τ).loc main_arg1) = tab w) : V m c main_v0 = tab fun (r : Fin 8) d => ext w r.val d := by
  have e : V m c main_v0 = pad (α := EReal) S8x1024 ![0, 0] ![5, 0] ![0, 0] (m ((c : Thread nD τ).loc main_arg1))
      (sitofp (F := Ideal) .f32 (constantI S_ 32 0#32)) pads_S3x1024_S8x1024_050_000 h_S_ := by
    dsimp only [V, hostOps0, hostOps0_1, List.flatten_cons, List.flatten_nil, List.append_nil, List.cons_append, List.nil_append]
    after_results
    rfl
  have zero : sitofp (F := Ideal) .f32 (constantI S_ 32 0#32) (Shape.Idx.first h_S_) = 0 :=
    (Ideal.scalar_sitofp_def (φ := .f32) 0#32).trans (by simp)
  rw [e, hw, Ref.padRows _ _ _ _ zero]
  exact tab_ext fun r d => if_neg (Nat.not_lt_zero _)

/-- The cotangent's rows at a point. -/
theorem blk0 (h : V m c main_arg2 = tab g) : iblk m c 0 t = rows 1024 (ext g) (1024 * t.val) := by
  funext i
  unfold iblk
  rw [View.read_apply]
  show V m c main_arg2 _ = _
  rw [h]
  refine spot g _ _ _ _ ?_ ?_
  · show win0_0.index t (0 : Fin 2) * 1024 + 1 * (i 0).val = 1024 * t.val + (i 0).val
    rw [(idx0 t).1]; omega
  · show win0_0.index t (1 : Fin 2) * 1024 + 1 * (i 1).val = (i 1).val
    rw [(idx0 t).2]; omega

/-- The cotangent's rows just below a point's. -/
theorem blk1 (h : V m c main_arg2 = tab g) : iblk m c 1 t = rows 8 (ext g) (8 * min (128 * (t.val + 1)) 2047) := by
  funext i
  unfold iblk
  rw [View.read_apply]
  show V m c main_arg2 _ = _
  rw [h]
  refine spot g _ _ _ _ ?_ ?_
  · show win0_1.index t (0 : Fin 2) * 8 + 1 * (i 0).val = 8 * min (128 * (t.val + 1)) 2047 + (i 0).val
    rw [(idx1 t).1]; omega
  · show win0_1.index t (1 : Fin 2) * 1024 + 1 * (i 1).val = (i 1).val
    rw [(idx1 t).2]; omega

/-- The projected input's rows at a point. -/
theorem blk2 (h : V m c main_arg0 = tab p) : iblk m c 2 t = rows 1024 (ext p) (1024 * t.val) := by
  funext i
  unfold iblk
  rw [View.read_apply]
  show V m c main_arg0 _ = _
  rw [h]
  refine spot p _ _ _ _ ?_ ?_
  · show win0_2.index t (0 : Fin 2) * 1024 + 1 * (i 0).val = 1024 * t.val + (i 0).val
    rw [(idx2 t).1]; omega
  · show win0_2.index t (1 : Fin 2) * 3072 + 1 * (i 1).val = (i 1).val
    rw [(idx2 t).2]; omega

/-- The projected input's rows just above a point's. -/
theorem blk3 (h : V m c main_arg0 = tab p) : iblk m c 3 t = rows 8 (ext p) (8 * (128 * t.val - 1)) := by
  funext i
  unfold iblk
  rw [View.read_apply]
  show V m c main_arg0 _ = _
  rw [h]
  refine spot p _ _ _ _ ?_ ?_
  · show win0_3.index t (0 : Fin 2) * 8 + 1 * (i 0).val = 8 * (128 * t.val - 1) + (i 0).val
    rw [(idx3 t).1]; omega
  · show win0_3.index t (1 : Fin 2) * 3072 + 1 * (i 1).val = (i 1).val
    rw [(idx3 t).2]; omega

/-- The projected input's rows just below a point's. -/
theorem blk4 (h : V m c main_arg0 = tab p) : iblk m c 4 t = rows 8 (ext p) (8 * min (128 * (t.val + 1)) 2047) := by
  funext i
  unfold iblk
  rw [View.read_apply]
  show V m c main_arg0 _ = _
  rw [h]
  refine spot p _ _ _ _ ?_ ?_
  · show win0_4.index t (0 : Fin 2) * 8 + 1 * (i 0).val = 8 * min (128 * (t.val + 1)) 2047 + (i 0).val
    rw [(idx4 t).1]; omega
  · show win0_4.index t (1 : Fin 2) * 3072 + 1 * (i 1).val = (i 1).val
    rw [(idx4 t).2]; omega

/-- The taps at a point. -/
theorem blk5 (M : Fin 8 → Fin 1024 → EReal) (h : V m c main_v0 = tab M) : iblk m c 5 t = tab M := by
  funext i
  unfold iblk
  rw [View.read_apply]
  show V m c main_v0 _ = _
  rw [h]
  refine congrArg₂ M (Fin.ext ?_) (Fin.ext ?_)
  · show win0_5.index t (0 : Fin 2) * 8 + 1 * (i 0).val = (i 0).val
    rw [(idx5 t).1]; omega
  · show win0_5.index t (1 : Fin 2) * 1024 + 1 * (i 1).val = (i 1).val
    rw [(idx5 t).2]; omega

/-- Below the last row the cotangent is zero. -/
theorem below (s : ℕ) (hs : 16384 ≤ s) (d : Fin 1024) : dy (ext p) (ext g) s d = 0 := by
  have e : ext g s d = 0 := dif_neg (Nat.not_lt.mpr hs)
  rw [dy, e, zero_mul]

variable (h0 : m ((c : Thread nD τ).loc main_arg0) = tab p) (h1 : m ((c : Thread nD τ).loc main_arg1) = tab w)
  (h2 : m ((c : Thread nD τ).loc main_arg2) = tab g)
include h0 h1 h2

/-- The taps' gradient over the first rows, after a point. -/
theorem sums : ∀ (n : ℕ) (hn : n < cfg0.N), (outsAt0 m c n hn).2 = tab (acc (ext p) (ext g) (n + 1)) := by
  have a0 := (V_main_arg0 m c).trans h0
  have a2 := (V_main_arg2 m c).trans h2
  have a1 := v0 m c w h1
  intro n
  induction n with
  | zero =>
    intro hn
    have e := outsAt0_A m c ⟨0, hn⟩ rfl
    dsimp only at e
    rw [e]
    dsimp only
    rw [blk0 m c ⟨0, hn⟩ g a2, blk1 m c ⟨0, hn⟩ g a2, blk2 m c ⟨0, hn⟩ p a0, blk3 m c ⟨0, hn⟩ p a0, blk4 m c ⟨0, hn⟩ p a0, blk5 m c ⟨0, hn⟩ _ a1]
    exact outA_7 (ext w) (ext p) (ext g) c _ _ _ _ _ _ _ _ _ _ _ _ _ _ _ _ _ _ (coord ⟨0, hn⟩)
  | succ n ih =>
    intro hn
    have hN : n + 1 < 16 := lt_of_lt_of_eq hn N_0
    have e := outsAt0_B m c ⟨n + 1, hn⟩ (by show ¬(n + 1) % 16 = 0; omega)
    dsimp only [Nat.add_sub_cancel] at e
    rw [e]
    dsimp only
    have before : (outsAt0 m c (n + 1 - 1) (Nat.lt_of_le_of_lt (Nat.sub_le _ _) hn)).2 = tab (acc (ext p) (ext g) (n + 1)) := ih _
    rw [blk0 m c ⟨n + 1, hn⟩ g a2, blk1 m c ⟨n + 1, hn⟩ g a2, blk2 m c ⟨n + 1, hn⟩ p a0, blk3 m c ⟨n + 1, hn⟩ p a0, blk4 m c ⟨n + 1, hn⟩ p a0,
      blk5 m c ⟨n + 1, hn⟩ _ a1, before]
    exact outB_7 (ext w) (ext p) (ext g) (n + 1) c _ _ _ _ _ _ _ _ _ _ _ _ _ _ _ _ _ hN (coord ⟨n + 1, hn⟩) _

/-- The rows of the projected input's gradient after a point. -/
theorem tile : (outsAt0 m c t.val t.isLt).1 = tab fun (r : Fin 1024) d => dp (ext w) (ext p) (ext g) (1024 * t.val + r.val) d := by
  have a0 := (V_main_arg0 m c).trans h0
  have a2 := (V_main_arg2 m c).trans h2
  have a1 := v0 m c w h1
  have hN : t.val < 16 := lt_of_lt_of_eq t.isLt N_0
  by_cases hc : t.val % 16 = 0
  · rw [outsAt0_A m c t hc]
    dsimp only
    rw [blk0 m c t g a2, blk1 m c t g a2, blk2 m c t p a0, blk3 m c t p a0, blk4 m c t p a0, blk5 m c t _ a1]
    exact outA_6 (ext w) (ext p) (ext g) t.val c _ _ _ _ _ _ _ _ _ _ _ _ _ _ _ _ _ hN (coord t) (below p g) _
  · rw [outsAt0_B m c t hc]
    dsimp only
    rw [blk0 m c t g a2, blk1 m c t g a2, blk2 m c t p a0, blk3 m c t p a0, blk4 m c t p a0, blk5 m c t _ a1,
      sums m c p w g h0 h1 h2]
    exact outB_6 (ext w) (ext p) (ext g) t.val c _ _ _ _ _ _ _ _ _ _ _ _ _ _ _ _ _ hN (coord t) (below p g) _ _

/-- The projected input's gradient. -/
theorem final6 : (dats m 0 c).arrAt 6 cfg0.N = tab fun (r : Fin 16384) d => dp (ext w) (ext p) (ext g) r.val d := by
  refine (dats m 0 c).arrAt_eq_of_covers 6 _ (by decide +kernel) fun t hf y => ?_
  rw [after0_6, tile m c t p w g h0 h1 h2]
  refine congrArg₂ (dp (ext w) (ext p) (ext g)) ?_ (Fin.ext ?_)
  · show 1024 * t.val + (y 0).val = win0_6.index t (0 : Fin 2) * 1024 + 1 * (y 0).val
    rw [(idx6 t).1]; omega
  · show (y 1).val = win0_6.index t (1 : Fin 2) * 3072 + 1 * (y 1).val
    rw [(idx6 t).2]; omega

/-- The taps' gradient. -/
theorem final7 : (dats m 0 c).arrAt 7 cfg0.N = tab (dw (ext p) (ext g)) := by
  refine (dats m 0 c).arrAt_eq_of_covers 7 _ (by decide +kernel) fun t hf y => ?_
  have ht : t.val < 16 := lt_of_lt_of_eq t.isLt N_0
  have hm : t.val % 16 = 15 := (flush0_7 t).mp hf
  have hn : t.val + 1 = 16 := by omega
  rw [after0_7, sums m c p w g h0 h1 h2, hn, tab_ext (acc_all (ext p) (ext g))]
  refine congrArg₂ (dw (ext p) (ext g)) (Fin.ext ?_) (Fin.ext ?_)
  · show (y 0).val = win0_7.index t (0 : Fin 2) * 8 + 1 * (y 0).val
    rw [(idx7 t).1]; omega
  · show (y 1).val = win0_7.index t (1 : Fin 2) * 1024 + 1 * (y 1).val
    rw [(idx7 t).2]; omega

end Arrays

/-- From any arguments, every run of the kernel and every run of the reference end with the same two gradients. -/
theorem equal : Cert.algebraic_Kernel3Ideal_Reference3Ideal (hKernel3Ideal := Cert.Kernel3Ideal.Gen.facts)
    (hReference3Ideal := Cert.Reference3Ideal.Gen.facts) := by
  intro m g m' g' _ hargs
  refine ⟨fun c => tab fun (r : Fin 16384) d => dp (ext (ent (m ((c : Thread nD τ).loc main_arg1)))) (ext (ent (m ((c : Thread nD τ).loc main_arg0))))
      (ext (ent (m ((c : Thread nD τ).loc main_arg2)))) r.val d,
    fun c => tab (dw (ext (ent (m ((c : Thread nD τ).loc main_arg0)))) (ext (ent (m ((c : Thread nD τ).loc main_arg2))))),
    (θ_run _ _ _).mono (fun r h c => ?_) (Cert.Kernel3Ideal.Value.run_blocks m g),
    (θ_run _ _ _).mono (fun r h c => ?_) (Cert.Reference3Ideal.Value.run m' g')⟩
  · have e0 := eq_tab (m ((c : Thread nD τ).loc main_arg0))
    have e1 := eq_tab (m ((c : Thread nD τ).loc main_arg1))
    have e2 := eq_tab (m ((c : Thread nD τ).loc main_arg2))
    obtain ⟨p0, p1, rest⟩ := h c
    exact ⟨p0.trans (final6 m c _ _ _ e0 e1 e2), p1.trans (final7 m c _ _ _ e0 e1 e2), rest⟩
  · have e0 := eq_tab (m ((c : Thread nD τ).loc main_arg0))
    have e1 := eq_tab (m ((c : Thread nD τ).loc main_arg1))
    have e2 := eq_tab (m ((c : Thread nD τ).loc main_arg2))
    obtain ⟨a0, a1, a2⟩ := hargs c
    obtain ⟨p0, p1, rest⟩ := h c
    refine ⟨p0.trans ?_, p1.trans ?_, rest⟩
    · refine (Cert.Reference3Ideal.Read.val_main_v70_eq ..).trans ?_
      refine Eq.trans ?_ (Ref.v70 ..)
      rw [a0, a1, a2, ← e0, ← e1, ← e2]
    · refine (Cert.Reference3Ideal.Read.val_main_v71_eq ..).trans ?_
      refine Eq.trans ?_ (Ref.v71 ..)
      rw [a0, a2, ← e0, ← e2]

end Cert.Conv

end
-- ==== Proof.Fwd.Math.lean ====
/- The half-step feed-forward layer over the extended reals: the functions that the forward kernel's arrays and its
   reference's arrays are both read as. Sums are re-associated and nothing else, so no entry need be finite. -/
module

public import proofs.«01_k».proof.Proof.Tab

@[expose] public section

noncomputable section

open scoped BigOperators

namespace Cert.Ffn.Fwd

open Idealize.ShloMosaic

variable {n : ℕ} (x : Fin n → Fin 1024 → EReal) (gn : Fin 1024 → EReal) (wg wu : Fin 1024 → Fin 2816 → EReal)
  (wd : Fin 2816 → Fin 1024 → EReal)

/-- The mean square of a row, plus the normalisation's small number. -/
def msq (s : Fin n) : EReal := Ideal.div (∑ d, x s d * x s d) (Ideal.ofBits .f32 0x44800000#32) + Ideal.ofBits .f32 0x358637BD#32
/-- The normed input. -/
def nrm (s : Fin n) (d : Fin 1024) : EReal := x s d * Ideal.rsqrt (msq x s) * gn d
/-- A projection of the normed input. -/
def proj (w : Fin 1024 → Fin 2816 → EReal) (s : Fin n) (f : Fin 2816) : EReal := ∑ d, nrm x gn s d * w d f
/-- The hidden row. -/
def hid (s : Fin n) (f : Fin 2816) : EReal := proj x gn wg s f * Ideal.logistic (proj x gn wg s f) * proj x gn wu s f
/-- The layer's output. -/
def out (s : Fin n) (d : Fin 1024) : EReal := x s d + Ideal.ofBits .f32 0x3F000000#32 * ∑ f, hid x gn wg wu s f * wd f d

/-- Column `f` of chunk `c` of the hidden columns. -/
def col (c : ℕ) (f : Fin 256) : Fin 2816 := Fin.ofNat 2816 (256 * c + f.val)

/-- A sum over the hidden columns, chunk by chunk. -/
theorem sum_chunks (h : Fin 2816 → EReal) : ∑ f, h f
    = 0 + (∑ f, h (col 0 f)) + (∑ f, h (col 1 f)) + (∑ f, h (col 2 f)) + (∑ f, h (col 3 f)) + (∑ f, h (col 4 f)) + (∑ f, h (col 5 f))
      + (∑ f, h (col 6 f)) + (∑ f, h (col 7 f)) + (∑ f, h (col 8 f)) + (∑ f, h (col 9 f)) + ∑ f, h (col 10 f) := by
  have e : ∑ f, h f = ∑ c : Fin 11, ∑ f : Fin 256, h (col c.val f) := by
    rw [← Fintype.sum_prod_type' (f := fun (c : Fin 11) (f : Fin 256) => h (col c.val f))]
    refine (Fintype.sum_equiv (finProdFinEquiv (m := 11) (n := 256)) _ _ fun p => ?_).symm
    have e : col p.1.val p.2 = finProdFinEquiv p := by
      apply Fin.ext
      have h1 := p.1.isLt
      have h2 := p.2.isLt
      show (256 * p.1.val + p.2.val) % 2816 = p.2.val + 256 * p.1.val
      omega
    rw [e]
  rw [e, ← Finset.sum_range (fun c => ∑ f : Fin 256, h (col c f))]
  simp only [Finset.sum_range_succ, Finset.sum_range_zero]

end Cert.Ffn.Fwd

end
-- ==== Proof.Fwd.Block.lean ====
/- What one block of the forward layer's kernel computes: at 512 rows, the layer's output and its two projections, the
   hidden columns taken in eleven chunks. -/
module

public import proofs.«01_k».proof.Proof.Gen.Kernel4Ideal.Frame
public import proofs.«01_k».proof.Proof.Fwd.Math
public import Idealize.ShloMosaic.Lib.Pointwise
public import Idealize.ShloMosaic.Lib.Pipeline.Value

@[expose] public section

set_option maxRecDepth 16384

noncomputable section

open scoped BigOperators

namespace Cert.Ffn.Fwd

open Idealize.ShloMosaic Idealize.ShloMosaic.TcCoe Idealize.ShloMosaic.Tactic
open Cert.Kernel4Ideal Cert.Kernel4Ideal.Gen

private theorem hz : (![0, 0] : Fin 2 → Nat) = fun _ => 0 := funext fun a => by fin_cases a <;> rfl

variable (x : Fin 512 → Fin 1024 → EReal) (gn : Fin 1024 → EReal) (wg wu : Fin 1024 → Fin 2816 → EReal)
  (wd : Fin 2816 → Fin 1024 → EReal)

/-- A column repeated along the rows. -/
theorem spread (v : Fin 512 → EReal) (h) : broadcastTo (α := EReal) S512x1024 (tab fun k (_ : Fin 1) => v k) h = tab fun k (_ : Fin 1024) => v k := by
  funext i
  pointwise
  rfl

/-- A row repeated down the block. -/
theorem tower (v : Fin 1024 → EReal) (h) : broadcastTo (α := EReal) S512x1024 (tab fun (_ : Fin 1) d => v d) h = tab fun (_ : Fin 512) d => v d := by
  funext i
  pointwise
  rfl

/-- The row sums of a block. -/
theorem rowsum (v : Fin 512 → Fin 1024 → EReal) (h) :
    multiReduction (F := Ideal) (φ := .f32) .add [1] S512 (tab v) 0x00000000#32 h (.inl rfl) rfl = tab1 fun k => ∑ d, v k d := by
  funext i
  pointwise
  simp only [Ideal.ofBits_zero_f32, zero_add, tab_apply]
  rfl

/-- A vector as a column. -/
theorem column (v : Fin 512 → EReal) (h) : shapeCast (α := EReal) S512x1 (tab1 v) h = tab fun k (_ : Fin 1) => v k := by
  funext i
  pointwise
  rfl

/-- A product of rows with a chunk of a matrix's rows, over zeros. -/
theorem productT (p : Fin 512 → Fin 1024 → EReal) (q : Fin 256 → Fin 1024 → EReal) :
    matmul (F := Ideal) (φ₁ := .bf16) (φ₂ := .bf16) dot_S512x1024_S256x1024_S512x256_1_1_0_0_n_n none (tab p) (tab q) (constant S512x256 .f32 0x00000000#32)
    = tab fun k f => ∑ d, p k d * q f d := by
  funext i
  pointwise
  simp only [Ideal.ofBits_zero_f32, zero_add, tab_apply]
  rfl

/-- A product of rows with a chunk of a matrix, over zeros. -/
theorem productN (p : Fin 512 → Fin 256 → EReal) (q : Fin 256 → Fin 1024 → EReal) :
    matmul (F := Ideal) (φ₁ := .bf16) (φ₂ := .bf16) dot_S512x256_S256x1024_S512x1024_1_0_0_1_n_n none (tab p) (tab q) (constant S512x1024 .f32 0x00000000#32)
    = tab fun k d => ∑ f, p k f * q f d := by
  funext i
  pointwise
  simp only [Ideal.ofBits_zero_f32, zero_add, tab_apply]
  rfl

/-- The normed input. -/
theorem pay6 : k0_pay6 (F := Ideal) (tab x) (tab fun (_ : Fin 1) d => gn d) = tab (nrm x gn) := by
  unfold k0_pay6
  simp only [shapeCast_self, mul_tab]
  erw [rowsum]
  rw [column]
  have e : rsqrt (F := Ideal) (φ := .f32) (addf (divf (tab fun (k : Fin 512) (_ : Fin 1) => ∑ d, x k d * x k d)
      (broadcast S512x1 (Scalar.ofBits .f32 0x44800000#32))) (broadcast S512x1 (Scalar.ofBits .f32 0x358637BD#32)))
    = tab fun (k : Fin 512) (_ : Fin 1) => Ideal.rsqrt (msq x k) := rfl
  erw [e]
  rw [spread, tower, mul_tab, mul_tab, narrow]
  rfl

/-- A chunk of a matrix's rows. -/
theorem chunk (w : Fin 2816 → Fin 1024 → EReal) (c o : ℕ) (inb) (h : o = 256 * c) (hc : c < 11) :
    View.ld (Val := Elt Ideal) (e' := .bf16) (S := S2816x1024) (tab w) (Rect.unit (s := S2816x1024) ![o, 0] S256x1024.size inb)
    = tab fun f d => w (col c f) d := by
  funext i
  have h0 : (i 0).val < 256 := (i 0).isLt
  refine congrArg₂ w (Fin.ext ?_) (Fin.ext ?_)
  · show o + 1 * (i 0).val = (256 * c + (i 0).val) % 2816
    omega
  · show 0 + 1 * (i 1).val = (i 1).val
    omega

/-- A chunk of a block's columns, at its place in the block. -/
theorem place (g : Fin 512 → Fin 2816 → EReal) (c o : ℕ) (inb) (h : o = 256 * c) (hc : c < 11) (i) :
    (tab fun k f => g k (col c f)) i = tab g ((Rect.unit (s := S512x2816) ![0, o] S512x256.size inb).emb i) := by
  have h1 : (i 1).val < 256 := (i 1).isLt
  refine congrArg₂ g (Fin.ext ?_) (Fin.ext ?_)
  · show (i 0).val = 0 + 1 * (i 0).val
    omega
  · show (256 * c + (i 1).val) % 2816 = o + 1 * (i 1).val
    omega

/-- The first chunk of a matrix's rows. -/
theorem chunk0 (w : Fin 2816 → Fin 1024 → EReal) : View.ld (Val := Elt Ideal) (e' := .bf16) (S := S2816x1024) (tab w) r0_2 = tab fun f d => w (col 0 f) d :=
  chunk w 0 0 _ rfl (by decide)
/-- The second chunk of a matrix's rows. -/
theorem chunk1 (w : Fin 2816 → Fin 1024 → EReal) : View.ld (Val := Elt Ideal) (e' := .bf16) (S := S2816x1024) (tab w) r0_4 = tab fun f d => w (col 1 f) d :=
  chunk w 1 256 _ rfl (by decide)
/-- The third chunk of a matrix's rows. -/
theorem chunk2 (w : Fin 2816 → Fin 1024 → EReal) : View.ld (Val := Elt Ideal) (e' := .bf16) (S := S2816x1024) (tab w) r0_6 = tab fun f d => w (col 2 f) d :=
  chunk w 2 512 _ rfl (by decide)
/-- The fourth chunk of a matrix's rows. -/
theorem chunk3 (w : Fin 2816 → Fin 1024 → EReal) : View.ld (Val := Elt Ideal) (e' := .bf16) (S := S2816x1024) (tab w) r0_8 = tab fun f d => w (col 3 f) d :=
  chunk w 3 768 _ rfl (by decide)
/-- The fifth chunk of a matrix's rows. -/
theorem chunk4 (w : Fin 2816 → Fin 1024 → EReal) : View.ld (Val := Elt Ideal) (e' := .bf16) (S := S2816x1024) (tab w) r0_10 = tab fun f d => w (col 4 f) d :=
  chunk w 4 1024 _ rfl (by decide)
/-- The sixth chunk of a matrix's rows. -/
theorem chunk5 (w : Fin 2816 → Fin 1024 → EReal) : View.ld (Val := Elt Ideal) (e' := .bf16) (S := S2816x1024) (tab w) r0_12 = tab fun f d => w (col 5 f) d :=
  chunk w 5 1280 _ rfl (by decide)
/-- The seventh chunk of a matrix's rows. -/
theorem chunk6 (w : Fin 2816 → Fin 1024 → EReal) : View.ld (Val := Elt Ideal) (e' := .bf16) (S := S2816x1024) (tab w) r0_14 = tab fun f d => w (col 6 f) d :=
  chunk w 6 1536 _ rfl (by decide)
/-- The eighth chunk of a matrix's rows. -/
theorem chunk7 (w : Fin 2816 → Fin 1024 → EReal) : View.ld (Val := Elt Ideal) (e' := .bf16) (S := S2816x1024) (tab w) r0_16 = tab fun f d => w (col 7 f) d :=
  chunk w 7 1792 _ rfl (by decide)
/-- The ninth chunk of a matrix's rows. -/
theorem chunk8 (w : Fin 2816 → Fin 1024 → EReal) : View.ld (Val := Elt Ideal) (e' := .bf16) (S := S2816x1024) (tab w) r0_18 = tab fun f d => w (col 8 f) d :=
  chunk w 8 2048 _ rfl (by decide)
/-- The tenth chunk of a matrix's rows. -/
theorem chunk9 (w : Fin 2816 → Fin 1024 → EReal) : View.ld (Val := Elt Ideal) (e' := .bf16) (S := S2816x1024) (tab w) r0_20 = tab fun f d => w (col 9 f) d :=
  chunk w 9 2304 _ rfl (by decide)
/-- The eleventh chunk of a matrix's rows. -/
theorem chunk10 (w : Fin 2816 → Fin 1024 → EReal) : View.ld (Val := Elt Ideal) (e' := .bf16) (S := S2816x1024) (tab w) r0_22 = tab fun f d => w (col 10 f) d :=
  chunk w 10 2560 _ rfl (by decide)

/-- The block the kernel reads whole. -/
theorem whole (v : Fin 512 → Fin 1024 → EReal) : View.ld (Val := Elt Ideal) (e' := .f32) (S := S512x1024) (tab v) r0_0 = tab v :=
  View.ld_unit_zero hz _ _
/-- The gain's row read whole. -/
theorem wholeRow (v : Fin 1 → Fin 1024 → EReal) : View.ld (Val := Elt Ideal) (e' := .f32) (S := S1x1024) (tab v) r0_1 = tab v :=
  View.ld_unit_zero hz _ _

/-- The normed input as every chunk reads it. -/
theorem pay56 (a b c : S2816x1024.Idx → EReal) : k0_pay56 (F := Ideal) (tab x) (tab fun (_ : Fin 1) d => gn d) a b c = tab (nrm x gn) := by
  unfold k0_pay56
  rw [whole, wholeRow, pay6]

/-- The gate projection of a block. -/
theorem out6 (b c : S2816x1024.Idx → EReal) : out0_6 (F := Ideal) (tab x) (tab fun (_ : Fin 1) d => gn d) (tab fun f d => wg d f) b c
    = tab (proj x gn wg) := by
  funext y
  unfold out0_6
  refine View.canon_apply_of_pieces (Val := Elt Ideal) (tab (proj x gn wg)) _ ?_ y (cover0_6 _ _ _ _ _ _ _ _ _ _ _ y)
  simp only [k0_pay58, k0_pay60, k0_pay3, k0_pay1, k0_pay52, k0_pay50, k0_pay48, k0_pay45, k0_pay42, k0_pay40, k0_pay38, k0_pay36, k0_pay33, k0_pay31, k0_pay29, k0_pay27, k0_pay24, k0_pay22, k0_pay19, k0_pay17, k0_pay14, k0_pay12, k0_pay9, k0_pay7, k0_pay55, pay6, pay56, chunk0, chunk1, chunk2, chunk3, chunk4, chunk5, chunk6, chunk7, chunk8, chunk9, chunk10, whole, wholeRow, shapeCast_self, productT, narrow]
  intro p hp
  simp only [List.mem_cons, List.not_mem_nil, or_false] at hp
  rcases hp with rfl | rfl | rfl | rfl | rfl | rfl | rfl | rfl | rfl | rfl | rfl <;> intro i
  · exact place (proj x gn wg) 10 2560 inb_S512x2816_S512x256_0_2560 rfl (by decide) i
  · exact place (proj x gn wg) 9 2304 inb_S512x2816_S512x256_0_2304 rfl (by decide) i
  · exact place (proj x gn wg) 8 2048 inb_S512x2816_S512x256_0_2048 rfl (by decide) i
  · exact place (proj x gn wg) 7 1792 inb_S512x2816_S512x256_0_1792 rfl (by decide) i
  · exact place (proj x gn wg) 6 1536 inb_S512x2816_S512x256_0_1536 rfl (by decide) i
  · exact place (proj x gn wg) 5 1280 inb_S512x2816_S512x256_0_1280 rfl (by decide) i
  · exact place (proj x gn wg) 4 1024 inb_S512x2816_S512x256_0_1024 rfl (by decide) i
  · exact place (proj x gn wg) 3 768 inb_S512x2816_S512x256_0_768 rfl (by decide) i
  · exact place (proj x gn wg) 2 512 inb_S512x2816_S512x256_0_512 rfl (by decide) i
  · exact place (proj x gn wg) 1 256 inb_S512x2816_S512x256_0_256 rfl (by decide) i
  · exact place (proj x gn wg) 0 0 inb_S512x2816_S512x256_0_0 rfl (by decide) i

/-- The up projection of a block. -/
theorem out7 (a c : S2816x1024.Idx → EReal) : out0_7 (F := Ideal) (tab x) (tab fun (_ : Fin 1) d => gn d) a (tab fun f d => wu d f) c
    = tab (proj x gn wu) := by
  funext y
  unfold out0_7
  refine View.canon_apply_of_pieces (Val := Elt Ideal) (tab (proj x gn wu)) _ ?_ y (cover0_7 _ _ _ _ _ _ _ _ _ _ _ y)
  simp only [k0_pay57, k0_pay59, k0_pay37, k0_pay46, k0_pay2, k0_pay4, k0_pay53, k0_pay51, k0_pay49, k0_pay47, k0_pay43, k0_pay41, k0_pay39, k0_pay34, k0_pay32, k0_pay30, k0_pay28, k0_pay25, k0_pay23, k0_pay20, k0_pay18, k0_pay15, k0_pay13, k0_pay10, k0_pay8, pay6, pay56, chunk0, chunk1, chunk2, chunk3, chunk4, chunk5, chunk6, chunk7, chunk8, chunk9, chunk10, whole, wholeRow, shapeCast_self, productT, narrow]
  intro p hp
  simp only [List.mem_cons, List.not_mem_nil, or_false] at hp
  rcases hp with rfl | rfl | rfl | rfl | rfl | rfl | rfl | rfl | rfl | rfl | rfl <;> intro i
  · exact place (proj x gn wu) 10 2560 inb_S512x2816_S512x256_0_2560 rfl (by decide) i
  · exact place (proj x gn wu) 9 2304 inb_S512x2816_S512x256_0_2304 rfl (by decide) i
  · exact place (proj x gn wu) 8 2048 inb_S512x2816_S512x256_0_2048 rfl (by decide) i
  · exact place (proj x gn wu) 7 1792 inb_S512x2816_S512x256_0_1792 rfl (by decide) i
  · exact place (proj x gn wu) 6 1536 inb_S512x2816_S512x256_0_1536 rfl (by decide) i
  · exact place (proj x gn wu) 5 1280 inb_S512x2816_S512x256_0_1280 rfl (by decide) i
  · exact place (proj x gn wu) 4 1024 inb_S512x2816_S512x256_0_1024 rfl (by decide) i
  · exact place (proj x gn wu) 3 768 inb_S512x2816_S512x256_0_768 rfl (by decide) i
  · exact place (proj x gn wu) 2 512 inb_S512x2816_S512x256_0_512 rfl (by decide) i
  · exact place (proj x gn wu) 1 256 inb_S512x2816_S512x256_0_256 rfl (by decide) i
  · exact place (proj x gn wu) 0 0 inb_S512x2816_S512x256_0_0 rfl (by decide) i

/-- The layer's output at a block. -/
theorem out5 : out0_5 (F := Ideal) (tab x) (tab fun (_ : Fin 1) d => gn d) (tab fun f d => wg d f) (tab fun f d => wu d f) (tab wd)
    = tab (out x gn wg wu wd) := by
  unfold out0_5
  rw [View.canon_unit_zero (S := S512x1024) hz]
  simp only [k0_pay1, k0_pay2, k0_pay3, k0_pay4, k0_pay5, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay57, k0_pay58, k0_pay59, k0_pay60, pay6, pay56, chunk0, chunk1, chunk2, chunk3, chunk4, chunk5, chunk6, chunk7, chunk8, chunk9, chunk10, whole, wholeRow, shapeCast_self, productT, productN, logistic_tab, mul_tab, add_tab, fill_tab, narrow, Ideal.ofBits_zero_f32]
  funext i
  rw [tab_apply, tab_apply]
  refine congrArg (fun v => x (i 0) (i 1) + Ideal.ofBits .f32 0x3F000000#32 * v) ?_
  exact (sum_chunks fun f => hid x gn wg wu (i 0) f * wd f (i 1)).symm

end Cert.Ffn.Fwd

end
-- ==== Proof.Fwd.Ref.lean ====
/- What the forward layer's reference computes: each of its results is the function of `Math.lean`. -/
module

public import proofs.«01_k».proof.Proof.Gen.Reference4Ideal.Read
public import proofs.«01_k».proof.Proof.Fwd.Math

@[expose] public section

noncomputable section

open scoped BigOperators

namespace Cert.Ffn.Fwd.Ref

open Idealize.ShloMosaic Cert.Reference4Ideal Cert.Reference4Ideal.Read

variable (x : Fin 16384 → Fin 1024 → EReal) (gn : Fin 1024 → EReal) (wg wu : Fin 1024 → Fin 2816 → EReal)
  (wd : Fin 2816 → Fin 1024 → EReal)

/-- The normed input the two projections read. -/
theorem v12 : val_main_v12 (F := Ideal) (tab x) (tab1 gn) = tab (nrm x gn) := by
  funext i
  rw [val_main_v12_apply, val_main_v9_apply, val_main_v8_apply, val_main_v7_apply, val_main_v6_apply, val_main_v4_apply,
    val_main_v2_apply, val_main_v1_apply, val_main_v3_apply, val_main_v5_apply, val_main_cst_apply, val_main_cst_0_apply,
    val_main_cst_1_apply, val_main_v11_apply, val_main_v10_apply]
  simp only [val_main_v0_apply, Ideal.ofBits_def, Ideal.ofBits_zero_f32, zero_add, Ideal.mulf_def,
    Ideal.addf_def, Ideal.hostDivf_def, Ideal.hostUnary_rsqrt_def]
  rfl

/-- The normed input the layer reads. -/
theorem v25 : val_main_v25 (F := Ideal) (tab x) (tab1 gn) = tab (nrm x gn) := by
  funext i
  rw [val_main_v25_apply, val_main_v22_apply, val_main_v21_apply, val_main_v20_apply, val_main_v19_apply, val_main_v17_apply,
    val_main_v15_apply, val_main_v14_apply, val_main_v16_apply, val_main_v18_apply, val_main_cst_2_apply, val_main_cst_3_apply,
    val_main_cst_4_apply, val_main_v24_apply, val_main_v23_apply]
  simp only [val_main_v13_apply, Ideal.ofBits_def, Ideal.ofBits_zero_f32, zero_add, Ideal.mulf_def,
    Ideal.addf_def, Ideal.hostDivf_def, Ideal.hostUnary_rsqrt_def]
  rfl

/-- The gate projection. -/
theorem v35 : val_main_v35 (F := Ideal) (tab x) (tab1 gn) (tab wg) = tab (proj x gn wg) := by
  funext i
  rw [val_main_v35_apply, val_main_v34_apply, v12]
  rfl

/-- The up projection. -/
theorem v37 : val_main_v37 (F := Ideal) (tab x) (tab1 gn) (tab wu) = tab (proj x gn wu) := by
  funext i
  rw [val_main_v37_apply, val_main_v36_apply, v12]
  rfl

/-- The gate projection inside the layer. -/
theorem v26 : val_main_v26 (F := Ideal) (tab x) (tab1 gn) (tab wg) = tab (proj x gn wg) := by
  funext i
  rw [val_main_v26_apply, v25]
  rfl

/-- The hidden rows. -/
theorem v29 : val_main_v29 (F := Ideal) (tab x) (tab1 gn) (tab wg) (tab wu) = tab (hid x gn wg wu) := by
  funext i
  rw [val_main_v29_apply, val_main_v28_apply, v25, val_main_v27_apply, val_main_call0_v5_apply, val_main_call0_v4_apply,
    val_main_call0_v3_apply, val_main_call0_v2_apply, val_main_call0_v1_apply, val_main_call0_v0_apply,
    val_main_call0_cst_0_apply, val_main_call0_cst_apply, v26]
  simp only [Ideal.ofBits_def, Ideal.ofBits_one_f32, Ideal.addf_def, Ideal.mulf_def, Ideal.hostDivf_def, Ideal.hostUnary_exp_def]
  rfl

/-- The layer's output. -/
theorem v33 : val_main_v33 (F := Ideal) (tab x) (tab1 gn) (tab wg) (tab wu) (tab wd) = tab (out x gn wg wu wd) := by
  funext i
  rw [val_main_v33_apply, val_main_v32_apply, val_main_v31_apply, val_main_cst_5_apply, val_main_v30_apply, v29]
  simp only [Ideal.ofBits_def, Ideal.addf_def, Ideal.mulf_def]
  rfl

end Cert.Ffn.Fwd.Ref

end
-- ==== Proof.Fwd.Result.lean ====
/- The forward layer's kernel ends with the layer's output and its two projections, and so does the reference. -/
module

public import proofs.«01_k».proof.Defs
public import proofs.«01_k».proof.Proof.Gen.Kernel4Ideal.Value
public import proofs.«01_k».proof.Proof.Gen.Reference4Ideal.Run
public import proofs.«01_k».proof.Proof.Fwd.Block
public import proofs.«01_k».proof.Proof.Fwd.Ref
public import Idealize.ShloMosaic.Lib.Claim
public import Idealize.ShloMosaic.Lib.Pointwise
public import Idealize.ShloMosaic.Lib.Pipeline.ValueKit.Geometry

@[expose] public section

set_option maxRecDepth 16384

noncomputable section

namespace Cert.Ffn.Fwd

open Idealize.ShloMosaic Idealize.ShloMosaic.TcCoe Idealize.ShloMosaic.Tactic Idealize.SL.Sem
open Cert.Kernel4Ideal Cert.Kernel4Ideal.Gen Cert.Kernel4Ideal.Value

/-- Row `k` of row tile `n`. -/
def row (n : ℕ) (k : Fin 512) : Fin 16384 := Fin.ofNat 16384 (512 * n + k.val)

/-- Rows of a tile, at the place its block has in the array. -/
theorem spot {w : ℕ} (M : Fin 16384 → Fin w → EReal) (n : ℕ) (k : Fin 512) (d : Fin w) (i : Fin 16384) (j : Fin w)
    (hi : i.val = n * 512 + 1 * k.val) (hj : j.val = 0 * w + 1 * d.val) : M (row n k) d = M i j := by
  have e : row n k = i := by
    apply Fin.ext
    have := i.isLt
    show (512 * n + k.val) % 16384 = i.val
    omega
  have f : d = j := by apply Fin.ext; omega
  rw [e, f]

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = t.val ∧ win0_6.index t (1 : Fin 2) = 0 := by decide +kernel
theorem idx7 : ∀ t : Fin grid0.N, win0_7.index t (0 : Fin 2) = t.val ∧ win0_7.index t (1 : Fin 2) = 0 := by decide +kernel

section Arrays

variable (m : (ℓ : Loc nD τ sig) → Buf (Elt Ideal) ℓ) (c : Dev nD) (t : Fin cfg0.N)
variable (x : Fin 16384 → Fin 1024 → EReal) (gn : Fin 1024 → EReal) (wg wu : Fin 1024 → Fin 2816 → EReal)
  (wd : Fin 2816 → Fin 1024 → EReal)

/-- A transposed matrix. -/
theorem flip (w : Fin 1024 → Fin 2816 → EReal) :
    transpose (α := EReal) S2816x1024 [1, 0] (tab w) transposes_S1024x2816_S2816x1024_1_0 = tab fun f d => w d f := by
  funext i
  pointwise
  rfl

/-- The transposed gate weights. -/
theorem v1 (hw : m ((c : Thread nD τ).loc main_arg2) = tab wg) : V m c main_v1 = tab fun f d => wg d f := by
  have e : V m c main_v1 = transpose (α := EReal) S2816x1024 [1, 0] (m ((c : Thread nD τ).loc main_arg2)) transposes_S1024x2816_S2816x1024_1_0 := by
    dsimp only [V, hostOps0]
    after_results
    rfl
  rw [e, hw, flip]

/-- The transposed up weights. -/
theorem v3 (hw : m ((c : Thread nD τ).loc main_arg3) = tab wu) : V m c main_v3 = tab fun f d => wu d f := by
  have e : V m c main_v3 = transpose (α := EReal) S2816x1024 [1, 0] (m ((c : Thread nD τ).loc main_arg3)) transposes_S1024x2816_S2816x1024_1_0 := by
    dsimp only [V, hostOps0]
    after_results
    rfl
  rw [e, hw, flip]

/-- The down weights. -/
theorem v4 (hw : m ((c : Thread nD τ).loc main_arg4) = tab wd) : V m c main_v4 = tab wd := by
  have e : V m c main_v4 = m ((c : Thread nD τ).loc main_arg4) := by
    dsimp only [V, hostOps0]
    after_results
    rfl
  rw [e, hw]

/-- The gain as a row. -/
theorem v5 (hg : m ((c : Thread nD τ).loc main_arg1) = tab1 gn) : V m c main_v5 = tab fun (_ : Fin 1) d => gn d := by
  have e : V m c main_v5 = shapeCast (α := EReal) S1x1024 (m ((c : Thread nD τ).loc main_arg1)) shapeCasts_S1024_S1x1024 := by
    dsimp only [V, hostOps0]
    after_results
    rfl
  rw [e, hg]
  funext i
  pointwise
  rfl

/-- The input block of a point. -/
theorem blk0 (M : Fin 16384 → Fin 1024 → EReal) (h : V m c main_arg0 = tab M) : iblk m c 0 t = tab fun k d => M (row t.val k) d := by
  funext i
  unfold iblk
  rw [View.read_apply]
  show V m c main_arg0 _ = _
  rw [h]
  refine (spot M t.val _ _ _ _ ?_ ?_).symm
  · show win0_0.index t (0 : Fin 2) * 512 + 1 * (i 0).val = _
    rw [(idx0 t).1]
  · show win0_0.index t (1 : Fin 2) * 1024 + 1 * (i 1).val = _
    rw [(idx0 t).2]

/-- The gain row at a point. -/
theorem blk1 (M : Fin 1 → Fin 1024 → EReal) (h : V m c main_v5 = tab M) : iblk m c 1 t = tab M := by
  funext i
  unfold iblk
  rw [View.read_apply]
  show V m c main_v5 _ = _
  rw [h]
  refine congrArg₂ M (Fin.ext ?_) (Fin.ext ?_)
  · show win0_1.index t (0 : Fin 2) * 1 + 1 * (i 0).val = (i 0).val
    rw [(idx1 t).1]; omega
  · show win0_1.index t (1 : Fin 2) * 1024 + 1 * (i 1).val = (i 1).val
    rw [(idx1 t).2]; omega

/-- The gate weights at a point. -/
theorem blk2 (M : Fin 2816 → Fin 1024 → EReal) (h : V m c main_v1 = tab M) : iblk m c 2 t = tab M := by
  funext i
  unfold iblk
  rw [View.read_apply]
  show V m c main_v1 _ = _
  rw [h]
  refine congrArg₂ M (Fin.ext ?_) (Fin.ext ?_)
  · show win0_2.index t (0 : Fin 2) * 2816 + 1 * (i 0).val = (i 0).val
    rw [(idx2 t).1]; omega
  · show win0_2.index t (1 : Fin 2) * 1024 + 1 * (i 1).val = (i 1).val
    rw [(idx2 t).2]; omega

/-- The up weights at a point. -/
theorem blk3 (M : Fin 2816 → Fin 1024 → EReal) (h : V m c main_v3 = tab M) : iblk m c 3 t = tab M := by
  funext i
  unfold iblk
  rw [View.read_apply]
  show V m c main_v3 _ = _
  rw [h]
  refine congrArg₂ M (Fin.ext ?_) (Fin.ext ?_)
  · show win0_3.index t (0 : Fin 2) * 2816 + 1 * (i 0).val = (i 0).val
    rw [(idx3 t).1]; omega
  · show win0_3.index t (1 : Fin 2) * 1024 + 1 * (i 1).val = (i 1).val
    rw [(idx3 t).2]; omega

/-- The down weights at a point. -/
theorem blk4 (M : Fin 2816 → Fin 1024 → EReal) (h : V m c main_v4 = tab M) : iblk m c 4 t = tab M := by
  funext i
  unfold iblk
  rw [View.read_apply]
  show V m c main_v4 _ = _
  rw [h]
  refine congrArg₂ M (Fin.ext ?_) (Fin.ext ?_)
  · show win0_4.index t (0 : Fin 2) * 2816 + 1 * (i 0).val = (i 0).val
    rw [(idx4 t).1]; omega
  · show win0_4.index t (1 : Fin 2) * 1024 + 1 * (i 1).val = (i 1).val
    rw [(idx4 t).2]; omega

variable (h0 : m ((c : Thread nD τ).loc main_arg0) = tab x) (h1 : m ((c : Thread nD τ).loc main_arg1) = tab1 gn)
  (h2 : m ((c : Thread nD τ).loc main_arg2) = tab wg) (h3 : m ((c : Thread nD τ).loc main_arg3) = tab wu)
  (h4 : m ((c : Thread nD τ).loc main_arg4) = tab wd)
include h0 h1

section Output
include h2 h3 h4

/-- The layer's output. -/
theorem final5 : (dats m 0 c).arrAt 5 cfg0.N = tab (out x gn wg wu wd) := by
  refine (dats m 0 c).arrAt_eq_of_covers 5 _ (by decide +kernel) fun t hf y => ?_
  rw [after0_5, blk0 m c t x ((V_main_arg0 m c).trans h0), blk1 m c t _ (v5 m c gn h1), blk2 m c t _ (v1 m c wg h2),
    blk3 m c t _ (v3 m c wu h3), blk4 m c t _ (v4 m c wd h4), out5]
  refine spot (out x gn wg wu wd) t.val _ _ _ _ ?_ ?_
  · show win0_5.index t (0 : Fin 2) * 512 + 1 * (y 0).val = _
    rw [(idx5 t).1]
  · show win0_5.index t (1 : Fin 2) * 1024 + 1 * (y 1).val = _
    rw [(idx5 t).2]

end Output

section Gate
include h2

/-- The gate projection. -/
theorem final6 : (dats m 0 c).arrAt 6 cfg0.N = tab (proj x gn wg) := by
  refine (dats m 0 c).arrAt_eq_of_covers 6 _ (by decide +kernel) fun t hf y => ?_
  rw [after0_6, blk0 m c t x ((V_main_arg0 m c).trans h0), blk1 m c t _ (v5 m c gn h1), blk2 m c t _ (v1 m c wg h2), out6]
  refine spot (proj x gn wg) t.val _ _ _ _ ?_ ?_
  · show win0_6.index t (0 : Fin 2) * 512 + 1 * (y 0).val = _
    rw [(idx6 t).1]
  · show win0_6.index t (1 : Fin 2) * 2816 + 1 * (y 1).val = _
    rw [(idx6 t).2]

end Gate

section Up
include h3

/-- The up projection. -/
theorem final7 : (dats m 0 c).arrAt 7 cfg0.N = tab (proj x gn wu) := by
  refine (dats m 0 c).arrAt_eq_of_covers 7 _ (by decide +kernel) fun t hf y => ?_
  rw [after0_7, blk0 m c t x ((V_main_arg0 m c).trans h0), blk1 m c t _ (v5 m c gn h1), blk3 m c t _ (v3 m c wu h3), out7]
  refine spot (proj x gn wu) t.val _ _ _ _ ?_ ?_
  · show win0_7.index t (0 : Fin 2) * 512 + 1 * (y 0).val = _
    rw [(idx7 t).1]
  · show win0_7.index t (1 : Fin 2) * 2816 + 1 * (y 1).val = _
    rw [(idx7 t).2]

end Up

end Arrays

/-- From any arguments, every run of the kernel and every run of the reference end with the same three arrays. -/
theorem equal : Cert.algebraic_Kernel4Ideal_Reference4Ideal (hKernel4Ideal := Cert.Kernel4Ideal.Gen.facts)
    (hReference4Ideal := Cert.Reference4Ideal.Gen.facts) := by
  intro m g m' g' _ hargs
  refine ⟨fun c => tab (out (ent (m ((c : Thread nD τ).loc main_arg0))) (ent1 (m ((c : Thread nD τ).loc main_arg1))) (ent (m ((c : Thread nD τ).loc main_arg2)))
      (ent (m ((c : Thread nD τ).loc main_arg3))) (ent (m ((c : Thread nD τ).loc main_arg4)))),
    fun c => tab (proj (ent (m ((c : Thread nD τ).loc main_arg0))) (ent1 (m ((c : Thread nD τ).loc main_arg1))) (ent (m ((c : Thread nD τ).loc main_arg2)))),
    fun c => tab (proj (ent (m ((c : Thread nD τ).loc main_arg0))) (ent1 (m ((c : Thread nD τ).loc main_arg1))) (ent (m ((c : Thread nD τ).loc main_arg3)))),
    (θ_run _ _ _).mono (fun r h c => ?_) (Cert.Kernel4Ideal.Value.run_blocks m g),
    (θ_run _ _ _).mono (fun r h c => ?_) (Cert.Reference4Ideal.Value.run m' g')⟩
  · have e0 := eq_tab (m ((c : Thread nD τ).loc main_arg0))
    have e1 := eq_tab1 (m ((c : Thread nD τ).loc main_arg1))
    have e2 := eq_tab (m ((c : Thread nD τ).loc main_arg2))
    have e3 := eq_tab (m ((c : Thread nD τ).loc main_arg3))
    have e4 := eq_tab (m ((c : Thread nD τ).loc main_arg4))
    obtain ⟨p0, p1, p2, rest⟩ := h c
    exact ⟨p0.trans (final5 m c _ _ _ _ _ e0 e1 e2 e3 e4), p1.trans (final6 m c _ _ _ e0 e1 e2),
      p2.trans (final7 m c _ _ _ e0 e1 e3), rest⟩
  · have e0 := eq_tab (m ((c : Thread nD τ).loc main_arg0))
    have e1 := eq_tab1 (m ((c : Thread nD τ).loc main_arg1))
    have e2 := eq_tab (m ((c : Thread nD τ).loc main_arg2))
    have e3 := eq_tab (m ((c : Thread nD τ).loc main_arg3))
    have e4 := eq_tab (m ((c : Thread nD τ).loc main_arg4))
    obtain ⟨a0, a1, a2, a3, a4⟩ := hargs c
    obtain ⟨p0, p1, p2, rest⟩ := h c
    refine ⟨p0.trans ?_, p1.trans ?_, p2.trans ?_, rest⟩
    · refine (Cert.Reference4Ideal.Read.val_main_v33_eq ..).trans ?_
      refine Eq.trans ?_ (Ref.v33 ..)
      rw [a0, a1, a2, a3, a4, ← e0, ← e1, ← e2, ← e3, ← e4]
    · refine (Cert.Reference4Ideal.Read.val_main_v35_eq ..).trans ?_
      refine Eq.trans ?_ (Ref.v35 ..)
      rw [a0, a1, a2, ← e0, ← e1, ← e2]
    · refine (Cert.Reference4Ideal.Read.val_main_v37_eq ..).trans ?_
      refine Eq.trans ?_ (Ref.v37 ..)
      rw [a0, a1, a3, ← e0, ← e1, ← e3]

end Cert.Ffn.Fwd

end
-- ==== Proof.InBwd.Math.lean ====
/- The gradient of a normalised row over the extended reals: the kernel's closed form is the sum of the reference's terms.
   A row whose squares add up to a real number has real entries, and the reciprocal root is then a positive real number, over
   which every sum distributes. Otherwise the reciprocal root is zero, and so is every term but the cotangent that passes by. -/
module

public import proofs.«01_k».proof.Proof.Fwd.Math
public import proofs.«01_k».proof.Proof.Ffn
public import proofs.«01_k».proof.Proof.Tab

@[expose] public section

noncomputable section

open scoped BigOperators

namespace Cert.InBwd

open Idealize.ShloMosaic Cert.Ffn Cert.Ffn.Fwd

/-- A vector reshaped to one row. -/
theorem line_at (g : Fin 1024 → EReal) (j : (⟨1, ![1024]⟩ : Shape).Idx) (i : (⟨2, ![1, 1024]⟩ : Shape).Idx)
    (h : (j 0).val = (i 0).val * 1024 + (i 1).val) : tab1 g j = tab (fun (_ : Fin 1) d => g d) i := by
  have h0 : (i 0).val < 1 := (i 0).isLt
  exact congrArg g (Fin.ext (by omega))

/-- A vector reshaped to one column. -/
theorem column_at {n : ℕ} (g : Fin n → EReal) (j : (⟨1, ![n]⟩ : Shape).Idx) (i : (⟨2, ![n, 1]⟩ : Shape).Idx)
    (h : (j 0).val = (i 0).val * 1 + (i 1).val) : tab1 g j = tab (fun s (_ : Fin 1) => g s) i := by
  have h1 : (i 1).val < 1 := (i 1).isLt
  exact congrArg g (Fin.ext (by omega))

/-- A nonnegative real factor goes into a sum of extended reals. -/
theorem real_mul_sum {ι : Type*} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

/-- A square is not negative. -/
theorem sq_nonneg' (a : EReal) : 0 ≤ a * a := by
  induction a with
  | bot => simp
  | top => simp
  | coe a => exact_mod_cast mul_self_nonneg a

/-- A row whose squares' sum is not plus infinity has real entries. -/
theorem real_of_sum {n : ℕ} (x : Fin n → EReal) (h : ∑ d, x d * x d ≠ ⊤) (d : Fin n) : ((x d).toReal : EReal) = x d := by
  have le : x d * x d ≤ ∑ d, x d * x d := Finset.single_le_sum (f := fun d => x d * x d) (fun i _ => sq_nonneg' (x i)) (Finset.mem_univ d)
  refine EReal.coe_toReal ?_ ?_
  · intro e
    rw [e] at le
    exact h (top_le_iff.1 (by simpa using le))
  · intro e
    rw [e] at le
    exact h (top_le_iff.1 (by simpa using le))

/-- The normed input's cotangent: the projection's, times the weights, transposed. -/
def dh {n b : ℕ} (p : Fin n → Fin b → EReal) (w : Fin 1024 → Fin b → EReal) (s : Fin n) (d : Fin 1024) : EReal := ∑ f, p s f * w d f
/-- The same, times the gain. -/
def cot {n b : ℕ} (p : Fin n → Fin b → EReal) (w : Fin 1024 → Fin b → EReal) (gn : Fin 1024 → EReal) (s : Fin n) (d : Fin 1024) : EReal := dh p w s d * gn d
/-- A row's share of the gain's gradient. -/
def share {n b : ℕ} (x : Fin n → Fin 1024 → EReal) (p : Fin n → Fin b → EReal) (w : Fin 1024 → Fin b → EReal) (s : Fin n) (d : Fin 1024) : EReal :=
  dh p w s d * (x s d * Ideal.rsqrt (msq x s))

/-- Row `k` of row tile `n`. -/
def row (n : ℕ) (k : Fin 512) : Fin 16384 := Fin.ofNat 16384 (512 * n + k.val)

section Gain

variable {b : ℕ} (x : Fin 16384 → Fin 1024 → EReal) (p : Fin 16384 → Fin b → EReal) (w : Fin 1024 → Fin b → EReal)

/-- The gain's gradient. -/
def dgn (d : Fin 1024) : EReal := ∑ s, share x p w s d
/-- The gain's gradient over the first `n` row tiles. -/
def part (n : ℕ) (d : Fin 1024) : EReal := ∑ j ∈ Finset.range n, ∑ k : Fin 512, share x p w (row j k) d

theorem part_zero (d : Fin 1024) : part x p w 0 d = 0 := by
  rw [part, Finset.sum_range_zero]

theorem part_succ (n : ℕ) (d : Fin 1024) : part x p w n d + ∑ k : Fin 512, share x p w (row n k) d = part x p w (n + 1) d := by
  rw [part, part, Finset.sum_range_succ]

/-- All row tiles together are all rows. -/
theorem part_all (d : Fin 1024) : part x p w 32 d = dgn x p w d := by
  rw [part, dgn, Finset.sum_range, ← Fintype.sum_prod_type' (f := fun (j : Fin 32) (k : Fin 512) => share x p w (row j.val k) d)]
  rw [← Equiv.sum_comp (finProdFinEquiv (m := 32) (n := 512)) (fun s => share x p w s d)]
  refine Finset.sum_congr rfl fun q _ => congrArg (fun s => share x p w s d) (Fin.ext ?_)
  show (512 * q.1.val + q.2.val) % 16384 = q.2.val + 512 * q.1.val
  have := q.1.isLt; have := q.2.isLt; omega

end Gain

variable {n : ℕ} (x G res : Fin n → Fin 1024 → EReal)

/-- The row's product with the scaled cotangent, as the kernel computes it. -/
def kdot (s : Fin n) : EReal := ∑ d, G s d * (x s d * Ideal.rsqrt (msq x s))
/-- The kernel's gradient. -/
def kdx (s : Fin n) (d : Fin 1024) : EReal :=
  res s d + Ideal.rsqrt (msq x s) * (G s d - x s d * Ideal.rsqrt (msq x s) * Ideal.div (kdot x G s) (Ideal.ofBits .f32 0x44800000#32))
/-- The mean's cotangent, as the reference computes it. -/
def rmean (s : Fin n) : EReal :=
  Ideal.div ((∑ d, x s d * G s d) * (Ideal.ofBits .f32 0xBF000000#32 * Ideal.div (Ideal.rsqrt (msq x s)) (msq x s))) (Ideal.ofBits .f32 0x44800000#32)
/-- The reference's gradient. -/
def rdx (s : Fin n) (d : Fin 1024) : EReal :=
  res s d + G s d * Ideal.rsqrt (msq x s) + x s d * rmean x G s + rmean x G s * x s d

/-- The 32-bit pattern of minus a half. -/
theorem neg_half_f32 : Ideal.ofBits .f32 0xBF000000#32 = ((-(1 / 2) : ℝ) : EReal) := by
  simp [Ideal.ofBits, Ideal.ieee, -EReal.coe_mul]; norm_num

/-- The same identity with the reciprocal root and the mean as real numbers. -/
theorem real_row (a : ℝ) (M : ℝ) (hM : 0 < M) (g Q q : EReal) :
    q + ((Real.sqrt M)⁻¹ : ℝ) * (g - (a : EReal) * ((Real.sqrt M)⁻¹ : ℝ) * Ideal.div (((Real.sqrt M)⁻¹ : ℝ) * Q) ((1024 : ℝ) : EReal))
    = q + g * ((Real.sqrt M)⁻¹ : ℝ)
      + (a : EReal) * Ideal.div (Q * (((-(1 / 2) : ℝ) : EReal) * Ideal.div (((Real.sqrt M)⁻¹ : ℝ) : EReal) (M : EReal))) ((1024 : ℝ) : EReal)
      + Ideal.div (Q * (((-(1 / 2) : ℝ) : EReal) * Ideal.div (((Real.sqrt M)⁻¹ : ℝ) : EReal) (M : EReal))) ((1024 : ℝ) : EReal) * (a : EReal) := by
  have hr : 0 ≤ (Real.sqrt M)⁻¹ := inv_nonneg.2 (Real.sqrt_nonneg M)
  have hrr : (Real.sqrt M)⁻¹ * (Real.sqrt M)⁻¹ = 1 / M := by
    rw [← mul_inv, Real.mul_self_sqrt hM.le, one_div]
  generalize (Real.sqrt M)⁻¹ = r at hr hrr
  rw [EReal.mul_sub_of_nonneg_of_ne_top (EReal.coe_nonneg.2 hr) (EReal.coe_ne_top r), Ideal.div_coe (by norm_num), Ideal.div_coe (by norm_num),
    Ideal.div_coe hM.ne', sub_eq_add_neg, add_assoc (q + g * (r : EReal)), add_assoc q, mul_comm g]
  refine congrArg (fun z => q + z) (congrArg (fun z => (r : EReal) * g + z) ?_)
  have e1 : -((r : EReal) * ((a : EReal) * (r : EReal) * ((r : EReal) * Q * ((1 / 1024 : ℝ) : EReal)))) = ((-(r * (a * r) * r * (1 / 1024)) : ℝ) : EReal) * Q := by
    rw [EReal.coe_neg, neg_mul, EReal.coe_mul, EReal.coe_mul, EReal.coe_mul, EReal.coe_mul]
    exact congrArg Neg.neg (by ac_rfl)
  have e2 : (a : EReal) * (Q * (((-(1 / 2) : ℝ) : EReal) * ((r : EReal) * ((1 / M : ℝ) : EReal))) * ((1 / 1024 : ℝ) : EReal))
      = ((a * (-(1 / 2) * (r * (1 / M))) * (1 / 1024) : ℝ) : EReal) * Q := by
    rw [EReal.coe_mul, EReal.coe_mul, EReal.coe_mul, EReal.coe_mul]
    ac_rfl
  have e3 : (Q * (((-(1 / 2) : ℝ) : EReal) * ((r : EReal) * ((1 / M : ℝ) : EReal))) * ((1 / 1024 : ℝ) : EReal)) * (a : EReal)
      = ((a * (-(1 / 2) * (r * (1 / M))) * (1 / 1024) : ℝ) : EReal) * Q := by
    rw [mul_comm, e2]
  rw [e1, e2, e3]
  have two : ∀ z : EReal, z + z = ((2 : ℝ) : EReal) * z := by
    intro z
    have e : ((2 : ℝ) : EReal) = 1 + 1 := by norm_cast
    rw [e, EReal.right_distrib_of_nonneg zero_le_one zero_le_one, one_mul]
  rw [two]
  refine Eq.trans ?_ (mul_assoc _ _ _)
  rw [← EReal.coe_mul]
  refine congrArg (fun z : ℝ => (z : EReal) * Q) ?_
  rw [← hrr]
  ring

/-- The kernel's gradient is the reference's. -/
theorem kdx_eq (s : Fin n) (d : Fin 1024) : kdx x G res s d = rdx x G res s d := by
  unfold kdx rdx rmean kdot
  by_cases h : ∑ d, x s d * x s d = ⊤
  · have e : msq x s = ⊤ := by
      unfold msq
      rw [h, width_f32, eps_f32, Ideal.div_coe (by norm_num), EReal.top_mul_coe_of_pos (by norm_num), EReal.top_add_coe]
    have z : Ideal.div 0 (⊤ : EReal) = 0 := by
      rw [Ideal.div, if_neg (by simp), zero_mul]
    have w : Ideal.div 0 (((1024 : ℝ) : EReal)) = 0 := by
      rw [Ideal.div_coe (by norm_num), zero_mul]
    simp only [e, Ideal.rsqrt_top, width_f32, z, mul_zero, zero_mul, w, add_zero]
  · have hx := real_of_sum (x s) h
    have hM : ∃ M : ℝ, 0 < M ∧ msq x s = (M : EReal) := by
      refine ⟨(∑ d, (x s d).toReal * (x s d).toReal) * (1 / 1024) + eps,
        add_pos_of_nonneg_of_pos (mul_nonneg (Finset.sum_nonneg fun d _ => mul_self_nonneg _) (by norm_num)) eps_pos, ?_⟩
      have e : ∑ d, x s d * x s d = ((∑ d, (x s d).toReal * (x s d).toReal : ℝ) : EReal) := by
        rw [← coe_sum]
        refine Finset.sum_congr rfl fun d _ => ?_
        rw [EReal.coe_mul, hx d]
      unfold msq
      rw [e, width_f32, eps_f32, div_width, ← EReal.coe_add]
    obtain ⟨M, pos, e⟩ := hM
    have er : Ideal.rsqrt (msq x s) = (((Real.sqrt M)⁻¹ : ℝ) : EReal) := by
      rw [e, Ideal.rsqrt_coe, if_neg (not_lt.2 pos.le), if_neg pos.ne']
    have sum : ∑ d, G s d * (x s d * Ideal.rsqrt (msq x s)) = (((Real.sqrt M)⁻¹ : ℝ) : EReal) * ∑ d, x s d * G s d := by
      rw [real_mul_sum _ _ (inv_nonneg.2 (Real.sqrt_nonneg M)), er]
      refine Finset.sum_congr rfl fun d _ => ?_
      ac_rfl
    rw [sum, er, e, width_f32, neg_half_f32, ← hx d]
    exact real_row _ M pos _ _ _

end Cert.InBwd

end
-- ==== Proof.InBwd.Block.lean ====
/- The gradient through the convolution mixer's input projection and norm: what one grid point leaves in each output block, from
   the point's input blocks. The gain's gradient adds to zeros at the first point and to what the point before left at the others. -/
module

public import proofs.«01_k».proof.Proof.Gen.Kernel5Ideal.Frame
public import proofs.«01_k».proof.Proof.Tab
public import proofs.«01_k».proof.Proof.InBwd.Math
public import Idealize.ShloMosaic.Lib.Pointwise
public import Idealize.ShloMosaic.Lib.Pipeline.Value

@[expose] public section

set_option maxRecDepth 16384

noncomputable section

open scoped BigOperators

namespace Cert.InBwd

open Idealize.ShloMosaic Idealize.ShloMosaic.TcCoe Idealize.ShloMosaic.Tactic
open Cert.Ffn (tab tab1 tab_apply tab1_apply mul_tab add_tab)
open Cert.Ffn.Fwd (msq)
open Cert.Kernel5Ideal Cert.Kernel5Ideal.Gen

private theorem hz : (![0, 0] : Fin 2 → Nat) = fun _ => 0 := funext fun a => by fin_cases a <;> rfl

/-- A column repeated along the rows. -/
theorem spread (v : Fin 512 → EReal) (h) : broadcastTo (α := EReal) S512x1024 (tab fun k (_ : Fin 1) => v k) h = tab fun k (_ : Fin 1024) => v k := by
  funext i
  pointwise
  rfl

/-- A row repeated down the block. -/
theorem tower (v : Fin 1024 → EReal) (h) : broadcastTo (α := EReal) S512x1024 (tab fun (_ : Fin 1) d => v d) h = tab fun (_ : Fin 512) d => v d := by
  funext i
  pointwise
  rfl

/-- The row sums of a block. -/
theorem rowsum (v : Fin 512 → Fin 1024 → EReal) (h) :
    multiReduction (F := Ideal) (φ := .f32) .add [1] S512 (tab v) 0x00000000#32 h (.inl rfl) rfl = tab1 fun k => ∑ d, v k d := by
  funext i
  pointwise
  simp only [Ideal.ofBits_zero_f32, zero_add, tab_apply]
  rfl

/-- A vector as a column. -/
theorem column (v : Fin 512 → EReal) (h) : shapeCast (α := EReal) S512x1 (tab1 v) h = tab fun k (_ : Fin 1) => v k := by
  funext i
  pointwise
  rfl

/-- The column sums of a block, as a row. -/
theorem colsum (v : Fin 512 → Fin 1024 → EReal) (h h') :
    shapeCast (α := EReal) S1x1024 (multiReduction (F := Ideal) (φ := .f32) .add [0] S1024 (tab v) 0x00000000#32 h (.inl rfl) rfl) h'
    = tab fun (_ : Fin 1) d => ∑ k, v k d := by
  funext i
  pointwise
  simp only [Ideal.ofBits_zero_f32, zero_add, tab_apply]
  rfl

variable (x res : Fin 512 → Fin 1024 → EReal) (gn : Fin 1024 → EReal) (p : Fin 512 → Fin 3072 → EReal) (w : Fin 1024 → Fin 3072 → EReal)

/-- The gain's gradient starts at zero. -/
theorem pay2 : k0_pay2 (F := Ideal) = tab fun _ _ => 0 := by
  unfold k0_pay2
  funext i
  exact Ideal.ofBits_zero_f32

/-- The normed rows' cotangent. -/
theorem pay3 : k0_pay3 (F := Ideal) (tab p) (tab fun f d => w d f) = tab (dh p w) := by
  unfold k0_pay3
  simp only [shapeCast_self]
  funext i
  pointwise
  simp only [Ideal.ofBits_zero_f32, zero_add, tab_apply]
  rfl

/-- The rows' reciprocal roots. -/
theorem pay4 : k0_pay4 (F := Ideal) (tab x) = tab fun k (_ : Fin 1) => Ideal.rsqrt (msq x k) := by
  unfold k0_pay4
  simp only [mul_tab]
  erw [rowsum]
  rw [column]
  rfl

/-- The rows, normed but for the gain. -/
theorem pay5 : k0_pay5 (F := Ideal) (tab x) = tab fun k d => x k d * Ideal.rsqrt (msq x k) := by
  unfold k0_pay5
  simp only [pay4]
  rw [spread, mul_tab]

/-- The gain's gradient, with the block's share added. -/
theorem pay6 (a : Fin 1024 → EReal) : k0_pay6 (F := Ideal) (tab p) (tab fun f d => w d f) (tab x) (tab fun (_ : Fin 1) d => a d)
    = tab fun (_ : Fin 1) d => a d + ∑ k, share x p w k d := by
  unfold k0_pay6
  simp only [shapeCast_self, pay3, pay5, mul_tab]
  erw [colsum, add_tab]
  rfl

/-- The scaled cotangent. -/
theorem pay7 : k0_pay7 (F := Ideal) (tab p) (tab fun f d => w d f) (tab fun (_ : Fin 1) d => gn d) = tab (cot p w gn) := by
  unfold k0_pay7
  simp only [shapeCast_self, pay3]
  rw [tower, mul_tab]
  rfl

/-- The rows' products with the scaled cotangent. -/
theorem pay8 : k0_pay8 (F := Ideal) (tab p) (tab fun f d => w d f) (tab x) (tab fun (_ : Fin 1) d => gn d)
    = tab fun k (_ : Fin 1) => kdot x (cot p w gn) k := by
  unfold k0_pay8
  simp only [pay7, pay5, mul_tab]
  erw [rowsum]
  rw [column]
  rfl

/-- The input's gradient. -/
theorem pay1 : k0_pay1 (F := Ideal) (k0_pay4 (tab x)) (k0_pay5 (tab x)) (k0_pay7 (tab p) (tab fun f d => w d f) (tab fun (_ : Fin 1) d => gn d)) (tab res)
      (k0_pay8 (tab p) (tab fun f d => w d f) (tab x) (tab fun (_ : Fin 1) d => gn d)) (k0_pay9 (F := Ideal))
    = tab (kdx x (cot p w gn) res) := by
  unfold k0_pay1 k0_pay9
  simp only [pay4, pay5, pay7, pay8]
  have e : divf (F := Ideal) (φ := .f32) (tab fun (k : Fin 512) (_ : Fin 1) => kdot x (cot p w gn) k) (broadcast S512x1 (Scalar.ofBits .f32 0x44800000#32))
    = tab fun (k : Fin 512) (_ : Fin 1) => Ideal.div (kdot x (cot p w gn) k) (Ideal.ofBits .f32 0x44800000#32) := rfl
  erw [e]
  rw [spread, spread]
  rfl

section Points

variable (c : Dev nD) (i : grid0.Coords)
  (arg1 : Memref sig .tc .vmem S512x3072 .bf16) (h1 : arg1.IsWhole) (arg2 : Memref sig .tc .vmem S3072x1024 .bf16) (h2 : arg2.IsWhole)
  (arg3 : Memref sig .tc .vmem S512x1024 .f32) (h3 : arg3.IsWhole) (arg4 : Memref sig .tc .vmem S1x1024 .f32) (h4 : arg4.IsWhole)
  (arg5 : Memref sig .tc .vmem S512x1024 .f32) (h5 : arg5.IsWhole) (arg6 : Memref sig .tc .vmem S512x1024 .f32) (h6 : arg6.IsWhole)
  (arg7 : Memref sig .tc .vmem S1x1024 .f32) (h7 : arg7.IsWhole)
  (x0 : Vec Ideal S512x3072 .bf16) (x1 : Vec Ideal S3072x1024 .bf16) (x2 : Vec Ideal S512x1024 .f32) (x3 : Vec Ideal S1x1024 .f32) (x4 : Vec Ideal S512x1024 .f32)

/-- The input's gradient after the first point. -/
theorem outA_5 (hc0 : cond0_0 i) :
    out0_A_5 (F := Ideal) c i arg1 h1 arg2 h2 arg3 h3 arg4 h4 arg5 h5 arg6 h6 arg7 h7 hc0 x0 x1 x2 x3 x4
    = k0_pay1 (k0_pay4 x2) (k0_pay5 x2) (k0_pay7 x0 x1 x3) x4 (k0_pay8 x0 x1 x2 x3) (k0_pay9 (F := Ideal)) := by
  unfold out0_A_5
  rw [View.read_writes_eq_canon _ _ _ (cover0_A_5 c i arg1 h1 arg2 h2 arg3 h3 arg4 h4 arg5 h5 arg6 h6 arg7 h7 hc0 x0 x1 x2 x3 x4)]
  unfold kernelRun0_A
  dsimp only
  sl_unfold_words
  rw [View.canon_unit_zero (S := S512x1024) hz]
  simp only [View.readAt_eq_ld, h1.read_unread, h2.read_unread, h3.read_unread, h4.read_unread, h5.read_unread, h7.read_unread,
    View.ld_unit_zero (S := S512x3072) hz, View.ld_unit_zero (S := S3072x1024) hz, View.ld_unit_zero (S := S512x1024) hz,
    View.ld_unit_zero (S := S1x1024) hz, View.readCov_unit_zero (S := S1x1024) _ hz]

/-- The gain's gradient after the first point. -/
theorem outA_6 (hc0 : cond0_0 i) :
    out0_A_6 (F := Ideal) c i arg1 h1 arg2 h2 arg3 h3 arg4 h4 arg5 h5 arg6 h6 arg7 h7 hc0 x0 x1 x2 x3 x4 = k0_pay6 x0 x1 x2 (k0_pay2 (F := Ideal)) := by
  unfold out0_A_6
  rw [View.read_writes_eq_canon _ _ _ (cover0_A_6 c i arg1 h1 arg2 h2 arg3 h3 arg4 h4 arg5 h5 arg6 h6 arg7 h7 hc0 x0 x1 x2 x3 x4)]
  unfold kernelRun0_A
  dsimp only
  sl_unfold_words
  rw [View.canon_cons_unit_zero (S := S1x1024) hz]
  simp only [View.readAt_eq_ld, h1.read_unread, h2.read_unread, h3.read_unread, h4.read_unread, h5.read_unread, h7.read_unread,
    View.ld_unit_zero (S := S512x3072) hz, View.ld_unit_zero (S := S3072x1024) hz, View.ld_unit_zero (S := S512x1024) hz,
    View.ld_unit_zero (S := S1x1024) hz, View.readCov_unit_zero (S := S1x1024) _ hz]

/-- The input's gradient after a later point. -/
theorem outB_5 (hc0 : ¬cond0_0 i) (xo : Vec Ideal S1x1024 .f32) :
    out0_B_5 (F := Ideal) c i arg1 h1 arg2 h2 arg3 h3 arg4 h4 arg5 h5 arg6 h6 arg7 h7 hc0 x0 x1 x2 x3 x4 xo
    = k0_pay1 (k0_pay4 x2) (k0_pay5 x2) (k0_pay7 x0 x1 x3) x4 (k0_pay8 x0 x1 x2 x3) (k0_pay9 (F := Ideal)) := by
  unfold out0_B_5
  rw [View.read_writes_eq_canon _ _ _ (cover0_B_5 c i arg1 h1 arg2 h2 arg3 h3 arg4 h4 arg5 h5 arg6 h6 arg7 h7 hc0 x0 x1 x2 x3 x4 xo)]
  unfold kernelRun0_B
  dsimp only
  sl_unfold_words
  rw [View.canon_unit_zero (S := S512x1024) hz]
  simp only [View.readAt_eq_ld, h1.read_unread, h2.read_unread, h3.read_unread, h4.read_unread, h5.read_unread, h7.read_unread,
    View.ld_unit_zero (S := S512x3072) hz, View.ld_unit_zero (S := S3072x1024) hz, View.ld_unit_zero (S := S512x1024) hz,
    View.ld_unit_zero (S := S1x1024) hz, View.readCov_unit_zero (S := S1x1024) _ hz]

/-- The gain's gradient after a later point. -/
theorem outB_6 (hc0 : ¬cond0_0 i) (xo : Vec Ideal S1x1024 .f32) :
    out0_B_6 (F := Ideal) c i arg1 h1 arg2 h2 arg3 h3 arg4 h4 arg5 h5 arg6 h6 arg7 h7 hc0 x0 x1 x2 x3 x4 xo = k0_pay6 x0 x1 x2 xo := by
  unfold out0_B_6
  rw [View.read_writes_eq_canon _ _ _ (cover0_B_6 c i arg1 h1 arg2 h2 arg3 h3 arg4 h4 arg5 h5 arg6 h6 arg7 h7 hc0 x0 x1 x2 x3 x4 xo)]
  unfold kernelRun0_B
  dsimp only
  sl_unfold_words
  rw [View.canon_unit_zero (S := S1x1024) hz]
  simp only [View.readAt_eq_ld, h1.read_unread, h2.read_unread, h3.read_unread, h4.read_unread, h5.read_unread, h7.read_unread,
    View.ld_unit_zero (S := S512x3072) hz, View.ld_unit_zero (S := S3072x1024) hz, View.ld_unit_zero (S := S512x1024) hz,
    View.ld_unit_zero (S := S1x1024) hz, View.readCov_unit_zero (S := S1x1024) _ hz]

end Points

section Outs

variable (m : (ℓ : Loc nD τ sig) → Buf (Elt Ideal) ℓ) (c : Dev nD) (t : Fin cfg0.N)

/-- The input's gradient after any point. -/
theorem pt_5 : (outsAt0 m c t.val t.isLt).1 = k0_pay1 (k0_pay4 (iblk m c 2 t)) (k0_pay5 (iblk m c 2 t)) (k0_pay7 (iblk m c 0 t) (iblk m c 1 t) (iblk m c 3 t))
    (iblk m c 4 t) (k0_pay8 (iblk m c 0 t) (iblk m c 1 t) (iblk m c 2 t) (iblk m c 3 t)) (k0_pay9 (F := Ideal)) := by
  by_cases h0 : t.val % 32 = 0
  · rw [outsAt0_A m c t h0]
    dsimp only
    rw [outA_5]
  · rw [outsAt0_B m c t h0]
    dsimp only
    rw [outB_5]

/-- The gain's gradient after the first point. -/
theorem ptA_6 (h0 : t.val % 32 = 0) :
    (outsAt0 m c t.val t.isLt).2 = k0_pay6 (iblk m c 0 t) (iblk m c 1 t) (iblk m c 2 t) (k0_pay2 (F := Ideal)) := by
  rw [outsAt0_A m c t h0]
  dsimp only
  rw [outA_6]

/-- The gain's gradient after a later point. -/
theorem ptB_6 (h0 : ¬t.val % 32 = 0) :
    (outsAt0 m c t.val t.isLt).2 = k0_pay6 (iblk m c 0 t) (iblk m c 1 t) (iblk m c 2 t)
      (outsAt0 m c (t.val - 1) (Nat.lt_of_le_of_lt (Nat.sub_le _ _) t.isLt)).2 := by
  rw [outsAt0_B m c t h0]
  dsimp only
  rw [outB_6]

end Outs

end Cert.InBwd

end
-- ==== Proof.InBwd.Ref.lean ====
/- The gradient through the convolution mixer's input projection and norm, the reference: its results as functions of their row and column. -/
module

public import proofs.«01_k».proof.Proof.Gen.Reference5Ideal.Read
public import proofs.«01_k».proof.Proof.Tab
public import proofs.«01_k».proof.Proof.InBwd.Math
public import Idealize.ShloMosaic.Lib.Pointwise

@[expose] public section

set_option maxRecDepth 16384

noncomputable section

open scoped BigOperators

namespace Cert.InBwd.Ref

open Idealize.ShloMosaic Idealize.ShloMosaic.TcCoe
open Cert.Ffn (tab tab1 tab_apply tab1_apply)
open Cert.Ffn.Fwd (msq)
open Cert.Reference5Ideal.Read

variable (x res : Fin 16384 → Fin 1024 → EReal) (gn : Fin 1024 → EReal) (p : Fin 16384 → Fin 3072 → EReal) (w : Fin 1024 → Fin 3072 → EReal)

/-- The rows' mean squares. -/
theorem v6 : val_main_v6 (F := Ideal) (tab x) = tab fun s (_ : Fin 1) => msq x s := by
  funext i
  rw [val_main_v6_apply, val_main_v4_apply, val_main_v2_apply, val_main_v1_apply, val_main_v3_apply, val_main_v5_apply, val_main_cst_apply,
    val_main_cst_0_apply, val_main_cst_1_apply]
  simp only [val_main_v0_apply, Ideal.ofBits_def, Ideal.ofBits_zero_f32, zero_add, Ideal.mulf_def, Ideal.addf_def, Ideal.hostDivf_def]
  rfl

/-- The rows' reciprocal roots. -/
theorem v7 : val_main_v7 (F := Ideal) (tab x) = tab fun s (_ : Fin 1) => Ideal.rsqrt (msq x s) := by
  funext i
  rw [val_main_v7_apply, v6, Ideal.hostUnary_rsqrt_def]
  rfl

/-- The reciprocal roots' derivative. -/
theorem v10 : val_main_v10 (F := Ideal) (tab x)
    = tab fun s (_ : Fin 1) => Ideal.ofBits .f32 0xBF000000#32 * Ideal.div (Ideal.rsqrt (msq x s)) (msq x s) := by
  funext i
  rw [val_main_v10_apply, val_main_v9_apply, val_main_cst_2_apply, val_main_v8_apply, v7, v6]
  rfl

/-- The normed rows' cotangent. -/
theorem v18 : val_main_v18 (F := Ideal) (tab w) (tab p) = tab (dh p w) := by
  funext i
  rw [val_main_v18_apply]
  simp only [val_main_v17_apply]
  rfl

/-- The scaled cotangent. -/
theorem v23 : val_main_v23 (F := Ideal) (tab1 gn) (tab w) (tab p) = tab (cot p w gn) := by
  funext i
  rw [val_main_v23_apply, v18, val_main_v22_apply, val_main_v13_apply]
  rfl

/-- The rows, normed but for the gain. -/
theorem v12 : val_main_v12 (F := Ideal) (tab x) = tab fun s d => x s d * Ideal.rsqrt (msq x s) := by
  funext i
  rw [val_main_v12_apply, val_main_v11_apply, v7]
  rfl

/-- The gain's gradient, as a vector. -/
theorem v20 : val_main_v20 (F := Ideal) (tab x) (tab w) (tab p) = tab1 (dgn x p w) := by
  have e : val_main_v20 (F := Ideal) (tab x) (tab w) (tab p) = tab1 fun d => ∑ s, x s d * Ideal.rsqrt (msq x s) * dh p w s d := by
    funext i
    rw [val_main_v20_apply, val_main_cst_3_apply]
    simp only [val_main_v19_apply, v12, v18, Ideal.ofBits_def, Ideal.ofBits_zero_f32, zero_add, Ideal.mulf_def]
    rfl
  rw [e]
  exact congrArg tab1 (funext fun d => Finset.sum_congr rfl fun s _ => mul_comm (x s d * Ideal.rsqrt (msq x s)) (dh p w s d))

/-- The gain's gradient. -/
theorem v40 : val_main_v40 (F := Ideal) (tab x) (tab w) (tab p) = tab fun (_ : Fin 1) d => dgn x p w d := by
  funext i
  rw [val_main_v40_apply, val_main_v24_apply, val_main_cst_4_apply]
  simp only [val_main_v21_apply, v20, Ideal.ofBits_def, Ideal.ofBits_zero_f32, zero_add, Fin.sum_univ_one]
  refine line_at (dgn x p w) _ i ?_
  show 0 * 1024 + ((i 0).val * 1024 + (i 1).val) = _
  rw [Nat.zero_mul, Nat.zero_add]

/-- The rows times the scaled cotangent, summed. -/
theorem v26 : val_main_v26 (F := Ideal) (tab x) (tab1 gn) (tab w) (tab p) = tab1 fun s => ∑ d, x s d * cot p w gn s d := by
  funext i
  rw [val_main_v26_apply, val_main_cst_5_apply]
  simp only [val_main_v25_apply, v23, Ideal.ofBits_def, Ideal.ofBits_zero_f32, zero_add, Ideal.mulf_def]
  rfl

/-- The mean squares' cotangent, over the rows' length. -/
theorem v33 : val_main_v33 (F := Ideal) (tab x) (tab1 gn) (tab w) (tab p) = tab fun s (_ : Fin 1) => rmean x (cot p w gn) s := by
  funext i
  rw [val_main_v33_apply, val_main_v32_apply, val_main_cst_6_apply, val_main_v31_apply, val_main_v27_apply, v26, v10,
    column_at _ (idx_main_v27 i) i rfl]
  rfl

/-- The same, as a vector. -/
theorem v34 : val_main_v34 (F := Ideal) (tab x) (tab1 gn) (tab w) (tab p) = tab1 (rmean x (cot p w gn)) := by
  funext i
  rw [val_main_v34_apply, val_main_cst_7_apply]
  simp only [v33, Ideal.ofBits_def, Ideal.ofBits_zero_f32, zero_add, Fin.sum_univ_one]
  rfl

/-- The input's gradient. -/
theorem v39 : val_main_v39 (F := Ideal) (tab x) (tab1 gn) (tab w) (tab res) (tab p) = tab (rdx x (cot p w gn) res) := by
  funext i
  rw [val_main_v39_apply, val_main_v38_apply, val_main_v37_apply, val_main_v36_apply, val_main_v35_apply, v34, val_main_v30_apply, val_main_v29_apply,
    val_main_v28_apply, v7, v23]
  rfl

end Cert.InBwd.Ref

end
-- ==== Proof.InBwd.Result.lean ====
/- The gradient through the convolution mixer's input projection and norm: the kernel ends with the gradients of the input and of the
   gain, and so does the reference. -/
module

public import proofs.«01_k».proof.Defs
public import proofs.«01_k».proof.Proof.Gen.Kernel5Ideal.Value
public import proofs.«01_k».proof.Proof.Gen.Reference5Ideal.Run
public import proofs.«01_k».proof.Proof.InBwd.Block
public import proofs.«01_k».proof.Proof.InBwd.Ref
public import Idealize.ShloMosaic.Lib.Claim
public import Idealize.ShloMosaic.Lib.Pointwise
public import Idealize.ShloMosaic.Lib.Pipeline.ValueKit.Geometry

@[expose] public section

set_option maxRecDepth 16384

noncomputable section

open scoped BigOperators

namespace Cert.InBwd

open Idealize.ShloMosaic Idealize.ShloMosaic.TcCoe Idealize.ShloMosaic.Tactic Idealize.SL.Sem
open Cert.Ffn (tab tab1 ent ent1 eq_tab eq_tab1 tab_apply tab1_apply)
open Cert.Kernel5Ideal Cert.Kernel5Ideal.Gen Cert.Kernel5Ideal.Value

/-- Rows of a tile, at the place its block has in the array. -/
theorem spot {w : ℕ} (M : Fin 16384 → Fin w → EReal) (n : ℕ) (k : Fin 512) (d : Fin w) (i : Fin 16384) (j : Fin w)
    (hi : i.val = n * 512 + 1 * k.val) (hj : j.val = 0 * w + 1 * d.val) : M (row n k) d = M i j := by
  have e : row n k = i := by
    apply Fin.ext
    have := i.isLt
    show (512 * n + k.val) % 16384 = i.val
    omega
  have f : d = j := by apply Fin.ext; omega
  rw [e, f]

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = t.val ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = 0 ∧ win0_6.index t (1 : Fin 2) = 0 := by decide +kernel

section Arrays

variable (m : (ℓ : Loc nD τ sig) → Buf (Elt Ideal) ℓ) (c : Dev nD) (t : Fin cfg0.N)
variable (x res : Fin 16384 → Fin 1024 → EReal) (gn : Fin 1024 → EReal) (p : Fin 16384 → Fin 3072 → EReal) (w : Fin 1024 → Fin 3072 → EReal)

/-- The transposed weights. -/
theorem v1 (hw : m ((c : Thread nD τ).loc main_arg2) = tab w) : V m c main_v1 = tab fun f d => w d f := by
  have e : V m c main_v1 = transpose (α := EReal) S3072x1024 [1, 0] (m ((c : Thread nD τ).loc main_arg2)) transposes_S1024x3072_S3072x1024_1_0 := by
    dsimp only [V, hostOps0]
    after_results
    rfl
  rw [e, hw]
  funext i
  pointwise
  rfl

/-- The gain as a row. -/
theorem v2 (hg : m ((c : Thread nD τ).loc main_arg1) = tab1 gn) : V m c main_v2 = tab fun (_ : Fin 1) d => gn d := by
  have e : V m c main_v2 = shapeCast (α := EReal) S1x1024 (m ((c : Thread nD τ).loc main_arg1)) shapeCasts_S1024_S1x1024 := by
    dsimp only [V, hostOps0]
    after_results
    rfl
  rw [e, hg]
  funext i
  pointwise
  rfl

/-- The projection's cotangent at a point. -/
theorem blk0 (M : Fin 16384 → Fin 3072 → EReal) (h : V m c main_arg4 = tab M) : iblk m c 0 t = tab fun k f => M (row t.val k) f := by
  funext i
  unfold iblk
  rw [View.read_apply]
  show V m c main_arg4 _ = _
  rw [h]
  refine (spot M t.val _ _ _ _ ?_ ?_).symm
  · show win0_0.index t (0 : Fin 2) * 512 + 1 * (i 0).val = _
    rw [(idx0 t).1]
  · show win0_0.index t (1 : Fin 2) * 3072 + 1 * (i 1).val = _
    rw [(idx0 t).2]

/-- The weights at a point. -/
theorem blk1 (M : Fin 3072 → Fin 1024 → EReal) (h : V m c main_v1 = tab M) : iblk m c 1 t = tab M := by
  funext i
  unfold iblk
  rw [View.read_apply]
  show V m c main_v1 _ = _
  rw [h]
  refine congrArg₂ M (Fin.ext ?_) (Fin.ext ?_)
  · show win0_1.index t (0 : Fin 2) * 3072 + 1 * (i 0).val = (i 0).val
    rw [(idx1 t).1]; omega
  · show win0_1.index t (1 : Fin 2) * 1024 + 1 * (i 1).val = (i 1).val
    rw [(idx1 t).2]; omega

/-- The input at a point. -/
theorem blk2 (M : Fin 16384 → Fin 1024 → EReal) (h : V m c main_arg0 = tab M) : iblk m c 2 t = tab fun k d => M (row t.val k) d := by
  funext i
  unfold iblk
  rw [View.read_apply]
  show V m c main_arg0 _ = _
  rw [h]
  refine (spot M t.val _ _ _ _ ?_ ?_).symm
  · show win0_2.index t (0 : Fin 2) * 512 + 1 * (i 0).val = _
    rw [(idx2 t).1]
  · show win0_2.index t (1 : Fin 2) * 1024 + 1 * (i 1).val = _
    rw [(idx2 t).2]

/-- The gain at a point. -/
theorem blk3 (M : Fin 1 → Fin 1024 → EReal) (h : V m c main_v2 = tab M) : iblk m c 3 t = tab M := by
  funext i
  unfold iblk
  rw [View.read_apply]
  show V m c main_v2 _ = _
  rw [h]
  refine congrArg₂ M (Fin.ext ?_) (Fin.ext ?_)
  · show win0_3.index t (0 : Fin 2) * 1 + 1 * (i 0).val = (i 0).val
    rw [(idx3 t).1]; omega
  · show win0_3.index t (1 : Fin 2) * 1024 + 1 * (i 1).val = (i 1).val
    rw [(idx3 t).2]; omega

/-- The cotangent that passes by, at a point. -/
theorem blk4 (M : Fin 16384 → Fin 1024 → EReal) (h : V m c main_arg3 = tab M) : iblk m c 4 t = tab fun k d => M (row t.val k) d := by
  funext i
  unfold iblk
  rw [View.read_apply]
  show V m c main_arg3 _ = _
  rw [h]
  refine (spot M t.val _ _ _ _ ?_ ?_).symm
  · show win0_4.index t (0 : Fin 2) * 512 + 1 * (i 0).val = _
    rw [(idx4 t).1]
  · show win0_4.index t (1 : Fin 2) * 1024 + 1 * (i 1).val = _
    rw [(idx4 t).2]

variable (h0 : m ((c : Thread nD τ).loc main_arg0) = tab x) (h1 : m ((c : Thread nD τ).loc main_arg1) = tab1 gn)
  (h2 : m ((c : Thread nD τ).loc main_arg2) = tab w) (h3 : m ((c : Thread nD τ).loc main_arg3) = tab res) (h4 : m ((c : Thread nD τ).loc main_arg4) = tab p)

include h0 h2 h4 in
/-- The gain's gradient over the first rows, after a point. -/
theorem sums : ∀ (n : ℕ) (hn : n < cfg0.N), (outsAt0 m c n hn).2 = tab fun (_ : Fin 1) d => part x p w (n + 1) d := by
  intro n
  induction n with
  | zero =>
    intro hn
    have e := ptA_6 m c ⟨0, hn⟩ rfl
    dsimp only at e
    rw [e, blk0 m c ⟨0, hn⟩ p ((V_main_arg4 m c).trans h4), blk1 m c ⟨0, hn⟩ _ (v1 m c w h2), blk2 m c ⟨0, hn⟩ x ((V_main_arg0 m c).trans h0), pay2, pay6]
    have z : (fun (_ : Fin 1) d => 0 + ∑ k, share x p w (row 0 k) d) = fun (_ : Fin 1) d => part x p w (0 + 1) d := by
      funext _ d
      rw [← part_succ, part_zero]
    exact congrArg tab z
  | succ n ih =>
    intro hn
    have hN : n + 1 < 32 := lt_of_lt_of_eq hn N_0
    have e := ptB_6 m c ⟨n + 1, hn⟩ (by show ¬(n + 1) % 32 = 0; omega)
    dsimp only [Nat.add_sub_cancel] at e
    have before : (outsAt0 m c (n + 1 - 1) (Nat.lt_of_le_of_lt (Nat.sub_le _ _) hn)).2 = tab fun (_ : Fin 1) d => part x p w (n + 1) d := ih _
    rw [e, blk0 m c ⟨n + 1, hn⟩ p ((V_main_arg4 m c).trans h4), blk1 m c ⟨n + 1, hn⟩ _ (v1 m c w h2),
      blk2 m c ⟨n + 1, hn⟩ x ((V_main_arg0 m c).trans h0), before, pay6]
    funext i
    exact part_succ x p w (n + 1) (i 1)

include h0 h2 h4 in
/-- The gain's gradient. -/
theorem final6 : (dats m 0 c).arrAt 6 cfg0.N = tab fun (_ : Fin 1) d => dgn x p w d := by
  refine (dats m 0 c).arrAt_eq_of_covers 6 _ (by decide +kernel) fun t hf y => ?_
  have ht : t.val < 32 := lt_of_lt_of_eq t.isLt N_0
  have hm : t.val % 32 = 31 := (flush0_6 t).mp hf
  have hn : t.val + 1 = 32 := by omega
  have e : (fun (_ : Fin 1) d => part x p w 32 d) = fun (_ : Fin 1) d => dgn x p w d := by
    funext _ d; exact part_all x p w d
  rw [after0_6, sums m c x p w h0 h2 h4, hn, e]
  generalize dgn x p w = M
  refine congrArg M (Fin.ext ?_)
  show (y 1).val = win0_6.index t (1 : Fin 2) * 1024 + 1 * (y 1).val
  rw [(idx6 t).2]; omega

include h0 h1 h2 h3 h4 in
/-- The input's gradient. -/
theorem final5 : (dats m 0 c).arrAt 5 cfg0.N = tab (rdx x (cot p w gn) res) := by
  refine (dats m 0 c).arrAt_eq_of_covers 5 _ (by decide +kernel) fun t hf y => ?_
  rw [after0_5, pt_5, blk0 m c t p ((V_main_arg4 m c).trans h4), blk1 m c t _ (v1 m c w h2), blk2 m c t x ((V_main_arg0 m c).trans h0),
    blk3 m c t _ (v2 m c gn h1), blk4 m c t res ((V_main_arg3 m c).trans h3), pay1]
  have e : (tab (kdx (fun k d => x (row t.val k) d) (cot (fun k f => p (row t.val k) f) w gn) fun k d => res (row t.val k) d))
      = tab fun k d => rdx x (cot p w gn) res (row t.val k) d := by
    funext i
    exact kdx_eq x (cot p w gn) res (row t.val (i 0)) (i 1)
  rw [e]
  generalize rdx x (cot p w gn) res = M
  refine spot M t.val _ _ _ _ ?_ ?_
  · show win0_5.index t (0 : Fin 2) * 512 + 1 * (y 0).val = _
    rw [(idx5 t).1]
  · show win0_5.index t (1 : Fin 2) * 1024 + 1 * (y 1).val = _
    rw [(idx5 t).2]

end Arrays

/-- From any arguments, every run of the kernel and every run of the reference end with the same two gradients. -/
theorem equal : Cert.algebraic_Kernel5Ideal_Reference5Ideal (hKernel5Ideal := Cert.Kernel5Ideal.Gen.facts)
    (hReference5Ideal := Cert.Reference5Ideal.Gen.facts) := by
  intro m g m' g' _ hargs
  refine ⟨fun c => tab (rdx (ent (m ((c : Thread nD τ).loc main_arg0)))
      (cot (ent (m ((c : Thread nD τ).loc main_arg4))) (ent (m ((c : Thread nD τ).loc main_arg2))) (ent1 (m ((c : Thread nD τ).loc main_arg1))))
      (ent (m ((c : Thread nD τ).loc main_arg3)))),
    fun c => tab fun (_ : Fin 1) d => dgn (ent (m ((c : Thread nD τ).loc main_arg0))) (ent (m ((c : Thread nD τ).loc main_arg4)))
      (ent (m ((c : Thread nD τ).loc main_arg2))) d,
    (θ_run _ _ _).mono (fun r h c => ?_) (Cert.Kernel5Ideal.Value.run_blocks m g),
    (θ_run _ _ _).mono (fun r h c => ?_) (Cert.Reference5Ideal.Value.run m' g')⟩
  · have e0 := eq_tab (m ((c : Thread nD τ).loc main_arg0))
    have e1 := eq_tab1 (m ((c : Thread nD τ).loc main_arg1))
    have e2 := eq_tab (m ((c : Thread nD τ).loc main_arg2))
    have e3 := eq_tab (m ((c : Thread nD τ).loc main_arg3))
    have e4 := eq_tab (m ((c : Thread nD τ).loc main_arg4))
    obtain ⟨p0, p1, rest⟩ := h c
    exact ⟨p0.trans (final5 m c _ _ _ _ _ e0 e1 e2 e3 e4), p1.trans (final6 m c _ _ _ e0 e2 e4), rest⟩
  · have e0 := eq_tab (m ((c : Thread nD τ).loc main_arg0))
    have e1 := eq_tab1 (m ((c : Thread nD τ).loc main_arg1))
    have e2 := eq_tab (m ((c : Thread nD τ).loc main_arg2))
    have e3 := eq_tab (m ((c : Thread nD τ).loc main_arg3))
    have e4 := eq_tab (m ((c : Thread nD τ).loc main_arg4))
    obtain ⟨a0, a1, a2, a3, a4⟩ := hargs c
    obtain ⟨p0, p1, rest⟩ := h c
    refine ⟨p0.trans ?_, p1.trans ?_, rest⟩
    · refine (Cert.Reference5Ideal.Read.val_main_v39_eq ..).trans ?_
      refine Eq.trans ?_ (Ref.v39 ..)
      rw [a0, a1, a2, a3, a4, ← e0, ← e1, ← e2, ← e3, ← e4]
    · refine (Cert.Reference5Ideal.Read.val_main_v40_eq ..).trans ?_
      refine Eq.trans ?_ (Ref.v40 ..)
      rw [a0, a2, a4, ← e0, ← e2, ← e4]

end Cert.InBwd

end
-- ==== Proof.Tn.lean ====
/- The product of a transposed array of 16384 rows with another, the rows taken in eight tiles of 2048: partial sums over
   the first tiles, and what all of them together are. -/
module

public import proofs.«01_k».proof.Proof.Tab

@[expose] public section

noncomputable section

open scoped BigOperators

namespace Cert.Tn

/-- Row `k` of row tile `n`. -/
def row (n : ℕ) (k : Fin 2048) : Fin 16384 := Fin.ofNat 16384 (2048 * n + k.val)
/-- Column `f` of column tile `n`, of `w` columns. -/
def col (w : ℕ) [NeZero w] {b : ℕ} (n : ℕ) (f : Fin b) : Fin w := Fin.ofNat w (b * n + f.val)

/-- An entry of a tile of `b` rows. -/
theorem spot {w b e : ℕ} [NeZero w] (M : Fin w → Fin e → EReal) (n : ℕ) (k : Fin b) (d : Fin e) (i : Fin w) (j : Fin e)
    (hi : i.val = n * b + 1 * k.val) (hj : j.val = 0 * e + 1 * d.val) : M (col w n k) d = M i j := by
  have g : col w n k = i := by
    apply Fin.ext
    have h := i.isLt
    have c : b * n + k.val = i.val := by rw [hi, Nat.mul_comm, Nat.one_mul]
    show (b * n + k.val) % w = i.val
    rw [c, Nat.mod_eq_of_lt h]
  have f : d = j := by apply Fin.ext; omega
  rw [g, f]

variable {w b e : ℕ} [NeZero w] (A : Fin 16384 → Fin w → EReal) (B : Fin 16384 → Fin e → EReal)

/-- The transposed product. -/
def tn (f : Fin w) (d : Fin e) : EReal := ∑ s, A s f * B s d

/-- A block of it, over the first `n` row tiles. -/
def part (g n : ℕ) (f : Fin b) (d : Fin e) : EReal := ∑ j ∈ Finset.range n, ∑ k : Fin 2048, A (row j k) (col w g f) * B (row j k) d

theorem part_zero (g : ℕ) : part A B g 0 = fun (_ : Fin b) _ => 0 := by
  funext f d; simp [part]

theorem part_succ (g n : ℕ) : (fun (f : Fin b) d => part A B g n f d + ∑ k : Fin 2048, A (row n k) (col w g f) * B (row n k) d) = part A B g (n + 1) := by
  funext f d; rw [part, part, Finset.sum_range_succ]

/-- All row tiles together are all rows. -/
theorem part_all (g : ℕ) (f : Fin b) (d : Fin e) : part A B g 8 f d = tn A B (col w g f) d := by
  rw [part, tn, Finset.sum_range, ← Fintype.sum_prod_type' (f := fun (j : Fin 8) (k : Fin 2048) => A (row j.val k) (col w g f) * B (row j.val k) d)]
  rw [← Equiv.sum_comp (finProdFinEquiv (m := 8) (n := 2048)) (fun s => A s (col w g f) * B s d)]
  refine Finset.sum_congr rfl fun p _ => congrArg (fun s => A s (col w g f) * B s d) (Fin.ext ?_)
  show (2048 * p.1.val + p.2.val) % 16384 = p.2.val + 2048 * p.1.val
  have := p.1.isLt; have := p.2.isLt; omega

end Cert.Tn

end
-- ==== Proof.InDw.lean ====
/- The convolution mixer's input projection, the weights' gradient: the kernel's result is the cotangent, transposed, times the
   normed input, and so is the reference's. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Tn
public import Idealize.ShloMosaic.Lib.Claim
public import Idealize.ShloMosaic.Lib.Pointwise
public import Idealize.ShloMosaic.Lib.Pipeline.Value
public import Idealize.ShloMosaic.Lib.Pipeline.ValueKit.Geometry
public import proofs.«01_k».proof.Proof.Fwd.Math

@[expose] public section

set_option maxRecDepth 16384

noncomputable section

open scoped BigOperators

namespace Cert.InDw

open Idealize.ShloMosaic Idealize.ShloMosaic.TcCoe Idealize.ShloMosaic.Tactic Idealize.SL.Sem
open Cert.Ffn (tab tab1 ent ent1 eq_tab eq_tab1 tab_apply tab1_apply narrow widen mul_tab)
open Cert.Ffn.Fwd (nrm)
open Cert.Tn
open Cert.Kernel6Ideal Cert.Kernel6Ideal.Gen Cert.Kernel6Ideal.Value

private theorem hz : (![0, 0] : Fin 2 → Nat) = fun _ => 0 := funext fun a => by fin_cases a <;> rfl

/-! ## One block -/

/-- The sum starts at zero. -/
theorem pay1 : k0_pay1 (F := Ideal) = tab fun _ _ => 0 := by
  unfold k0_pay1
  simp only [shapeCast_self]
  funext i
  exact Ideal.ofBits_zero_f32

/-- A block pair's transposed product, added to the sum. -/
theorem pay2 (acc : Fin 1024 → Fin 1024 → EReal) (a b : Fin 2048 → Fin 1024 → EReal) :
    k0_pay2 (F := Ideal) (tab acc) (tab a) (tab b) = tab fun f d => acc f d + ∑ k, a k f * b k d := by
  unfold k0_pay2
  simp only [shapeCast_self, narrow]
  have e : matmul (F := Ideal) (φ₁ := .bf16) (φ₂ := .bf16) dot_S2048x1024_S2048x1024_S1024x1024_0_0_1_1_n_n none (tab a) (tab b)
      (constant S1024x1024 .f32 0x00000000#32) = tab fun f d => ∑ k, a k f * b k d := by
    funext i
    pointwise
    simp only [Ideal.ofBits_zero_f32, zero_add, tab_apply]
    rfl
  rw [e]
  rfl

section Points

variable (c : Dev nD) (i : grid0.Coords) (arg2 : Memref sig .tc .vmem S2048x1024 .bf16) (h2 : arg2.IsWhole) (arg3 : Memref sig .tc .vmem S2048x1024 .bf16) (h3 : arg3.IsWhole)
  (arg4 : Memref sig .tc .vmem S1024x1024 .bf16) (h4 : arg4.IsWhole) (arg5 : Memref sig .tc .vmem S1024x1024 .f32) (h5 : arg5.IsWhole)
  (x0 : Vec Ideal S2048x1024 .bf16) (x1 : Vec Ideal S2048x1024 .bf16) (xs0 : Vec Ideal S1024x1024 .f32)

/-- The sum after a first row tile. -/
theorem accA (hc0 : cond0_0 i) (hc1 : ¬cond0_1 i) : sout0_A_0 (F := Ideal) c i arg2 h2 arg3 h3 arg4 h4 arg5 h5 hc0 hc1 x0 x1 = k0_pay2 (k0_pay1 (F := Ideal)) x0 x1 := by
  unfold sout0_A_0
  rw [View.read_writes_eq_canon _ _ _ (scover0_A_0 c i arg2 h2 arg3 h3 arg4 h4 arg5 h5 hc0 hc1 x0 x1)]
  unfold kernelRun0_A
  dsimp only
  sl_unfold_words
  rw [View.canon_cons_unit_zero (S := S1024x1024) hz]
  simp only [View.readAt_eq_ld, h2.read_unread, h3.read_unread, h5.read_unread, View.ld_unit_zero (S := S2048x1024) hz,
    View.ld_unit_zero (S := S1024x1024) hz, View.readCov_unit_zero (S := S1024x1024) _ hz]

/-- The sum after a middle row tile. -/
theorem accB (hc0 : ¬cond0_0 i) (hc1 : ¬cond0_1 i) : sout0_B_0 (F := Ideal) c i arg2 h2 arg3 h3 arg4 h4 arg5 h5 hc0 hc1 x0 x1 xs0 = k0_pay2 xs0 x0 x1 := by
  unfold sout0_B_0
  rw [View.read_writes_eq_canon _ _ _ (scover0_B_0 c i arg2 h2 arg3 h3 arg4 h4 arg5 h5 hc0 hc1 x0 x1 xs0)]
  unfold kernelRun0_B
  dsimp only
  sl_unfold_words
  rw [View.canon_unit_zero (S := S1024x1024) hz]
  simp only [View.readAt_eq_ld, h2.read_unread, h3.read_unread, h5.read_unread, View.ld_unit_zero (S := S2048x1024) hz,
    View.ld_unit_zero (S := S1024x1024) hz, View.readCov_unit_zero (S := S1024x1024) _ hz]

/-- The sum after a last row tile. -/
theorem accC (hc0 : ¬cond0_0 i) (hc1 : cond0_1 i) : sout0_C_0 (F := Ideal) c i arg2 h2 arg3 h3 arg4 h4 arg5 h5 hc0 hc1 x0 x1 xs0 = k0_pay2 xs0 x0 x1 := by
  unfold sout0_C_0
  rw [View.read_writes_eq_canon _ _ _ (scover0_C_0 c i arg2 h2 arg3 h3 arg4 h4 arg5 h5 hc0 hc1 x0 x1 xs0)]
  unfold kernelRun0_C
  dsimp only
  sl_unfold_words
  rw [View.canon_unit_zero (S := S1024x1024) hz]
  simp only [View.readAt_eq_ld, h2.read_unread, h3.read_unread, h5.read_unread, View.ld_unit_zero (S := S2048x1024) hz,
    View.ld_unit_zero (S := S1024x1024) hz, View.readCov_unit_zero (S := S1024x1024) _ hz]

/-- The output after a last row tile. -/
theorem outC (hc0 : ¬cond0_0 i) (hc1 : cond0_1 i) : out0_C_2 (F := Ideal) c i arg2 h2 arg3 h3 arg4 h4 arg5 h5 hc0 hc1 x0 x1 xs0 = k0_pay3 (k0_pay2 xs0 x0 x1) := by
  unfold out0_C_2
  rw [View.read_writes_eq_canon _ _ _ (cover0_C_2 c i arg2 h2 arg3 h3 arg4 h4 arg5 h5 hc0 hc1 x0 x1 xs0)]
  unfold kernelRun0_C
  dsimp only
  sl_unfold_words
  rw [View.canon_unit_zero (S := S1024x1024) hz]
  simp only [View.readAt_eq_ld, h2.read_unread, h3.read_unread, h5.read_unread, View.ld_unit_zero (S := S2048x1024) hz,
    View.ld_unit_zero (S := S1024x1024) hz, View.readCov_unit_zero (S := S1024x1024) _ hz]

end Points

/-! ## The reference -/

namespace Ref

open Cert.Reference6Ideal.Read

variable (x : Fin 16384 → Fin 1024 → EReal) (gn : Fin 1024 → EReal) (dp : Fin 16384 → Fin 3072 → EReal)

/-- The normed input. -/
theorem v12 : val_main_v12 (F := Ideal) (tab x) (tab1 gn) = tab (nrm x gn) := by
  funext i
  rw [val_main_v12_apply, val_main_v9_apply, val_main_v8_apply, val_main_v7_apply, val_main_v6_apply, val_main_v4_apply,
    val_main_v2_apply, val_main_v1_apply, val_main_v3_apply, val_main_v5_apply, val_main_cst_apply, val_main_cst_0_apply,
    val_main_cst_1_apply, val_main_v11_apply, val_main_v10_apply]
  simp only [val_main_v0_apply, Ideal.ofBits_def, Ideal.ofBits_zero_f32, zero_add, Ideal.mulf_def,
    Ideal.addf_def, Ideal.hostDivf_def, Ideal.hostUnary_rsqrt_def]
  rfl

/-- The weights' gradient. -/
theorem v18 : val_main_v18 (F := Ideal) (tab x) (tab1 gn) (tab dp) = tab (tn dp (nrm x gn)) := by
  funext i
  rw [val_main_v18_apply, val_main_v17_apply, val_main_v16_apply, val_main_v15_apply, v12]
  rfl

end Ref

/-! ## The arrays -/

theorem idx0 : ∀ t : Fin grid0.N, win0_0.index t (0 : Fin 2) = t.val % 8 ∧ win0_0.index t (1 : Fin 2) = t.val / 8 := by decide +kernel
theorem idx1 : ∀ t : Fin grid0.N, win0_1.index t (0 : Fin 2) = t.val % 8 ∧ win0_1.index t (1 : Fin 2) = 0 := by decide +kernel
theorem idx2 : ∀ t : Fin grid0.N, win0_2.index t (0 : Fin 2) = t.val / 8 ∧ win0_2.index t (1 : Fin 2) = 0 := by decide +kernel

section Arrays

variable (m : (ℓ : Loc nD τ sig) → Buf (Elt Ideal) ℓ) (c : Dev nD) (t : Fin cfg0.N)
variable (x : Fin 16384 → Fin 1024 → EReal) (gn : Fin 1024 → EReal)

/-- The normed input. -/
theorem v13 (hx : m ((c : Thread nD τ).loc main_arg0) = tab x) (hg : m ((c : Thread nD τ).loc main_arg1) = tab1 gn) :
    V m c main_v13 = tab (nrm x gn) := by
  have e : V m c main_v13 = Cert.Reference6Ideal.Read.val_main_v12 (F := Ideal) (m ((c : Thread nD τ).loc main_arg0)) (m ((c : Thread nD τ).loc main_arg1)) := by
    dsimp only [V, hostOps0]
    after_results
    rfl
  rw [e, hx, hg, Ref.v12]

variable (A : Fin 16384 → Fin 3072 → EReal) (B : Fin 16384 → Fin 1024 → EReal)

/-- The transposed array's block at a point. -/
theorem blk0 (h : V m c main_arg3 = tab A) : iblk m c 0 t = tab fun k f => A (row (t.val % 8) k) (col 3072 (t.val / 8) f) := by
  funext i
  unfold iblk
  rw [View.read_apply]
  show V m c main_arg3 _ = _
  rw [h]
  have ht : t.val < 24 := lt_of_lt_of_eq t.isLt N_0
  have h0 : (i 0).val < 2048 := (i 0).isLt
  have h1 : (i 1).val < 1024 := (i 1).isLt
  refine congrArg₂ A (Fin.ext ?_) (Fin.ext ?_)
  · show win0_0.index t (0 : Fin 2) * 2048 + 1 * (i 0).val = (2048 * (t.val % 8) + (i 0).val) % 16384
    rw [(idx0 t).1]; omega
  · show win0_0.index t (1 : Fin 2) * 1024 + 1 * (i 1).val = (1024 * (t.val / 8) + (i 1).val) % 3072
    rw [(idx0 t).2]; omega

/-- The other array's block at a point. -/
theorem blk1 (h : V m c main_v13 = tab B) : iblk m c 1 t = tab fun k d => B (row (t.val % 8) k) d := by
  funext i
  unfold iblk
  rw [View.read_apply]
  show V m c main_v13 _ = _
  rw [h]
  have ht : t.val < 24 := lt_of_lt_of_eq t.isLt N_0
  have h0 : (i 0).val < 2048 := (i 0).isLt
  refine congrArg₂ B (Fin.ext ?_) (Fin.ext ?_)
  · show win0_1.index t (0 : Fin 2) * 2048 + 1 * (i 0).val = (2048 * (t.val % 8) + (i 0).val) % 16384
    rw [(idx1 t).1]; omega
  · show win0_1.index t (1 : Fin 2) * 1024 + 1 * (i 1).val = (i 1).val
    rw [(idx1 t).2]; omega

variable (hA : V m c main_arg3 = tab A) (hB : V m c main_v13 = tab B)
include hA hB

/-- The sum after a point, from the sum before it. -/
theorem step (n : ℕ) (hn : n = t.val % 8) :
    k0_pay2 (F := Ideal) (tab (part A B (t.val / 8) n)) (iblk m c 0 t) (iblk m c 1 t) = tab (part A B (t.val / 8) (n + 1)) := by
  have e := pay2 (part A B (t.val / 8) n) (fun k f => A (row (t.val % 8) k) (col 3072 (t.val / 8) f)) (fun k d => B (row (t.val % 8) k) d)
  rw [blk0 m c t A hA, blk1 m c t B hB, ← part_succ, hn]
  rw [hn] at e
  exact e

omit hA hB in
/-- The sum after a first row tile, of the point's blocks. -/
theorem ptA (h0 : t.val % 8 = 0) (h1 : ¬t.val % 8 = 7) : (outsAt0 m c t.val t.isLt).2 = k0_pay2 (k0_pay1 (F := Ideal)) (iblk m c 0 t) (iblk m c 1 t) := by
  rw [outsAt0_A m c t h0 h1]
  dsimp only
  rw [accA]

omit hA hB in
/-- The sum after a middle row tile, of the point's blocks. -/
theorem ptB (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  rw [accB]

omit hA hB in
/-- The sum after a last row tile, of the point's blocks. -/
theorem ptC (h0 : ¬t.val % 8 = 0) (h1 : t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_C m c t h0 h1]
  dsimp only
  rw [accC]

omit hA hB in
/-- The output after a last row tile, of the point's blocks. -/
theorem ptOut (h0 : ¬t.val % 8 = 0) (h1 : t.val % 8 = 7) : (outsAt0 m c t.val t.isLt).1
    = k0_pay3 (k0_pay2 (outsAt0 m c (t.val - 1) (Nat.lt_of_le_of_lt (Nat.sub_le _ _) t.isLt)).2 (iblk m c 0 t) (iblk m c 1 t)) := by
  rw [outsAt0_C m c t h0 h1]
  dsimp only
  rw [outC]

/-- The sum after a first row tile. -/
theorem first (h0 : t.val % 8 = 0) : (outsAt0 m c t.val t.isLt).2 = tab (part A B (t.val / 8) (t.val % 8 + 1)) := by
  have h1 : ¬t.val % 8 = 7 := by omega
  rw [ptA m c t h0 h1, pay1, ← part_zero A B (t.val / 8)]
  refine (step m c t A B hA hB 0 h0.symm).trans ?_
  rw [h0]

/-- The sum after a later row tile, the one before it given. -/
theorem next (h0 : ¬t.val % 8 = 0) (ih : (outsAt0 m c (t.val - 1) (Nat.lt_of_le_of_lt (Nat.sub_le _ _) t.isLt)).2
    = tab (part A B ((t.val - 1) / 8) ((t.val - 1) % 8 + 1))) : (outsAt0 m c t.val t.isLt).2 = tab (part A B (t.val / 8) (t.val % 8 + 1)) := by
  have hd : (t.val - 1) / 8 = t.val / 8 := by omega
  have hm : (t.val - 1) % 8 + 1 = t.val % 8 := by omega
  rw [hd, hm] at ih
  by_cases h1 : t.val % 8 = 7
  · rw [ptC m c t h0 h1, ih]
    exact step m c t A B hA hB _ rfl
  · rw [ptB m c t h0 h1, ih]
    exact step m c t A B hA hB _ rfl

/-- The sum after every point. -/
theorem sums : ∀ (n : ℕ) (hn : n < cfg0.N), (outsAt0 m c n hn).2 = tab (part A B (n / 8) (n % 8 + 1))
  | 0, hn => first m c ⟨0, hn⟩ A B hA hB (Nat.zero_mod _)
  | n + 1, hn => by
    by_cases h0 : (n + 1) % 8 = 0
    · exact first m c ⟨n + 1, hn⟩ A B hA hB h0
    · exact next m c ⟨n + 1, hn⟩ A B hA hB h0 (sums n (by omega))

/-- The output after a last row tile. -/
theorem last (h1 : t.val % 8 = 7) : (outsAt0 m c t.val t.isLt).1 = tab fun f d => tn A B (col 3072 (t.val / 8) f) d := by
  have h0 : ¬t.val % 8 = 0 := by omega
  have hd : (t.val - 1) / 8 = t.val / 8 := by omega
  have hm : (t.val - 1) % 8 + 1 = 7 := by omega
  have ih := sums m c A B hA hB (t.val - 1) (Nat.lt_of_le_of_lt (Nat.sub_le _ _) t.isLt)
  rw [hd, hm] at ih
  rw [ptOut m c t h0 h1, ih, step m c t A B hA hB 7 h1.symm]
  refine (narrow _ _).trans ?_
  exact congrArg tab (funext fun f => funext fun d => part_all A B _ f d)

/-- The weights' gradient. -/
theorem final2 : (dats m 0 c).arrAt 2 cfg0.N = tab (tn A B) := by
  refine (dats m 0 c).arrAt_eq_of_covers 2 _ (by decide +kernel) fun t hf y => ?_
  rw [after0_2, last m c t A B hA hB ((flush0_2 t).mp hf)]
  generalize tn A B = M
  refine spot M (t.val / 8) _ _ _ _ ?_ ?_
  · show win0_2.index t (0 : Fin 2) * 1024 + 1 * (y 0).val = _
    rw [(idx2 t).1]
  · show win0_2.index t (1 : Fin 2) * 1024 + 1 * (y 1).val = _
    rw [(idx2 t).2]

end Arrays

/-- From any arguments, every run of the kernel and every run of the reference end with the same gradient. -/
theorem equal : Cert.algebraic_Kernel6Ideal_Reference6Ideal (hKernel6Ideal := Cert.Kernel6Ideal.Gen.facts)
    (hReference6Ideal := Cert.Reference6Ideal.Gen.facts) := by
  intro m g m' g' _ hargs
  refine ⟨fun c => tab (tn (ent (m ((c : Thread nD τ).loc main_arg3))) (nrm (ent (m ((c : Thread nD τ).loc main_arg0))) (ent1 (m ((c : Thread nD τ).loc main_arg1))))),
    (θ_run _ _ _).mono (fun r h c => ?_) (Cert.Kernel6Ideal.Value.run_blocks m g),
    (θ_run _ _ _).mono (fun r h c => ?_) (Cert.Reference6Ideal.Value.run m' g')⟩
  · have e0 := eq_tab (m ((c : Thread nD τ).loc main_arg0))
    have e1 := eq_tab1 (m ((c : Thread nD τ).loc main_arg1))
    have e3 := eq_tab (m ((c : Thread nD τ).loc main_arg3))
    obtain ⟨p0, rest⟩ := h c
    exact ⟨p0.trans (final2 m c _ _ ((V_main_arg3 m c).trans e3) (v13 m c _ _ e0 e1)), rest⟩
  · have e0 := eq_tab (m ((c : Thread nD τ).loc main_arg0))
    have e1 := eq_tab1 (m ((c : Thread nD τ).loc main_arg1))
    have e3 := eq_tab (m ((c : Thread nD τ).loc main_arg3))
    obtain ⟨a0, a1, a2, a3⟩ := hargs c
    obtain ⟨p0, rest⟩ := h c
    refine ⟨p0.trans ?_, rest⟩
    refine (Cert.Reference6Ideal.Read.val_main_v18_eq ..).trans ?_
    refine Eq.trans ?_ (Ref.v18 ..)
    rw [a0, a1, a3, ← e0, ← e1, ← e3]

end Cert.InDw

end
-- ==== Proof.OutBwd.lean ====
/- The convolution mixer's output projection, backward: the kernel's result is the cotangent times the transposed weights, and so
   is the reference's. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.OutBwd

open Idealize.ShloMosaic Idealize.ShloMosaic.TcCoe Idealize.ShloMosaic.Tactic Idealize.SL.Sem
open Cert.Ffn (tab tab1 ent ent1 eq_tab eq_tab1 tab_apply tab1_apply narrow widen)
open Cert.Kernel7Ideal Cert.Kernel7Ideal.Gen Cert.Kernel7Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The cotangent times the transposed weights. -/
def dv {n : ℕ} (w : Fin 1024 → Fin 1024 → EReal) (ct : Fin n → Fin 1024 → EReal) (s : Fin n) (d : Fin 1024) : EReal := ∑ e, ct s e * w d e

/-- What the kernel computes of one block. -/
theorem pay1 (w : Fin 1024 → Fin 1024 → EReal) (ct : Fin 1024 → Fin 1024 → EReal) : k0_pay1 (F := Ideal) (tab ct) (tab w) = tab (dv w ct) := by
  unfold k0_pay1
  simp only [shapeCast_self, narrow]
  funext i
  pointwise
  simp only [Ideal.ofBits_zero_f32, zero_add, tab_apply]
  rfl

/-- What one block's output holds. -/
theorem out2 (w : Fin 1024 → Fin 1024 → EReal) (ct : Fin 1024 → Fin 1024 → EReal) : out0_2 (F := Ideal) (tab ct) (tab w) = tab (dv w ct) := by
  unfold out0_2
  rw [View.canon_unit_zero (S := S1024x1024) hz, View.ld_unit_zero (S := S1024x1024) hz, View.ld_unit_zero (S := S1024x1024) hz, pay1]

/-- The reference's result. -/
theorem ref (w : Fin 1024 → Fin 1024 → EReal) (ct : Fin 16384 → Fin 1024 → EReal) :
    Cert.Reference7Ideal.Read.val_main_v3 (F := Ideal) (tab w) (tab ct) = tab (dv w ct) := by
  funext i
  rw [Cert.Reference7Ideal.Read.val_main_v3_apply, Cert.Reference7Ideal.Read.val_main_v2_apply]
  rfl

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel

section Arrays

variable (m : (ℓ : Loc nD τ sig) → Buf (Elt Ideal) ℓ) (c : Dev nD) (t : Fin cfg0.N)
variable (w : Fin 1024 → Fin 1024 → EReal) (ct : Fin 16384 → Fin 1024 → EReal)

/-- The weights. -/
theorem v0 (hw : m ((c : Thread nD τ).loc main_arg1) = tab w) : V m c main_v0 = tab w := by
  have e : V m c main_v0 = m ((c : Thread nD τ).loc main_arg1) := by
    dsimp only [V, hostOps0]
    after_results
    rfl
  rw [e, hw]

/-- The cotangent block of a point. -/
theorem blk0 (M : Fin 16384 → Fin 1024 → EReal) (h : V m c main_arg2 = tab M) : iblk m c 0 t = tab fun k d => M (row t.val k) d := by
  funext i
  unfold iblk
  rw [View.read_apply]
  show V m c main_arg2 _ = _
  rw [h]
  refine (spot M t.val _ _ _ _ ?_ ?_).symm
  · show win0_0.index t (0 : Fin 2) * 1024 + 1 * (i 0).val = _
    rw [(idx0 t).1]
  · show win0_0.index t (1 : Fin 2) * 1024 + 1 * (i 1).val = _
    rw [(idx0 t).2]

/-- The weights at a point. -/
theorem blk1 (M : Fin 1024 → Fin 1024 → EReal) (h : V m c main_v0 = tab M) : iblk m c 1 t = tab M := by
  funext i
  unfold iblk
  rw [View.read_apply]
  show V m c main_v0 _ = _
  rw [h]
  refine congrArg₂ M (Fin.ext ?_) (Fin.ext ?_)
  · show win0_1.index t (0 : Fin 2) * 1024 + 1 * (i 0).val = (i 0).val
    rw [(idx1 t).1]; omega
  · show win0_1.index t (1 : Fin 2) * 1024 + 1 * (i 1).val = (i 1).val
    rw [(idx1 t).2]; omega

/-- The kernel's result. -/
theorem final2 (h1 : m ((c : Thread nD τ).loc main_arg1) = tab w) (h2 : m ((c : Thread nD τ).loc main_arg2) = tab ct) :
    (dats m 0 c).arrAt 2 cfg0.N = tab (dv w ct) := by
  refine (dats m 0 c).arrAt_eq_of_covers 2 _ (by decide +kernel) fun t hf y => ?_
  rw [after0_2, blk0 m c t ct ((V_main_arg2 m c).trans h2), blk1 m c t w (v0 m c w h1), out2]
  refine spot (dv w ct) t.val _ _ _ _ ?_ ?_
  · show win0_2.index t (0 : Fin 2) * 1024 + 1 * (y 0).val = _
    rw [(idx2 t).1]
  · show win0_2.index t (1 : Fin 2) * 1024 + 1 * (y 1).val = _
    rw [(idx2 t).2]

end Arrays

/-- From any arguments, every run of the kernel and every run of the reference end with the same gradient. -/
theorem equal : Cert.algebraic_Kernel7Ideal_Reference7Ideal (hKernel7Ideal := Cert.Kernel7Ideal.Gen.facts)
    (hReference7Ideal := Cert.Reference7Ideal.Gen.facts) := by
  intro m g m' g' _ hargs
  refine ⟨fun c => tab (dv (ent (m ((c : Thread nD τ).loc main_arg1))) (ent (m ((c : Thread nD τ).loc main_arg2)))),
    (θ_run _ _ _).mono (fun r h c => ?_) (Cert.Kernel7Ideal.Value.run_blocks m g),
    (θ_run _ _ _).mono (fun r h c => ?_) (Cert.Reference7Ideal.Value.run m' g')⟩
  · have e1 := eq_tab (m ((c : Thread nD τ).loc main_arg1))
    have e2 := eq_tab (m ((c : Thread nD τ).loc main_arg2))
    obtain ⟨p0, rest⟩ := h c
    exact ⟨p0.trans (final2 m c _ _ e1 e2), rest⟩
  · have e1 := eq_tab (m ((c : Thread nD τ).loc main_arg1))
    have e2 := eq_tab (m ((c : Thread nD τ).loc main_arg2))
    obtain ⟨a0, a1, a2⟩ := hargs c
    obtain ⟨p0, rest⟩ := h c
    refine ⟨p0.trans ?_, rest⟩
    refine (Cert.Reference7Ideal.Read.val_main_v3_eq ..).trans ?_
    refine Eq.trans ?_ (ref ..)
    rw [a1, a2, ← e1, ← e2]

end Cert.OutBwd

end
-- ==== Proof.OutDw.lean ====
/- The convolution mixer's output projection, the weights' gradient: the kernel's result is the input, transposed, times the
   cotangent, and so is the reference's. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Tn
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.OutDw

open Idealize.ShloMosaic Idealize.ShloMosaic.TcCoe Idealize.ShloMosaic.Tactic Idealize.SL.Sem
open Cert.Ffn (tab tab1 ent ent1 eq_tab eq_tab1 tab_apply tab1_apply narrow widen mul_tab)
open Cert.Tn
open Cert.Kernel8Ideal Cert.Kernel8Ideal.Gen Cert.Kernel8Ideal.Value

private theorem hz : (![0, 0] : Fin 2 → Nat) = fun _ => 0 := funext fun a => by fin_cases a <;> rfl

/-! ## One block -/

/-- The sum starts at zero. -/
theorem pay1 : k0_pay1 (F := Ideal) = tab fun _ _ => 0 := by
  unfold k0_pay1
  simp only [shapeCast_self]
  funext i
  exact Ideal.ofBits_zero_f32

/-- A block pair's transposed product, added to the sum. -/
theorem pay2 (acc : Fin 1024 → Fin 1024 → EReal) (a b : Fin 2048 → Fin 1024 → EReal) :
    k0_pay2 (F := Ideal) (tab acc) (tab a) (tab b) = tab fun f d => acc f d + ∑ k, a k f * b k d := by
  unfold k0_pay2
  simp only [shapeCast_self, narrow]
  have e : matmul (F := Ideal) (φ₁ := .bf16) (φ₂ := .bf16) dot_S2048x1024_S2048x1024_S1024x1024_0_0_1_1_n_n none (tab a) (tab b)
      (constant S1024x1024 .f32 0x00000000#32) = tab fun f d => ∑ k, a k f * b k d := by
    funext i
    pointwise
    simp only [Ideal.ofBits_zero_f32, zero_add, tab_apply]
    rfl
  rw [e]
  rfl

section Points

variable (c : Dev nD) (i : grid0.Coords) (arg2 : Memref sig .tc .vmem S2048x1024 .bf16) (h2 : arg2.IsWhole) (arg3 : Memref sig .tc .vmem S2048x1024 .f32) (h3 : arg3.IsWhole)
  (arg4 : Memref sig .tc .vmem S1024x1024 .bf16) (h4 : arg4.IsWhole) (arg5 : Memref sig .tc .vmem S1024x1024 .f32) (h5 : arg5.IsWhole)
  (x0 : Vec Ideal S2048x1024 .bf16) (x1 : Vec Ideal S2048x1024 .f32) (xs0 : Vec Ideal S1024x1024 .f32)

/-- The sum after a first row tile. -/
theorem accA (hc0 : cond0_0 i) (hc1 : ¬cond0_1 i) : sout0_A_0 (F := Ideal) c i arg2 h2 arg3 h3 arg4 h4 arg5 h5 hc0 hc1 x0 x1 = k0_pay2 (k0_pay1 (F := Ideal)) x0 x1 := by
  unfold sout0_A_0
  rw [View.read_writes_eq_canon _ _ _ (scover0_A_0 c i arg2 h2 arg3 h3 arg4 h4 arg5 h5 hc0 hc1 x0 x1)]
  unfold kernelRun0_A
  dsimp only
  sl_unfold_words
  rw [View.canon_cons_unit_zero (S := S1024x1024) hz]
  simp only [View.readAt_eq_ld, h2.read_unread, h3.read_unread, h5.read_unread, View.ld_unit_zero (S := S2048x1024) hz,
    View.ld_unit_zero (S := S1024x1024) hz, View.readCov_unit_zero (S := S1024x1024) _ hz]

/-- The sum after a middle row tile. -/
theorem accB (hc0 : ¬cond0_0 i) (hc1 : ¬cond0_1 i) : sout0_B_0 (F := Ideal) c i arg2 h2 arg3 h3 arg4 h4 arg5 h5 hc0 hc1 x0 x1 xs0 = k0_pay2 xs0 x0 x1 := by
  unfold sout0_B_0
  rw [View.read_writes_eq_canon _ _ _ (scover0_B_0 c i arg2 h2 arg3 h3 arg4 h4 arg5 h5 hc0 hc1 x0 x1 xs0)]
  unfold kernelRun0_B
  dsimp only
  sl_unfold_words
  rw [View.canon_unit_zero (S := S1024x1024) hz]
  simp only [View.readAt_eq_ld, h2.read_unread, h3.read_unread, h5.read_unread, View.ld_unit_zero (S := S2048x1024) hz,
    View.ld_unit_zero (S := S1024x1024) hz, View.readCov_unit_zero (S := S1024x1024) _ hz]

/-- The sum after a last row tile. -/
theorem accC (hc0 : ¬cond0_0 i) (hc1 : cond0_1 i) : sout0_C_0 (F := Ideal) c i arg2 h2 arg3 h3 arg4 h4 arg5 h5 hc0 hc1 x0 x1 xs0 = k0_pay2 xs0 x0 x1 := by
  unfold sout0_C_0
  rw [View.read_writes_eq_canon _ _ _ (scover0_C_0 c i arg2 h2 arg3 h3 arg4 h4 arg5 h5 hc0 hc1 x0 x1 xs0)]
  unfold kernelRun0_C
  dsimp only
  sl_unfold_words
  rw [View.canon_unit_zero (S := S1024x1024) hz]
  simp only [View.readAt_eq_ld, h2.read_unread, h3.read_unread, h5.read_unread, View.ld_unit_zero (S := S2048x1024) hz,
    View.ld_unit_zero (S := S1024x1024) hz, View.readCov_unit_zero (S := S1024x1024) _ hz]

/-- The output after a last row tile. -/
theorem outC (hc0 : ¬cond0_0 i) (hc1 : cond0_1 i) : out0_C_2 (F := Ideal) c i arg2 h2 arg3 h3 arg4 h4 arg5 h5 hc0 hc1 x0 x1 xs0 = k0_pay3 (k0_pay2 xs0 x0 x1) := by
  unfold out0_C_2
  rw [View.read_writes_eq_canon _ _ _ (cover0_C_2 c i arg2 h2 arg3 h3 arg4 h4 arg5 h5 hc0 hc1 x0 x1 xs0)]
  unfold kernelRun0_C
  dsimp only
  sl_unfold_words
  rw [View.canon_unit_zero (S := S1024x1024) hz]
  simp only [View.readAt_eq_ld, h2.read_unread, h3.read_unread, h5.read_unread, View.ld_unit_zero (S := S2048x1024) hz,
    View.ld_unit_zero (S := S1024x1024) hz, View.readCov_unit_zero (S := S1024x1024) _ hz]

end Points

/-! ## The reference -/

namespace Ref

open Cert.Reference8Ideal.Read

variable (v ct : Fin 16384 → Fin 1024 → EReal)

/-- The weights' gradient. -/
theorem v4 : val_main_v4 (F := Ideal) (tab v) (tab ct) = tab (tn v ct) := by
  have e : val_main_v4 (F := Ideal) (tab v) (tab ct) = tab fun f d => ∑ s, ct s d * v s f := by
    funext i
    rw [val_main_v4_apply, val_main_v3_apply, val_main_v2_apply]
    rfl
  rw [e]
  exact congrArg tab (funext fun f => funext fun d => Finset.sum_congr rfl fun s _ => mul_comm (ct s d) (v s f))

end Ref

/-! ## The arrays -/

theorem idx0 : ∀ t : Fin grid0.N, win0_0.index t (0 : Fin 2) = t.val % 8 ∧ win0_0.index t (1 : Fin 2) = t.val / 8 := by decide +kernel
theorem idx1 : ∀ t : Fin grid0.N, win0_1.index t (0 : Fin 2) = t.val % 8 ∧ win0_1.index t (1 : Fin 2) = 0 := by decide +kernel
theorem idx2 : ∀ t : Fin grid0.N, win0_2.index t (0 : Fin 2) = t.val / 8 ∧ win0_2.index t (1 : Fin 2) = 0 := by decide +kernel

section Arrays

variable (m : (ℓ : Loc nD τ sig) → Buf (Elt Ideal) ℓ) (c : Dev nD) (t : Fin cfg0.N)
variable (A : Fin 16384 → Fin 1024 → EReal) (B : Fin 16384 → Fin 1024 → EReal)

/-- The transposed array's block at a point. -/
theorem blk0 (h : V m c main_arg0 = tab A) : iblk m c 0 t = tab fun k f => A (row (t.val % 8) k) (col 1024 (t.val / 8) f) := by
  funext i
  unfold iblk
  rw [View.read_apply]
  show V m c main_arg0 _ = _
  rw [h]
  have ht : t.val < 8 := lt_of_lt_of_eq t.isLt N_0
  have h0 : (i 0).val < 2048 := (i 0).isLt
  have h1 : (i 1).val < 1024 := (i 1).isLt
  refine congrArg₂ A (Fin.ext ?_) (Fin.ext ?_)
  · show win0_0.index t (0 : Fin 2) * 2048 + 1 * (i 0).val = (2048 * (t.val % 8) + (i 0).val) % 16384
    rw [(idx0 t).1]; omega
  · show win0_0.index t (1 : Fin 2) * 1024 + 1 * (i 1).val = (1024 * (t.val / 8) + (i 1).val) % 1024
    rw [(idx0 t).2]; omega

/-- The other array's block at a point. -/
theorem blk1 (h : V m c main_arg2 = tab B) : iblk m c 1 t = tab fun k d => B (row (t.val % 8) k) d := by
  funext i
  unfold iblk
  rw [View.read_apply]
  show V m c main_arg2 _ = _
  rw [h]
  have ht : t.val < 8 := lt_of_lt_of_eq t.isLt N_0
  have h0 : (i 0).val < 2048 := (i 0).isLt
  refine congrArg₂ B (Fin.ext ?_) (Fin.ext ?_)
  · show win0_1.index t (0 : Fin 2) * 2048 + 1 * (i 0).val = (2048 * (t.val % 8) + (i 0).val) % 16384
    rw [(idx1 t).1]; omega
  · show win0_1.index t (1 : Fin 2) * 1024 + 1 * (i 1).val = (i 1).val
    rw [(idx1 t).2]; omega

variable (hA : V m c main_arg0 = tab A) (hB : V m c main_arg2 = tab B)
include hA hB

/-- The sum after a point, from the sum before it. -/
theorem step (n : ℕ) (hn : n = t.val % 8) :
    k0_pay2 (F := Ideal) (tab (part A B (t.val / 8) n)) (iblk m c 0 t) (iblk m c 1 t) = tab (part A B (t.val / 8) (n + 1)) := by
  have e := pay2 (part A B (t.val / 8) n) (fun k f => A (row (t.val % 8) k) (col 1024 (t.val / 8) f)) (fun k d => B (row (t.val % 8) k) d)
  rw [blk0 m c t A hA, blk1 m c t B hB, ← part_succ, hn]
  rw [hn] at e
  exact e

omit hA hB in
/-- The sum after a first row tile, of the point's blocks. -/
theorem ptA (h0 : t.val % 8 = 0) (h1 : ¬t.val % 8 = 7) : (outsAt0 m c t.val t.isLt).2 = k0_pay2 (k0_pay1 (F := Ideal)) (iblk m c 0 t) (iblk m c 1 t) := by
  rw [outsAt0_A m c t h0 h1]
  dsimp only
  rw [accA]

omit hA hB in
/-- The sum after a middle row tile, of the point's blocks. -/
theorem ptB (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  rw [accB]

omit hA hB in
/-- The sum after a last row tile, of the point's blocks. -/
theorem ptC (h0 : ¬t.val % 8 = 0) (h1 : t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_C m c t h0 h1]
  dsimp only
  rw [accC]

omit hA hB in
/-- The output after a last row tile, of the point's blocks. -/
theorem ptOut (h0 : ¬t.val % 8 = 0) (h1 : t.val % 8 = 7) : (outsAt0 m c t.val t.isLt).1
    = k0_pay3 (k0_pay2 (outsAt0 m c (t.val - 1) (Nat.lt_of_le_of_lt (Nat.sub_le _ _) t.isLt)).2 (iblk m c 0 t) (iblk m c 1 t)) := by
  rw [outsAt0_C m c t h0 h1]
  dsimp only
  rw [outC]

/-- The sum after a first row tile. -/
theorem first (h0 : t.val % 8 = 0) : (outsAt0 m c t.val t.isLt).2 = tab (part A B (t.val / 8) (t.val % 8 + 1)) := by
  have h1 : ¬t.val % 8 = 7 := by omega
  rw [ptA m c t h0 h1, pay1, ← part_zero A B (t.val / 8)]
  refine (step m c t A B hA hB 0 h0.symm).trans ?_
  rw [h0]

/-- The sum after a later row tile, the one before it given. -/
theorem next (h0 : ¬t.val % 8 = 0) (ih : (outsAt0 m c (t.val - 1) (Nat.lt_of_le_of_lt (Nat.sub_le _ _) t.isLt)).2
    = tab (part A B ((t.val - 1) / 8) ((t.val - 1) % 8 + 1))) : (outsAt0 m c t.val t.isLt).2 = tab (part A B (t.val / 8) (t.val % 8 + 1)) := by
  have hd : (t.val - 1) / 8 = t.val / 8 := by omega
  have hm : (t.val - 1) % 8 + 1 = t.val % 8 := by omega
  rw [hd, hm] at ih
  by_cases h1 : t.val % 8 = 7
  · rw [ptC m c t h0 h1, ih]
    exact step m c t A B hA hB _ rfl
  · rw [ptB m c t h0 h1, ih]
    exact step m c t A B hA hB _ rfl

/-- The sum after every point. -/
theorem sums : ∀ (n : ℕ) (hn : n < cfg0.N), (outsAt0 m c n hn).2 = tab (part A B (n / 8) (n % 8 + 1))
  | 0, hn => first m c ⟨0, hn⟩ A B hA hB (Nat.zero_mod _)
  | n + 1, hn => by
    by_cases h0 : (n + 1) % 8 = 0
    · exact first m c ⟨n + 1, hn⟩ A B hA hB h0
    · exact next m c ⟨n + 1, hn⟩ A B hA hB h0 (sums n (by omega))

/-- The output after a last row tile. -/
theorem last (h1 : t.val % 8 = 7) : (outsAt0 m c t.val t.isLt).1 = tab fun f d => tn A B (col 1024 (t.val / 8) f) d := by
  have h0 : ¬t.val % 8 = 0 := by omega
  have hd : (t.val - 1) / 8 = t.val / 8 := by omega
  have hm : (t.val - 1) % 8 + 1 = 7 := by omega
  have ih := sums m c A B hA hB (t.val - 1) (Nat.lt_of_le_of_lt (Nat.sub_le _ _) t.isLt)
  rw [hd, hm] at ih
  rw [ptOut m c t h0 h1, ih, step m c t A B hA hB 7 h1.symm]
  refine (narrow _ _).trans ?_
  exact congrArg tab (funext fun f => funext fun d => part_all A B _ f d)

/-- The weights' gradient. -/
theorem final2 : (dats m 0 c).arrAt 2 cfg0.N = tab (tn A B) := by
  refine (dats m 0 c).arrAt_eq_of_covers 2 _ (by decide +kernel) fun t hf y => ?_
  rw [after0_2, last m c t A B hA hB ((flush0_2 t).mp hf)]
  generalize tn A B = M
  refine spot M (t.val / 8) _ _ _ _ ?_ ?_
  · show win0_2.index t (0 : Fin 2) * 1024 + 1 * (y 0).val = _
    rw [(idx2 t).1]
  · show win0_2.index t (1 : Fin 2) * 1024 + 1 * (y 1).val = _
    rw [(idx2 t).2]

end Arrays

/-- From any arguments, every run of the kernel and every run of the reference end with the same gradient. -/
theorem equal : Cert.algebraic_Kernel8Ideal_Reference8Ideal (hKernel8Ideal := Cert.Kernel8Ideal.Gen.facts)
    (hReference8Ideal := Cert.Reference8Ideal.Gen.facts) := by
  intro m g m' g' _ hargs
  refine ⟨fun c => tab (tn (ent (m ((c : Thread nD τ).loc main_arg0))) (ent (m ((c : Thread nD τ).loc main_arg2)))),
    (θ_run _ _ _).mono (fun r h c => ?_) (Cert.Kernel8Ideal.Value.run_blocks m g),
    (θ_run _ _ _).mono (fun r h c => ?_) (Cert.Reference8Ideal.Value.run m' g')⟩
  · have e0 := eq_tab (m ((c : Thread nD τ).loc main_arg0))
    have e2 := eq_tab (m ((c : Thread nD τ).loc main_arg2))
    obtain ⟨p0, rest⟩ := h c
    exact ⟨p0.trans (final2 m c _ _ ((V_main_arg0 m c).trans e0) ((V_main_arg2 m c).trans e2)), rest⟩
  · have e0 := eq_tab (m ((c : Thread nD τ).loc main_arg0))
    have e2 := eq_tab (m ((c : Thread nD τ).loc main_arg2))
    obtain ⟨a0, a1, a2⟩ := hargs c
    obtain ⟨p0, rest⟩ := h c
    refine ⟨p0.trans ?_, rest⟩
    refine (Cert.Reference8Ideal.Read.val_main_v4_eq ..).trans ?_
    refine Eq.trans ?_ (Ref.v4 ..)
    rw [a0, a2, ← e0, ← e2]

end Cert.OutDw

end
-- ==== Proof.InFwd.lean ====
/- The convolution mixer's input projection, forward: the kernel's results are the normed input and its product with the weights,
   and so are the reference's. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry
public import proofs.«01_k».proof.Proof.Fwd.Math

@[expose] public section

set_option maxRecDepth 16384

noncomputable section

open scoped BigOperators

namespace Cert.InFwd

open Idealize.ShloMosaic Idealize.ShloMosaic.TcCoe Idealize.ShloMosaic.Tactic Idealize.SL.Sem
open Cert.Ffn (tab tab1 ent ent1 eq_tab eq_tab1 tab_apply tab1_apply narrow widen mul_tab)
open Cert.Ffn.Fwd (msq nrm)
open Cert.Kernel9Ideal Cert.Kernel9Ideal.Gen Cert.Kernel9Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The normed input times the weights. -/
def proj {n : ℕ} (x : Fin n → Fin 1024 → EReal) (gn : Fin 1024 → EReal) (w : Fin 1024 → Fin 3072 → EReal) (s : Fin n) (f : Fin 3072) : EReal :=
  ∑ d, nrm x gn s d * w d f

/-- A column repeated along the rows. -/
theorem spread (v : Fin 1024 → EReal) (h) : broadcastTo (α := EReal) S1024x1024 (tab fun k (_ : Fin 1) => v k) h = tab fun k (_ : Fin 1024) => v k := by
  funext i
  pointwise
  rfl

/-- A row repeated down the block. -/
theorem tower (v : Fin 1024 → EReal) (h) : broadcastTo (α := EReal) S1024x1024 (tab fun (_ : Fin 1) d => v d) h = tab fun (_ : Fin 1024) d => v d := by
  funext i
  pointwise
  rfl

/-- The row sums of a block. -/
theorem rowsum (v : Fin 1024 → Fin 1024 → EReal) (h) :
    multiReduction (F := Ideal) (φ := .f32) .add [1] S1024 (tab v) 0x00000000#32 h (.inl rfl) rfl = tab1 fun k => ∑ d, v k d := by
  funext i
  pointwise
  simp only [Ideal.ofBits_zero_f32, zero_add, tab_apply]
  rfl

/-- A vector as a column. -/
theorem column (v : Fin 1024 → EReal) (h) : shapeCast (α := EReal) S1024x1 (tab1 v) h = tab fun k (_ : Fin 1) => v k := by
  funext i
  pointwise
  rfl

/-- The normed rows of a block. -/
theorem pay1 (x : Fin 1024 → Fin 1024 → EReal) (gn : Fin 1024 → EReal) : k0_pay1 (F := Ideal) (tab x) (tab fun (_ : Fin 1) d => gn d) = tab (nrm x gn) := by
  unfold k0_pay1
  simp only [shapeCast_self, mul_tab]
  erw [rowsum]
  rw [column]
  have e : rsqrt (F := Ideal) (φ := .f32) (addf (divf (tab fun (k : Fin 1024) (_ : Fin 1) => ∑ d, x k d * x k d)
      (broadcast S1024x1 (Scalar.ofBits .f32 0x44800000#32))) (broadcast S1024x1 (Scalar.ofBits .f32 0x358637BD#32)))
    = tab fun (k : Fin 1024) (_ : Fin 1) => Ideal.rsqrt (msq x k) := rfl
  erw [e]
  rw [spread, tower, mul_tab, mul_tab, narrow]
  rfl

/-- The projected rows of a block. -/
theorem pay2 (x : Fin 1024 → Fin 1024 → EReal) (gn : Fin 1024 → EReal) (w : Fin 1024 → Fin 3072 → EReal) :
    k0_pay2 (F := Ideal) (tab x) (tab fun (_ : Fin 1) d => gn d) (tab fun f d => w d f) = tab (proj x gn w) := by
  unfold k0_pay2
  simp only [shapeCast_self, narrow, pay1]
  funext i
  pointwise
  simp only [Ideal.ofBits_zero_f32, zero_add, tab_apply]
  rfl

/-- What one block's first output holds. -/
theorem out3 (x : Fin 1024 → Fin 1024 → EReal) (gn : Fin 1024 → EReal) (a : S3072x1024.Idx → EReal) :
    out0_3 (F := Ideal) (tab x) (tab fun (_ : Fin 1) d => gn d) a = tab (nrm x gn) := by
  unfold out0_3
  rw [View.canon_unit_zero (S := S1024x1024) hz, View.ld_unit_zero (S := S1024x1024) hz, View.ld_unit_zero (S := S1x1024) hz, pay1]

/-- What one block's second output holds. -/
theorem out4 (x : Fin 1024 → Fin 1024 → EReal) (gn : Fin 1024 → EReal) (w : Fin 1024 → Fin 3072 → EReal) :
    out0_4 (F := Ideal) (tab x) (tab fun (_ : Fin 1) d => gn d) (tab fun f d => w d f) = tab (proj x gn w) := by
  unfold out0_4
  rw [View.canon_unit_zero (S := S1024x3072) hz, View.ld_unit_zero (S := S1024x1024) hz, View.ld_unit_zero (S := S1x1024) hz,
    View.ld_unit_zero (S := S3072x1024) hz, pay2]

namespace Ref

open Cert.Reference9Ideal.Read

variable (x : Fin 16384 → Fin 1024 → EReal) (gn : Fin 1024 → EReal) (w : Fin 1024 → Fin 3072 → EReal)

/-- The normed input. -/
theorem v12 : val_main_v12 (F := Ideal) (tab x) (tab1 gn) = tab (nrm x gn) := by
  funext i
  rw [val_main_v12_apply, val_main_v9_apply, val_main_v8_apply, val_main_v7_apply, val_main_v6_apply, val_main_v4_apply,
    val_main_v2_apply, val_main_v1_apply, val_main_v3_apply, val_main_v5_apply, val_main_cst_apply, val_main_cst_0_apply,
    val_main_cst_1_apply, val_main_v11_apply, val_main_v10_apply]
  simp only [val_main_v0_apply, Ideal.ofBits_def, Ideal.ofBits_zero_f32, zero_add, Ideal.mulf_def,
    Ideal.addf_def, Ideal.hostDivf_def, Ideal.hostUnary_rsqrt_def]
  rfl

/-- The normed input, rounded. -/
theorem v13 : val_main_v13 (F := Ideal) (tab x) (tab1 gn) = tab (nrm x gn) := by
  funext i
  rw [val_main_v13_apply, v12]
  rfl

/-- The projected input. -/
theorem v15 : val_main_v15 (F := Ideal) (tab x) (tab1 gn) (tab w) = tab (proj x gn w) := by
  funext i
  rw [val_main_v15_apply, val_main_v14_apply, v12]
  rfl

end Ref

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = t.val ∧ win0_4.index t (1 : Fin 2) = 0 := by decide +kernel

section Arrays

variable (m : (ℓ : Loc nD τ sig) → Buf (Elt Ideal) ℓ) (c : Dev nD) (t : Fin cfg0.N)
variable (x : Fin 16384 → Fin 1024 → EReal) (gn : Fin 1024 → EReal) (w : Fin 1024 → Fin 3072 → EReal)

/-- The transposed weights. -/
theorem v1 (hw : m ((c : Thread nD τ).loc main_arg2) = tab w) : V m c main_v1 = tab fun f d => w d f := by
  have e : V m c main_v1 = transpose (α := EReal) S3072x1024 [1, 0] (m ((c : Thread nD τ).loc main_arg2)) transposes_S1024x3072_S3072x1024_1_0 := by
    dsimp only [V, hostOps0]
    after_results
    rfl
  rw [e, hw]
  funext i
  pointwise
  rfl

/-- The gain as a row. -/
theorem v2 (hg : m ((c : Thread nD τ).loc main_arg1) = tab1 gn) : V m c main_v2 = tab fun (_ : Fin 1) d => gn d := by
  have e : V m c main_v2 = shapeCast (α := EReal) S1x1024 (m ((c : Thread nD τ).loc main_arg1)) shapeCasts_S1024_S1x1024 := by
    dsimp only [V, hostOps0]
    after_results
    rfl
  rw [e, hg]
  funext i
  pointwise
  rfl

/-- The input block of a point. -/
theorem blk0 (M : Fin 16384 → Fin 1024 → EReal) (h : V m c main_arg0 = tab M) : iblk m c 0 t = tab fun k d => M (row t.val k) d := by
  funext i
  unfold iblk
  rw [View.read_apply]
  show V m c main_arg0 _ = _
  rw [h]
  refine (spot M t.val _ _ _ _ ?_ ?_).symm
  · show win0_0.index t (0 : Fin 2) * 1024 + 1 * (i 0).val = _
    rw [(idx0 t).1]
  · show win0_0.index t (1 : Fin 2) * 1024 + 1 * (i 1).val = _
    rw [(idx0 t).2]

/-- The gain at a point. -/
theorem blk1 (M : Fin 1 → Fin 1024 → EReal) (h : V m c main_v2 = tab M) : iblk m c 1 t = tab M := by
  funext i
  unfold iblk
  rw [View.read_apply]
  show V m c main_v2 _ = _
  rw [h]
  refine congrArg₂ M (Fin.ext ?_) (Fin.ext ?_)
  · show win0_1.index t (0 : Fin 2) * 1 + 1 * (i 0).val = (i 0).val
    rw [(idx1 t).1]; omega
  · show win0_1.index t (1 : Fin 2) * 1024 + 1 * (i 1).val = (i 1).val
    rw [(idx1 t).2]; omega

/-- The weights at a point. -/
theorem blk2 (M : Fin 3072 → Fin 1024 → EReal) (h : V m c main_v1 = tab M) : iblk m c 2 t = tab M := by
  funext i
  unfold iblk
  rw [View.read_apply]
  show V m c main_v1 _ = _
  rw [h]
  refine congrArg₂ M (Fin.ext ?_) (Fin.ext ?_)
  · show win0_2.index t (0 : Fin 2) * 3072 + 1 * (i 0).val = (i 0).val
    rw [(idx2 t).1]; omega
  · show win0_2.index t (1 : Fin 2) * 1024 + 1 * (i 1).val = (i 1).val
    rw [(idx2 t).2]; omega

variable (h0 : m ((c : Thread nD τ).loc main_arg0) = tab x) (h1 : m ((c : Thread nD τ).loc main_arg1) = tab1 gn)
include h0 h1

/-- The normed input. -/
theorem final3 : (dats m 0 c).arrAt 3 cfg0.N = tab (nrm x gn) := by
  refine (dats m 0 c).arrAt_eq_of_covers 3 _ (by decide +kernel) fun t hf y => ?_
  rw [after0_3, blk0 m c t x ((V_main_arg0 m c).trans h0), blk1 m c t _ (v2 m c gn h1), out3]
  refine spot (nrm x gn) t.val _ _ _ _ ?_ ?_
  · show win0_3.index t (0 : Fin 2) * 1024 + 1 * (y 0).val = _
    rw [(idx3 t).1]
  · show win0_3.index t (1 : Fin 2) * 1024 + 1 * (y 1).val = _
    rw [(idx3 t).2]

/-- The projected input. -/
theorem final4 (h2 : m ((c : Thread nD τ).loc main_arg2) = tab w) : (dats m 0 c).arrAt 4 cfg0.N = tab (proj x gn w) := by
  refine (dats m 0 c).arrAt_eq_of_covers 4 _ (by decide +kernel) fun t hf y => ?_
  rw [after0_4, blk0 m c t x ((V_main_arg0 m c).trans h0), blk1 m c t _ (v2 m c gn h1), blk2 m c t _ (v1 m c w h2), out4]
  refine spot (proj x gn w) t.val _ _ _ _ ?_ ?_
  · show win0_4.index t (0 : Fin 2) * 1024 + 1 * (y 0).val = _
    rw [(idx4 t).1]
  · show win0_4.index t (1 : Fin 2) * 3072 + 1 * (y 1).val = _
    rw [(idx4 t).2]

end Arrays

/-- From any arguments, every run of the kernel and every run of the reference end with the same two arrays. -/
theorem equal : Cert.algebraic_Kernel9Ideal_Reference9Ideal (hKernel9Ideal := Cert.Kernel9Ideal.Gen.facts)
    (hReference9Ideal := Cert.Reference9Ideal.Gen.facts) := by
  intro m g m' g' _ hargs
  refine ⟨fun c => tab (nrm (ent (m ((c : Thread nD τ).loc main_arg0))) (ent1 (m ((c : Thread nD τ).loc main_arg1)))),
    fun c => tab (proj (ent (m ((c : Thread nD τ).loc main_arg0))) (ent1 (m ((c : Thread nD τ).loc main_arg1))) (ent (m ((c : Thread nD τ).loc main_arg2)))),
    (θ_run _ _ _).mono (fun r h c => ?_) (Cert.Kernel9Ideal.Value.run_blocks m g),
    (θ_run _ _ _).mono (fun r h c => ?_) (Cert.Reference9Ideal.Value.run m' g')⟩
  · have e0 := eq_tab (m ((c : Thread nD τ).loc main_arg0))
    have e1 := eq_tab1 (m ((c : Thread nD τ).loc main_arg1))
    have e2 := eq_tab (m ((c : Thread nD τ).loc main_arg2))
    obtain ⟨p0, p1, rest⟩ := h c
    exact ⟨p0.trans (final3 m c _ _ e0 e1), p1.trans (final4 m c _ _ _ e0 e1 e2), rest⟩
  · have e0 := eq_tab (m ((c : Thread nD τ).loc main_arg0))
    have e1 := eq_tab1 (m ((c : Thread nD τ).loc main_arg1))
    have e2 := eq_tab (m ((c : Thread nD τ).loc main_arg2))
    obtain ⟨a0, a1, a2⟩ := hargs c
    obtain ⟨p0, p1, rest⟩ := h c
    refine ⟨p0.trans ?_, p1.trans ?_, rest⟩
    · refine (Cert.Reference9Ideal.Read.val_main_v13_eq ..).trans ?_
      refine Eq.trans ?_ (Ref.v13 ..)
      rw [a0, a1, ← e0, ← e1]
    · refine (Cert.Reference9Ideal.Read.val_main_v15_eq ..).trans ?_
      refine Eq.trans ?_ (Ref.v15 ..)
      rw [a0, a1, a2, ← e0, ← e1, ← e2]

end Cert.InFwd

end
-- ==== Proof.Conv.Fwd.lean ====
/- The gated short convolution itself: the kernel's result and the reference's are the outer gate times the convolution. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Conv.Result

@[expose] public section

set_option maxRecDepth 16384

noncomputable section

namespace Cert.Conv.Fwd

open Idealize.ShloMosaic Idealize.ShloMosaic.TcCoe Idealize.ShloMosaic.Tactic Idealize.SL.Sem
open Cert.Kernel10Ideal Cert.Kernel10Ideal.Gen Cert.Kernel10Ideal.Value Cert.Ffn Cert.Conv

private theorem hz : (![0, 0] : Fin 2 → Nat) = fun _ => 0 := funext fun a => by fin_cases a <;> rfl

/-- The result. -/
def out (W : ℕ → Fin 1024 → EReal) (P : ℕ → Fin 3072 → EReal) (r : ℕ) (d : Fin 1024) : EReal := P r (colB d) * y W P r d

/-! ## One block -/

section Block

variable (W : ℕ → Fin 1024 → EReal) (P : ℕ → Fin 3072 → EReal) (n : ℕ) (hn : n < 16) (i : grid0.Coords) (hi : (i 0).val = n)

/-- The outer gate times the convolution. -/
theorem pay1 : k0_pay1 (F := Ideal) (k0_pay2 (rowsB P 1024 (1024 * n))) (rows 1024 (u P) (1024 * n)) (tab fun (k : Fin 1024) d => up P (1024 * n + k.val + 1) d)
      (rows 1024 (up P) (1024 * n)) (tab fun (_ : Fin 1) d => W 0 d) (tab fun (_ : Fin 1) d => W 1 d) (tab fun (_ : Fin 1) d => W 2 d)
    = rows 1024 (out W P) (1024 * n) := by
  unfold k0_pay1 k0_pay2
  simp only [shapeCast_self, tower, widen, mul_tab, add_tab, narrow]
  refine tab_ext fun r d => ?_
  rw [out, y, up_two]

include hn hi

/-- The convolution's input one row down. -/
theorem pay5 : k0_pay5 (F := Ideal) i (rowsC P 1024 (1024 * n)) (rowsZ P 1024 (1024 * n)) (rowsC P 8 (8 * (128 * n - 1))) (rowsZ P 8 (8 * (128 * n - 1)))
    = tab fun (k : Fin 1024) d => up P (1024 * n + k.val + 1) d :=
  Eq.trans rfl (pay9 P n hn i hi)

/-- The convolution's input two rows down. -/
theorem pay6 : k0_pay6 (F := Ideal) i (rowsC P 1024 (1024 * n)) (rowsZ P 1024 (1024 * n)) (rowsC P 8 (8 * (128 * n - 1))) (rowsZ P 8 (8 * (128 * n - 1)))
    = rows 1024 (up P) (1024 * n) :=
  Eq.trans rfl (pay12 P n hn i hi)

/-- The block of the result. -/
theorem block : out0_3 (F := Ideal) i (rows 1024 P (1024 * n)) (rows 8 P (8 * (128 * n - 1))) (tab fun (r : Fin 8) d => W r.val d)
    = rows 1024 (out W P) (1024 * n) := by
  unfold out0_3
  rw [View.canon_unit_zero (S := S1024x1024) hz]
  have b : View.ld (Val := Elt Ideal) (e' := .bf16) (S := S1024x3072) (rows 1024 P (1024 * n)) r0_0 = rowsB P 1024 (1024 * n) := ldB P _ _
  have c : View.ld (Val := Elt Ideal) (e' := .bf16) (S := S1024x3072) (rows 1024 P (1024 * n)) r0_1 = rowsC P 1024 (1024 * n) := ldC P _ _
  have z : View.ld (Val := Elt Ideal) (e' := .bf16) (S := S1024x3072) (rows 1024 P (1024 * n)) r0_2 = rowsZ P 1024 (1024 * n) := ldZ P _ _
  have c8 : View.ld (Val := Elt Ideal) (e' := .bf16) (S := S8x3072) (rows 8 P (8 * (128 * n - 1))) r0_3 = rowsC P 8 (8 * (128 * n - 1)) := ldC8 P _ _
  have z8 : View.ld (Val := Elt Ideal) (e' := .bf16) (S := S8x3072) (rows 8 P (8 * (128 * n - 1))) r0_4 = rowsZ P 8 (8 * (128 * n - 1)) := ldZ8 P _ _
  simp only [ldRow _ 0 (by decide), ldRow _ 1 (by decide), ldRow _ 2 (by decide)]
  rw [b, c, z, c8, z8, pay5 P n hn i hi, pay6 P n hn i hi]
  exact pay1 W P n

end Block

/-! ## The arrays -/

theorem idx0 : ∀ t : Fin grid0.N, win0_0.index t (0 : Fin 2) = t.val ∧ win0_0.index t (1 : Fin 2) = 0 := by decide +kernel
theorem idx1 : ∀ t : Fin grid0.N, win0_1.index t (0 : Fin 2) = 128 * t.val - 1 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = t.val ∧ win0_3.index t (1 : Fin 2) = 0 := by decide +kernel
theorem coord : ∀ t : Fin grid0.N, (grid0.coords t 0).val = t.val := by decide +kernel

section Arrays

variable (m : (ℓ : Loc nD τ sig) → Buf (Elt Ideal) ℓ) (c : Dev nD) (t : Fin cfg0.N)
variable (p : Fin 16384 → Fin 3072 → EReal) (w : Fin 3 → Fin 1024 → EReal)

/-- The taps, with rows of zeros below. -/
theorem v0 (hw : m ((c : Thread nD τ).loc main_arg1) = tab w) : V m c main_v0 = tab fun (r : Fin 8) d => ext w r.val d := by
  have e : V m c main_v0 = pad (α := EReal) S8x1024 ![0, 0] ![5, 0] ![0, 0] (m ((c : Thread nD τ).loc main_arg1))
      (sitofp (F := Ideal) .f32 (constantI S_ 32 0#32)) pads_S3x1024_S8x1024_050_000 h_S_ := by
    dsimp only [V, hostOps0, hostOps0_1, List.flatten_cons, List.flatten_nil, List.append_nil, List.cons_append, List.nil_append]
    after_results
    rfl
  have zero : sitofp (F := Ideal) .f32 (constantI S_ 32 0#32) (Shape.Idx.first h_S_) = 0 :=
    (Ideal.scalar_sitofp_def (φ := .f32) 0#32).trans (by simp)
  rw [e, hw, Ref.padRows _ _ _ _ zero]
  exact tab_ext fun r d => if_neg (Nat.not_lt_zero _)

/-- The projected input's rows at a point. -/
theorem blk0 (h : V m c main_arg0 = tab p) : iblk m c 0 t = rows 1024 (ext p) (1024 * t.val) := by
  funext i
  unfold iblk
  rw [View.read_apply]
  show V m c main_arg0 _ = _
  rw [h]
  refine spot p _ _ _ _ ?_ ?_
  · show win0_0.index t (0 : Fin 2) * 1024 + 1 * (i 0).val = 1024 * t.val + (i 0).val
    rw [(idx0 t).1]; omega
  · show win0_0.index t (1 : Fin 2) * 3072 + 1 * (i 1).val = (i 1).val
    rw [(idx0 t).2]; omega

/-- The projected input's rows just above a point's. -/
theorem blk1 (h : V m c main_arg0 = tab p) : iblk m c 1 t = rows 8 (ext p) (8 * (128 * t.val - 1)) := by
  funext i
  unfold iblk
  rw [View.read_apply]
  show V m c main_arg0 _ = _
  rw [h]
  refine spot p _ _ _ _ ?_ ?_
  · show win0_1.index t (0 : Fin 2) * 8 + 1 * (i 0).val = 8 * (128 * t.val - 1) + (i 0).val
    rw [(idx1 t).1]; omega
  · show win0_1.index t (1 : Fin 2) * 3072 + 1 * (i 1).val = (i 1).val
    rw [(idx1 t).2]; omega

/-- The taps at a point. -/
theorem blk2 (M : Fin 8 → Fin 1024 → EReal) (h : V m c main_v0 = tab M) : iblk m c 2 t = tab M := by
  funext i
  unfold iblk
  rw [View.read_apply]
  show V m c main_v0 _ = _
  rw [h]
  refine congrArg₂ M (Fin.ext ?_) (Fin.ext ?_)
  · show win0_2.index t (0 : Fin 2) * 8 + 1 * (i 0).val = (i 0).val
    rw [(idx2 t).1]; omega
  · show win0_2.index t (1 : Fin 2) * 1024 + 1 * (i 1).val = (i 1).val
    rw [(idx2 t).2]; omega

/-- The kernel's result. -/
theorem final3 (h0 : m ((c : Thread nD τ).loc main_arg0) = tab p) (h1 : m ((c : Thread nD τ).loc main_arg1) = tab w) :
    (dats m 0 c).arrAt 3 cfg0.N = tab fun (r : Fin 16384) d => out (ext w) (ext p) r.val d := by
  have a0 := (V_main_arg0 m c).trans h0
  have a1 := v0 m c w h1
  refine (dats m 0 c).arrAt_eq_of_covers 3 _ (by decide +kernel) fun t hf y => ?_
  have hN : t.val < 16 := lt_of_lt_of_eq t.isLt N_0
  rw [after0_3, blk0 m c t p a0, blk1 m c t p a0, blk2 m c t _ a1, block (ext w) (ext p) t.val hN _ (coord t)]
  generalize out (ext w) (ext p) = M
  refine congrArg₂ M ?_ (Fin.ext ?_)
  · show 1024 * t.val + (y 0).val = win0_3.index t (0 : Fin 2) * 1024 + 1 * (y 0).val
    rw [(idx3 t).1]; omega
  · show (y 1).val = win0_3.index t (1 : Fin 2) * 1024 + 1 * (y 1).val
    rw [(idx3 t).2]; omega

end Arrays

/-- The reference's result: its convolution is the one that the gradient's reference runs first. -/
theorem ref (p : Fin 16384 → Fin 3072 → EReal) (w : Fin 3 → Fin 1024 → EReal) :
    Cert.Reference10Ideal.Read.val_main_v30 (F := Ideal) (tab p) (tab w) = tab fun r d => out (ext w) (ext p) r.val d := by
  have e28 : Cert.Reference10Ideal.Read.val_main_v28 (F := Ideal) (tab p) (tab w) = tab fun r d => y (ext w) (ext p) r.val d :=
    Eq.trans rfl (Ref.v29 p w)
  have e1 : Cert.Reference10Ideal.Read.val_main_v1 (F := Ideal) (tab p) = tab fun r d => ext p r.val (colB d) :=
    Eq.trans rfl (Ref.v1 p)
  rw [Cert.Reference10Ideal.Read.val_main_v30, Cert.Reference10Ideal.Read.val_main_v29, e28, e1]
  rfl

/-- From any arguments, every run of the kernel and every run of the reference end with the same array. -/
theorem equal : Cert.algebraic_Kernel10Ideal_Reference10Ideal (hKernel10Ideal := Cert.Kernel10Ideal.Gen.facts)
    (hReference10Ideal := Cert.Reference10Ideal.Gen.facts) := by
  intro m g m' g' _ hargs
  refine ⟨fun c => tab fun (r : Fin 16384) d => out (ext (ent (m ((c : Thread nD τ).loc main_arg1)))) (ext (ent (m ((c : Thread nD τ).loc main_arg0)))) r.val d,
    (θ_run _ _ _).mono (fun r h c => ?_) (Cert.Kernel10Ideal.Value.run_blocks m g),
    (θ_run _ _ _).mono (fun r h c => ?_) (Cert.Reference10Ideal.Value.run m' g')⟩
  · have e0 := eq_tab (m ((c : Thread nD τ).loc main_arg0))
    have e1 := eq_tab (m ((c : Thread nD τ).loc main_arg1))
    obtain ⟨p0, rest⟩ := h c
    exact ⟨p0.trans (final3 m c _ _ e0 e1), rest⟩
  · have e0 := eq_tab (m ((c : Thread nD τ).loc main_arg0))
    have e1 := eq_tab (m ((c : Thread nD τ).loc main_arg1))
    obtain ⟨a0, a1⟩ := hargs c
    obtain ⟨p0, rest⟩ := h c
    refine ⟨p0.trans ?_, rest⟩
    refine (Cert.Reference10Ideal.Read.val_main_v30_eq ..).trans ?_
    refine Eq.trans ?_ (ref ..)
    rw [a0, a1, ← e0, ← e1]

end Cert.Conv.Fwd

end
-- ==== Proof.OutFwd.lean ====
/- The convolution mixer's output projection, forward: the kernel's result is the residual plus the rows times the weights, and
   so is the reference's. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.OutFwd

open Idealize.ShloMosaic Idealize.ShloMosaic.TcCoe Idealize.ShloMosaic.Tactic Idealize.SL.Sem
open Cert.Ffn (tab tab1 ent ent1 eq_tab eq_tab1 tab_apply tab1_apply narrow widen)
open Cert.Kernel11Ideal Cert.Kernel11Ideal.Gen Cert.Kernel11Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The residual plus the rows times the weights. -/
def out {n : ℕ} (v : Fin n → Fin 1024 → EReal) (w : Fin 1024 → Fin 1024 → EReal) (res : Fin n → Fin 1024 → EReal) (s : Fin n) (d : Fin 1024) : EReal :=
  res s d + ∑ e, v s e * w e d

/-- The rows times the weights. -/
theorem product (v w : Fin 1024 → Fin 1024 → EReal) :
    matmul (F := Ideal) (φ₁ := .bf16) (φ₂ := .bf16) dot_S1024x1024_S1024x1024_S1024x1024_1_0_0_1_n_n none (tab v) (tab w) (constant S1024x1024 .f32 0x00000000#32)
    = tab fun k d => ∑ e, v k e * w e d := by
  funext i
  pointwise
  simp only [Ideal.ofBits_zero_f32, zero_add, tab_apply]
  rfl

/-- What the kernel computes of one block. -/
theorem pay1 (v w res : Fin 1024 → Fin 1024 → EReal) : k0_pay1 (F := Ideal) (tab v) (tab w) (tab res) = tab (out v w res) := by
  unfold k0_pay1
  simp only [shapeCast_self, product]
  funext i
  show res (i 0) (i 1) + Ideal.ofBits .f32 0x3F800000#32 * (∑ e, v (i 0) e * w e (i 1)) = _
  rw [Ideal.ofBits_one_f32, one_mul]
  rfl

/-- What one block's output holds. -/
theorem out3 (v w res : Fin 1024 → Fin 1024 → EReal) : out0_3 (F := Ideal) (tab v) (tab w) (tab res) = tab (out v w res) := by
  unfold out0_3
  rw [View.canon_unit_zero (S := S1024x1024) hz]
  simp only [View.ld_unit_zero (S := S1024x1024) hz]
  exact pay1 v w res

/-- The reference's result. -/
theorem ref (v : Fin 16384 → Fin 1024 → EReal) (w : Fin 1024 → Fin 1024 → EReal) (res : Fin 16384 → Fin 1024 → EReal) :
    Cert.Reference11Ideal.Read.val_main_v2 (F := Ideal) (tab v) (tab w) (tab res) = tab (out v w res) := by
  funext i
  rw [Cert.Reference11Ideal.Read.val_main_v2_apply, Cert.Reference11Ideal.Read.val_main_v1_apply]
  rfl

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = t.val ∧ win0_3.index t (1 : Fin 2) = 0 := by decide +kernel

section Arrays

variable (m : (ℓ : Loc nD τ sig) → Buf (Elt Ideal) ℓ) (c : Dev nD) (t : Fin cfg0.N)
variable (v : Fin 16384 → Fin 1024 → EReal) (w : Fin 1024 → Fin 1024 → EReal) (res : Fin 16384 → Fin 1024 → EReal)

/-- The weights. -/
theorem v0 (hw : m ((c : Thread nD τ).loc main_arg1) = tab w) : V m c main_v0 = tab w := by
  have e : V m c main_v0 = m ((c : Thread nD τ).loc main_arg1) := by
    dsimp only [V, hostOps0]
    after_results
    rfl
  rw [e, hw]

/-- The rows of a point. -/
theorem blk0 (M : Fin 16384 → Fin 1024 → EReal) (h : V m c main_arg0 = tab M) : iblk m c 0 t = tab fun k d => M (row t.val k) d := by
  funext i
  unfold iblk
  rw [View.read_apply]
  show V m c main_arg0 _ = _
  rw [h]
  refine (spot M t.val _ _ _ _ ?_ ?_).symm
  · show win0_0.index t (0 : Fin 2) * 1024 + 1 * (i 0).val = _
    rw [(idx0 t).1]
  · show win0_0.index t (1 : Fin 2) * 1024 + 1 * (i 1).val = _
    rw [(idx0 t).2]

/-- The weights at a point. -/
theorem blk1 (M : Fin 1024 → Fin 1024 → EReal) (h : V m c main_v0 = tab M) : iblk m c 1 t = tab M := by
  funext i
  unfold iblk
  rw [View.read_apply]
  show V m c main_v0 _ = _
  rw [h]
  refine congrArg₂ M (Fin.ext ?_) (Fin.ext ?_)
  · show win0_1.index t (0 : Fin 2) * 1024 + 1 * (i 0).val = (i 0).val
    rw [(idx1 t).1]; omega
  · show win0_1.index t (1 : Fin 2) * 1024 + 1 * (i 1).val = (i 1).val
    rw [(idx1 t).2]; omega

/-- The residual block of a point. -/
theorem blk2 (M : Fin 16384 → Fin 1024 → EReal) (h : V m c main_arg2 = tab M) : iblk m c 2 t = tab fun k d => M (row t.val k) d := by
  funext i
  unfold iblk
  rw [View.read_apply]
  show V m c main_arg2 _ = _
  rw [h]
  refine (spot M t.val _ _ _ _ ?_ ?_).symm
  · show win0_2.index t (0 : Fin 2) * 1024 + 1 * (i 0).val = _
    rw [(idx2 t).1]
  · show win0_2.index t (1 : Fin 2) * 1024 + 1 * (i 1).val = _
    rw [(idx2 t).2]

/-- The kernel's result. -/
theorem final3 (h0 : m ((c : Thread nD τ).loc main_arg0) = tab v) (h1 : m ((c : Thread nD τ).loc main_arg1) = tab w)
    (h2 : m ((c : Thread nD τ).loc main_arg2) = tab res) : (dats m 0 c).arrAt 3 cfg0.N = tab (out v w res) := by
  refine (dats m 0 c).arrAt_eq_of_covers 3 _ (by decide +kernel) fun t hf y => ?_
  rw [after0_3, blk0 m c t v ((V_main_arg0 m c).trans h0), blk1 m c t w (v0 m c w h1), blk2 m c t res ((V_main_arg2 m c).trans h2), out3]
  refine spot (out v w res) t.val _ _ _ _ ?_ ?_
  · show win0_3.index t (0 : Fin 2) * 1024 + 1 * (y 0).val = _
    rw [(idx3 t).1]
  · show win0_3.index t (1 : Fin 2) * 1024 + 1 * (y 1).val = _
    rw [(idx3 t).2]

end Arrays

/-- From any arguments, every run of the kernel and every run of the reference end with the same array. -/
theorem equal : Cert.algebraic_Kernel11Ideal_Reference11Ideal (hKernel11Ideal := Cert.Kernel11Ideal.Gen.facts)
    (hReference11Ideal := Cert.Reference11Ideal.Gen.facts) := by
  intro m g m' g' _ hargs
  refine ⟨fun c => tab (out (ent (m ((c : Thread nD τ).loc main_arg0))) (ent (m ((c : Thread nD τ).loc main_arg1))) (ent (m ((c : Thread nD τ).loc main_arg2)))),
    (θ_run _ _ _).mono (fun r h c => ?_) (Cert.Kernel11Ideal.Value.run_blocks m g),
    (θ_run _ _ _).mono (fun r h c => ?_) (Cert.Reference11Ideal.Value.run m' g')⟩
  · have e0 := eq_tab (m ((c : Thread nD τ).loc main_arg0))
    have e1 := eq_tab (m ((c : Thread nD τ).loc main_arg1))
    have e2 := eq_tab (m ((c : Thread nD τ).loc main_arg2))
    obtain ⟨p0, rest⟩ := h c
    exact ⟨p0.trans (final3 m c _ _ _ e0 e1 e2), rest⟩
  · have e0 := eq_tab (m ((c : Thread nD τ).loc main_arg0))
    have e1 := eq_tab (m ((c : Thread nD τ).loc main_arg1))
    have e2 := eq_tab (m ((c : Thread nD τ).loc main_arg2))
    obtain ⟨a0, a1, a2⟩ := hargs c
    obtain ⟨p0, rest⟩ := h c
    refine ⟨p0.trans ?_, rest⟩
    refine (Cert.Reference11Ideal.Read.val_main_v2_eq ..).trans ?_
    refine Eq.trans ?_ (ref ..)
    rw [a0, a1, a2, ← e0, ← e1, ← e2]

end Cert.OutFwd

end
-- ==== Proof.Adam.lean ====
/- The optimiser's update: the kernel's three results are the same functions of each entry of the weights, the gradient and the two
   moments as the reference's. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.Adam

open Idealize.ShloMosaic Idealize.ShloMosaic.TcCoe Idealize.ShloMosaic.Tactic Idealize.SL.Sem
open Cert.Ffn (tab ent eq_tab tab_apply)
open Cert.Kernel12Ideal Cert.Kernel12Ideal.Gen Cert.Kernel12Ideal.Value

private theorem hz : (![0, 0] : Fin 2 → Nat) = fun _ => 0 := funext fun a => by fin_cases a <;> rfl

/-- Row `k` of row tile `n`. -/
def row (n : ℕ) (k : Fin 512) : Fin 4096 := Fin.ofNat 4096 (512 * n + k.val)

/-- Rows of a tile, at the place its block has in the array. -/
theorem spot (M : Fin 4096 → Fin 352 → EReal) (n : ℕ) (k : Fin 512) (d : Fin 352) (i : Fin 4096) (j : Fin 352)
    (hi : i.val = n * 512 + 1 * k.val) (hj : j.val = 0 * 352 + 1 * d.val) : M (row n k) d = M i j := by
  have e : row n k = i := by
    apply Fin.ext
    have := i.isLt
    show (512 * n + k.val) % 4096 = i.val
    omega
  have f : d = j := by apply Fin.ext; omega
  rw [e, f]

section Entries

variable {n k : ℕ} (w g m v : Fin n → Fin k → EReal)

/-- The new first moment. -/
def mom (i : Fin n) (j : Fin k) : EReal := Ideal.ofBits .f32 0x3F666666#32 * m i j + Ideal.ofBits .f32 0x3DCCCCCD#32 * g i j
/-- The new second moment. -/
def sec (i : Fin n) (j : Fin k) : EReal := Ideal.ofBits .f32 0x3F7FBE77#32 * v i j + Ideal.ofBits .f32 0x3A83126F#32 * (g i j * g i j)
/-- The step. -/
def step (i : Fin n) (j : Fin k) : EReal :=
  Ideal.ofBits .f32 0xBA83126F#32 * (Ideal.div (Ideal.div (mom g m i j) (Ideal.ofBits .f32 0x3F26BD02#32))
    (Ideal.sqrt (Ideal.div (sec g v i j) (Ideal.ofBits .f32 0x3C231ACC#32)) + Ideal.ofBits .f32 0x322BCC77#32) + Ideal.ofBits .f32 0x3C23D70A#32 * w i j)

end Entries

section Blocks

variable (w g u v : Fin 512 → Fin 352 → EReal)

/-- The step of a block. -/
theorem out4 : out0_4 (F := Ideal) (tab w) (tab g) (tab u) (tab v) = tab (step w g u v) := by
  unfold out0_4
  rw [View.canon_unit_zero (S := S512x352) hz]
  simp only [View.ld_unit_zero (S := S512x352) hz]
  rfl

/-- The new first moment of a block. -/
theorem out5 : out0_5 (F := Ideal) (tab w) (tab g) (tab u) (tab v) = tab (mom g u) := by
  unfold out0_5
  rw [View.canon_unit_zero (S := S512x352) hz]
  simp only [View.ld_unit_zero (S := S512x352) hz]
  rfl

/-- The new second moment of a block. -/
theorem out6 : out0_6 (F := Ideal) (tab w) (tab g) (tab u) (tab v) = tab (sec g v) := by
  unfold out0_6
  rw [View.canon_unit_zero (S := S512x352) hz]
  simp only [View.ld_unit_zero (S := S512x352) hz]
  rfl

end Blocks

namespace Ref

open Cert.Reference12Ideal.Read

variable (w g u v : Fin 4096 → Fin 352 → EReal)

/-- The new first moment. -/
theorem mom : val_main_v4 (F := Ideal) (tab g) (tab u) = tab (Adam.mom g u) := by
  funext i
  rw [val_main_v4_apply, val_main_v3_apply, val_main_v2_apply, val_main_v1_apply, val_main_v0_apply, val_main_cst_apply, val_main_cst_0_apply]
  rfl

/-- The new second moment. -/
theorem sec : val_main_v10 (F := Ideal) (tab g) (tab v) = tab (Adam.sec g v) := by
  funext i
  rw [val_main_v10_apply, val_main_v9_apply, val_main_v8_apply, val_main_v7_apply, val_main_v6_apply, val_main_v5_apply, val_main_cst_1_apply, val_main_cst_2_apply]
  rfl

/-- The step. -/
theorem step : val_main_v23 (F := Ideal) (tab w) (tab g) (tab u) (tab v) = tab (Adam.step w g u v) := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_cst_3_apply,
    val_main_cst_4_apply, val_main_cst_5_apply, val_main_cst_6_apply, val_main_cst_7_apply, mom, sec]
  rfl

end Ref

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = t.val ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = t.val ∧ win0_6.index t (1 : Fin 2) = 0 := by decide +kernel

section Arrays

variable (m : (ℓ : Loc nD τ sig) → Buf (Elt Ideal) ℓ) (c : Dev nD) (t : Fin cfg0.N)
variable (w g u v : Fin 4096 → Fin 352 → EReal)

/-- The weights of a point. -/
theorem blk0 (M : Fin 4096 → Fin 352 → EReal) (h : V m c main_arg0 = tab M) : iblk m c 0 t = tab fun k d => M (row t.val k) d := by
  funext i
  unfold iblk
  rw [View.read_apply]
  show V m c main_arg0 _ = _
  rw [h]
  refine (spot M t.val _ _ _ _ ?_ ?_).symm
  · show win0_0.index t (0 : Fin 2) * 512 + 1 * (i 0).val = _
    rw [(idx0 t).1]
  · show win0_0.index t (1 : Fin 2) * 352 + 1 * (i 1).val = _
    rw [(idx0 t).2]

/-- The gradient of a point. -/
theorem blk1 (M : Fin 4096 → Fin 352 → EReal) (h : V m c main_arg1 = tab M) : iblk m c 1 t = tab fun k d => M (row t.val k) d := by
  funext i
  unfold iblk
  rw [View.read_apply]
  show V m c main_arg1 _ = _
  rw [h]
  refine (spot M t.val _ _ _ _ ?_ ?_).symm
  · show win0_1.index t (0 : Fin 2) * 512 + 1 * (i 0).val = _
    rw [(idx1 t).1]
  · show win0_1.index t (1 : Fin 2) * 352 + 1 * (i 1).val = _
    rw [(idx1 t).2]

/-- The first moment of a point. -/
theorem blk2 (M : Fin 4096 → Fin 352 → EReal) (h : V m c main_arg2 = tab M) : iblk m c 2 t = tab fun k d => M (row t.val k) d := by
  funext i
  unfold iblk
  rw [View.read_apply]
  show V m c main_arg2 _ = _
  rw [h]
  refine (spot M t.val _ _ _ _ ?_ ?_).symm
  · show win0_2.index t (0 : Fin 2) * 512 + 1 * (i 0).val = _
    rw [(idx2 t).1]
  · show win0_2.index t (1 : Fin 2) * 352 + 1 * (i 1).val = _
    rw [(idx2 t).2]

/-- The second moment of a point. -/
theorem blk3 (M : Fin 4096 → Fin 352 → EReal) (h : V m c main_arg3 = tab M) : iblk m c 3 t = tab fun k d => M (row t.val k) d := by
  funext i
  unfold iblk
  rw [View.read_apply]
  show V m c main_arg3 _ = _
  rw [h]
  refine (spot M t.val _ _ _ _ ?_ ?_).symm
  · show win0_3.index t (0 : Fin 2) * 512 + 1 * (i 0).val = _
    rw [(idx3 t).1]
  · show win0_3.index t (1 : Fin 2) * 352 + 1 * (i 1).val = _
    rw [(idx3 t).2]

variable (h0 : m ((c : Thread nD τ).loc main_arg0) = tab w) (h1 : m ((c : Thread nD τ).loc main_arg1) = tab g)
  (h2 : m ((c : Thread nD τ).loc main_arg2) = tab u) (h3 : m ((c : Thread nD τ).loc main_arg3) = tab v)

include h0 h1 h2 h3 in
/-- The step. -/
theorem final4 : (dats m 0 c).arrAt 4 cfg0.N = tab (step w g u v) := by
  refine (dats m 0 c).arrAt_eq_of_covers 4 _ (by decide +kernel) fun t hf y => ?_
  rw [after0_4, blk0 m c t w ((V_main_arg0 m c).trans h0), blk1 m c t g ((V_main_arg1 m c).trans h1),
    blk2 m c t u ((V_main_arg2 m c).trans h2), blk3 m c t v ((V_main_arg3 m c).trans h3), out4]
  refine spot (step w g u v) t.val _ _ _ _ ?_ ?_
  · show win0_4.index t (0 : Fin 2) * 512 + 1 * (y 0).val = _
    rw [(idx4 t).1]
  · show win0_4.index t (1 : Fin 2) * 352 + 1 * (y 1).val = _
    rw [(idx4 t).2]

include h0 h1 h2 h3 in
/-- The new first moment. -/
theorem final5 : (dats m 0 c).arrAt 5 cfg0.N = tab (mom g u) := by
  refine (dats m 0 c).arrAt_eq_of_covers 5 _ (by decide +kernel) fun t hf y => ?_
  rw [after0_5, blk0 m c t w ((V_main_arg0 m c).trans h0), blk1 m c t g ((V_main_arg1 m c).trans h1),
    blk2 m c t u ((V_main_arg2 m c).trans h2), blk3 m c t v ((V_main_arg3 m c).trans h3), out5]
  refine spot (mom g u) t.val _ _ _ _ ?_ ?_
  · show win0_5.index t (0 : Fin 2) * 512 + 1 * (y 0).val = _
    rw [(idx5 t).1]
  · show win0_5.index t (1 : Fin 2) * 352 + 1 * (y 1).val = _
    rw [(idx5 t).2]

include h0 h1 h2 h3 in
/-- The new second moment. -/
theorem final6 : (dats m 0 c).arrAt 6 cfg0.N = tab (sec g v) := by
  refine (dats m 0 c).arrAt_eq_of_covers 6 _ (by decide +kernel) fun t hf y => ?_
  rw [after0_6, blk0 m c t w ((V_main_arg0 m c).trans h0), blk1 m c t g ((V_main_arg1 m c).trans h1),
    blk2 m c t u ((V_main_arg2 m c).trans h2), blk3 m c t v ((V_main_arg3 m c).trans h3), out6]
  refine spot (sec g v) t.val _ _ _ _ ?_ ?_
  · show win0_6.index t (0 : Fin 2) * 512 + 1 * (y 0).val = _
    rw [(idx6 t).1]
  · show win0_6.index t (1 : Fin 2) * 352 + 1 * (y 1).val = _
    rw [(idx6 t).2]

end Arrays

/-- From any arguments, every run of the kernel and every run of the reference end with the same three arrays. -/
theorem equal : Cert.algebraic_Kernel12Ideal_Reference12Ideal (hKernel12Ideal := Cert.Kernel12Ideal.Gen.facts)
    (hReference12Ideal := Cert.Reference12Ideal.Gen.facts) := by
  intro m g m' g' _ hargs
  refine ⟨fun c => tab (step (ent (m ((c : Thread nD τ).loc main_arg0))) (ent (m ((c : Thread nD τ).loc main_arg1)))
      (ent (m ((c : Thread nD τ).loc main_arg2))) (ent (m ((c : Thread nD τ).loc main_arg3)))),
    fun c => tab (mom (ent (m ((c : Thread nD τ).loc main_arg1))) (ent (m ((c : Thread nD τ).loc main_arg2)))),
    fun c => tab (sec (ent (m ((c : Thread nD τ).loc main_arg1))) (ent (m ((c : Thread nD τ).loc main_arg3)))),
    (θ_run _ _ _).mono (fun r h c => ?_) (Cert.Kernel12Ideal.Value.run_blocks m g),
    (θ_run _ _ _).mono (fun r h c => ?_) (Cert.Reference12Ideal.Value.run m' g')⟩
  · have e0 := eq_tab (m ((c : Thread nD τ).loc main_arg0))
    have e1 := eq_tab (m ((c : Thread nD τ).loc main_arg1))
    have e2 := eq_tab (m ((c : Thread nD τ).loc main_arg2))
    have e3 := eq_tab (m ((c : Thread nD τ).loc main_arg3))
    obtain ⟨p0, p1, p2, rest⟩ := h c
    exact ⟨p0.trans (final4 m c _ _ _ _ e0 e1 e2 e3), p1.trans (final5 m c _ _ _ _ e0 e1 e2 e3), p2.trans (final6 m c _ _ _ _ e0 e1 e2 e3), rest⟩
  · have e0 := eq_tab (m ((c : Thread nD τ).loc main_arg0))
    have e1 := eq_tab (m ((c : Thread nD τ).loc main_arg1))
    have e2 := eq_tab (m ((c : Thread nD τ).loc main_arg2))
    have e3 := eq_tab (m ((c : Thread nD τ).loc main_arg3))
    obtain ⟨a0, a1, a2, a3⟩ := hargs c
    obtain ⟨p0, p1, p2, rest⟩ := h c
    refine ⟨p0.trans ?_, p1.trans ?_, p2.trans ?_, rest⟩
    · refine (Cert.Reference12Ideal.Read.val_main_v23_eq ..).trans ?_
      refine Eq.trans ?_ (Ref.step ..)
      rw [a0, a1, a2, a3, ← e0, ← e1, ← e2, ← e3]
    · refine (Cert.Reference12Ideal.Read.val_main_v4_eq ..).trans ?_
      refine Eq.trans ?_ (Ref.mom ..)
      rw [a1, a2, ← e1, ← e2]
    · refine (Cert.Reference12Ideal.Read.val_main_v10_eq ..).trans ?_
      refine Eq.trans ?_ (Ref.sec ..)
      rw [a1, a3, ← e1, ← e3]

end Cert.Adam

end
-- ==== Proof.Loss.Math.lean ====
/- The loss head over the extended reals: the squared errors of the normed rows, their mean, and the gradients, as the kernel
   computes them and as the derivative of the loss has them. -/
module

public import proofs.«01_k».proof.Proof.InBwd.Math

@[expose] public section

noncomputable section

open scoped BigOperators

namespace Cert.Loss

open Idealize.ShloMosaic Cert.Ffn Cert.Ffn.Fwd Cert.InBwd

section Rows

variable {n : ℕ} (x t : Fin n → Fin 1024 → EReal) (gn : Fin 1024 → EReal)

/-- The error. -/
def err (s : Fin n) (d : Fin 1024) : EReal := x s d * Ideal.rsqrt (msq x s) * gn d - t s d
/-- A row's mean squared error. -/
def tok (s : Fin n) : EReal := Ideal.div (∑ d, err x t gn s d * err x t gn s d) (Ideal.ofBits .f32 0x44800000#32)
/-- The error's cotangent, as the kernel computes it. -/
def dy (s : Fin n) (d : Fin 1024) : EReal := err x t gn s d * Ideal.ofBits .f32 0x3A800000#32
/-- The same, times the gain. -/
def cot (s : Fin n) (d : Fin 1024) : EReal := dy x t gn s d * gn d
/-- A row's share of the gain's gradient. -/
def share (s : Fin n) (d : Fin 1024) : EReal := dy x t gn s d * (x s d * Ideal.rsqrt (msq x s))
/-- The input's gradient. -/
def dx (s : Fin n) (d : Fin 1024) : EReal :=
  Ideal.rsqrt (msq x s) * (cot x t gn s d - x s d * Ideal.rsqrt (msq x s) * Ideal.div (kdot x (cot x t gn) s) (Ideal.ofBits .f32 0x44800000#32))

/-- The input's gradient is the sum of the terms that differentiation gives. -/
theorem dx_eq (s : Fin n) (d : Fin 1024) :
    dx x t gn s d = cot x t gn s d * Ideal.rsqrt (msq x s) + x s d * rmean x (cot x t gn) s + rmean x (cot x t gn) s * x s d := by
  have h := kdx_eq x (cot x t gn) (fun _ _ => 0) s d
  unfold kdx rdx at h
  rw [zero_add, zero_add] at h
  exact h

end Rows

theorem half_f32 : Ideal.ofBits .f32 0x3F000000#32 = ((1 / 2 : ℝ) : EReal) := by
  simp [Ideal.ofBits, Ideal.ieee, -EReal.coe_mul]; norm_num
theorem one_f32 : Ideal.ofBits .f32 0x3F800000#32 = ((1 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem inv_width_f32 : Ideal.ofBits .f32 0x3A800000#32 = ((1 / 1024 : ℝ) : EReal) := by
  simp [Ideal.ofBits, Ideal.ieee, -EReal.coe_mul]; norm_num

/-- The constant factors of the error's cotangent. -/
theorem dy_const (e : EReal) : Ideal.div (Ideal.ofBits .f32 0x3F000000#32) (Ideal.ofBits .f32 0x44800000#32) * (Ideal.ofBits .f32 0x40000000#32 * e)
    = e * Ideal.ofBits .f32 0x3A800000#32 := by
  rw [half_f32, width_f32, two_f32, inv_width_f32, Ideal.div_coe (by norm_num), ← mul_assoc, ← EReal.coe_mul, ← EReal.coe_mul, mul_comm]
  norm_num

/-- Row `k` of row tile `n`. -/
def row (n : ℕ) (k : Fin 1024) : Fin 16384 := Fin.ofNat 16384 (1024 * n + k.val)

/-- All row tiles together are all rows. -/
theorem tiles (f : Fin 16384 → EReal) : ∑ j ∈ Finset.range 16, ∑ k : Fin 1024, f (row j k) = ∑ s, f s := by
  rw [Finset.sum_range, ← Fintype.sum_prod_type' (f := fun (j : Fin 16) (k : Fin 1024) => f (row j.val k))]
  rw [← Equiv.sum_comp (finProdFinEquiv (m := 16) (n := 1024)) f]
  refine Finset.sum_congr rfl fun q _ => congrArg f (Fin.ext ?_)
  show (1024 * q.1.val + q.2.val) % 16384 = q.2.val + 1024 * q.1.val
  have := q.1.isLt; have := q.2.isLt; omega

variable (x t : Fin 16384 → Fin 1024 → EReal) (gn : Fin 1024 → EReal)

/-- The gain's gradient. -/
def dgn (d : Fin 1024) : EReal := ∑ s, share x t gn s d
/-- The gain's gradient over the first `n` row tiles. -/
def part (n : ℕ) (d : Fin 1024) : EReal := ∑ j ∈ Finset.range n, ∑ k : Fin 1024, share x t gn (row j k) d
theorem part_zero (d : Fin 1024) : part x t gn 0 d = 0 := by
  rw [part, Finset.sum_range_zero]

theorem part_succ (n : ℕ) (d : Fin 1024) : part x t gn n d + ∑ k : Fin 1024, share x t gn (row n k) d = part x t gn (n + 1) d := by
  rw [part, part, Finset.sum_range_succ]
theorem part_all (d : Fin 1024) : part x t gn 16 d = dgn x t gn d := tiles fun s => share x t gn s d

/-- The loss. -/
def loss : EReal := Ideal.ofBits .f32 0x3F000000#32 * ∑ s, tok x t gn s
/-- The loss over the first `n` row tiles. -/
def upto (n : ℕ) : EReal := ∑ j ∈ Finset.range n, Ideal.ofBits .f32 0x3F000000#32 * ∑ k : Fin 1024, tok x t gn (row j k)
theorem upto_zero : upto x t gn 0 = 0 := by
  rw [upto, Finset.sum_range_zero]

theorem upto_succ (n : ℕ) : upto x t gn n + Ideal.ofBits .f32 0x3F000000#32 * ∑ k : Fin 1024, tok x t gn (row n k) = upto x t gn (n + 1) := by
  rw [upto, upto, Finset.sum_range_succ]
theorem upto_all : upto x t gn 16 = loss x t gn := by
  rw [upto, loss, half_f32, ← real_mul_sum _ _ (by norm_num)]
  exact congrArg _ (tiles (tok x t gn))

end Cert.Loss

end
-- ==== Proof.Loss.Block.lean ====
/- The loss head: what one grid point leaves in each output block, from the point's input blocks. The gain's gradient and the loss
   add to zeros at the first point and to what the point before left at the others. -/
module

public import proofs.«01_k».proof.Proof.Gen.Kernel13Ideal.Frame
public import proofs.«01_k».proof.Proof.Tab
public import proofs.«01_k».proof.Proof.Loss.Math
public import Idealize.ShloMosaic.Lib.Pointwise
public import Idealize.ShloMosaic.Lib.Pipeline.Value

@[expose] public section

set_option maxRecDepth 16384

noncomputable section

open scoped BigOperators

namespace Cert.Loss

open Idealize.ShloMosaic Idealize.ShloMosaic.TcCoe Idealize.ShloMosaic.Tactic
open Cert.Ffn (tab tab1 tab_apply tab1_apply mul_tab add_tab)
open Cert.Ffn.Fwd (msq)
open Cert.InBwd (kdot)
open Cert.Kernel13Ideal Cert.Kernel13Ideal.Gen

private theorem hz : (![0, 0] : Fin 2 → Nat) = fun _ => 0 := funext fun a => by fin_cases a <;> rfl

/-- A column repeated along the rows. -/
theorem spread (v : Fin 1024 → EReal) (h) : broadcastTo (α := EReal) S1024x1024 (tab fun k (_ : Fin 1) => v k) h = tab fun k (_ : Fin 1024) => v k := by
  funext i
  pointwise
  rfl

/-- A row repeated down the block. -/
theorem tower (v : Fin 1024 → EReal) (h) : broadcastTo (α := EReal) S1024x1024 (tab fun (_ : Fin 1) d => v d) h = tab fun (_ : Fin 1024) d => v d := by
  funext i
  pointwise
  rfl

/-- The row sums of a block. -/
theorem rowsum (v : Fin 1024 → Fin 1024 → EReal) (h) :
    multiReduction (F := Ideal) (φ := .f32) .add [1] S1024 (tab v) 0x00000000#32 h (.inl rfl) rfl = tab1 fun k => ∑ d, v k d := by
  funext i
  pointwise
  simp only [Ideal.ofBits_zero_f32, zero_add, tab_apply]
  rfl

/-- A vector as a column. -/
theorem column (v : Fin 1024 → EReal) (h) : shapeCast (α := EReal) S1024x1 (tab1 v) h = tab fun k (_ : Fin 1) => v k := by
  funext i
  pointwise
  rfl

/-- The column sums of a block, as a row. -/
theorem colsum (v : Fin 1024 → Fin 1024 → EReal) (h h') :
    shapeCast (α := EReal) S1x1024 (multiReduction (F := Ideal) (φ := .f32) .add [0] S1024 (tab v) 0x00000000#32 h (.inl rfl) rfl) h'
    = tab fun (_ : Fin 1) d => ∑ k, v k d := by
  funext i
  pointwise
  simp only [Ideal.ofBits_zero_f32, zero_add, tab_apply]
  rfl

/-- The sum of a column, scaled and repeated along a row. -/
theorem total (v : Fin 1024 → EReal) (h h₁ h₂ h₃) :
    broadcastTo (α := EReal) S1x128 (shapeCast (α := EReal) S1x1 (mulf (F := Ideal) (φ := .f32) (broadcast S1x1 (Scalar.ofBits .f32 0x3F000000#32))
      (shapeCast (α := EReal) S1x1 (multiReduction (F := Ideal) (φ := .f32) .add [0] S1 (tab fun k (_ : Fin 1) => v k) 0x00000000#32 h (.inl rfl) rfl) h₁)) h₂) h₃
    = tab fun (_ : Fin 1) (_ : Fin 128) => Ideal.ofBits .f32 0x3F000000#32 * ∑ k, v k := by
  rw [shapeCast_self]
  funext i
  pointwise
  simp only [Ideal.ofBits_zero_f32, zero_add, tab_apply]
  rfl

variable (x u : Fin 1024 → Fin 1024 → EReal) (gn : Fin 1024 → EReal)

/-- The gain's gradient starts at zero. -/
theorem zero4 : k0_pay3 (F := Ideal) = tab fun _ _ => 0 := by
  unfold k0_pay3
  funext i
  exact Ideal.ofBits_zero_f32

/-- The loss starts at zero. -/
theorem zero5 : k0_pay4 (F := Ideal) = tab fun _ _ => 0 := by
  unfold k0_pay4
  funext i
  exact Ideal.ofBits_zero_f32

/-- The rows' reciprocal roots. -/
theorem pay5 : k0_pay5 (F := Ideal) (tab x) = tab fun k (_ : Fin 1) => Ideal.rsqrt (msq x k) := by
  unfold k0_pay5
  simp only [mul_tab]
  erw [rowsum]
  rw [column]
  rfl

/-- The rows, normed but for the gain. -/
theorem pay6 : k0_pay6 (F := Ideal) (tab x) = tab fun k d => x k d * Ideal.rsqrt (msq x k) := by
  unfold k0_pay6
  simp only [pay5]
  rw [spread, mul_tab]

/-- The error. -/
theorem pay7 : k0_pay7 (F := Ideal) (tab x) (tab fun (_ : Fin 1) d => gn d) (tab u) = tab (err x u gn) := by
  unfold k0_pay7
  simp only [shapeCast_self, pay6]
  rw [tower, mul_tab]
  rfl

/-- The error's cotangent. -/
theorem pay9 : k0_pay9 (F := Ideal) (tab x) (tab fun (_ : Fin 1) d => gn d) (tab u) = tab (dy x u gn) := by
  unfold k0_pay9
  simp only [pay7]
  rfl

/-- The loss, with the block's share added. -/
theorem add5 (a : EReal) : k0_pay8 (F := Ideal) (tab x) (tab fun (_ : Fin 1) d => gn d) (tab u) (tab fun (_ : Fin 1) (_ : Fin 128) => a)
    = tab fun (_ : Fin 1) (_ : Fin 128) => a + Ideal.ofBits .f32 0x3F000000#32 * ∑ k, tok x u gn k := by
  unfold k0_pay8
  simp only [shapeCast_self, pay7, mul_tab]
  erw [rowsum]
  rw [column]
  have e : divf (F := Ideal) (φ := .f32) (tab fun (k : Fin 1024) (_ : Fin 1) => ∑ d, err x u gn k d * err x u gn k d) (broadcast S1024x1 (Scalar.ofBits .f32 0x44800000#32))
    = tab fun (k : Fin 1024) (_ : Fin 1) => tok x u gn k := rfl
  erw [e]
  have f := total (tok x u gn) reduces_S1024x1_S1 shapeCasts_S1_S1x1 shapeCasts_S1x1_S1x1 broadcasts_S1x1_S1x128
  rw [shapeCast_self] at f
  erw [f]
  rfl

/-- The gain's gradient, with the block's share added. -/
theorem add4 (a : Fin 1024 → EReal) : k0_pay1 (F := Ideal) (k0_pay6 (tab x)) (k0_pay9 (tab x) (tab fun (_ : Fin 1) d => gn d) (tab u)) (tab fun (_ : Fin 1) d => a d)
    = tab fun (_ : Fin 1) d => a d + ∑ k, share x u gn k d := by
  unfold k0_pay1
  simp only [shapeCast_self, pay6, pay9, mul_tab]
  erw [colsum, add_tab]
  rfl

/-- The input's gradient. -/
theorem grad3 : k0_pay2 (F := Ideal) (k0_pay5 (tab x)) (k0_pay6 (tab x)) (k0_pay9 (tab x) (tab fun (_ : Fin 1) d => gn d) (tab u)) (tab fun (_ : Fin 1) d => gn d)
    = tab (dx x u gn) := by
  unfold k0_pay2
  simp only [shapeCast_self, pay5, pay6, pay9]
  rw [tower]
  simp only [mul_tab]
  erw [rowsum]
  rw [column]
  have e : divf (F := Ideal) (φ := .f32) (tab fun (k : Fin 1024) (_ : Fin 1) => ∑ d, dy x u gn k d * gn d * (x k d * Ideal.rsqrt (msq x k)))
      (broadcast S1024x1 (Scalar.ofBits .f32 0x44800000#32))
    = tab fun (k : Fin 1024) (_ : Fin 1) => Ideal.div (kdot x (cot x u gn) k) (Ideal.ofBits .f32 0x44800000#32) := rfl
  erw [e]
  rw [spread, spread]
  rfl

section Points

variable (c : Dev nD) (i : grid0.Coords)
  (arg1 : Memref sig .tc .vmem S1024x1024 .f32) (h1 : arg1.IsWhole) (arg2 : Memref sig .tc .vmem S1024x1024 .f32) (h2 : arg2.IsWhole)
  (arg3 : Memref sig .tc .vmem S1x1024 .f32) (h3 : arg3.IsWhole) (arg4 : Memref sig .tc .vmem S1024x1024 .f32) (h4 : arg4.IsWhole)
  (arg5 : Memref sig .tc .vmem S1x1024 .f32) (h5 : arg5.IsWhole) (arg6 : Memref sig .tc .vmem S1x128 .f32) (h6 : arg6.IsWhole)
  (x0 : Vec Ideal S1024x1024 .f32) (x1 : Vec Ideal S1024x1024 .f32) (x2 : Vec Ideal S1x1024 .f32)

/-- The input's gradient after the first point. -/
theorem outA_3 (hc0 : cond0_0 i) :
    out0_A_3 (F := Ideal) c i arg1 h1 arg2 h2 arg3 h3 arg4 h4 arg5 h5 arg6 h6 hc0 x0 x1 x2 = k0_pay2 (k0_pay5 x0) (k0_pay6 x0) (k0_pay9 x0 x2 x1) x2 := by
  unfold out0_A_3
  rw [View.read_writes_eq_canon _ _ _ (cover0_A_3 c i arg1 h1 arg2 h2 arg3 h3 arg4 h4 arg5 h5 arg6 h6 hc0 x0 x1 x2)]
  unfold kernelRun0_A
  dsimp only
  sl_unfold_words
  rw [View.canon_unit_zero (S := S1024x1024) hz]
  simp only [View.readAt_eq_ld, h1.read_unread, h2.read_unread, h3.read_unread, h5.read_unread, h6.read_unread, View.ld_unit_zero (S := S1024x1024) hz,
    View.ld_unit_zero (S := S1x1024) hz, View.ld_unit_zero (S := S1x128) hz, View.readCov_unit_zero (S := S1x1024) _ hz, View.readCov_unit_zero (S := S1x128) _ hz]

/-- The gain's gradient after the first point. -/
theorem outA_4 (hc0 : cond0_0 i) :
    out0_A_4 (F := Ideal) c i arg1 h1 arg2 h2 arg3 h3 arg4 h4 arg5 h5 arg6 h6 hc0 x0 x1 x2 = k0_pay1 (k0_pay6 x0) (k0_pay9 x0 x2 x1) (k0_pay3 (F := Ideal)) := by
  unfold out0_A_4
  rw [View.read_writes_eq_canon _ _ _ (cover0_A_4 c i arg1 h1 arg2 h2 arg3 h3 arg4 h4 arg5 h5 arg6 h6 hc0 x0 x1 x2)]
  unfold kernelRun0_A
  dsimp only
  sl_unfold_words
  rw [View.canon_cons_unit_zero (S := S1x1024) hz]
  simp only [View.readAt_eq_ld, h1.read_unread, h2.read_unread, h3.read_unread, h5.read_unread, h6.read_unread, View.ld_unit_zero (S := S1024x1024) hz,
    View.ld_unit_zero (S := S1x1024) hz, View.ld_unit_zero (S := S1x128) hz, View.readCov_unit_zero (S := S1x1024) _ hz, View.readCov_unit_zero (S := S1x128) _ hz]

/-- The loss after the first point. -/
theorem outA_5 (hc0 : cond0_0 i) :
    out0_A_5 (F := Ideal) c i arg1 h1 arg2 h2 arg3 h3 arg4 h4 arg5 h5 arg6 h6 hc0 x0 x1 x2 = k0_pay8 x0 x2 x1 (k0_pay4 (F := Ideal)) := by
  unfold out0_A_5
  rw [View.read_writes_eq_canon _ _ _ (cover0_A_5 c i arg1 h1 arg2 h2 arg3 h3 arg4 h4 arg5 h5 arg6 h6 hc0 x0 x1 x2)]
  unfold kernelRun0_A
  dsimp only
  sl_unfold_words
  rw [View.canon_cons_unit_zero (S := S1x128) hz]
  simp only [View.readAt_eq_ld, h1.read_unread, h2.read_unread, h3.read_unread, h5.read_unread, h6.read_unread, View.ld_unit_zero (S := S1024x1024) hz,
    View.ld_unit_zero (S := S1x1024) hz, View.ld_unit_zero (S := S1x128) hz, View.readCov_unit_zero (S := S1x1024) _ hz, View.readCov_unit_zero (S := S1x128) _ hz]

/-- The input's gradient after a later point. -/
theorem outB_3 (hc0 : ¬cond0_0 i) (xo4 : Vec Ideal S1x1024 .f32) (xo5 : Vec Ideal S1x128 .f32) :
    out0_B_3 (F := Ideal) c i arg1 h1 arg2 h2 arg3 h3 arg4 h4 arg5 h5 arg6 h6 hc0 x0 x1 x2 xo4 xo5 = k0_pay2 (k0_pay5 x0) (k0_pay6 x0) (k0_pay9 x0 x2 x1) x2 := by
  unfold out0_B_3
  rw [View.read_writes_eq_canon _ _ _ (cover0_B_3 c i arg1 h1 arg2 h2 arg3 h3 arg4 h4 arg5 h5 arg6 h6 hc0 x0 x1 x2 xo4 xo5)]
  unfold kernelRun0_B
  dsimp only
  sl_unfold_words
  rw [View.canon_unit_zero (S := S1024x1024) hz]
  simp only [View.readAt_eq_ld, h1.read_unread, h2.read_unread, h3.read_unread, h5.read_unread, h6.read_unread, View.ld_unit_zero (S := S1024x1024) hz,
    View.ld_unit_zero (S := S1x1024) hz, View.ld_unit_zero (S := S1x128) hz, View.readCov_unit_zero (S := S1x1024) _ hz, View.readCov_unit_zero (S := S1x128) _ hz]

/-- The gain's gradient after a later point. -/
theorem outB_4 (hc0 : ¬cond0_0 i) (xo4 : Vec Ideal S1x1024 .f32) (xo5 : Vec Ideal S1x128 .f32) :
    out0_B_4 (F := Ideal) c i arg1 h1 arg2 h2 arg3 h3 arg4 h4 arg5 h5 arg6 h6 hc0 x0 x1 x2 xo4 xo5 = k0_pay1 (k0_pay6 x0) (k0_pay9 x0 x2 x1) xo4 := by
  unfold out0_B_4
  rw [View.read_writes_eq_canon _ _ _ (cover0_B_4 c i arg1 h1 arg2 h2 arg3 h3 arg4 h4 arg5 h5 arg6 h6 hc0 x0 x1 x2 xo4 xo5)]
  unfold kernelRun0_B
  dsimp only
  sl_unfold_words
  rw [View.canon_unit_zero (S := S1x1024) hz]
  simp only [View.readAt_eq_ld, h1.read_unread, h2.read_unread, h3.read_unread, h5.read_unread, h6.read_unread, View.ld_unit_zero (S := S1024x1024) hz,
    View.ld_unit_zero (S := S1x1024) hz, View.ld_unit_zero (S := S1x128) hz, View.readCov_unit_zero (S := S1x1024) _ hz, View.readCov_unit_zero (S := S1x128) _ hz]

/-- The loss after a later point. -/
theorem outB_5 (hc0 : ¬cond0_0 i) (xo4 : Vec Ideal S1x1024 .f32) (xo5 : Vec Ideal S1x128 .f32) :
    out0_B_5 (F := Ideal) c i arg1 h1 arg2 h2 arg3 h3 arg4 h4 arg5 h5 arg6 h6 hc0 x0 x1 x2 xo4 xo5 = k0_pay8 x0 x2 x1 xo5 := by
  unfold out0_B_5
  rw [View.read_writes_eq_canon _ _ _ (cover0_B_5 c i arg1 h1 arg2 h2 arg3 h3 arg4 h4 arg5 h5 arg6 h6 hc0 x0 x1 x2 xo4 xo5)]
  unfold kernelRun0_B
  dsimp only
  sl_unfold_words
  rw [View.canon_unit_zero (S := S1x128) hz]
  simp only [View.readAt_eq_ld, h1.read_unread, h2.read_unread, h3.read_unread, h5.read_unread, h6.read_unread, View.ld_unit_zero (S := S1024x1024) hz,
    View.ld_unit_zero (S := S1x1024) hz, View.ld_unit_zero (S := S1x128) hz, View.readCov_unit_zero (S := S1x1024) _ hz, View.readCov_unit_zero (S := S1x128) _ hz]

end Points

section Outs

variable (m : (ℓ : Loc nD τ sig) → Buf (Elt Ideal) ℓ) (c : Dev nD) (t : Fin cfg0.N)

/-- The input's gradient after any point. -/
theorem pt_3 : (outsAt0 m c t.val t.isLt).1 = k0_pay2 (k0_pay5 (iblk m c 0 t)) (k0_pay6 (iblk m c 0 t)) (k0_pay9 (iblk m c 0 t) (iblk m c 2 t) (iblk m c 1 t)) (iblk m c 2 t) := by
  by_cases h0 : t.val % 16 = 0
  · rw [outsAt0_A m c t h0]
    dsimp only
    rw [outA_3]
  · rw [outsAt0_B m c t h0]
    dsimp only
    rw [outB_3]

/-- The gain's gradient after the first point. -/
theorem ptA_4 (h0 : t.val % 16 = 0) :
    (outsAt0 m c t.val t.isLt).2.1 = k0_pay1 (k0_pay6 (iblk m c 0 t)) (k0_pay9 (iblk m c 0 t) (iblk m c 2 t) (iblk m c 1 t)) (k0_pay3 (F := Ideal)) := by
  rw [outsAt0_A m c t h0]
  dsimp only
  rw [outA_4]

/-- The gain's gradient after a later point. -/
theorem ptB_4 (h0 : ¬t.val % 16 = 0) :
    (outsAt0 m c t.val t.isLt).2.1 = k0_pay1 (k0_pay6 (iblk m c 0 t)) (k0_pay9 (iblk m c 0 t) (iblk m c 2 t) (iblk m c 1 t)) (outsAt0 m c (t.val - 1) (Nat.lt_of_le_of_lt (Nat.sub_le _ _) t.isLt)).2.1 := by
  rw [outsAt0_B m c t h0]
  dsimp only
  rw [outB_4]

/-- The loss after the first point. -/
theorem ptA_5 (h0 : t.val % 16 = 0) :
    (outsAt0 m c t.val t.isLt).2.2 = k0_pay8 (iblk m c 0 t) (iblk m c 2 t) (iblk m c 1 t) (k0_pay4 (F := Ideal)) := by
  rw [outsAt0_A m c t h0]
  dsimp only
  rw [outA_5]

/-- The loss after a later point. -/
theorem ptB_5 (h0 : ¬t.val % 16 = 0) :
    (outsAt0 m c t.val t.isLt).2.2 = k0_pay8 (iblk m c 0 t) (iblk m c 2 t) (iblk m c 1 t) (outsAt0 m c (t.val - 1) (Nat.lt_of_le_of_lt (Nat.sub_le _ _) t.isLt)).2.2 := by
  rw [outsAt0_B m c t h0]
  dsimp only
  rw [outB_5]

end Outs

end Cert.Loss

end
-- ==== Proof.Loss.Ref.lean ====
/- The loss head, the reference: its results as functions of their row and column. -/
module

public import proofs.«01_k».proof.Proof.Gen.Reference13Ideal.Read
public import proofs.«01_k».proof.Proof.Tab
public import proofs.«01_k».proof.Proof.Loss.Math
public import Idealize.ShloMosaic.Lib.Pointwise

@[expose] public section

set_option maxRecDepth 16384

noncomputable section

open scoped BigOperators

namespace Cert.Loss.Ref

open Idealize.ShloMosaic Idealize.ShloMosaic.TcCoe
open Cert.Ffn (tab tab1 tab_apply tab1_apply eq_tab1)
open Cert.Ffn.Fwd (msq)
open Cert.InBwd (rmean line_at column_at)
open Cert.Reference13Ideal.Read

/-- The sum of a vector's entries. -/
theorem sum_vec {n : ℕ} (f : Fin n → EReal) : ∑ j : (⟨1, ![n]⟩ : Shape).Idx, tab1 f j = ∑ s, f s :=
  Fintype.sum_bijective (fun j : (⟨1, ![n]⟩ : Shape).Idx => (j 0 : Fin n))
    ⟨fun a b h => by rw [ValueIdx.eq_ix1 a, ValueIdx.eq_ix1 b]; exact congrArg ValueIdx.ix1 h, fun s => ⟨ValueIdx.ix1 s, rfl⟩⟩
    (fun j => tab1 f j) f fun j => tab1_apply f j

variable (x u : Fin 16384 → Fin 1024 → EReal) (gn : Fin 1024 → EReal)

/-- The rows' mean squares. -/
theorem v6 : val_main_v6 (F := Ideal) (tab x) = tab fun s (_ : Fin 1) => msq x s := by
  funext i
  rw [val_main_v6_apply, val_main_v4_apply, val_main_v2_apply, val_main_v1_apply, val_main_v3_apply, val_main_v5_apply, val_main_cst_apply,
    val_main_cst_0_apply, val_main_cst_1_apply]
  simp only [val_main_v0_apply, Ideal.ofBits_def, Ideal.ofBits_zero_f32, zero_add, Ideal.mulf_def, Ideal.addf_def, Ideal.hostDivf_def]
  rfl

/-- The rows' reciprocal roots. -/
theorem v7 : val_main_v7 (F := Ideal) (tab x) = tab fun s (_ : Fin 1) => Ideal.rsqrt (msq x s) := by
  funext i
  rw [val_main_v7_apply, v6, Ideal.hostUnary_rsqrt_def]
  rfl

/-- The reciprocal roots' derivative. -/
theorem v10 : val_main_v10 (F := Ideal) (tab x)
    = tab fun s (_ : Fin 1) => Ideal.ofBits .f32 0xBF000000#32 * Ideal.div (Ideal.rsqrt (msq x s)) (msq x s) := by
  funext i
  rw [val_main_v10_apply, val_main_v9_apply, val_main_cst_2_apply, val_main_v8_apply, v7, v6]
  rfl

/-- The rows, normed but for the gain. -/
theorem v12 : val_main_v12 (F := Ideal) (tab x) = tab fun s d => x s d * Ideal.rsqrt (msq x s) := by
  funext i
  rw [val_main_v12_apply, val_main_v11_apply, v7]
  rfl

/-- The error. -/
theorem v16 : val_main_v16 (F := Ideal) (tab x) (tab u) (tab1 gn) = tab (err x u gn) := by
  funext i
  rw [val_main_v16_apply, val_main_v15_apply, v12, val_main_v14_apply, val_main_v13_apply]
  rfl

/-- The rows' mean squared errors. -/
theorem v22 : val_main_v22 (F := Ideal) (tab x) (tab u) (tab1 gn) = tab1 (tok x u gn) := by
  funext i
  rw [val_main_v22_apply, val_main_v21_apply, val_main_cst_5_apply, val_main_v20_apply, val_main_cst_4_apply]
  simp only [val_main_v17_apply, v16, Ideal.ofBits_def, Ideal.ofBits_zero_f32, zero_add, Ideal.mulf_def, Ideal.hostDivf_def]
  rfl

/-- The loss. -/
theorem v52 : val_main_v52 (F := Ideal) (tab x) (tab u) (tab1 gn) = tab fun (_ : Fin 1) (_ : Fin 128) => loss x u gn := by
  funext i
  rw [val_main_v52_apply, val_main_v24_apply, val_main_cst_7_apply, val_main_v23_apply, val_main_cst_6_apply, v22]
  erw [sum_vec]
  simp only [Ideal.ofBits_def, Ideal.ofBits_zero_f32, zero_add, Ideal.mulf_def]
  rfl

/-- The error's cotangent. -/
theorem v30 : val_main_v30 (F := Ideal) (tab x) (tab u) (tab1 gn) = tab (dy x u gn) := by
  funext i
  rw [val_main_v30_apply, val_main_v29_apply, val_main_v28_apply, val_main_v27_apply, val_main_cst_10_apply, val_main_v26_apply, val_main_v25_apply,
    val_main_cst_8_apply, val_main_cst_9_apply, val_main_v19_apply, val_main_v18_apply, val_main_cst_3_apply, v16]
  simp only [Ideal.ofBits_def, Ideal.mulf_def, Ideal.hostDivf_def, Ideal.ofBits_one_f32, mul_one]
  exact dy_const _

/-- The scaled cotangent. -/
theorem v35 : val_main_v35 (F := Ideal) (tab x) (tab u) (tab1 gn) = tab (cot x u gn) := by
  funext i
  rw [val_main_v35_apply, v30, val_main_v34_apply, val_main_v13_apply]
  rfl

/-- The gain's gradient, as a vector. -/
theorem v32 : val_main_v32 (F := Ideal) (tab x) (tab u) (tab1 gn) = tab1 (dgn x u gn) := by
  have e : val_main_v32 (F := Ideal) (tab x) (tab u) (tab1 gn) = tab1 fun d => ∑ s, x s d * Ideal.rsqrt (msq x s) * dy x u gn s d := by
    funext i
    rw [val_main_v32_apply, val_main_cst_11_apply]
    simp only [val_main_v31_apply, v12, v30, Ideal.ofBits_def, Ideal.ofBits_zero_f32, zero_add, Ideal.mulf_def]
    rfl
  rw [e]
  exact congrArg tab1 (funext fun d => Finset.sum_congr rfl fun s _ => mul_comm (x s d * Ideal.rsqrt (msq x s)) (dy x u gn s d))

/-- The gain's gradient. -/
theorem v51 : val_main_v51 (F := Ideal) (tab x) (tab u) (tab1 gn) = tab fun (_ : Fin 1) d => dgn x u gn d := by
  funext i
  rw [val_main_v51_apply, val_main_v36_apply, val_main_cst_12_apply]
  simp only [val_main_v33_apply, v32, Ideal.ofBits_def, Ideal.ofBits_zero_f32, zero_add, Fin.sum_univ_one]
  refine line_at (dgn x u gn) _ i ?_
  show 0 * 1024 + ((i 0).val * 1024 + (i 1).val) = _
  rw [Nat.zero_mul, Nat.zero_add]

/-- The rows times the scaled cotangent, summed. -/
theorem v38 : val_main_v38 (F := Ideal) (tab x) (tab u) (tab1 gn) = tab1 fun s => ∑ d, x s d * cot x u gn s d := by
  funext i
  rw [val_main_v38_apply, val_main_cst_13_apply]
  simp only [val_main_v37_apply, v35, Ideal.ofBits_def, Ideal.ofBits_zero_f32, zero_add, Ideal.mulf_def]
  rfl

/-- The mean squares' cotangent, over the rows' length. -/
theorem v44 : val_main_v44 (F := Ideal) (tab x) (tab u) (tab1 gn) = tab fun s (_ : Fin 1) => rmean x (cot x u gn) s := by
  funext i
  rw [val_main_v44_apply, val_main_v43_apply, val_main_cst_14_apply, val_main_v42_apply, val_main_v39_apply, v38, v10,
    column_at _ (idx_main_v39 i) i rfl]
  rfl

/-- The same, as a vector. -/
theorem v45 : val_main_v45 (F := Ideal) (tab x) (tab u) (tab1 gn) = tab1 (rmean x (cot x u gn)) := by
  funext i
  rw [val_main_v45_apply, val_main_cst_15_apply]
  simp only [v44, Ideal.ofBits_def, Ideal.ofBits_zero_f32, zero_add, Fin.sum_univ_one]
  rfl

/-- The input's gradient. -/
theorem v50 : val_main_v50 (F := Ideal) (tab x) (tab u) (tab1 gn) = tab (dx x u gn) := by
  funext i
  rw [val_main_v50_apply, val_main_v49_apply, val_main_v48_apply, val_main_v47_apply, val_main_v46_apply, v45, val_main_v41_apply, val_main_v40_apply,
    v7, v35]
  exact (dx_eq x u gn (i 0) (i 1)).symm

end Cert.Loss.Ref

end
-- ==== Proof.Loss.Result.lean ====
/- The loss head: the kernel ends with the gradients of the input and of the gain and with the loss, and so does the reference. -/
module

public import proofs.«01_k».proof.Defs
public import proofs.«01_k».proof.Proof.Gen.Kernel13Ideal.Value
public import proofs.«01_k».proof.Proof.Gen.Reference13Ideal.Run
public import proofs.«01_k».proof.Proof.Loss.Block
public import proofs.«01_k».proof.Proof.Loss.Ref
public import Idealize.ShloMosaic.Lib.Claim
public import Idealize.ShloMosaic.Lib.Pointwise
public import Idealize.ShloMosaic.Lib.Pipeline.ValueKit.Geometry

@[expose] public section

set_option maxRecDepth 16384

noncomputable section

open scoped BigOperators

namespace Cert.Loss

open Idealize.ShloMosaic Idealize.ShloMosaic.TcCoe Idealize.ShloMosaic.Tactic Idealize.SL.Sem
open Cert.Ffn (tab tab1 ent ent1 eq_tab eq_tab1 tab_apply tab1_apply)
open Cert.Kernel13Ideal Cert.Kernel13Ideal.Gen Cert.Kernel13Ideal.Value

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel

section Arrays

variable (m : (ℓ : Loc nD τ sig) → Buf (Elt Ideal) ℓ) (c : Dev nD) (t : Fin cfg0.N)
variable (x u : Fin 16384 → Fin 1024 → EReal) (gn : Fin 1024 → EReal)

/-- The gain as a row. -/
theorem v0 (hg : m ((c : Thread nD τ).loc main_arg2) = tab1 gn) : V m c main_v0 = tab fun (_ : Fin 1) d => gn d := by
  have e : V m c main_v0 = shapeCast (α := EReal) S1x1024 (m ((c : Thread nD τ).loc main_arg2)) shapeCasts_S1024_S1x1024 := by
    dsimp only [V, hostOps0]
    after_results
    rfl
  rw [e, hg]
  funext i
  pointwise
  rfl

/-- The input at a point. -/
theorem blk0 (M : Fin 16384 → Fin 1024 → EReal) (h : V m c main_arg0 = tab M) : iblk m c 0 t = tab fun k d => M (row t.val k) d := by
  funext i
  unfold iblk
  rw [View.read_apply]
  show V m c main_arg0 _ = _
  rw [h]
  refine (spot M t.val _ _ _ _ ?_ ?_).symm
  · show win0_0.index t (0 : Fin 2) * 1024 + 1 * (i 0).val = _
    rw [(idx0 t).1]
  · show win0_0.index t (1 : Fin 2) * 1024 + 1 * (i 1).val = _
    rw [(idx0 t).2]

/-- The target at a point. -/
theorem blk1 (M : Fin 16384 → Fin 1024 → EReal) (h : V m c main_arg1 = tab M) : iblk m c 1 t = tab fun k d => M (row t.val k) d := by
  funext i
  unfold iblk
  rw [View.read_apply]
  show V m c main_arg1 _ = _
  rw [h]
  refine (spot M t.val _ _ _ _ ?_ ?_).symm
  · show win0_1.index t (0 : Fin 2) * 1024 + 1 * (i 0).val = _
    rw [(idx1 t).1]
  · show win0_1.index t (1 : Fin 2) * 1024 + 1 * (i 1).val = _
    rw [(idx1 t).2]

/-- The gain at a point. -/
theorem blk2 (M : Fin 1 → Fin 1024 → EReal) (h : V m c main_v0 = tab M) : iblk m c 2 t = tab M := by
  funext i
  unfold iblk
  rw [View.read_apply]
  show V m c main_v0 _ = _
  rw [h]
  refine congrArg₂ M (Fin.ext ?_) (Fin.ext ?_)
  · show win0_2.index t (0 : Fin 2) * 1 + 1 * (i 0).val = (i 0).val
    rw [(idx2 t).1]; omega
  · show win0_2.index t (1 : Fin 2) * 1024 + 1 * (i 1).val = (i 1).val
    rw [(idx2 t).2]; omega

variable (h0 : m ((c : Thread nD τ).loc main_arg0) = tab x) (h1 : m ((c : Thread nD τ).loc main_arg1) = tab u)
  (h2 : m ((c : Thread nD τ).loc main_arg2) = tab1 gn)
include h0 h1 h2

/-- The gain's gradient over the first rows, after a point. -/
theorem sums4 : ∀ (n : ℕ) (hn : n < cfg0.N), (outsAt0 m c n hn).2.1 = tab fun (_ : Fin 1) d => part x u gn (n + 1) d := by
  intro n
  induction n with
  | zero =>
    intro hn
    have e := ptA_4 m c ⟨0, hn⟩ rfl
    dsimp only at e
    rw [e, blk0 m c ⟨0, hn⟩ x ((V_main_arg0 m c).trans h0), blk1 m c ⟨0, hn⟩ u ((V_main_arg1 m c).trans h1), blk2 m c ⟨0, hn⟩ _ (v0 m c gn h2), zero4, add4]
    have z : (fun (_ : Fin 1) d => 0 + ∑ k, share x u gn (row 0 k) d) = fun (_ : Fin 1) d => part x u gn (0 + 1) d := by
      funext _ d
      rw [← part_succ, part_zero]
    exact congrArg tab z
  | succ n ih =>
    intro hn
    have hN : n + 1 < 16 := lt_of_lt_of_eq hn N_0
    have e := ptB_4 m c ⟨n + 1, hn⟩ (by show ¬(n + 1) % 16 = 0; omega)
    dsimp only [Nat.add_sub_cancel] at e
    have before : (outsAt0 m c (n + 1 - 1) (Nat.lt_of_le_of_lt (Nat.sub_le _ _) hn)).2.1 = tab fun (_ : Fin 1) d => part x u gn (n + 1) d := ih _
    rw [e, blk0 m c ⟨n + 1, hn⟩ x ((V_main_arg0 m c).trans h0), blk1 m c ⟨n + 1, hn⟩ u ((V_main_arg1 m c).trans h1),
      blk2 m c ⟨n + 1, hn⟩ _ (v0 m c gn h2), before, add4]
    funext i
    exact part_succ x u gn (n + 1) (i 1)

/-- The loss over the first rows, after a point. -/
theorem sums5 : ∀ (n : ℕ) (hn : n < cfg0.N), (outsAt0 m c n hn).2.2 = tab fun (_ : Fin 1) (_ : Fin 128) => upto x u gn (n + 1) := by
  intro n
  induction n with
  | zero =>
    intro hn
    have e := ptA_5 m c ⟨0, hn⟩ rfl
    dsimp only at e
    rw [e, blk0 m c ⟨0, hn⟩ x ((V_main_arg0 m c).trans h0), blk1 m c ⟨0, hn⟩ u ((V_main_arg1 m c).trans h1), blk2 m c ⟨0, hn⟩ _ (v0 m c gn h2), zero5, add5]
    funext i
    show 0 + Ideal.ofBits .f32 0x3F000000#32 * ∑ k, tok x u gn (row 0 k) = upto x u gn (0 + 1)
    rw [← upto_succ, upto_zero]
  | succ n ih =>
    intro hn
    have hN : n + 1 < 16 := lt_of_lt_of_eq hn N_0
    have e := ptB_5 m c ⟨n + 1, hn⟩ (by show ¬(n + 1) % 16 = 0; omega)
    dsimp only [Nat.add_sub_cancel] at e
    have before : (outsAt0 m c (n + 1 - 1) (Nat.lt_of_le_of_lt (Nat.sub_le _ _) hn)).2.2 = tab fun (_ : Fin 1) (_ : Fin 128) => upto x u gn (n + 1) := ih _
    rw [e, blk0 m c ⟨n + 1, hn⟩ x ((V_main_arg0 m c).trans h0), blk1 m c ⟨n + 1, hn⟩ u ((V_main_arg1 m c).trans h1),
      blk2 m c ⟨n + 1, hn⟩ _ (v0 m c gn h2), before, add5]
    funext i
    exact upto_succ x u gn (n + 1)

/-- The gain's gradient. -/
theorem final4 : (dats m 0 c).arrAt 4 cfg0.N = tab fun (_ : Fin 1) d => dgn x u gn d := by
  refine (dats m 0 c).arrAt_eq_of_covers 4 _ (by decide +kernel) fun t hf y => ?_
  have ht : t.val < 16 := lt_of_lt_of_eq t.isLt N_0
  have hm : t.val % 16 = 15 := (flush0_4 t).mp hf
  have hn : t.val + 1 = 16 := by omega
  have e : (fun (_ : Fin 1) d => part x u gn 16 d) = fun (_ : Fin 1) d => dgn x u gn d := by
    funext _ d; exact part_all x u gn d
  rw [after0_4, sums4 m c x u gn h0 h1 h2, hn, e]
  generalize dgn x u gn = M
  refine congrArg M (Fin.ext ?_)
  show (y 1).val = win0_4.index t (1 : Fin 2) * 1024 + 1 * (y 1).val
  rw [(idx4 t).2]; omega

/-- The loss. -/
theorem final5 : (dats m 0 c).arrAt 5 cfg0.N = tab fun (_ : Fin 1) (_ : Fin 128) => loss x u gn := by
  refine (dats m 0 c).arrAt_eq_of_covers 5 _ (by decide +kernel) fun t hf y => ?_
  have ht : t.val < 16 := lt_of_lt_of_eq t.isLt N_0
  have hm : t.val % 16 = 15 := (flush0_5 t).mp hf
  have hn : t.val + 1 = 16 := by omega
  rw [after0_5, sums5 m c x u gn h0 h1 h2, hn, upto_all]
  rfl

/-- The input's gradient. -/
theorem final3 : (dats m 0 c).arrAt 3 cfg0.N = tab (dx x u gn) := by
  refine (dats m 0 c).arrAt_eq_of_covers 3 _ (by decide +kernel) fun t hf y => ?_
  rw [after0_3, pt_3, blk0 m c t x ((V_main_arg0 m c).trans h0), blk1 m c t u ((V_main_arg1 m c).trans h1), blk2 m c t _ (v0 m c gn h2), grad3]
  have e : tab (dx (fun k d => x (row t.val k) d) (fun k d => u (row t.val k) d) gn) = tab fun k d => dx x u gn (row t.val k) d := rfl
  rw [e]
  generalize dx x u gn = M
  refine spot M t.val _ _ _ _ ?_ ?_
  · show win0_3.index t (0 : Fin 2) * 1024 + 1 * (y 0).val = _
    rw [(idx3 t).1]
  · show win0_3.index t (1 : Fin 2) * 1024 + 1 * (y 1).val = _
    rw [(idx3 t).2]

end Arrays

/-- From any arguments, every run of the kernel and every run of the reference end with the same two gradients and the same loss. -/
theorem equal : Cert.algebraic_Kernel13Ideal_Reference13Ideal (hKernel13Ideal := Cert.Kernel13Ideal.Gen.facts)
    (hReference13Ideal := Cert.Reference13Ideal.Gen.facts) := by
  intro m g m' g' _ hargs
  refine ⟨fun c => tab (dx (ent (m ((c : Thread nD τ).loc main_arg0))) (ent (m ((c : Thread nD τ).loc main_arg1))) (ent1 (m ((c : Thread nD τ).loc main_arg2)))),
    fun c => tab fun (_ : Fin 1) d => dgn (ent (m ((c : Thread nD τ).loc main_arg0))) (ent (m ((c : Thread nD τ).loc main_arg1))) (ent1 (m ((c : Thread nD τ).loc main_arg2))) d,
    fun c => tab fun (_ : Fin 1) (_ : Fin 128) => loss (ent (m ((c : Thread nD τ).loc main_arg0))) (ent (m ((c : Thread nD τ).loc main_arg1))) (ent1 (m ((c : Thread nD τ).loc main_arg2))),
    (θ_run _ _ _).mono (fun r h c => ?_) (Cert.Kernel13Ideal.Value.run_blocks m g),
    (θ_run _ _ _).mono (fun r h c => ?_) (Cert.Reference13Ideal.Value.run m' g')⟩
  · have e0 := eq_tab (m ((c : Thread nD τ).loc main_arg0))
    have e1 := eq_tab (m ((c : Thread nD τ).loc main_arg1))
    have e2 := eq_tab1 (m ((c : Thread nD τ).loc main_arg2))
    obtain ⟨p0, p1, p2, rest⟩ := h c
    exact ⟨p0.trans (final3 m c _ _ _ e0 e1 e2), p1.trans (final4 m c _ _ _ e0 e1 e2), p2.trans (final5 m c _ _ _ e0 e1 e2), rest⟩
  · have e0 := eq_tab (m ((c : Thread nD τ).loc main_arg0))
    have e1 := eq_tab (m ((c : Thread nD τ).loc main_arg1))
    have e2 := eq_tab1 (m ((c : Thread nD τ).loc main_arg2))
    obtain ⟨a0, a1, a2⟩ := hargs c
    obtain ⟨p0, p1, p2, rest⟩ := h c
    refine ⟨p0.trans ?_, p1.trans ?_, p2.trans ?_, rest⟩
    · refine (Cert.Reference13Ideal.Read.val_main_v50_eq ..).trans ?_
      refine Eq.trans ?_ (Ref.v50 ..)
      rw [a0, a1, a2, ← e0, ← e1, ← e2]
    · refine (Cert.Reference13Ideal.Read.val_main_v51_eq ..).trans ?_
      refine Eq.trans ?_ (Ref.v51 ..)
      rw [a0, a1, a2, ← e0, ← e1, ← e2]
    · refine (Cert.Reference13Ideal.Read.val_main_v52_eq ..).trans ?_
      refine Eq.trans ?_ (Ref.v52 ..)
      rw [a0, a1, a2, ← e0, ← e1, ← e2]

end Cert.Loss

end
-- ==== Proof.SgFwd.lean ====
/- The gated half of the even layers' output projection, forward: the kernel's result is the residual plus the rows times the weights, and
   so is the reference's. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.SgFwd

open Idealize.ShloMosaic Idealize.ShloMosaic.TcCoe Idealize.ShloMosaic.Tactic Idealize.SL.Sem
open Cert.Ffn (tab tab1 ent ent1 eq_tab eq_tab1 tab_apply tab1_apply narrow widen)
open Cert.Kernel14Ideal Cert.Kernel14Ideal.Gen Cert.Kernel14Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The residual plus the rows times the weights. -/
def out {n : ℕ} (v : Fin n → Fin 512 → EReal) (w : Fin 512 → Fin 1024 → EReal) (res : Fin n → Fin 1024 → EReal) (s : Fin n) (d : Fin 1024) : EReal :=
  res s d + ∑ e, v s e * w e d

/-- The rows times the weights. -/
theorem product (v : Fin 1024 → Fin 512 → EReal) (w : Fin 512 → Fin 1024 → EReal) :
    matmul (F := Ideal) (φ₁ := .bf16) (φ₂ := .bf16) dot_S1024x512_S512x1024_S1024x1024_1_0_0_1_n_n none (tab v) (tab w) (constant S1024x1024 .f32 0x00000000#32)
    = tab fun k d => ∑ e, v k e * w e d := by
  funext i
  pointwise
  simp only [Ideal.ofBits_zero_f32, zero_add, tab_apply]
  rfl

/-- What the kernel computes of one block. -/
theorem pay1 (v : Fin 1024 → Fin 512 → EReal) (w : Fin 512 → Fin 1024 → EReal) (res : Fin 1024 → Fin 1024 → EReal) : k0_pay1 (F := Ideal) (tab v) (tab w) (tab res) = tab (out v w res) := by
  unfold k0_pay1
  simp only [shapeCast_self, product]
  funext i
  show res (i 0) (i 1) + Ideal.ofBits .f32 0x3F800000#32 * (∑ e, v (i 0) e * w e (i 1)) = _
  rw [Ideal.ofBits_one_f32, one_mul]
  rfl

/-- What one block's output holds. -/
theorem out3 (v : Fin 1024 → Fin 512 → EReal) (w : Fin 512 → Fin 1024 → EReal) (res : Fin 1024 → Fin 1024 → EReal) : out0_3 (F := Ideal) (tab v) (tab w) (tab res) = tab (out v w res) := by
  unfold out0_3
  rw [View.canon_unit_zero (S := S1024x1024) hz]
  simp only [View.ld_unit_zero (S := S1024x512) hz, View.ld_unit_zero (S := S512x1024) hz, View.ld_unit_zero (S := S1024x1024) hz]
  exact pay1 v w res

/-- The reference's result. -/
theorem ref (v : Fin 16384 → Fin 512 → EReal) (w : Fin 512 → Fin 1024 → EReal) (res : Fin 16384 → Fin 1024 → EReal) :
    Cert.Reference14Ideal.Read.val_main_v2 (F := Ideal) (tab v) (tab w) (tab res) = tab (out v w res) := by
  funext i
  rw [Cert.Reference14Ideal.Read.val_main_v2_apply, Cert.Reference14Ideal.Read.val_main_v1_apply]
  rfl

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = t.val ∧ win0_3.index t (1 : Fin 2) = 0 := by decide +kernel

section Arrays

variable (m : (ℓ : Loc nD τ sig) → Buf (Elt Ideal) ℓ) (c : Dev nD) (t : Fin cfg0.N)
variable (v : Fin 16384 → Fin 512 → EReal) (w : Fin 512 → Fin 1024 → EReal) (res : Fin 16384 → Fin 1024 → EReal)

/-- The weights. -/
theorem v0 (hw : m ((c : Thread nD τ).loc main_arg1) = tab w) : V m c main_v0 = tab w := by
  have e : V m c main_v0 = m ((c : Thread nD τ).loc main_arg1) := by
    dsimp only [V, hostOps0]
    after_results
    rfl
  rw [e, hw]

/-- The rows of a point. -/
theorem blk0 (M : Fin 16384 → Fin 512 → EReal) (h : V m c main_arg0 = tab M) : iblk m c 0 t = tab fun k d => M (row t.val k) d := by
  funext i
  unfold iblk
  rw [View.read_apply]
  show V m c main_arg0 _ = _
  rw [h]
  refine (spot M t.val _ _ _ _ ?_ ?_).symm
  · show win0_0.index t (0 : Fin 2) * 1024 + 1 * (i 0).val = _
    rw [(idx0 t).1]
  · show win0_0.index t (1 : Fin 2) * 512 + 1 * (i 1).val = _
    rw [(idx0 t).2]

/-- The weights at a point. -/
theorem blk1 (M : Fin 512 → Fin 1024 → EReal) (h : V m c main_v0 = tab M) : iblk m c 1 t = tab M := by
  funext i
  unfold iblk
  rw [View.read_apply]
  show V m c main_v0 _ = _
  rw [h]
  refine congrArg₂ M (Fin.ext ?_) (Fin.ext ?_)
  · show win0_1.index t (0 : Fin 2) * 512 + 1 * (i 0).val = (i 0).val
    rw [(idx1 t).1]; omega
  · show win0_1.index t (1 : Fin 2) * 1024 + 1 * (i 1).val = (i 1).val
    rw [(idx1 t).2]; omega

/-- The residual block of a point. -/
theorem blk2 (M : Fin 16384 → Fin 1024 → EReal) (h : V m c main_arg2 = tab M) : iblk m c 2 t = tab fun k d => M (row t.val k) d := by
  funext i
  unfold iblk
  rw [View.read_apply]
  show V m c main_arg2 _ = _
  rw [h]
  refine (spot M t.val _ _ _ _ ?_ ?_).symm
  · show win0_2.index t (0 : Fin 2) * 1024 + 1 * (i 0).val = _
    rw [(idx2 t).1]
  · show win0_2.index t (1 : Fin 2) * 1024 + 1 * (i 1).val = _
    rw [(idx2 t).2]

/-- The kernel's result. -/
theorem final3 (h0 : m ((c : Thread nD τ).loc main_arg0) = tab v) (h1 : m ((c : Thread nD τ).loc main_arg1) = tab w)
    (h2 : m ((c : Thread nD τ).loc main_arg2) = tab res) : (dats m 0 c).arrAt 3 cfg0.N = tab (out v w res) := by
  refine (dats m 0 c).arrAt_eq_of_covers 3 _ (by decide +kernel) fun t hf y => ?_
  rw [after0_3, blk0 m c t v ((V_main_arg0 m c).trans h0), blk1 m c t w (v0 m c w h1), blk2 m c t res ((V_main_arg2 m c).trans h2), out3]
  refine spot (out v w res) t.val _ _ _ _ ?_ ?_
  · show win0_3.index t (0 : Fin 2) * 1024 + 1 * (y 0).val = _
    rw [(idx3 t).1]
  · show win0_3.index t (1 : Fin 2) * 1024 + 1 * (y 1).val = _
    rw [(idx3 t).2]

end Arrays

/-- From any arguments, every run of the kernel and every run of the reference end with the same array. -/
theorem equal : Cert.algebraic_Kernel14Ideal_Reference14Ideal (hKernel14Ideal := Cert.Kernel14Ideal.Gen.facts)
    (hReference14Ideal := Cert.Reference14Ideal.Gen.facts) := by
  intro m g m' g' _ hargs
  refine ⟨fun c => tab (out (ent (m ((c : Thread nD τ).loc main_arg0))) (ent (m ((c : Thread nD τ).loc main_arg1))) (ent (m ((c : Thread nD τ).loc main_arg2)))),
    (θ_run _ _ _).mono (fun r h c => ?_) (Cert.Kernel14Ideal.Value.run_blocks m g),
    (θ_run _ _ _).mono (fun r h c => ?_) (Cert.Reference14Ideal.Value.run m' g')⟩
  · have e0 := eq_tab (m ((c : Thread nD τ).loc main_arg0))
    have e1 := eq_tab (m ((c : Thread nD τ).loc main_arg1))
    have e2 := eq_tab (m ((c : Thread nD τ).loc main_arg2))
    obtain ⟨p0, rest⟩ := h c
    exact ⟨p0.trans (final3 m c _ _ _ e0 e1 e2), rest⟩
  · have e0 := eq_tab (m ((c : Thread nD τ).loc main_arg0))
    have e1 := eq_tab (m ((c : Thread nD τ).loc main_arg1))
    have e2 := eq_tab (m ((c : Thread nD τ).loc main_arg2))
    obtain ⟨a0, a1, a2⟩ := hargs c
    obtain ⟨p0, rest⟩ := h c
    refine ⟨p0.trans ?_, rest⟩
    refine (Cert.Reference14Ideal.Read.val_main_v2_eq ..).trans ?_
    refine Eq.trans ?_ (ref ..)
    rw [a0, a1, a2, ← e0, ← e1, ← e2]

end Cert.SgFwd

end
-- ==== Proof.SgBwd.lean ====
/- The gated half of the even layers' output projection, backward: the kernel's result is the cotangent times the transposed weights, and so
   is the reference's. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.SgBwd

open Idealize.ShloMosaic Idealize.ShloMosaic.TcCoe Idealize.ShloMosaic.Tactic Idealize.SL.Sem
open Cert.Ffn (tab tab1 ent ent1 eq_tab eq_tab1 tab_apply tab1_apply narrow widen)
open Cert.Kernel15Ideal Cert.Kernel15Ideal.Gen Cert.Kernel15Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The cotangent times the transposed weights. -/
def dv {n : ℕ} (w : Fin 512 → Fin 1024 → EReal) (ct : Fin n → Fin 1024 → EReal) (s : Fin n) (d : Fin 512) : EReal := ∑ e, ct s e * w d e

/-- What the kernel computes of one block. -/
theorem pay1 (w : Fin 512 → Fin 1024 → EReal) (ct : Fin 1024 → Fin 1024 → EReal) : k0_pay1 (F := Ideal) (tab ct) (tab w) = tab (dv w ct) := by
  unfold k0_pay1
  simp only [shapeCast_self, narrow]
  funext i
  pointwise
  simp only [Ideal.ofBits_zero_f32, zero_add, tab_apply]
  rfl

/-- What one block's output holds. -/
theorem out2 (w : Fin 512 → Fin 1024 → EReal) (ct : Fin 1024 → Fin 1024 → EReal) : out0_2 (F := Ideal) (tab ct) (tab w) = tab (dv w ct) := by
  unfold out0_2
  rw [View.canon_unit_zero (S := S1024x512) hz, View.ld_unit_zero (S := S1024x1024) hz, View.ld_unit_zero (S := S512x1024) hz, pay1]

/-- The reference's result. -/
theorem ref (w : Fin 512 → Fin 1024 → EReal) (ct : Fin 16384 → Fin 1024 → EReal) :
    Cert.Reference15Ideal.Read.val_main_v3 (F := Ideal) (tab w) (tab ct) = tab (dv w ct) := by
  funext i
  rw [Cert.Reference15Ideal.Read.val_main_v3_apply, Cert.Reference15Ideal.Read.val_main_v2_apply]
  rfl

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel

section Arrays

variable (m : (ℓ : Loc nD τ sig) → Buf (Elt Ideal) ℓ) (c : Dev nD) (t : Fin cfg0.N)
variable (w : Fin 512 → Fin 1024 → EReal) (ct : Fin 16384 → Fin 1024 → EReal)

/-- The weights. -/
theorem v0 (hw : m ((c : Thread nD τ).loc main_arg1) = tab w) : V m c main_v0 = tab w := by
  have e : V m c main_v0 = m ((c : Thread nD τ).loc main_arg1) := by
    dsimp only [V, hostOps0]
    after_results
    rfl
  rw [e, hw]

/-- The cotangent block of a point. -/
theorem blk0 (M : Fin 16384 → Fin 1024 → EReal) (h : V m c main_arg2 = tab M) : iblk m c 0 t = tab fun k d => M (row t.val k) d := by
  funext i
  unfold iblk
  rw [View.read_apply]
  show V m c main_arg2 _ = _
  rw [h]
  refine (spot M t.val _ _ _ _ ?_ ?_).symm
  · show win0_0.index t (0 : Fin 2) * 1024 + 1 * (i 0).val = _
    rw [(idx0 t).1]
  · show win0_0.index t (1 : Fin 2) * 1024 + 1 * (i 1).val = _
    rw [(idx0 t).2]

/-- The weights at a point. -/
theorem blk1 (M : Fin 512 → Fin 1024 → EReal) (h : V m c main_v0 = tab M) : iblk m c 1 t = tab M := by
  funext i
  unfold iblk
  rw [View.read_apply]
  show V m c main_v0 _ = _
  rw [h]
  refine congrArg₂ M (Fin.ext ?_) (Fin.ext ?_)
  · show win0_1.index t (0 : Fin 2) * 512 + 1 * (i 0).val = (i 0).val
    rw [(idx1 t).1]; omega
  · show win0_1.index t (1 : Fin 2) * 1024 + 1 * (i 1).val = (i 1).val
    rw [(idx1 t).2]; omega

/-- The kernel's result. -/
theorem final2 (h1 : m ((c : Thread nD τ).loc main_arg1) = tab w) (h2 : m ((c : Thread nD τ).loc main_arg2) = tab ct) :
    (dats m 0 c).arrAt 2 cfg0.N = tab (dv w ct) := by
  refine (dats m 0 c).arrAt_eq_of_covers 2 _ (by decide +kernel) fun t hf y => ?_
  rw [after0_2, blk0 m c t ct ((V_main_arg2 m c).trans h2), blk1 m c t w (v0 m c w h1), out2]
  refine spot (dv w ct) t.val _ _ _ _ ?_ ?_
  · show win0_2.index t (0 : Fin 2) * 1024 + 1 * (y 0).val = _
    rw [(idx2 t).1]
  · show win0_2.index t (1 : Fin 2) * 512 + 1 * (y 1).val = _
    rw [(idx2 t).2]

end Arrays

/-- From any arguments, every run of the kernel and every run of the reference end with the same gradient. -/
theorem equal : Cert.algebraic_Kernel15Ideal_Reference15Ideal (hKernel15Ideal := Cert.Kernel15Ideal.Gen.facts)
    (hReference15Ideal := Cert.Reference15Ideal.Gen.facts) := by
  intro m g m' g' _ hargs
  refine ⟨fun c => tab (dv (ent (m ((c : Thread nD τ).loc main_arg1))) (ent (m ((c : Thread nD τ).loc main_arg2)))),
    (θ_run _ _ _).mono (fun r h c => ?_) (Cert.Kernel15Ideal.Value.run_blocks m g),
    (θ_run _ _ _).mono (fun r h c => ?_) (Cert.Reference15Ideal.Value.run m' g')⟩
  · have e1 := eq_tab (m ((c : Thread nD τ).loc main_arg1))
    have e2 := eq_tab (m ((c : Thread nD τ).loc main_arg2))
    obtain ⟨p0, rest⟩ := h c
    exact ⟨p0.trans (final2 m c _ _ e1 e2), rest⟩
  · have e1 := eq_tab (m ((c : Thread nD τ).loc main_arg1))
    have e2 := eq_tab (m ((c : Thread nD τ).loc main_arg2))
    obtain ⟨a0, a1, a2⟩ := hargs c
    obtain ⟨p0, rest⟩ := h c
    refine ⟨p0.trans ?_, rest⟩
    refine (Cert.Reference15Ideal.Read.val_main_v3_eq ..).trans ?_
    refine Eq.trans ?_ (ref ..)
    rw [a1, a2, ← e1, ← e2]

end Cert.SgBwd

end
-- ==== Proof.SgDw.lean ====
/- The gated half of the even layers' output projection, the weights' gradient: the kernel's result is the input, transposed, times the
   cotangent, and so is the reference's. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Tn
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.SgDw

open Idealize.ShloMosaic Idealize.ShloMosaic.TcCoe Idealize.ShloMosaic.Tactic Idealize.SL.Sem
open Cert.Ffn (tab tab1 ent ent1 eq_tab eq_tab1 tab_apply tab1_apply narrow widen mul_tab)
open Cert.Tn
open Cert.Kernel16Ideal Cert.Kernel16Ideal.Gen Cert.Kernel16Ideal.Value

private theorem hz : (![0, 0] : Fin 2 → Nat) = fun _ => 0 := funext fun a => by fin_cases a <;> rfl

/-! ## One block -/

/-- The sum starts at zero. -/
theorem pay1 : k0_pay1 (F := Ideal) = tab fun _ _ => 0 := by
  unfold k0_pay1
  simp only [shapeCast_self]
  funext i
  exact Ideal.ofBits_zero_f32

/-- A block pair's transposed product, added to the sum. -/
theorem pay2 (acc : Fin 512 → Fin 1024 → EReal) (a : Fin 2048 → Fin 512 → EReal) (b : Fin 2048 → Fin 1024 → EReal) :
    k0_pay2 (F := Ideal) (tab acc) (tab a) (tab b) = tab fun f d => acc f d + ∑ k, a k f * b k d := by
  unfold k0_pay2
  simp only [shapeCast_self, narrow]
  have e : matmul (F := Ideal) (φ₁ := .bf16) (φ₂ := .bf16) dot_S2048x512_S2048x1024_S512x1024_0_0_1_1_n_n none (tab a) (tab b)
      (constant S512x1024 .f32 0x00000000#32) = tab fun f d => ∑ k, a k f * b k d := by
    funext i
    pointwise
    simp only [Ideal.ofBits_zero_f32, zero_add, tab_apply]
    rfl
  rw [e]
  rfl

section Points

variable (c : Dev nD) (i : grid0.Coords) (arg2 : Memref sig .tc .vmem S2048x512 .bf16) (h2 : arg2.IsWhole) (arg3 : Memref sig .tc .vmem S2048x1024 .f32) (h3 : arg3.IsWhole)
  (arg4 : Memref sig .tc .vmem S512x1024 .f32) (h4 : arg4.IsWhole) (arg5 : Memref sig .tc .vmem S512x1024 .f32) (h5 : arg5.IsWhole)
  (x0 : Vec Ideal S2048x512 .bf16) (x1 : Vec Ideal S2048x1024 .f32) (xs0 : Vec Ideal S512x1024 .f32)

/-- The sum after a first row tile. -/
theorem accA (hc0 : cond0_0 i) (hc1 : ¬cond0_1 i) : sout0_A_0 (F := Ideal) c i arg2 h2 arg3 h3 arg4 h4 arg5 h5 hc0 hc1 x0 x1 = k0_pay2 (k0_pay1 (F := Ideal)) x0 x1 := by
  unfold sout0_A_0
  rw [View.read_writes_eq_canon _ _ _ (scover0_A_0 c i arg2 h2 arg3 h3 arg4 h4 arg5 h5 hc0 hc1 x0 x1)]
  unfold kernelRun0_A
  dsimp only
  sl_unfold_words
  rw [View.canon_cons_unit_zero (S := S512x1024) hz]
  simp only [View.readAt_eq_ld, h2.read_unread, h3.read_unread, h5.read_unread, View.ld_unit_zero (S := S2048x512) hz, View.ld_unit_zero (S := S2048x1024) hz,
    View.ld_unit_zero (S := S512x1024) hz, View.readCov_unit_zero (S := S512x1024) _ hz]

/-- The sum after a middle row tile. -/
theorem accB (hc0 : ¬cond0_0 i) (hc1 : ¬cond0_1 i) : sout0_B_0 (F := Ideal) c i arg2 h2 arg3 h3 arg4 h4 arg5 h5 hc0 hc1 x0 x1 xs0 = k0_pay2 xs0 x0 x1 := by
  unfold sout0_B_0
  rw [View.read_writes_eq_canon _ _ _ (scover0_B_0 c i arg2 h2 arg3 h3 arg4 h4 arg5 h5 hc0 hc1 x0 x1 xs0)]
  unfold kernelRun0_B
  dsimp only
  sl_unfold_words
  rw [View.canon_unit_zero (S := S512x1024) hz]
  simp only [View.readAt_eq_ld, h2.read_unread, h3.read_unread, h5.read_unread, View.ld_unit_zero (S := S2048x512) hz, View.ld_unit_zero (S := S2048x1024) hz,
    View.ld_unit_zero (S := S512x1024) hz, View.readCov_unit_zero (S := S512x1024) _ hz]

/-- The sum after a last row tile. -/
theorem accC (hc0 : ¬cond0_0 i) (hc1 : cond0_1 i) : sout0_C_0 (F := Ideal) c i arg2 h2 arg3 h3 arg4 h4 arg5 h5 hc0 hc1 x0 x1 xs0 = k0_pay2 xs0 x0 x1 := by
  unfold sout0_C_0
  rw [View.read_writes_eq_canon _ _ _ (scover0_C_0 c i arg2 h2 arg3 h3 arg4 h4 arg5 h5 hc0 hc1 x0 x1 xs0)]
  unfold kernelRun0_C
  dsimp only
  sl_unfold_words
  rw [View.canon_unit_zero (S := S512x1024) hz]
  simp only [View.readAt_eq_ld, h2.read_unread, h3.read_unread, h5.read_unread, View.ld_unit_zero (S := S2048x512) hz, View.ld_unit_zero (S := S2048x1024) hz,
    View.ld_unit_zero (S := S512x1024) hz, View.readCov_unit_zero (S := S512x1024) _ hz]

/-- The output after a last row tile. -/
theorem outC (hc0 : ¬cond0_0 i) (hc1 : cond0_1 i) : out0_C_2 (F := Ideal) c i arg2 h2 arg3 h3 arg4 h4 arg5 h5 hc0 hc1 x0 x1 xs0 = k0_pay2 xs0 x0 x1 := by
  unfold out0_C_2
  rw [View.read_writes_eq_canon _ _ _ (cover0_C_2 c i arg2 h2 arg3 h3 arg4 h4 arg5 h5 hc0 hc1 x0 x1 xs0)]
  unfold kernelRun0_C
  dsimp only
  sl_unfold_words
  rw [View.canon_unit_zero (S := S512x1024) hz]
  simp only [View.readAt_eq_ld, h2.read_unread, h3.read_unread, h5.read_unread, View.ld_unit_zero (S := S2048x512) hz, View.ld_unit_zero (S := S2048x1024) hz,
    View.ld_unit_zero (S := S512x1024) hz, View.readCov_unit_zero (S := S512x1024) _ hz]

end Points

/-! ## The reference -/

namespace Ref

open Cert.Reference16Ideal.Read

variable (v : Fin 16384 → Fin 512 → EReal) (ct : Fin 16384 → Fin 1024 → EReal)

/-- The weights' gradient. -/
theorem v3 : val_main_v3 (F := Ideal) (tab v) (tab ct) = tab (tn v ct) := by
  have e : val_main_v3 (F := Ideal) (tab v) (tab ct) = tab fun f d => ∑ s, ct s d * v s f := by
    funext i
    rw [val_main_v3_apply, val_main_v2_apply]
    rfl
  rw [e]
  exact congrArg tab (funext fun f => funext fun d => Finset.sum_congr rfl fun s _ => mul_comm (ct s d) (v s f))

end Ref

/-! ## The arrays -/

theorem idx0 : ∀ t : Fin grid0.N, win0_0.index t (0 : Fin 2) = t.val % 8 ∧ win0_0.index t (1 : Fin 2) = t.val / 8 := by decide +kernel
theorem idx1 : ∀ t : Fin grid0.N, win0_1.index t (0 : Fin 2) = t.val % 8 ∧ win0_1.index t (1 : Fin 2) = 0 := by decide +kernel
theorem idx2 : ∀ t : Fin grid0.N, win0_2.index t (0 : Fin 2) = t.val / 8 ∧ win0_2.index t (1 : Fin 2) = 0 := by decide +kernel

section Arrays

variable (m : (ℓ : Loc nD τ sig) → Buf (Elt Ideal) ℓ) (c : Dev nD) (t : Fin cfg0.N)
variable (A : Fin 16384 → Fin 512 → EReal) (B : Fin 16384 → Fin 1024 → EReal)

/-- The transposed array's block at a point. -/
theorem blk0 (h : V m c main_arg0 = tab A) : iblk m c 0 t = tab fun k f => A (row (t.val % 8) k) (col 512 (t.val / 8) f) := by
  funext i
  unfold iblk
  rw [View.read_apply]
  show V m c main_arg0 _ = _
  rw [h]
  have ht : t.val < 8 := lt_of_lt_of_eq t.isLt N_0
  have h0 : (i 0).val < 2048 := (i 0).isLt
  have h1 : (i 1).val < 512 := (i 1).isLt
  refine congrArg₂ A (Fin.ext ?_) (Fin.ext ?_)
  · show win0_0.index t (0 : Fin 2) * 2048 + 1 * (i 0).val = (2048 * (t.val % 8) + (i 0).val) % 16384
    rw [(idx0 t).1]; omega
  · show win0_0.index t (1 : Fin 2) * 512 + 1 * (i 1).val = (512 * (t.val / 8) + (i 1).val) % 512
    rw [(idx0 t).2]; omega

/-- The other array's block at a point. -/
theorem blk1 (h : V m c main_arg2 = tab B) : iblk m c 1 t = tab fun k d => B (row (t.val % 8) k) d := by
  funext i
  unfold iblk
  rw [View.read_apply]
  show V m c main_arg2 _ = _
  rw [h]
  have ht : t.val < 8 := lt_of_lt_of_eq t.isLt N_0
  have h0 : (i 0).val < 2048 := (i 0).isLt
  refine congrArg₂ B (Fin.ext ?_) (Fin.ext ?_)
  · show win0_1.index t (0 : Fin 2) * 2048 + 1 * (i 0).val = (2048 * (t.val % 8) + (i 0).val) % 16384
    rw [(idx1 t).1]; omega
  · show win0_1.index t (1 : Fin 2) * 1024 + 1 * (i 1).val = (i 1).val
    rw [(idx1 t).2]; omega

variable (hA : V m c main_arg0 = tab A) (hB : V m c main_arg2 = tab B)
include hA hB

/-- The sum after a point, from the sum before it. -/
theorem step (n : ℕ) (hn : n = t.val % 8) :
    k0_pay2 (F := Ideal) (tab (part A B (t.val / 8) n)) (iblk m c 0 t) (iblk m c 1 t) = tab (part A B (t.val / 8) (n + 1)) := by
  have e := pay2 (part A B (t.val / 8) n) (fun k f => A (row (t.val % 8) k) (col 512 (t.val / 8) f)) (fun k d => B (row (t.val % 8) k) d)
  rw [blk0 m c t A hA, blk1 m c t B hB, ← part_succ, hn]
  rw [hn] at e
  exact e

omit hA hB in
/-- The sum after a first row tile, of the point's blocks. -/
theorem ptA (h0 : t.val % 8 = 0) (h1 : ¬t.val % 8 = 7) : (outsAt0 m c t.val t.isLt).2 = k0_pay2 (k0_pay1 (F := Ideal)) (iblk m c 0 t) (iblk m c 1 t) := by
  rw [outsAt0_A m c t h0 h1]
  dsimp only
  rw [accA]

omit hA hB in
/-- The sum after a middle row tile, of the point's blocks. -/
theorem ptB (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  rw [accB]

omit hA hB in
/-- The sum after a last row tile, of the point's blocks. -/
theorem ptC (h0 : ¬t.val % 8 = 0) (h1 : t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_C m c t h0 h1]
  dsimp only
  rw [accC]

omit hA hB in
/-- The output after a last row tile, of the point's blocks. -/
theorem ptOut (h0 : ¬t.val % 8 = 0) (h1 : t.val % 8 = 7) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t h0 h1]
  dsimp only
  rw [outC]

/-- The sum after a first row tile. -/
theorem first (h0 : t.val % 8 = 0) : (outsAt0 m c t.val t.isLt).2 = tab (part A B (t.val / 8) (t.val % 8 + 1)) := by
  have h1 : ¬t.val % 8 = 7 := by omega
  rw [ptA m c t h0 h1, pay1, ← part_zero A B (t.val / 8)]
  refine (step m c t A B hA hB 0 h0.symm).trans ?_
  rw [h0]

/-- The sum after a later row tile, the one before it given. -/
theorem next (h0 : ¬t.val % 8 = 0) (ih : (outsAt0 m c (t.val - 1) (Nat.lt_of_le_of_lt (Nat.sub_le _ _) t.isLt)).2
    = tab (part A B ((t.val - 1) / 8) ((t.val - 1) % 8 + 1))) : (outsAt0 m c t.val t.isLt).2 = tab (part A B (t.val / 8) (t.val % 8 + 1)) := by
  have hd : (t.val - 1) / 8 = t.val / 8 := by omega
  have hm : (t.val - 1) % 8 + 1 = t.val % 8 := by omega
  rw [hd, hm] at ih
  by_cases h1 : t.val % 8 = 7
  · rw [ptC m c t h0 h1, ih]
    exact step m c t A B hA hB _ rfl
  · rw [ptB m c t h0 h1, ih]
    exact step m c t A B hA hB _ rfl

/-- The sum after every point. -/
theorem sums : ∀ (n : ℕ) (hn : n < cfg0.N), (outsAt0 m c n hn).2 = tab (part A B (n / 8) (n % 8 + 1))
  | 0, hn => first m c ⟨0, hn⟩ A B hA hB (Nat.zero_mod _)
  | n + 1, hn => by
    by_cases h0 : (n + 1) % 8 = 0
    · exact first m c ⟨n + 1, hn⟩ A B hA hB h0
    · exact next m c ⟨n + 1, hn⟩ A B hA hB h0 (sums n (by omega))

/-- The output after a last row tile. -/
theorem last (h1 : t.val % 8 = 7) : (outsAt0 m c t.val t.isLt).1 = tab fun f d => tn A B (col 512 (t.val / 8) f) d := by
  have h0 : ¬t.val % 8 = 0 := by omega
  have hd : (t.val - 1) / 8 = t.val / 8 := by omega
  have hm : (t.val - 1) % 8 + 1 = 7 := by omega
  have ih := sums m c A B hA hB (t.val - 1) (Nat.lt_of_le_of_lt (Nat.sub_le _ _) t.isLt)
  rw [hd, hm] at ih
  rw [ptOut m c t h0 h1, ih, step m c t A B hA hB 7 h1.symm]
  exact congrArg tab (funext fun f => funext fun d => part_all A B _ f d)

/-- The weights' gradient. -/
theorem final2 : (dats m 0 c).arrAt 2 cfg0.N = tab (tn A B) := by
  refine (dats m 0 c).arrAt_eq_of_covers 2 _ (by decide +kernel) fun t hf y => ?_
  rw [after0_2, last m c t A B hA hB ((flush0_2 t).mp hf)]
  generalize tn A B = M
  refine spot M (t.val / 8) _ _ _ _ ?_ ?_
  · show win0_2.index t (0 : Fin 2) * 512 + 1 * (y 0).val = _
    rw [(idx2 t).1]
  · show win0_2.index t (1 : Fin 2) * 1024 + 1 * (y 1).val = _
    rw [(idx2 t).2]

end Arrays

/-- From any arguments, every run of the kernel and every run of the reference end with the same gradient. -/
theorem equal : Cert.algebraic_Kernel16Ideal_Reference16Ideal (hKernel16Ideal := Cert.Kernel16Ideal.Gen.facts)
    (hReference16Ideal := Cert.Reference16Ideal.Gen.facts) := by
  intro m g m' g' _ hargs
  refine ⟨fun c => tab (tn (ent (m ((c : Thread nD τ).loc main_arg0))) (ent (m ((c : Thread nD τ).loc main_arg2)))),
    (θ_run _ _ _).mono (fun r h c => ?_) (Cert.Kernel16Ideal.Value.run_blocks m g),
    (θ_run _ _ _).mono (fun r h c => ?_) (Cert.Reference16Ideal.Value.run m' g')⟩
  · have e0 := eq_tab (m ((c : Thread nD τ).loc main_arg0))
    have e2 := eq_tab (m ((c : Thread nD τ).loc main_arg2))
    obtain ⟨p0, rest⟩ := h c
    exact ⟨p0.trans (final2 m c _ _ ((V_main_arg0 m c).trans e0) ((V_main_arg2 m c).trans e2)), rest⟩
  · have e0 := eq_tab (m ((c : Thread nD τ).loc main_arg0))
    have e2 := eq_tab (m ((c : Thread nD τ).loc main_arg2))
    obtain ⟨a0, a1, a2⟩ := hargs c
    obtain ⟨p0, rest⟩ := h c
    refine ⟨p0.trans ?_, rest⟩
    refine (Cert.Reference16Ideal.Read.val_main_v3_eq ..).trans ?_
    refine Eq.trans ?_ (Ref.v3 ..)
    rw [a0, a2, ← e0, ← e2]

end Cert.SgDw

end
-- ==== Proof.EvenFwd.lean ====
/- The input projection of the even layers' mixer, forward: the kernel's results are the normed input and its product with the weights,
   and so are the reference's. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry
public import proofs.«01_k».proof.Proof.Fwd.Math

@[expose] public section

set_option maxRecDepth 16384

noncomputable section

open scoped BigOperators

namespace Cert.EvenFwd

open Idealize.ShloMosaic Idealize.ShloMosaic.TcCoe Idealize.ShloMosaic.Tactic Idealize.SL.Sem
open Cert.Ffn (tab tab1 ent ent1 eq_tab eq_tab1 tab_apply tab1_apply narrow widen mul_tab)
open Cert.Ffn.Fwd (msq nrm)
open Cert.Kernel17Ideal Cert.Kernel17Ideal.Gen Cert.Kernel17Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The normed input times the weights. -/
def proj {n : ℕ} (x : Fin n → Fin 1024 → EReal) (gn : Fin 1024 → EReal) (w : Fin 1024 → Fin 1920 → EReal) (s : Fin n) (f : Fin 1920) : EReal :=
  ∑ d, nrm x gn s d * w d f

/-- A column repeated along the rows. -/
theorem spread (v : Fin 1024 → EReal) (h) : broadcastTo (α := EReal) S1024x1024 (tab fun k (_ : Fin 1) => v k) h = tab fun k (_ : Fin 1024) => v k := by
  funext i
  pointwise
  rfl

/-- A row repeated down the block. -/
theorem tower (v : Fin 1024 → EReal) (h) : broadcastTo (α := EReal) S1024x1024 (tab fun (_ : Fin 1) d => v d) h = tab fun (_ : Fin 1024) d => v d := by
  funext i
  pointwise
  rfl

/-- The row sums of a block. -/
theorem rowsum (v : Fin 1024 → Fin 1024 → EReal) (h) :
    multiReduction (F := Ideal) (φ := .f32) .add [1] S1024 (tab v) 0x00000000#32 h (.inl rfl) rfl = tab1 fun k => ∑ d, v k d := by
  funext i
  pointwise
  simp only [Ideal.ofBits_zero_f32, zero_add, tab_apply]
  rfl

/-- A vector as a column. -/
theorem column (v : Fin 1024 → EReal) (h) : shapeCast (α := EReal) S1024x1 (tab1 v) h = tab fun k (_ : Fin 1) => v k := by
  funext i
  pointwise
  rfl

/-- The normed rows of a block. -/
theorem pay1 (x : Fin 1024 → Fin 1024 → EReal) (gn : Fin 1024 → EReal) : k0_pay1 (F := Ideal) (tab x) (tab fun (_ : Fin 1) d => gn d) = tab (nrm x gn) := by
  unfold k0_pay1
  simp only [shapeCast_self, mul_tab]
  erw [rowsum]
  rw [column]
  have e : rsqrt (F := Ideal) (φ := .f32) (addf (divf (tab fun (k : Fin 1024) (_ : Fin 1) => ∑ d, x k d * x k d)
      (broadcast S1024x1 (Scalar.ofBits .f32 0x44800000#32))) (broadcast S1024x1 (Scalar.ofBits .f32 0x358637BD#32)))
    = tab fun (k : Fin 1024) (_ : Fin 1) => Ideal.rsqrt (msq x k) := rfl
  erw [e]
  rw [spread, tower, mul_tab, mul_tab, narrow]
  rfl

/-- The projected rows of a block. -/
theorem pay2 (x : Fin 1024 → Fin 1024 → EReal) (gn : Fin 1024 → EReal) (w : Fin 1024 → Fin 1920 → EReal) :
    k0_pay2 (F := Ideal) (tab x) (tab fun (_ : Fin 1) d => gn d) (tab fun f d => w d f) = tab (proj x gn w) := by
  unfold k0_pay2
  simp only [shapeCast_self, narrow, pay1]
  funext i
  pointwise
  simp only [Ideal.ofBits_zero_f32, zero_add, tab_apply]
  rfl

/-- What one block's first output holds. -/
theorem out3 (x : Fin 1024 → Fin 1024 → EReal) (gn : Fin 1024 → EReal) (a : S1920x1024.Idx → EReal) :
    out0_3 (F := Ideal) (tab x) (tab fun (_ : Fin 1) d => gn d) a = tab (nrm x gn) := by
  unfold out0_3
  rw [View.canon_unit_zero (S := S1024x1024) hz, View.ld_unit_zero (S := S1024x1024) hz, View.ld_unit_zero (S := S1x1024) hz, pay1]

/-- What one block's second output holds. -/
theorem out4 (x : Fin 1024 → Fin 1024 → EReal) (gn : Fin 1024 → EReal) (w : Fin 1024 → Fin 1920 → EReal) :
    out0_4 (F := Ideal) (tab x) (tab fun (_ : Fin 1) d => gn d) (tab fun f d => w d f) = tab (proj x gn w) := by
  unfold out0_4
  rw [View.canon_unit_zero (S := S1024x1920) hz, View.ld_unit_zero (S := S1024x1024) hz, View.ld_unit_zero (S := S1x1024) hz,
    View.ld_unit_zero (S := S1920x1024) hz, pay2]

namespace Ref

open Cert.Reference17Ideal.Read

variable (x : Fin 16384 → Fin 1024 → EReal) (gn : Fin 1024 → EReal) (w : Fin 1024 → Fin 1920 → EReal)

/-- The normed input. -/
theorem v12 : val_main_v12 (F := Ideal) (tab x) (tab1 gn) = tab (nrm x gn) := by
  funext i
  rw [val_main_v12_apply, val_main_v9_apply, val_main_v8_apply, val_main_v7_apply, val_main_v6_apply, val_main_v4_apply,
    val_main_v2_apply, val_main_v1_apply, val_main_v3_apply, val_main_v5_apply, val_main_cst_apply, val_main_cst_0_apply,
    val_main_cst_1_apply, val_main_v11_apply, val_main_v10_apply]
  simp only [val_main_v0_apply, Ideal.ofBits_def, Ideal.ofBits_zero_f32, zero_add, Ideal.mulf_def,
    Ideal.addf_def, Ideal.hostDivf_def, Ideal.hostUnary_rsqrt_def]
  rfl

/-- The normed input, rounded. -/
theorem v13 : val_main_v13 (F := Ideal) (tab x) (tab1 gn) = tab (nrm x gn) := by
  funext i
  rw [val_main_v13_apply, v12]
  rfl

/-- The projected input. -/
theorem v14 : val_main_v14 (F := Ideal) (tab x) (tab1 gn) (tab w) = tab (proj x gn w) := by
  funext i
  rw [val_main_v14_apply, v12]
  rfl

end Ref

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = t.val ∧ win0_4.index t (1 : Fin 2) = 0 := by decide +kernel

section Arrays

variable (m : (ℓ : Loc nD τ sig) → Buf (Elt Ideal) ℓ) (c : Dev nD) (t : Fin cfg0.N)
variable (x : Fin 16384 → Fin 1024 → EReal) (gn : Fin 1024 → EReal) (w : Fin 1024 → Fin 1920 → EReal)

/-- The transposed weights. -/
theorem v1 (hw : m ((c : Thread nD τ).loc main_arg2) = tab w) : V m c main_v1 = tab fun f d => w d f := by
  have e : V m c main_v1 = transpose (α := EReal) S1920x1024 [1, 0] (m ((c : Thread nD τ).loc main_arg2)) transposes_S1024x1920_S1920x1024_1_0 := by
    dsimp only [V, hostOps0]
    after_results
    rfl
  rw [e, hw]
  funext i
  pointwise
  rfl

/-- The gain as a row. -/
theorem v2 (hg : m ((c : Thread nD τ).loc main_arg1) = tab1 gn) : V m c main_v2 = tab fun (_ : Fin 1) d => gn d := by
  have e : V m c main_v2 = shapeCast (α := EReal) S1x1024 (m ((c : Thread nD τ).loc main_arg1)) shapeCasts_S1024_S1x1024 := by
    dsimp only [V, hostOps0]
    after_results
    rfl
  rw [e, hg]
  funext i
  pointwise
  rfl

/-- The input block of a point. -/
theorem blk0 (M : Fin 16384 → Fin 1024 → EReal) (h : V m c main_arg0 = tab M) : iblk m c 0 t = tab fun k d => M (row t.val k) d := by
  funext i
  unfold iblk
  rw [View.read_apply]
  show V m c main_arg0 _ = _
  rw [h]
  refine (spot M t.val _ _ _ _ ?_ ?_).symm
  · show win0_0.index t (0 : Fin 2) * 1024 + 1 * (i 0).val = _
    rw [(idx0 t).1]
  · show win0_0.index t (1 : Fin 2) * 1024 + 1 * (i 1).val = _
    rw [(idx0 t).2]

/-- The gain at a point. -/
theorem blk1 (M : Fin 1 → Fin 1024 → EReal) (h : V m c main_v2 = tab M) : iblk m c 1 t = tab M := by
  funext i
  unfold iblk
  rw [View.read_apply]
  show V m c main_v2 _ = _
  rw [h]
  refine congrArg₂ M (Fin.ext ?_) (Fin.ext ?_)
  · show win0_1.index t (0 : Fin 2) * 1 + 1 * (i 0).val = (i 0).val
    rw [(idx1 t).1]; omega
  · show win0_1.index t (1 : Fin 2) * 1024 + 1 * (i 1).val = (i 1).val
    rw [(idx1 t).2]; omega

/-- The weights at a point. -/
theorem blk2 (M : Fin 1920 → Fin 1024 → EReal) (h : V m c main_v1 = tab M) : iblk m c 2 t = tab M := by
  funext i
  unfold iblk
  rw [View.read_apply]
  show V m c main_v1 _ = _
  rw [h]
  refine congrArg₂ M (Fin.ext ?_) (Fin.ext ?_)
  · show win0_2.index t (0 : Fin 2) * 1920 + 1 * (i 0).val = (i 0).val
    rw [(idx2 t).1]; omega
  · show win0_2.index t (1 : Fin 2) * 1024 + 1 * (i 1).val = (i 1).val
    rw [(idx2 t).2]; omega

variable (h0 : m ((c : Thread nD τ).loc main_arg0) = tab x) (h1 : m ((c : Thread nD τ).loc main_arg1) = tab1 gn)
include h0 h1

/-- The normed input. -/
theorem final3 : (dats m 0 c).arrAt 3 cfg0.N = tab (nrm x gn) := by
  refine (dats m 0 c).arrAt_eq_of_covers 3 _ (by decide +kernel) fun t hf y => ?_
  rw [after0_3, blk0 m c t x ((V_main_arg0 m c).trans h0), blk1 m c t _ (v2 m c gn h1), out3]
  refine spot (nrm x gn) t.val _ _ _ _ ?_ ?_
  · show win0_3.index t (0 : Fin 2) * 1024 + 1 * (y 0).val = _
    rw [(idx3 t).1]
  · show win0_3.index t (1 : Fin 2) * 1024 + 1 * (y 1).val = _
    rw [(idx3 t).2]

/-- The projected input. -/
theorem final4 (h2 : m ((c : Thread nD τ).loc main_arg2) = tab w) : (dats m 0 c).arrAt 4 cfg0.N = tab (proj x gn w) := by
  refine (dats m 0 c).arrAt_eq_of_covers 4 _ (by decide +kernel) fun t hf y => ?_
  rw [after0_4, blk0 m c t x ((V_main_arg0 m c).trans h0), blk1 m c t _ (v2 m c gn h1), blk2 m c t _ (v1 m c w h2), out4]
  refine spot (proj x gn w) t.val _ _ _ _ ?_ ?_
  · show win0_4.index t (0 : Fin 2) * 1024 + 1 * (y 0).val = _
    rw [(idx4 t).1]
  · show win0_4.index t (1 : Fin 2) * 1920 + 1 * (y 1).val = _
    rw [(idx4 t).2]

end Arrays

/-- From any arguments, every run of the kernel and every run of the reference end with the same two arrays. -/
theorem equal : Cert.algebraic_Kernel17Ideal_Reference17Ideal (hKernel17Ideal := Cert.Kernel17Ideal.Gen.facts)
    (hReference17Ideal := Cert.Reference17Ideal.Gen.facts) := by
  intro m g m' g' _ hargs
  refine ⟨fun c => tab (nrm (ent (m ((c : Thread nD τ).loc main_arg0))) (ent1 (m ((c : Thread nD τ).loc main_arg1)))),
    fun c => tab (proj (ent (m ((c : Thread nD τ).loc main_arg0))) (ent1 (m ((c : Thread nD τ).loc main_arg1))) (ent (m ((c : Thread nD τ).loc main_arg2)))),
    (θ_run _ _ _).mono (fun r h c => ?_) (Cert.Kernel17Ideal.Value.run_blocks m g),
    (θ_run _ _ _).mono (fun r h c => ?_) (Cert.Reference17Ideal.Value.run m' g')⟩
  · have e0 := eq_tab (m ((c : Thread nD τ).loc main_arg0))
    have e1 := eq_tab1 (m ((c : Thread nD τ).loc main_arg1))
    have e2 := eq_tab (m ((c : Thread nD τ).loc main_arg2))
    obtain ⟨p0, p1, rest⟩ := h c
    exact ⟨p0.trans (final3 m c _ _ e0 e1), p1.trans (final4 m c _ _ _ e0 e1 e2), rest⟩
  · have e0 := eq_tab (m ((c : Thread nD τ).loc main_arg0))
    have e1 := eq_tab1 (m ((c : Thread nD τ).loc main_arg1))
    have e2 := eq_tab (m ((c : Thread nD τ).loc main_arg2))
    obtain ⟨a0, a1, a2⟩ := hargs c
    obtain ⟨p0, p1, rest⟩ := h c
    refine ⟨p0.trans ?_, p1.trans ?_, rest⟩
    · refine (Cert.Reference17Ideal.Read.val_main_v13_eq ..).trans ?_
      refine Eq.trans ?_ (Ref.v13 ..)
      rw [a0, a1, ← e0, ← e1]
    · refine (Cert.Reference17Ideal.Read.val_main_v14_eq ..).trans ?_
      refine Eq.trans ?_ (Ref.v14 ..)
      rw [a0, a1, a2, ← e0, ← e1, ← e2]

end Cert.EvenFwd

end
-- ==== Proof.EvenBwd.Block.lean ====
/- The gradient through the input projection of the even layers' mixer and norm: what one grid point leaves in each output block, from
   the point's input blocks. The gain's gradient adds to zeros at the first point and to what the point before left at the others. -/
module

public import proofs.«01_k».proof.Proof.Gen.Kernel18Ideal.Frame
public import proofs.«01_k».proof.Proof.Tab
public import proofs.«01_k».proof.Proof.InBwd.Math
public import Idealize.ShloMosaic.Lib.Pointwise
public import Idealize.ShloMosaic.Lib.Pipeline.Value

@[expose] public section

set_option maxRecDepth 16384

noncomputable section

open scoped BigOperators

namespace Cert.EvenBwd

open Idealize.ShloMosaic Idealize.ShloMosaic.TcCoe Idealize.ShloMosaic.Tactic
open Cert.InBwd
open Cert.Ffn (tab tab1 tab_apply tab1_apply mul_tab add_tab)
open Cert.Ffn.Fwd (msq)
open Cert.Kernel18Ideal Cert.Kernel18Ideal.Gen

private theorem hz : (![0, 0] : Fin 2 → Nat) = fun _ => 0 := funext fun a => by fin_cases a <;> rfl

/-- A column repeated along the rows. -/
theorem spread (v : Fin 512 → EReal) (h) : broadcastTo (α := EReal) S512x1024 (tab fun k (_ : Fin 1) => v k) h = tab fun k (_ : Fin 1024) => v k := by
  funext i
  pointwise
  rfl

/-- A row repeated down the block. -/
theorem tower (v : Fin 1024 → EReal) (h) : broadcastTo (α := EReal) S512x1024 (tab fun (_ : Fin 1) d => v d) h = tab fun (_ : Fin 512) d => v d := by
  funext i
  pointwise
  rfl

/-- The row sums of a block. -/
theorem rowsum (v : Fin 512 → Fin 1024 → EReal) (h) :
    multiReduction (F := Ideal) (φ := .f32) .add [1] S512 (tab v) 0x00000000#32 h (.inl rfl) rfl = tab1 fun k => ∑ d, v k d := by
  funext i
  pointwise
  simp only [Ideal.ofBits_zero_f32, zero_add, tab_apply]
  rfl

/-- A vector as a column. -/
theorem column (v : Fin 512 → EReal) (h) : shapeCast (α := EReal) S512x1 (tab1 v) h = tab fun k (_ : Fin 1) => v k := by
  funext i
  pointwise
  rfl

/-- The column sums of a block, as a row. -/
theorem colsum (v : Fin 512 → Fin 1024 → EReal) (h h') :
    shapeCast (α := EReal) S1x1024 (multiReduction (F := Ideal) (φ := .f32) .add [0] S1024 (tab v) 0x00000000#32 h (.inl rfl) rfl) h'
    = tab fun (_ : Fin 1) d => ∑ k, v k d := by
  funext i
  pointwise
  simp only [Ideal.ofBits_zero_f32, zero_add, tab_apply]
  rfl

variable (x res : Fin 512 → Fin 1024 → EReal) (gn : Fin 1024 → EReal) (p : Fin 512 → Fin 1920 → EReal) (w : Fin 1024 → Fin 1920 → EReal)

/-- The gain's gradient starts at zero. -/
theorem pay2 : k0_pay2 (F := Ideal) = tab fun _ _ => 0 := by
  unfold k0_pay2
  funext i
  exact Ideal.ofBits_zero_f32

/-- The normed rows' cotangent. -/
theorem pay3 : k0_pay3 (F := Ideal) (tab p) (tab fun f d => w d f) = tab (dh p w) := by
  unfold k0_pay3
  simp only [shapeCast_self]
  funext i
  pointwise
  simp only [Ideal.ofBits_zero_f32, zero_add, tab_apply]
  rfl

/-- The rows' reciprocal roots. -/
theorem pay4 : k0_pay4 (F := Ideal) (tab x) = tab fun k (_ : Fin 1) => Ideal.rsqrt (msq x k) := by
  unfold k0_pay4
  simp only [mul_tab]
  erw [rowsum]
  rw [column]
  rfl

/-- The rows, normed but for the gain. -/
theorem pay5 : k0_pay5 (F := Ideal) (tab x) = tab fun k d => x k d * Ideal.rsqrt (msq x k) := by
  unfold k0_pay5
  simp only [pay4]
  rw [spread, mul_tab]

/-- The gain's gradient, with the block's share added. -/
theorem pay6 (a : Fin 1024 → EReal) : k0_pay6 (F := Ideal) (tab p) (tab fun f d => w d f) (tab x) (tab fun (_ : Fin 1) d => a d)
    = tab fun (_ : Fin 1) d => a d + ∑ k, share x p w k d := by
  unfold k0_pay6
  simp only [shapeCast_self, pay3, pay5, mul_tab]
  erw [colsum, add_tab]
  rfl

/-- The scaled cotangent. -/
theorem pay7 : k0_pay7 (F := Ideal) (tab p) (tab fun f d => w d f) (tab fun (_ : Fin 1) d => gn d) = tab (cot p w gn) := by
  unfold k0_pay7
  simp only [shapeCast_self, pay3]
  rw [tower, mul_tab]
  rfl

/-- The rows' products with the scaled cotangent. -/
theorem pay8 : k0_pay8 (F := Ideal) (tab p) (tab fun f d => w d f) (tab x) (tab fun (_ : Fin 1) d => gn d)
    = tab fun k (_ : Fin 1) => kdot x (cot p w gn) k := by
  unfold k0_pay8
  simp only [pay7, pay5, mul_tab]
  erw [rowsum]
  rw [column]
  rfl

/-- The input's gradient. -/
theorem pay1 : k0_pay1 (F := Ideal) (k0_pay4 (tab x)) (k0_pay5 (tab x)) (k0_pay7 (tab p) (tab fun f d => w d f) (tab fun (_ : Fin 1) d => gn d)) (tab res)
      (k0_pay8 (tab p) (tab fun f d => w d f) (tab x) (tab fun (_ : Fin 1) d => gn d)) (k0_pay9 (F := Ideal))
    = tab (kdx x (cot p w gn) res) := by
  unfold k0_pay1 k0_pay9
  simp only [pay4, pay5, pay7, pay8]
  have e : divf (F := Ideal) (φ := .f32) (tab fun (k : Fin 512) (_ : Fin 1) => kdot x (cot p w gn) k) (broadcast S512x1 (Scalar.ofBits .f32 0x44800000#32))
    = tab fun (k : Fin 512) (_ : Fin 1) => Ideal.div (kdot x (cot p w gn) k) (Ideal.ofBits .f32 0x44800000#32) := rfl
  erw [e]
  rw [spread, spread]
  rfl

section Points

variable (c : Dev nD) (i : grid0.Coords)
  (arg1 : Memref sig .tc .vmem S512x1920 .bf16) (h1 : arg1.IsWhole) (arg2 : Memref sig .tc .vmem S1920x1024 .bf16) (h2 : arg2.IsWhole)
  (arg3 : Memref sig .tc .vmem S512x1024 .f32) (h3 : arg3.IsWhole) (arg4 : Memref sig .tc .vmem S1x1024 .f32) (h4 : arg4.IsWhole)
  (arg5 : Memref sig .tc .vmem S512x1024 .f32) (h5 : arg5.IsWhole) (arg6 : Memref sig .tc .vmem S512x1024 .f32) (h6 : arg6.IsWhole)
  (arg7 : Memref sig .tc .vmem S1x1024 .f32) (h7 : arg7.IsWhole)
  (x0 : Vec Ideal S512x1920 .bf16) (x1 : Vec Ideal S1920x1024 .bf16) (x2 : Vec Ideal S512x1024 .f32) (x3 : Vec Ideal S1x1024 .f32) (x4 : Vec Ideal S512x1024 .f32)

/-- The input's gradient after the first point. -/
theorem outA_5 (hc0 : cond0_0 i) :
    out0_A_5 (F := Ideal) c i arg1 h1 arg2 h2 arg3 h3 arg4 h4 arg5 h5 arg6 h6 arg7 h7 hc0 x0 x1 x2 x3 x4
    = k0_pay1 (k0_pay4 x2) (k0_pay5 x2) (k0_pay7 x0 x1 x3) x4 (k0_pay8 x0 x1 x2 x3) (k0_pay9 (F := Ideal)) := by
  unfold out0_A_5
  rw [View.read_writes_eq_canon _ _ _ (cover0_A_5 c i arg1 h1 arg2 h2 arg3 h3 arg4 h4 arg5 h5 arg6 h6 arg7 h7 hc0 x0 x1 x2 x3 x4)]
  unfold kernelRun0_A
  dsimp only
  sl_unfold_words
  rw [View.canon_unit_zero (S := S512x1024) hz]
  simp only [View.readAt_eq_ld, h1.read_unread, h2.read_unread, h3.read_unread, h4.read_unread, h5.read_unread, h7.read_unread,
    View.ld_unit_zero (S := S512x1920) hz, View.ld_unit_zero (S := S1920x1024) hz, View.ld_unit_zero (S := S512x1024) hz,
    View.ld_unit_zero (S := S1x1024) hz, View.readCov_unit_zero (S := S1x1024) _ hz]

/-- The gain's gradient after the first point. -/
theorem outA_6 (hc0 : cond0_0 i) :
    out0_A_6 (F := Ideal) c i arg1 h1 arg2 h2 arg3 h3 arg4 h4 arg5 h5 arg6 h6 arg7 h7 hc0 x0 x1 x2 x3 x4 = k0_pay6 x0 x1 x2 (k0_pay2 (F := Ideal)) := by
  unfold out0_A_6
  rw [View.read_writes_eq_canon _ _ _ (cover0_A_6 c i arg1 h1 arg2 h2 arg3 h3 arg4 h4 arg5 h5 arg6 h6 arg7 h7 hc0 x0 x1 x2 x3 x4)]
  unfold kernelRun0_A
  dsimp only
  sl_unfold_words
  rw [View.canon_cons_unit_zero (S := S1x1024) hz]
  simp only [View.readAt_eq_ld, h1.read_unread, h2.read_unread, h3.read_unread, h4.read_unread, h5.read_unread, h7.read_unread,
    View.ld_unit_zero (S := S512x1920) hz, View.ld_unit_zero (S := S1920x1024) hz, View.ld_unit_zero (S := S512x1024) hz,
    View.ld_unit_zero (S := S1x1024) hz, View.readCov_unit_zero (S := S1x1024) _ hz]

/-- The input's gradient after a later point. -/
theorem outB_5 (hc0 : ¬cond0_0 i) (xo : Vec Ideal S1x1024 .f32) :
    out0_B_5 (F := Ideal) c i arg1 h1 arg2 h2 arg3 h3 arg4 h4 arg5 h5 arg6 h6 arg7 h7 hc0 x0 x1 x2 x3 x4 xo
    = k0_pay1 (k0_pay4 x2) (k0_pay5 x2) (k0_pay7 x0 x1 x3) x4 (k0_pay8 x0 x1 x2 x3) (k0_pay9 (F := Ideal)) := by
  unfold out0_B_5
  rw [View.read_writes_eq_canon _ _ _ (cover0_B_5 c i arg1 h1 arg2 h2 arg3 h3 arg4 h4 arg5 h5 arg6 h6 arg7 h7 hc0 x0 x1 x2 x3 x4 xo)]
  unfold kernelRun0_B
  dsimp only
  sl_unfold_words
  rw [View.canon_unit_zero (S := S512x1024) hz]
  simp only [View.readAt_eq_ld, h1.read_unread, h2.read_unread, h3.read_unread, h4.read_unread, h5.read_unread, h7.read_unread,
    View.ld_unit_zero (S := S512x1920) hz, View.ld_unit_zero (S := S1920x1024) hz, View.ld_unit_zero (S := S512x1024) hz,
    View.ld_unit_zero (S := S1x1024) hz, View.readCov_unit_zero (S := S1x1024) _ hz]

/-- The gain's gradient after a later point. -/
theorem outB_6 (hc0 : ¬cond0_0 i) (xo : Vec Ideal S1x1024 .f32) :
    out0_B_6 (F := Ideal) c i arg1 h1 arg2 h2 arg3 h3 arg4 h4 arg5 h5 arg6 h6 arg7 h7 hc0 x0 x1 x2 x3 x4 xo = k0_pay6 x0 x1 x2 xo := by
  unfold out0_B_6
  rw [View.read_writes_eq_canon _ _ _ (cover0_B_6 c i arg1 h1 arg2 h2 arg3 h3 arg4 h4 arg5 h5 arg6 h6 arg7 h7 hc0 x0 x1 x2 x3 x4 xo)]
  unfold kernelRun0_B
  dsimp only
  sl_unfold_words
  rw [View.canon_unit_zero (S := S1x1024) hz]
  simp only [View.readAt_eq_ld, h1.read_unread, h2.read_unread, h3.read_unread, h4.read_unread, h5.read_unread, h7.read_unread,
    View.ld_unit_zero (S := S512x1920) hz, View.ld_unit_zero (S := S1920x1024) hz, View.ld_unit_zero (S := S512x1024) hz,
    View.ld_unit_zero (S := S1x1024) hz, View.readCov_unit_zero (S := S1x1024) _ hz]

end Points

section Outs

variable (m : (ℓ : Loc nD τ sig) → Buf (Elt Ideal) ℓ) (c : Dev nD) (t : Fin cfg0.N)

/-- The input's gradient after any point. -/
theorem pt_5 : (outsAt0 m c t.val t.isLt).1 = k0_pay1 (k0_pay4 (iblk m c 2 t)) (k0_pay5 (iblk m c 2 t)) (k0_pay7 (iblk m c 0 t) (iblk m c 1 t) (iblk m c 3 t))
    (iblk m c 4 t) (k0_pay8 (iblk m c 0 t) (iblk m c 1 t) (iblk m c 2 t) (iblk m c 3 t)) (k0_pay9 (F := Ideal)) := by
  by_cases h0 : t.val % 32 = 0
  · rw [outsAt0_A m c t h0]
    dsimp only
    rw [outA_5]
  · rw [outsAt0_B m c t h0]
    dsimp only
    rw [outB_5]

/-- The gain's gradient after the first point. -/
theorem ptA_6 (h0 : t.val % 32 = 0) :
    (outsAt0 m c t.val t.isLt).2 = k0_pay6 (iblk m c 0 t) (iblk m c 1 t) (iblk m c 2 t) (k0_pay2 (F := Ideal)) := by
  rw [outsAt0_A m c t h0]
  dsimp only
  rw [outA_6]

/-- The gain's gradient after a later point. -/
theorem ptB_6 (h0 : ¬t.val % 32 = 0) :
    (outsAt0 m c t.val t.isLt).2 = k0_pay6 (iblk m c 0 t) (iblk m c 1 t) (iblk m c 2 t)
      (outsAt0 m c (t.val - 1) (Nat.lt_of_le_of_lt (Nat.sub_le _ _) t.isLt)).2 := by
  rw [outsAt0_B m c t h0]
  dsimp only
  rw [outB_6]

end Outs

end Cert.EvenBwd

end
-- ==== Proof.EvenBwd.Ref.lean ====
/- The gradient through the input projection of the even layers' mixer and norm, the reference: its results as functions of their row and column. -/
module

public import proofs.«01_k».proof.Proof.Gen.Reference18Ideal.Read
public import proofs.«01_k».proof.Proof.Tab
public import proofs.«01_k».proof.Proof.InBwd.Math
public import Idealize.ShloMosaic.Lib.Pointwise

@[expose] public section

set_option maxRecDepth 16384

noncomputable section

open scoped BigOperators

namespace Cert.EvenBwd.Ref

open Idealize.ShloMosaic Idealize.ShloMosaic.TcCoe
open Cert.InBwd
open Cert.Ffn (tab tab1 tab_apply tab1_apply)
open Cert.Ffn.Fwd (msq)
open Cert.Reference18Ideal.Read

variable (x res : Fin 16384 → Fin 1024 → EReal) (gn : Fin 1024 → EReal) (p : Fin 16384 → Fin 1920 → EReal) (w : Fin 1024 → Fin 1920 → EReal)

/-- The rows' mean squares. -/
theorem v6 : val_main_v6 (F := Ideal) (tab x) = tab fun s (_ : Fin 1) => msq x s := by
  funext i
  rw [val_main_v6_apply, val_main_v4_apply, val_main_v2_apply, val_main_v1_apply, val_main_v3_apply, val_main_v5_apply, val_main_cst_apply,
    val_main_cst_0_apply, val_main_cst_1_apply]
  simp only [val_main_v0_apply, Ideal.ofBits_def, Ideal.ofBits_zero_f32, zero_add, Ideal.mulf_def, Ideal.addf_def, Ideal.hostDivf_def]
  rfl

/-- The rows' reciprocal roots. -/
theorem v7 : val_main_v7 (F := Ideal) (tab x) = tab fun s (_ : Fin 1) => Ideal.rsqrt (msq x s) := by
  funext i
  rw [val_main_v7_apply, v6, Ideal.hostUnary_rsqrt_def]
  rfl

/-- The reciprocal roots' derivative. -/
theorem v10 : val_main_v10 (F := Ideal) (tab x)
    = tab fun s (_ : Fin 1) => Ideal.ofBits .f32 0xBF000000#32 * Ideal.div (Ideal.rsqrt (msq x s)) (msq x s) := by
  funext i
  rw [val_main_v10_apply, val_main_v9_apply, val_main_cst_2_apply, val_main_v8_apply, v7, v6]
  rfl

/-- The normed rows' cotangent. -/
theorem v18 : val_main_v18 (F := Ideal) (tab w) (tab p) = tab (dh p w) := by
  funext i
  rw [val_main_v18_apply]
  simp only [val_main_v17_apply]
  rfl

/-- The scaled cotangent. -/
theorem v23 : val_main_v23 (F := Ideal) (tab1 gn) (tab w) (tab p) = tab (cot p w gn) := by
  funext i
  rw [val_main_v23_apply, v18, val_main_v22_apply, val_main_v13_apply]
  rfl

/-- The rows, normed but for the gain. -/
theorem v12 : val_main_v12 (F := Ideal) (tab x) = tab fun s d => x s d * Ideal.rsqrt (msq x s) := by
  funext i
  rw [val_main_v12_apply, val_main_v11_apply, v7]
  rfl

/-- The gain's gradient, as a vector. -/
theorem v20 : val_main_v20 (F := Ideal) (tab x) (tab w) (tab p) = tab1 (dgn x p w) := by
  have e : val_main_v20 (F := Ideal) (tab x) (tab w) (tab p) = tab1 fun d => ∑ s, x s d * Ideal.rsqrt (msq x s) * dh p w s d := by
    funext i
    rw [val_main_v20_apply, val_main_cst_3_apply]
    simp only [val_main_v19_apply, v12, v18, Ideal.ofBits_def, Ideal.ofBits_zero_f32, zero_add, Ideal.mulf_def]
    rfl
  rw [e]
  exact congrArg tab1 (funext fun d => Finset.sum_congr rfl fun s _ => mul_comm (x s d * Ideal.rsqrt (msq x s)) (dh p w s d))

/-- The gain's gradient. -/
theorem v40 : val_main_v40 (F := Ideal) (tab x) (tab w) (tab p) = tab fun (_ : Fin 1) d => dgn x p w d := by
  funext i
  rw [val_main_v40_apply, val_main_v24_apply, val_main_cst_4_apply]
  simp only [val_main_v21_apply, v20, Ideal.ofBits_def, Ideal.ofBits_zero_f32, zero_add, Fin.sum_univ_one]
  refine line_at (dgn x p w) _ i ?_
  show 0 * 1024 + ((i 0).val * 1024 + (i 1).val) = _
  rw [Nat.zero_mul, Nat.zero_add]

/-- The rows times the scaled cotangent, summed. -/
theorem v26 : val_main_v26 (F := Ideal) (tab x) (tab1 gn) (tab w) (tab p) = tab1 fun s => ∑ d, x s d * cot p w gn s d := by
  funext i
  rw [val_main_v26_apply, val_main_cst_5_apply]
  simp only [val_main_v25_apply, v23, Ideal.ofBits_def, Ideal.ofBits_zero_f32, zero_add, Ideal.mulf_def]
  rfl

/-- The mean squares' cotangent, over the rows' length. -/
theorem v33 : val_main_v33 (F := Ideal) (tab x) (tab1 gn) (tab w) (tab p) = tab fun s (_ : Fin 1) => rmean x (cot p w gn) s := by
  funext i
  rw [val_main_v33_apply, val_main_v32_apply, val_main_cst_6_apply, val_main_v31_apply, val_main_v27_apply, v26, v10,
    column_at _ (idx_main_v27 i) i rfl]
  rfl

/-- The same, as a vector. -/
theorem v34 : val_main_v34 (F := Ideal) (tab x) (tab1 gn) (tab w) (tab p) = tab1 (rmean x (cot p w gn)) := by
  funext i
  rw [val_main_v34_apply, val_main_cst_7_apply]
  simp only [v33, Ideal.ofBits_def, Ideal.ofBits_zero_f32, zero_add, Fin.sum_univ_one]
  rfl

/-- The input's gradient. -/
theorem v39 : val_main_v39 (F := Ideal) (tab x) (tab1 gn) (tab w) (tab res) (tab p) = tab (rdx x (cot p w gn) res) := by
  funext i
  rw [val_main_v39_apply, val_main_v38_apply, val_main_v37_apply, val_main_v36_apply, val_main_v35_apply, v34, val_main_v30_apply, val_main_v29_apply,
    val_main_v28_apply, v7, v23]
  rfl

end Cert.EvenBwd.Ref

end
-- ==== Proof.EvenBwd.Result.lean ====
/- The gradient through the input projection of the even layers' mixer and norm: the kernel ends with the gradients of the input and of the
   gain, and so does the reference. -/
module

public import proofs.«01_k».proof.Defs
public import proofs.«01_k».proof.Proof.Gen.Kernel18Ideal.Value
public import proofs.«01_k».proof.Proof.Gen.Reference18Ideal.Run
public import proofs.«01_k».proof.Proof.EvenBwd.Block
public import proofs.«01_k».proof.Proof.EvenBwd.Ref
public import Idealize.ShloMosaic.Lib.Claim
public import Idealize.ShloMosaic.Lib.Pointwise
public import Idealize.ShloMosaic.Lib.Pipeline.ValueKit.Geometry

@[expose] public section

set_option maxRecDepth 16384

noncomputable section

open scoped BigOperators

namespace Cert.EvenBwd

open Idealize.ShloMosaic Idealize.ShloMosaic.TcCoe Idealize.ShloMosaic.Tactic Idealize.SL.Sem
open Cert.InBwd
open Cert.Ffn (tab tab1 ent ent1 eq_tab eq_tab1 tab_apply tab1_apply)
open Cert.Kernel18Ideal Cert.Kernel18Ideal.Gen Cert.Kernel18Ideal.Value

/-- Rows of a tile, at the place its block has in the array. -/
theorem spot {w : ℕ} (M : Fin 16384 → Fin w → EReal) (n : ℕ) (k : Fin 512) (d : Fin w) (i : Fin 16384) (j : Fin w)
    (hi : i.val = n * 512 + 1 * k.val) (hj : j.val = 0 * w + 1 * d.val) : M (row n k) d = M i j := by
  have e : row n k = i := by
    apply Fin.ext
    have := i.isLt
    show (512 * n + k.val) % 16384 = i.val
    omega
  have f : d = j := by apply Fin.ext; omega
  rw [e, f]

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = t.val ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = 0 ∧ win0_6.index t (1 : Fin 2) = 0 := by decide +kernel

section Arrays

variable (m : (ℓ : Loc nD τ sig) → Buf (Elt Ideal) ℓ) (c : Dev nD) (t : Fin cfg0.N)
variable (x res : Fin 16384 → Fin 1024 → EReal) (gn : Fin 1024 → EReal) (p : Fin 16384 → Fin 1920 → EReal) (w : Fin 1024 → Fin 1920 → EReal)

/-- The transposed weights. -/
theorem v1 (hw : m ((c : Thread nD τ).loc main_arg2) = tab w) : V m c main_v1 = tab fun f d => w d f := by
  have e : V m c main_v1 = transpose (α := EReal) S1920x1024 [1, 0] (m ((c : Thread nD τ).loc main_arg2)) transposes_S1024x1920_S1920x1024_1_0 := by
    dsimp only [V, hostOps0]
    after_results
    rfl
  rw [e, hw]
  funext i
  pointwise
  rfl

/-- The gain as a row. -/
theorem v2 (hg : m ((c : Thread nD τ).loc main_arg1) = tab1 gn) : V m c main_v2 = tab fun (_ : Fin 1) d => gn d := by
  have e : V m c main_v2 = shapeCast (α := EReal) S1x1024 (m ((c : Thread nD τ).loc main_arg1)) shapeCasts_S1024_S1x1024 := by
    dsimp only [V, hostOps0]
    after_results
    rfl
  rw [e, hg]
  funext i
  pointwise
  rfl

/-- The projection's cotangent at a point. -/
theorem blk0 (M : Fin 16384 → Fin 1920 → EReal) (h : V m c main_arg4 = tab M) : iblk m c 0 t = tab fun k f => M (row t.val k) f := by
  funext i
  unfold iblk
  rw [View.read_apply]
  show V m c main_arg4 _ = _
  rw [h]
  refine (spot M t.val _ _ _ _ ?_ ?_).symm
  · show win0_0.index t (0 : Fin 2) * 512 + 1 * (i 0).val = _
    rw [(idx0 t).1]
  · show win0_0.index t (1 : Fin 2) * 1920 + 1 * (i 1).val = _
    rw [(idx0 t).2]

/-- The weights at a point. -/
theorem blk1 (M : Fin 1920 → Fin 1024 → EReal) (h : V m c main_v1 = tab M) : iblk m c 1 t = tab M := by
  funext i
  unfold iblk
  rw [View.read_apply]
  show V m c main_v1 _ = _
  rw [h]
  refine congrArg₂ M (Fin.ext ?_) (Fin.ext ?_)
  · show win0_1.index t (0 : Fin 2) * 1920 + 1 * (i 0).val = (i 0).val
    rw [(idx1 t).1]; omega
  · show win0_1.index t (1 : Fin 2) * 1024 + 1 * (i 1).val = (i 1).val
    rw [(idx1 t).2]; omega

/-- The input at a point. -/
theorem blk2 (M : Fin 16384 → Fin 1024 → EReal) (h : V m c main_arg0 = tab M) : iblk m c 2 t = tab fun k d => M (row t.val k) d := by
  funext i
  unfold iblk
  rw [View.read_apply]
  show V m c main_arg0 _ = _
  rw [h]
  refine (spot M t.val _ _ _ _ ?_ ?_).symm
  · show win0_2.index t (0 : Fin 2) * 512 + 1 * (i 0).val = _
    rw [(idx2 t).1]
  · show win0_2.index t (1 : Fin 2) * 1024 + 1 * (i 1).val = _
    rw [(idx2 t).2]

/-- The gain at a point. -/
theorem blk3 (M : Fin 1 → Fin 1024 → EReal) (h : V m c main_v2 = tab M) : iblk m c 3 t = tab M := by
  funext i
  unfold iblk
  rw [View.read_apply]
  show V m c main_v2 _ = _
  rw [h]
  refine congrArg₂ M (Fin.ext ?_) (Fin.ext ?_)
  · show win0_3.index t (0 : Fin 2) * 1 + 1 * (i 0).val = (i 0).val
    rw [(idx3 t).1]; omega
  · show win0_3.index t (1 : Fin 2) * 1024 + 1 * (i 1).val = (i 1).val
    rw [(idx3 t).2]; omega

/-- The cotangent that passes by, at a point. -/
theorem blk4 (M : Fin 16384 → Fin 1024 → EReal) (h : V m c main_arg3 = tab M) : iblk m c 4 t = tab fun k d => M (row t.val k) d := by
  funext i
  unfold iblk
  rw [View.read_apply]
  show V m c main_arg3 _ = _
  rw [h]
  refine (spot M t.val _ _ _ _ ?_ ?_).symm
  · show win0_4.index t (0 : Fin 2) * 512 + 1 * (i 0).val = _
    rw [(idx4 t).1]
  · show win0_4.index t (1 : Fin 2) * 1024 + 1 * (i 1).val = _
    rw [(idx4 t).2]

variable (h0 : m ((c : Thread nD τ).loc main_arg0) = tab x) (h1 : m ((c : Thread nD τ).loc main_arg1) = tab1 gn)
  (h2 : m ((c : Thread nD τ).loc main_arg2) = tab w) (h3 : m ((c : Thread nD τ).loc main_arg3) = tab res) (h4 : m ((c : Thread nD τ).loc main_arg4) = tab p)

include h0 h2 h4 in
/-- The gain's gradient over the first rows, after a point. -/
theorem sums : ∀ (n : ℕ) (hn : n < cfg0.N), (outsAt0 m c n hn).2 = tab fun (_ : Fin 1) d => part x p w (n + 1) d := by
  intro n
  induction n with
  | zero =>
    intro hn
    have e := ptA_6 m c ⟨0, hn⟩ rfl
    dsimp only at e
    rw [e, blk0 m c ⟨0, hn⟩ p ((V_main_arg4 m c).trans h4), blk1 m c ⟨0, hn⟩ _ (v1 m c w h2), blk2 m c ⟨0, hn⟩ x ((V_main_arg0 m c).trans h0), pay2, pay6]
    have z : (fun (_ : Fin 1) d => 0 + ∑ k, share x p w (row 0 k) d) = fun (_ : Fin 1) d => part x p w (0 + 1) d := by
      funext _ d
      rw [← part_succ, part_zero]
    exact congrArg tab z
  | succ n ih =>
    intro hn
    have hN : n + 1 < 32 := lt_of_lt_of_eq hn N_0
    have e := ptB_6 m c ⟨n + 1, hn⟩ (by show ¬(n + 1) % 32 = 0; omega)
    dsimp only [Nat.add_sub_cancel] at e
    have before : (outsAt0 m c (n + 1 - 1) (Nat.lt_of_le_of_lt (Nat.sub_le _ _) hn)).2 = tab fun (_ : Fin 1) d => part x p w (n + 1) d := ih _
    rw [e, blk0 m c ⟨n + 1, hn⟩ p ((V_main_arg4 m c).trans h4), blk1 m c ⟨n + 1, hn⟩ _ (v1 m c w h2),
      blk2 m c ⟨n + 1, hn⟩ x ((V_main_arg0 m c).trans h0), before, pay6]
    funext i
    exact part_succ x p w (n + 1) (i 1)

include h0 h2 h4 in
/-- The gain's gradient. -/
theorem final6 : (dats m 0 c).arrAt 6 cfg0.N = tab fun (_ : Fin 1) d => dgn x p w d := by
  refine (dats m 0 c).arrAt_eq_of_covers 6 _ (by decide +kernel) fun t hf y => ?_
  have ht : t.val < 32 := lt_of_lt_of_eq t.isLt N_0
  have hm : t.val % 32 = 31 := (flush0_6 t).mp hf
  have hn : t.val + 1 = 32 := by omega
  have e : (fun (_ : Fin 1) d => part x p w 32 d) = fun (_ : Fin 1) d => dgn x p w d := by
    funext _ d; exact part_all x p w d
  rw [after0_6, sums m c x p w h0 h2 h4, hn, e]
  generalize dgn x p w = M
  refine congrArg M (Fin.ext ?_)
  show (y 1).val = win0_6.index t (1 : Fin 2) * 1024 + 1 * (y 1).val
  rw [(idx6 t).2]; omega

include h0 h1 h2 h3 h4 in
/-- The input's gradient. -/
theorem final5 : (dats m 0 c).arrAt 5 cfg0.N = tab (rdx x (cot p w gn) res) := by
  refine (dats m 0 c).arrAt_eq_of_covers 5 _ (by decide +kernel) fun t hf y => ?_
  rw [after0_5, pt_5, blk0 m c t p ((V_main_arg4 m c).trans h4), blk1 m c t _ (v1 m c w h2), blk2 m c t x ((V_main_arg0 m c).trans h0),
    blk3 m c t _ (v2 m c gn h1), blk4 m c t res ((V_main_arg3 m c).trans h3), pay1]
  have e : (tab (kdx (fun k d => x (row t.val k) d) (cot (fun k f => p (row t.val k) f) w gn) fun k d => res (row t.val k) d))
      = tab fun k d => rdx x (cot p w gn) res (row t.val k) d := by
    funext i
    exact kdx_eq x (cot p w gn) res (row t.val (i 0)) (i 1)
  rw [e]
  generalize rdx x (cot p w gn) res = M
  refine spot M t.val _ _ _ _ ?_ ?_
  · show win0_5.index t (0 : Fin 2) * 512 + 1 * (y 0).val = _
    rw [(idx5 t).1]
  · show win0_5.index t (1 : Fin 2) * 1024 + 1 * (y 1).val = _
    rw [(idx5 t).2]

end Arrays

/-- From any arguments, every run of the kernel and every run of the reference end with the same two gradients. -/
theorem equal : Cert.algebraic_Kernel18Ideal_Reference18Ideal (hKernel18Ideal := Cert.Kernel18Ideal.Gen.facts)
    (hReference18Ideal := Cert.Reference18Ideal.Gen.facts) := by
  intro m g m' g' _ hargs
  refine ⟨fun c => tab (rdx (ent (m ((c : Thread nD τ).loc main_arg0)))
      (cot (ent (m ((c : Thread nD τ).loc main_arg4))) (ent (m ((c : Thread nD τ).loc main_arg2))) (ent1 (m ((c : Thread nD τ).loc main_arg1))))
      (ent (m ((c : Thread nD τ).loc main_arg3)))),
    fun c => tab fun (_ : Fin 1) d => dgn (ent (m ((c : Thread nD τ).loc main_arg0))) (ent (m ((c : Thread nD τ).loc main_arg4)))
      (ent (m ((c : Thread nD τ).loc main_arg2))) d,
    (θ_run _ _ _).mono (fun r h c => ?_) (Cert.Kernel18Ideal.Value.run_blocks m g),
    (θ_run _ _ _).mono (fun r h c => ?_) (Cert.Reference18Ideal.Value.run m' g')⟩
  · have e0 := eq_tab (m ((c : Thread nD τ).loc main_arg0))
    have e1 := eq_tab1 (m ((c : Thread nD τ).loc main_arg1))
    have e2 := eq_tab (m ((c : Thread nD τ).loc main_arg2))
    have e3 := eq_tab (m ((c : Thread nD τ).loc main_arg3))
    have e4 := eq_tab (m ((c : Thread nD τ).loc main_arg4))
    obtain ⟨p0, p1, rest⟩ := h c
    exact ⟨p0.trans (final5 m c _ _ _ _ _ e0 e1 e2 e3 e4), p1.trans (final6 m c _ _ _ e0 e2 e4), rest⟩
  · have e0 := eq_tab (m ((c : Thread nD τ).loc main_arg0))
    have e1 := eq_tab1 (m ((c : Thread nD τ).loc main_arg1))
    have e2 := eq_tab (m ((c : Thread nD τ).loc main_arg2))
    have e3 := eq_tab (m ((c : Thread nD τ).loc main_arg3))
    have e4 := eq_tab (m ((c : Thread nD τ).loc main_arg4))
    obtain ⟨a0, a1, a2, a3, a4⟩ := hargs c
    obtain ⟨p0, p1, rest⟩ := h c
    refine ⟨p0.trans ?_, p1.trans ?_, rest⟩
    · refine (Cert.Reference18Ideal.Read.val_main_v39_eq ..).trans ?_
      refine Eq.trans ?_ (Ref.v39 ..)
      rw [a0, a1, a2, a3, a4, ← e0, ← e1, ← e2, ← e3, ← e4]
    · refine (Cert.Reference18Ideal.Read.val_main_v40_eq ..).trans ?_
      refine Eq.trans ?_ (Ref.v40 ..)
      rw [a0, a2, a4, ← e0, ← e2, ← e4]

end Cert.EvenBwd

end
-- ==== Proof.EvenDw.lean ====
/- The input projection of the even layers' mixer, the weights' gradient: the kernel's result is the cotangent, transposed, times the
   normed input, and so is the reference's. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Tn
public import proofs.«01_k».proof.Proof.Fwd.Math
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.EvenDw

open Idealize.ShloMosaic Idealize.ShloMosaic.TcCoe Idealize.ShloMosaic.Tactic Idealize.SL.Sem
open Cert.Ffn (tab tab1 ent ent1 eq_tab eq_tab1 tab_apply tab1_apply narrow widen mul_tab)
open Cert.Tn
open Cert.Ffn.Fwd (msq nrm)
open Cert.Kernel19Ideal Cert.Kernel19Ideal.Gen Cert.Kernel19Ideal.Value

private theorem hz : (![0, 0] : Fin 2 → Nat) = fun _ => 0 := funext fun a => by fin_cases a <;> rfl

/-! ## One block -/

/-- The sum starts at zero. -/
theorem pay1 : k0_pay1 (F := Ideal) = tab fun _ _ => 0 := by
  unfold k0_pay1
  simp only [shapeCast_self]
  funext i
  exact Ideal.ofBits_zero_f32

/-- A block pair's transposed product, added to the sum. -/
theorem pay2 (acc : Fin 640 → Fin 1024 → EReal) (a : Fin 2048 → Fin 640 → EReal) (b : Fin 2048 → Fin 1024 → EReal) :
    k0_pay2 (F := Ideal) (tab acc) (tab a) (tab b) = tab fun f d => acc f d + ∑ k, a k f * b k d := by
  unfold k0_pay2
  simp only [shapeCast_self, narrow]
  have e : matmul (F := Ideal) (φ₁ := .bf16) (φ₂ := .bf16) dot_S2048x640_S2048x1024_S640x1024_0_0_1_1_n_n none (tab a) (tab b)
      (constant S640x1024 .f32 0x00000000#32) = tab fun f d => ∑ k, a k f * b k d := by
    funext i
    pointwise
    simp only [Ideal.ofBits_zero_f32, zero_add, tab_apply]
    rfl
  rw [e]
  rfl

section Points

variable (c : Dev nD) (i : grid0.Coords) (arg2 : Memref sig .tc .vmem S2048x640 .bf16) (h2 : arg2.IsWhole) (arg3 : Memref sig .tc .vmem S2048x1024 .bf16) (h3 : arg3.IsWhole)
  (arg4 : Memref sig .tc .vmem S640x1024 .f32) (h4 : arg4.IsWhole) (arg5 : Memref sig .tc .vmem S640x1024 .f32) (h5 : arg5.IsWhole)
  (x0 : Vec Ideal S2048x640 .bf16) (x1 : Vec Ideal S2048x1024 .bf16) (xs0 : Vec Ideal S640x1024 .f32)

/-- The sum after a first row tile. -/
theorem accA (hc0 : cond0_0 i) (hc1 : ¬cond0_1 i) : sout0_A_0 (F := Ideal) c i arg2 h2 arg3 h3 arg4 h4 arg5 h5 hc0 hc1 x0 x1 = k0_pay2 (k0_pay1 (F := Ideal)) x0 x1 := by
  unfold sout0_A_0
  rw [View.read_writes_eq_canon _ _ _ (scover0_A_0 c i arg2 h2 arg3 h3 arg4 h4 arg5 h5 hc0 hc1 x0 x1)]
  unfold kernelRun0_A
  dsimp only
  sl_unfold_words
  rw [View.canon_cons_unit_zero (S := S640x1024) hz]
  simp only [View.readAt_eq_ld, h2.read_unread, h3.read_unread, h5.read_unread, View.ld_unit_zero (S := S2048x640) hz, View.ld_unit_zero (S := S2048x1024) hz,
    View.ld_unit_zero (S := S640x1024) hz, View.readCov_unit_zero (S := S640x1024) _ hz]

/-- The sum after a middle row tile. -/
theorem accB (hc0 : ¬cond0_0 i) (hc1 : ¬cond0_1 i) : sout0_B_0 (F := Ideal) c i arg2 h2 arg3 h3 arg4 h4 arg5 h5 hc0 hc1 x0 x1 xs0 = k0_pay2 xs0 x0 x1 := by
  unfold sout0_B_0
  rw [View.read_writes_eq_canon _ _ _ (scover0_B_0 c i arg2 h2 arg3 h3 arg4 h4 arg5 h5 hc0 hc1 x0 x1 xs0)]
  unfold kernelRun0_B
  dsimp only
  sl_unfold_words
  rw [View.canon_unit_zero (S := S640x1024) hz]
  simp only [View.readAt_eq_ld, h2.read_unread, h3.read_unread, h5.read_unread, View.ld_unit_zero (S := S2048x640) hz, View.ld_unit_zero (S := S2048x1024) hz,
    View.ld_unit_zero (S := S640x1024) hz, View.readCov_unit_zero (S := S640x1024) _ hz]

/-- The sum after a last row tile. -/
theorem accC (hc0 : ¬cond0_0 i) (hc1 : cond0_1 i) : sout0_C_0 (F := Ideal) c i arg2 h2 arg3 h3 arg4 h4 arg5 h5 hc0 hc1 x0 x1 xs0 = k0_pay2 xs0 x0 x1 := by
  unfold sout0_C_0
  rw [View.read_writes_eq_canon _ _ _ (scover0_C_0 c i arg2 h2 arg3 h3 arg4 h4 arg5 h5 hc0 hc1 x0 x1 xs0)]
  unfold kernelRun0_C
  dsimp only
  sl_unfold_words
  rw [View.canon_unit_zero (S := S640x1024) hz]
  simp only [View.readAt_eq_ld, h2.read_unread, h3.read_unread, h5.read_unread, View.ld_unit_zero (S := S2048x640) hz, View.ld_unit_zero (S := S2048x1024) hz,
    View.ld_unit_zero (S := S640x1024) hz, View.readCov_unit_zero (S := S640x1024) _ hz]

/-- The output after a last row tile. -/
theorem outC (hc0 : ¬cond0_0 i) (hc1 : cond0_1 i) : out0_C_2 (F := Ideal) c i arg2 h2 arg3 h3 arg4 h4 arg5 h5 hc0 hc1 x0 x1 xs0 = k0_pay2 xs0 x0 x1 := by
  unfold out0_C_2
  rw [View.read_writes_eq_canon _ _ _ (cover0_C_2 c i arg2 h2 arg3 h3 arg4 h4 arg5 h5 hc0 hc1 x0 x1 xs0)]
  unfold kernelRun0_C
  dsimp only
  sl_unfold_words
  rw [View.canon_unit_zero (S := S640x1024) hz]
  simp only [View.readAt_eq_ld, h2.read_unread, h3.read_unread, h5.read_unread, View.ld_unit_zero (S := S2048x640) hz, View.ld_unit_zero (S := S2048x1024) hz,
    View.ld_unit_zero (S := S640x1024) hz, View.readCov_unit_zero (S := S640x1024) _ hz]

end Points

/-! ## The reference -/

namespace Ref

open Cert.Reference19Ideal.Read

variable (x : Fin 16384 → Fin 1024 → EReal) (gn : Fin 1024 → EReal) (dp : Fin 16384 → Fin 1920 → EReal)

/-- The normed input. -/
theorem v12 : val_main_v12 (F := Ideal) (tab x) (tab1 gn) = tab (nrm x gn) := by
  funext i
  rw [val_main_v12_apply, val_main_v9_apply, val_main_v8_apply, val_main_v7_apply, val_main_v6_apply, val_main_v4_apply,
    val_main_v2_apply, val_main_v1_apply, val_main_v3_apply, val_main_v5_apply, val_main_cst_apply, val_main_cst_0_apply,
    val_main_cst_1_apply, val_main_v11_apply, val_main_v10_apply]
  simp only [val_main_v0_apply, Ideal.ofBits_def, Ideal.ofBits_zero_f32, zero_add, Ideal.mulf_def,
    Ideal.addf_def, Ideal.hostDivf_def, Ideal.hostUnary_rsqrt_def]
  rfl

/-- The weights' gradient. -/
theorem v17 : val_main_v17 (F := Ideal) (tab x) (tab1 gn) (tab dp) = tab (tn dp (nrm x gn)) := by
  funext i
  rw [val_main_v17_apply, val_main_v16_apply, val_main_v15_apply, v12]
  rfl

end Ref

/-! ## The arrays -/

theorem idx0 : ∀ t : Fin grid0.N, win0_0.index t (0 : Fin 2) = t.val % 8 ∧ win0_0.index t (1 : Fin 2) = t.val / 8 := by decide +kernel
theorem idx1 : ∀ t : Fin grid0.N, win0_1.index t (0 : Fin 2) = t.val % 8 ∧ win0_1.index t (1 : Fin 2) = 0 := by decide +kernel
theorem idx2 : ∀ t : Fin grid0.N, win0_2.index t (0 : Fin 2) = t.val / 8 ∧ win0_2.index t (1 : Fin 2) = 0 := by decide +kernel

section Arrays

variable (m : (ℓ : Loc nD τ sig) → Buf (Elt Ideal) ℓ) (c : Dev nD) (t : Fin cfg0.N)
variable (x : Fin 16384 → Fin 1024 → EReal) (gn : Fin 1024 → EReal)

/-- The normed input. -/
theorem v13 (hx : m ((c : Thread nD τ).loc main_arg0) = tab x) (hg : m ((c : Thread nD τ).loc main_arg1) = tab1 gn) :
    V m c main_v13 = tab (nrm x gn) := by
  have e : V m c main_v13 = Cert.Reference19Ideal.Read.val_main_v12 (F := Ideal) (m ((c : Thread nD τ).loc main_arg0)) (m ((c : Thread nD τ).loc main_arg1)) := by
    dsimp only [V, hostOps0]
    after_results
    rfl
  rw [e, hx, hg, Ref.v12]

variable (A : Fin 16384 → Fin 1920 → EReal) (B : Fin 16384 → Fin 1024 → EReal)

/-- The transposed array's block at a point. -/
theorem blk0 (h : V m c main_arg3 = tab A) : iblk m c 0 t = tab fun k f => A (row (t.val % 8) k) (col 1920 (t.val / 8) f) := by
  funext i
  unfold iblk
  rw [View.read_apply]
  show V m c main_arg3 _ = _
  rw [h]
  have ht : t.val < 24 := lt_of_lt_of_eq t.isLt N_0
  have h0 : (i 0).val < 2048 := (i 0).isLt
  have h1 : (i 1).val < 640 := (i 1).isLt
  refine congrArg₂ A (Fin.ext ?_) (Fin.ext ?_)
  · show win0_0.index t (0 : Fin 2) * 2048 + 1 * (i 0).val = (2048 * (t.val % 8) + (i 0).val) % 16384
    rw [(idx0 t).1]; omega
  · show win0_0.index t (1 : Fin 2) * 640 + 1 * (i 1).val = (640 * (t.val / 8) + (i 1).val) % 1920
    rw [(idx0 t).2]; omega

/-- The other array's block at a point. -/
theorem blk1 (h : V m c main_v13 = tab B) : iblk m c 1 t = tab fun k d => B (row (t.val % 8) k) d := by
  funext i
  unfold iblk
  rw [View.read_apply]
  show V m c main_v13 _ = _
  rw [h]
  have ht : t.val < 24 := lt_of_lt_of_eq t.isLt N_0
  have h0 : (i 0).val < 2048 := (i 0).isLt
  refine congrArg₂ B (Fin.ext ?_) (Fin.ext ?_)
  · show win0_1.index t (0 : Fin 2) * 2048 + 1 * (i 0).val = (2048 * (t.val % 8) + (i 0).val) % 16384
    rw [(idx1 t).1]; omega
  · show win0_1.index t (1 : Fin 2) * 1024 + 1 * (i 1).val = (i 1).val
    rw [(idx1 t).2]; omega

variable (hA : V m c main_arg3 = tab A) (hB : V m c main_v13 = tab B)
include hA hB

/-- The sum after a point, from the sum before it. -/
theorem step (n : ℕ) (hn : n = t.val % 8) :
    k0_pay2 (F := Ideal) (tab (part A B (t.val / 8) n)) (iblk m c 0 t) (iblk m c 1 t) = tab (part A B (t.val / 8) (n + 1)) := by
  have e := pay2 (part A B (t.val / 8) n) (fun k f => A (row (t.val % 8) k) (col 1920 (t.val / 8) f)) (fun k d => B (row (t.val % 8) k) d)
  rw [blk0 m c t A hA, blk1 m c t B hB, ← part_succ, hn]
  rw [hn] at e
  exact e

omit hA hB in
/-- The sum after a first row tile, of the point's blocks. -/
theorem ptA (h0 : t.val % 8 = 0) (h1 : ¬t.val % 8 = 7) : (outsAt0 m c t.val t.isLt).2 = k0_pay2 (k0_pay1 (F := Ideal)) (iblk m c 0 t) (iblk m c 1 t) := by
  rw [outsAt0_A m c t h0 h1]
  dsimp only
  rw [accA]

omit hA hB in
/-- The sum after a middle row tile, of the point's blocks. -/
theorem ptB (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  rw [accB]

omit hA hB in
/-- The sum after a last row tile, of the point's blocks. -/
theorem ptC (h0 : ¬t.val % 8 = 0) (h1 : t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_C m c t h0 h1]
  dsimp only
  rw [accC]

omit hA hB in
/-- The output after a last row tile, of the point's blocks. -/
theorem ptOut (h0 : ¬t.val % 8 = 0) (h1 : t.val % 8 = 7) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t h0 h1]
  dsimp only
  rw [outC]

/-- The sum after a first row tile. -/
theorem first (h0 : t.val % 8 = 0) : (outsAt0 m c t.val t.isLt).2 = tab (part A B (t.val / 8) (t.val % 8 + 1)) := by
  have h1 : ¬t.val % 8 = 7 := by omega
  rw [ptA m c t h0 h1, pay1, ← part_zero A B (t.val / 8)]
  refine (step m c t A B hA hB 0 h0.symm).trans ?_
  rw [h0]

/-- The sum after a later row tile, the one before it given. -/
theorem next (h0 : ¬t.val % 8 = 0) (ih : (outsAt0 m c (t.val - 1) (Nat.lt_of_le_of_lt (Nat.sub_le _ _) t.isLt)).2
    = tab (part A B ((t.val - 1) / 8) ((t.val - 1) % 8 + 1))) : (outsAt0 m c t.val t.isLt).2 = tab (part A B (t.val / 8) (t.val % 8 + 1)) := by
  have hd : (t.val - 1) / 8 = t.val / 8 := by omega
  have hm : (t.val - 1) % 8 + 1 = t.val % 8 := by omega
  rw [hd, hm] at ih
  by_cases h1 : t.val % 8 = 7
  · rw [ptC m c t h0 h1, ih]
    exact step m c t A B hA hB _ rfl
  · rw [ptB m c t h0 h1, ih]
    exact step m c t A B hA hB _ rfl

/-- The sum after every point. -/
theorem sums : ∀ (n : ℕ) (hn : n < cfg0.N), (outsAt0 m c n hn).2 = tab (part A B (n / 8) (n % 8 + 1))
  | 0, hn => first m c ⟨0, hn⟩ A B hA hB (Nat.zero_mod _)
  | n + 1, hn => by
    by_cases h0 : (n + 1) % 8 = 0
    · exact first m c ⟨n + 1, hn⟩ A B hA hB h0
    · exact next m c ⟨n + 1, hn⟩ A B hA hB h0 (sums n (by omega))

/-- The output after a last row tile. -/
theorem last (h1 : t.val % 8 = 7) : (outsAt0 m c t.val t.isLt).1 = tab fun f d => tn A B (col 1920 (t.val / 8) f) d := by
  have h0 : ¬t.val % 8 = 0 := by omega
  have hd : (t.val - 1) / 8 = t.val / 8 := by omega
  have hm : (t.val - 1) % 8 + 1 = 7 := by omega
  have ih := sums m c A B hA hB (t.val - 1) (Nat.lt_of_le_of_lt (Nat.sub_le _ _) t.isLt)
  rw [hd, hm] at ih
  rw [ptOut m c t h0 h1, ih, step m c t A B hA hB 7 h1.symm]
  exact congrArg tab (funext fun f => funext fun d => part_all A B _ f d)

/-- The weights' gradient. -/
theorem final2 : (dats m 0 c).arrAt 2 cfg0.N = tab (tn A B) := by
  refine (dats m 0 c).arrAt_eq_of_covers 2 _ (by decide +kernel) fun t hf y => ?_
  rw [after0_2, last m c t A B hA hB ((flush0_2 t).mp hf)]
  generalize tn A B = M
  refine spot M (t.val / 8) _ _ _ _ ?_ ?_
  · show win0_2.index t (0 : Fin 2) * 640 + 1 * (y 0).val = _
    rw [(idx2 t).1]
  · show win0_2.index t (1 : Fin 2) * 1024 + 1 * (y 1).val = _
    rw [(idx2 t).2]

end Arrays

/-- From any arguments, every run of the kernel and every run of the reference end with the same gradient. -/
theorem equal : Cert.algebraic_Kernel19Ideal_Reference19Ideal (hKernel19Ideal := Cert.Kernel19Ideal.Gen.facts)
    (hReference19Ideal := Cert.Reference19Ideal.Gen.facts) := by
  intro m g m' g' _ hargs
  refine ⟨fun c => tab (tn (ent (m ((c : Thread nD τ).loc main_arg3))) (nrm (ent (m ((c : Thread nD τ).loc main_arg0))) (ent1 (m ((c : Thread nD τ).loc main_arg1))))),
    (θ_run _ _ _).mono (fun r h c => ?_) (Cert.Kernel19Ideal.Value.run_blocks m g),
    (θ_run _ _ _).mono (fun r h c => ?_) (Cert.Reference19Ideal.Value.run m' g')⟩
  · have e0 := eq_tab (m ((c : Thread nD τ).loc main_arg0))
    have e1 := eq_tab1 (m ((c : Thread nD τ).loc main_arg1))
    have e3 := eq_tab (m ((c : Thread nD τ).loc main_arg3))
    obtain ⟨p0, rest⟩ := h c
    exact ⟨p0.trans (final2 m c _ _ ((V_main_arg3 m c).trans e3) (v13 m c _ _ e0 e1)), rest⟩
  · have e0 := eq_tab (m ((c : Thread nD τ).loc main_arg0))
    have e1 := eq_tab1 (m ((c : Thread nD τ).loc main_arg1))
    have e3 := eq_tab (m ((c : Thread nD τ).loc main_arg3))
    obtain ⟨a0, a1, a2, a3⟩ := hargs c
    obtain ⟨p0, rest⟩ := h c
    refine ⟨p0.trans ?_, rest⟩
    refine (Cert.Reference19Ideal.Read.val_main_v17_eq ..).trans ?_
    refine Eq.trans ?_ (Ref.v17 ..)
    rw [a0, a1, a3, ← e0, ← e1, ← e3]

end Cert.EvenDw

end
-- ==== Proof.QUp.lean ====
/- The query's projection up: the kernel's result is the normed input times the weights, and so is the
   reference's. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.QUp

open Idealize.ShloMosaic Idealize.ShloMosaic.TcCoe Idealize.ShloMosaic.Tactic Idealize.SL.Sem
open Cert.Ffn (tab tab1 ent ent1 eq_tab eq_tab1 tab_apply tab1_apply narrow widen)
open Cert.Kernel20Ideal Cert.Kernel20Ideal.Gen Cert.Kernel20Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The rows times the weights. -/
def out {n : ℕ} (w : Fin 384 → Fin 1024 → EReal) (x : Fin n → Fin 384 → EReal) (s : Fin n) (d : Fin 1024) : EReal := ∑ e, x s e * w e d

/-- What the kernel computes of one block. -/
theorem pay1 (w : Fin 384 → Fin 1024 → EReal) (x : Fin 1024 → Fin 384 → EReal) : k0_pay1 (F := Ideal) (tab x) (tab fun f d => w d f) = tab (out w x) := by
  unfold k0_pay1
  simp only [shapeCast_self, narrow]
  funext i
  pointwise
  simp only [Ideal.ofBits_zero_f32, zero_add, tab_apply]
  rfl

/-- What one block's output holds. -/
theorem out2 (w : Fin 384 → Fin 1024 → EReal) (x : Fin 1024 → Fin 384 → EReal) : out0_2 (F := Ideal) (tab x) (tab fun f d => w d f) = tab (out w x) := by
  unfold out0_2
  rw [View.canon_unit_zero (S := S1024x1024) hz]
  simp only [View.ld_unit_zero (S := S1024x384) hz, View.ld_unit_zero (S := S1024x384) hz]
  exact pay1 w x

/-- The reference's result. -/
theorem ref (w : Fin 384 → Fin 1024 → EReal) (x : Fin 16384 → Fin 384 → EReal) :
    Cert.Reference20Ideal.Read.val_main_v1 (F := Ideal) (tab x) (tab w) = tab (out w x) := by
  funext i
  rw [Cert.Reference20Ideal.Read.val_main_v1_apply]
  rfl

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel

section Arrays

variable (m : (ℓ : Loc nD τ sig) → Buf (Elt Ideal) ℓ) (c : Dev nD) (t : Fin cfg0.N)
variable (w : Fin 384 → Fin 1024 → EReal) (x : Fin 16384 → Fin 384 → EReal)

/-- The transposed weights. -/
theorem v1 (hw : m ((c : Thread nD τ).loc main_arg1) = tab w) : V m c main_v1 = tab fun f d => w d f := by
  have e : V m c main_v1 = transpose (α := EReal) S1024x384 [1, 0] (m ((c : Thread nD τ).loc main_arg1)) transposes_S384x1024_S1024x384_1_0 := by
    dsimp only [V, hostOps0]
    after_results
    rfl
  rw [e, hw]
  funext i
  pointwise
  rfl

/-- The rows of a point. -/
theorem blk0 (M : Fin 16384 → Fin 384 → EReal) (h : V m c main_arg0 = tab M) : iblk m c 0 t = tab fun k d => M (row t.val k) d := by
  funext i
  unfold iblk
  rw [View.read_apply]
  show V m c main_arg0 _ = _
  rw [h]
  refine (spot M t.val _ _ _ _ ?_ ?_).symm
  · show win0_0.index t (0 : Fin 2) * 1024 + 1 * (i 0).val = _
    rw [(idx0 t).1]
  · show win0_0.index t (1 : Fin 2) * 384 + 1 * (i 1).val = _
    rw [(idx0 t).2]

/-- The weights at a point. -/
theorem blk1 (M : Fin 1024 → Fin 384 → EReal) (h : V m c main_v1 = tab M) : iblk m c 1 t = tab M := by
  funext i
  unfold iblk
  rw [View.read_apply]
  show V m c main_v1 _ = _
  rw [h]
  refine congrArg₂ M (Fin.ext ?_) (Fin.ext ?_)
  · show win0_1.index t (0 : Fin 2) * 1024 + 1 * (i 0).val = (i 0).val
    rw [(idx1 t).1]; omega
  · show win0_1.index t (1 : Fin 2) * 384 + 1 * (i 1).val = (i 1).val
    rw [(idx1 t).2]; omega

/-- The kernel's result. -/
theorem final2 (h1 : m ((c : Thread nD τ).loc main_arg1) = tab w) (h2 : m ((c : Thread nD τ).loc main_arg0) = tab x) :
    (dats m 0 c).arrAt 2 cfg0.N = tab (out w x) := by
  refine (dats m 0 c).arrAt_eq_of_covers 2 _ (by decide +kernel) fun t hf y => ?_
  rw [after0_2, blk0 m c t x ((V_main_arg0 m c).trans h2), blk1 m c t _ (v1 m c w h1), out2]
  refine spot (out w x) t.val _ _ _ _ ?_ ?_
  · show win0_2.index t (0 : Fin 2) * 1024 + 1 * (y 0).val = _
    rw [(idx2 t).1]
  · show win0_2.index t (1 : Fin 2) * 1024 + 1 * (y 1).val = _
    rw [(idx2 t).2]

end Arrays

/-- From any arguments, every run of the kernel and every run of the reference end with the same array. -/
theorem equal : Cert.algebraic_Kernel20Ideal_Reference20Ideal (hKernel20Ideal := Cert.Kernel20Ideal.Gen.facts)
    (hReference20Ideal := Cert.Reference20Ideal.Gen.facts) := by
  intro m g m' g' _ hargs
  refine ⟨fun c => tab (out (ent (m ((c : Thread nD τ).loc main_arg1))) (ent (m ((c : Thread nD τ).loc main_arg0)))),
    (θ_run _ _ _).mono (fun r h c => ?_) (Cert.Kernel20Ideal.Value.run_blocks m g),
    (θ_run _ _ _).mono (fun r h c => ?_) (Cert.Reference20Ideal.Value.run m' g')⟩
  · have e1 := eq_tab (m ((c : Thread nD τ).loc main_arg1))
    have e2 := eq_tab (m ((c : Thread nD τ).loc main_arg0))
    obtain ⟨p0, rest⟩ := h c
    exact ⟨p0.trans (final2 m c _ _ e1 e2), rest⟩
  · have e1 := eq_tab (m ((c : Thread nD τ).loc main_arg1))
    have e2 := eq_tab (m ((c : Thread nD τ).loc main_arg0))
    obtain ⟨a0, a1⟩ := hargs c
    obtain ⟨p0, rest⟩ := h c
    refine ⟨p0.trans ?_, rest⟩
    refine (Cert.Reference20Ideal.Read.val_main_v1_eq ..).trans ?_
    refine Eq.trans ?_ (ref ..)
    rw [a0, a1, ← e1, ← e2]

end Cert.QUp

end
-- ==== Proof.QUpBwd.lean ====
/- The query's projection up, backward: the kernel's result is the cotangent times the transposed weights, and so is the
   reference's. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.QUpBwd

open Idealize.ShloMosaic Idealize.ShloMosaic.TcCoe Idealize.ShloMosaic.Tactic Idealize.SL.Sem
open Cert.Ffn (tab tab1 ent ent1 eq_tab eq_tab1 tab_apply tab1_apply narrow widen)
open Cert.Kernel21Ideal Cert.Kernel21Ideal.Gen Cert.Kernel21Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The cotangent times the transposed weights. -/
def out {n : ℕ} (w : Fin 384 → Fin 1024 → EReal) (x : Fin n → Fin 1024 → EReal) (s : Fin n) (d : Fin 384) : EReal := ∑ e, x s e * w d e

/-- What the kernel computes of one block. -/
theorem pay1 (w : Fin 384 → Fin 1024 → EReal) (x : Fin 1024 → Fin 1024 → EReal) : k0_pay1 (F := Ideal) (tab x) (tab fun f d => w d f) = tab (out w x) := by
  unfold k0_pay1
  simp only [shapeCast_self, narrow]
  funext i
  pointwise
  simp only [Ideal.ofBits_zero_f32, zero_add, tab_apply]
  rfl

/-- What one block's output holds. -/
theorem out2 (w : Fin 384 → Fin 1024 → EReal) (x : Fin 1024 → Fin 1024 → EReal) : out0_2 (F := Ideal) (tab x) (tab fun f d => w d f) = tab (out w x) := by
  unfold out0_2
  rw [View.canon_unit_zero (S := S1024x384) hz]
  simp only [View.ld_unit_zero (S := S1024x1024) hz, View.ld_unit_zero (S := S1024x384) hz]
  exact pay1 w x

/-- The reference's result. -/
theorem ref (w : Fin 384 → Fin 1024 → EReal) (x : Fin 16384 → Fin 1024 → EReal) :
    Cert.Reference21Ideal.Read.val_main_v3 (F := Ideal) (tab w) (tab x) = tab (out w x) := by
  funext i
  rw [Cert.Reference21Ideal.Read.val_main_v3_apply]
  rfl

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel

section Arrays

variable (m : (ℓ : Loc nD τ sig) → Buf (Elt Ideal) ℓ) (c : Dev nD) (t : Fin cfg0.N)
variable (w : Fin 384 → Fin 1024 → EReal) (x : Fin 16384 → Fin 1024 → EReal)

/-- The transposed weights. -/
theorem v1 (hw : m ((c : Thread nD τ).loc main_arg1) = tab w) : V m c main_v1 = tab fun f d => w d f := by
  have e : V m c main_v1 = transpose (α := EReal) S1024x384 [1, 0] (m ((c : Thread nD τ).loc main_arg1)) transposes_S384x1024_S1024x384_1_0 := by
    dsimp only [V, hostOps0]
    after_results
    rfl
  rw [e, hw]
  funext i
  pointwise
  rfl

/-- The rows of a point. -/
theorem blk0 (M : Fin 16384 → Fin 1024 → EReal) (h : V m c main_arg2 = tab M) : iblk m c 0 t = tab fun k d => M (row t.val k) d := by
  funext i
  unfold iblk
  rw [View.read_apply]
  show V m c main_arg2 _ = _
  rw [h]
  refine (spot M t.val _ _ _ _ ?_ ?_).symm
  · show win0_0.index t (0 : Fin 2) * 1024 + 1 * (i 0).val = _
    rw [(idx0 t).1]
  · show win0_0.index t (1 : Fin 2) * 1024 + 1 * (i 1).val = _
    rw [(idx0 t).2]

/-- The weights at a point. -/
theorem blk1 (M : Fin 1024 → Fin 384 → EReal) (h : V m c main_v1 = tab M) : iblk m c 1 t = tab M := by
  funext i
  unfold iblk
  rw [View.read_apply]
  show V m c main_v1 _ = _
  rw [h]
  refine congrArg₂ M (Fin.ext ?_) (Fin.ext ?_)
  · show win0_1.index t (0 : Fin 2) * 1024 + 1 * (i 0).val = (i 0).val
    rw [(idx1 t).1]; omega
  · show win0_1.index t (1 : Fin 2) * 384 + 1 * (i 1).val = (i 1).val
    rw [(idx1 t).2]; omega

/-- The kernel's result. -/
theorem final2 (h1 : m ((c : Thread nD τ).loc main_arg1) = tab w) (h2 : m ((c : Thread nD τ).loc main_arg2) = tab x) :
    (dats m 0 c).arrAt 2 cfg0.N = tab (out w x) := by
  refine (dats m 0 c).arrAt_eq_of_covers 2 _ (by decide +kernel) fun t hf y => ?_
  rw [after0_2, blk0 m c t x ((V_main_arg2 m c).trans h2), blk1 m c t _ (v1 m c w h1), out2]
  refine spot (out w x) t.val _ _ _ _ ?_ ?_
  · show win0_2.index t (0 : Fin 2) * 1024 + 1 * (y 0).val = _
    rw [(idx2 t).1]
  · show win0_2.index t (1 : Fin 2) * 384 + 1 * (y 1).val = _
    rw [(idx2 t).2]

end Arrays

/-- From any arguments, every run of the kernel and every run of the reference end with the same gradient. -/
theorem equal : Cert.algebraic_Kernel21Ideal_Reference21Ideal (hKernel21Ideal := Cert.Kernel21Ideal.Gen.facts)
    (hReference21Ideal := Cert.Reference21Ideal.Gen.facts) := by
  intro m g m' g' _ hargs
  refine ⟨fun c => tab (out (ent (m ((c : Thread nD τ).loc main_arg1))) (ent (m ((c : Thread nD τ).loc main_arg2)))),
    (θ_run _ _ _).mono (fun r h c => ?_) (Cert.Kernel21Ideal.Value.run_blocks m g),
    (θ_run _ _ _).mono (fun r h c => ?_) (Cert.Reference21Ideal.Value.run m' g')⟩
  · have e1 := eq_tab (m ((c : Thread nD τ).loc main_arg1))
    have e2 := eq_tab (m ((c : Thread nD τ).loc main_arg2))
    obtain ⟨p0, rest⟩ := h c
    exact ⟨p0.trans (final2 m c _ _ e1 e2), rest⟩
  · have e1 := eq_tab (m ((c : Thread nD τ).loc main_arg1))
    have e2 := eq_tab (m ((c : Thread nD τ).loc main_arg2))
    obtain ⟨a0, a1, a2⟩ := hargs c
    obtain ⟨p0, rest⟩ := h c
    refine ⟨p0.trans ?_, rest⟩
    refine (Cert.Reference21Ideal.Read.val_main_v3_eq ..).trans ?_
    refine Eq.trans ?_ (ref ..)
    rw [a1, a2, ← e1, ← e2]

end Cert.QUpBwd

end
-- ==== Proof.QUpDw.lean ====
/- The query's projection up, the weights' gradient: the kernel's result is the cotangent, transposed, times the normed input,
   and so is the reference's. -/
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Tn
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.QUpDw

open Idealize.ShloMosaic Idealize.ShloMosaic.TcCoe Idealize.ShloMosaic.Tactic Idealize.SL.Sem
open Cert.Ffn (tab tab1 ent ent1 eq_tab eq_tab1 tab_apply tab1_apply narrow widen mul_tab)
open Cert.Tn
open Cert.Kernel22Ideal Cert.Kernel22Ideal.Gen Cert.Kernel22Ideal.Value

private theorem hz : (![0, 0] : Fin 2 → Nat) = fun _ => 0 := funext fun a => by fin_cases a <;> rfl

/-! ## One block -/

/-- The sum starts at zero. -/
theorem pay1 : k0_pay1 (F := Ideal) = tab fun _ _ => 0 := by
  unfold k0_pay1
  simp only [shapeCast_self]
  funext i
  exact Ideal.ofBits_zero_f32

/-- A block pair's transposed product, added to the sum. -/
theorem pay2 (acc : Fin 1024 → Fin 384 → EReal) (a : Fin 2048 → Fin 1024 → EReal) (b : Fin 2048 → Fin 384 → EReal) :
    k0_pay2 (F := Ideal) (tab acc) (tab a) (tab b) = tab fun f d => acc f d + ∑ k, a k f * b k d := by
  unfold k0_pay2
  simp only [shapeCast_self, narrow]
  have e : matmul (F := Ideal) (φ₁ := .bf16) (φ₂ := .bf16) dot_S2048x1024_S2048x384_S1024x384_0_0_1_1_n_n none (tab a) (tab b)
      (constant S1024x384 .f32 0x00000000#32) = tab fun f d => ∑ k, a k f * b k d := by
    funext i
    pointwise
    simp only [Ideal.ofBits_zero_f32, zero_add, tab_apply]
    rfl
  rw [e]
  rfl

section Points

variable (c : Dev nD) (i : grid0.Coords) (arg2 : Memref sig .tc .vmem S2048x1024 .bf16) (h2 : arg2.IsWhole) (arg3 : Memref sig .tc .vmem S2048x384 .bf16) (h3 : arg3.IsWhole)
  (arg4 : Memref sig .tc .vmem S1024x384 .f32) (h4 : arg4.IsWhole) (arg5 : Memref sig .tc .vmem S1024x384 .f32) (h5 : arg5.IsWhole)
  (x0 : Vec Ideal S2048x1024 .bf16) (x1 : Vec Ideal S2048x384 .bf16) (xs0 : Vec Ideal S1024x384 .f32)

/-- The sum after a first row tile. -/
theorem accA (hc0 : cond0_0 i) (hc1 : ¬cond0_1 i) : sout0_A_0 (F := Ideal) c i arg2 h2 arg3 h3 arg4 h4 arg5 h5 hc0 hc1 x0 x1 = k0_pay2 (k0_pay1 (F := Ideal)) x0 x1 := by
  unfold sout0_A_0
  rw [View.read_writes_eq_canon _ _ _ (scover0_A_0 c i arg2 h2 arg3 h3 arg4 h4 arg5 h5 hc0 hc1 x0 x1)]
  unfold kernelRun0_A
  dsimp only
  sl_unfold_words
  rw [View.canon_cons_unit_zero (S := S1024x384) hz]
  simp only [View.readAt_eq_ld, h2.read_unread, h3.read_unread, h5.read_unread, View.ld_unit_zero (S := S2048x1024) hz, View.ld_unit_zero (S := S2048x384) hz,
    View.ld_unit_zero (S := S1024x384) hz, View.readCov_unit_zero (S := S1024x384) _ hz]

/-- The sum after a middle row tile. -/
theorem accB (hc0 : ¬cond0_0 i) (hc1 : ¬cond0_1 i) : sout0_B_0 (F := Ideal) c i arg2 h2 arg3 h3 arg4 h4 arg5 h5 hc0 hc1 x0 x1 xs0 = k0_pay2 xs0 x0 x1 := by
  unfold sout0_B_0
  rw [View.read_writes_eq_canon _ _ _ (scover0_B_0 c i arg2 h2 arg3 h3 arg4 h4 arg5 h5 hc0 hc1 x0 x1 xs0)]
  unfold kernelRun0_B
  dsimp only
  sl_unfold_words
  rw [View.canon_unit_zero (S := S1024x384) hz]
  simp only [View.readAt_eq_ld, h2.read_unread, h3.read_unread, h5.read_unread, View.ld_unit_zero (S := S2048x1024) hz, View.ld_unit_zero (S := S2048x384) hz,
    View.ld_unit_zero (S := S1024x384) hz, View.readCov_unit_zero (S := S1024x384) _ hz]

/-- The sum after a last row tile. -/
theorem accC (hc0 : ¬cond0_0 i) (hc1 : cond0_1 i) : sout0_C_0 (F := Ideal) c i arg2 h2 arg3 h3 arg4 h4 arg5 h5 hc0 hc1 x0 x1 xs0 = k0_pay2 xs0 x0 x1 := by
  unfold sout0_C_0
  rw [View.read_writes_eq_canon _ _ _ (scover0_C_0 c i arg2 h2 arg3 h3 arg4 h4 arg5 h5 hc0 hc1 x0 x1 xs0)]
  unfold kernelRun0_C
  dsimp only
  sl_unfold_words
  rw [View.canon_unit_zero (S := S1024x384) hz]
  simp only [View.readAt_eq_ld, h2.read_unread, h3.read_unread, h5.read_unread, View.ld_unit_zero (S := S2048x1024) hz, View.ld_unit_zero (S := S2048x384) hz,
    View.ld_unit_zero (S := S1024x384) hz, View.readCov_unit_zero (S := S1024x384) _ hz]

/-- The output after a last row tile. -/
theorem outC (hc0 : ¬cond0_0 i) (hc1 : cond0_1 i) : out0_C_2 (F := Ideal) c i arg2 h2 arg3 h3 arg4 h4 arg5 h5 hc0 hc1 x0 x1 xs0 = k0_pay2 xs0 x0 x1 := by
  unfold out0_C_2
  rw [View.read_writes_eq_canon _ _ _ (cover0_C_2 c i arg2 h2 arg3 h3 arg4 h4 arg5 h5 hc0 hc1 x0 x1 xs0)]
  unfold kernelRun0_C
  dsimp only
  sl_unfold_words
  rw [View.canon_unit_zero (S := S1024x384) hz]
  simp only [View.readAt_eq_ld, h2.read_unread, h3.read_unread, h5.read_unread, View.ld_unit_zero (S := S2048x1024) hz, View.ld_unit_zero (S := S2048x384) hz,
    View.ld_unit_zero (S := S1024x384) hz, View.readCov_unit_zero (S := S1024x384) _ hz]

end Points

/-! ## The reference -/

namespace Ref

open Cert.Reference22Ideal.Read

variable (v : Fin 16384 → Fin 384 → EReal) (ct : Fin 16384 → Fin 1024 → EReal)

/-- The weights' gradient. -/
theorem v5 : val_main_v5 (F := Ideal) (tab v) (tab ct) = tab (tn ct v) := by
  funext i
  rw [val_main_v5_apply, val_main_v4_apply, val_main_v3_apply]
  rfl

end Ref

/-! ## The arrays -/

theorem idx0 : ∀ t : Fin grid0.N, win0_0.index t (0 : Fin 2) = t.val % 8 ∧ win0_0.index t (1 : Fin 2) = t.val / 8 := by decide +kernel
theorem idx1 : ∀ t : Fin grid0.N, win0_1.index t (0 : Fin 2) = t.val % 8 ∧ win0_1.index t (1 : Fin 2) = 0 := by decide +kernel
theorem idx2 : ∀ t : Fin grid0.N, win0_2.index t (0 : Fin 2) = t.val / 8 ∧ win0_2.index t (1 : Fin 2) = 0 := by decide +kernel

section Arrays

variable (m : (ℓ : Loc nD τ sig) → Buf (Elt Ideal) ℓ) (c : Dev nD) (t : Fin cfg0.N)
variable (A : Fin 16384 → Fin 1024 → EReal) (B : Fin 16384 → Fin 384 → EReal)

/-- The transposed array's block at a point. -/
theorem blk0 (h : V m c main_arg2 = tab A) : iblk m c 0 t = tab fun k f => A (row (t.val % 8) k) (col 1024 (t.val / 8) f) := by
  funext i
  unfold iblk
  rw [View.read_apply]
  show V m c main_arg2 _ = _
  rw [h]
  have ht : t.val < 8 := lt_of_lt_of_eq t.isLt N_0
  have h0 : (i 0).val < 2048 := (i 0).isLt
  have h1 : (i 1).val < 1024 := (i 1).isLt
  refine congrArg₂ A (Fin.ext ?_) (Fin.ext ?_)
  · show win0_0.index t (0 : Fin 2) * 2048 + 1 * (i 0).val = (2048 * (t.val % 8) + (i 0).val) % 16384
    rw [(idx0 t).1]; omega
  · show win0_0.index t (1 : Fin 2) * 1024 + 1 * (i 1).val = (1024 * (t.val / 8) + (i 1).val) % 1024
    rw [(idx0 t).2]; omega

/-- The other array's block at a point. -/
theorem blk1 (h : V m c main_arg0 = tab B) : iblk m c 1 t = tab fun k d => B (row (t.val % 8) k) d := by
  funext i
  unfold iblk
  rw [View.read_apply]
  show V m c main_arg0 _ = _
  rw [h]
  have ht : t.val < 8 := lt_of_lt_of_eq t.isLt N_0
  have h0 : (i 0).val < 2048 := (i 0).isLt
  refine congrArg₂ B (Fin.ext ?_) (Fin.ext ?_)
  · show win0_1.index t (0 : Fin 2) * 2048 + 1 * (i 0).val = (2048 * (t.val % 8) + (i 0).val) % 16384
    rw [(idx1 t).1]; omega
  · show win0_1.index t (1 : Fin 2) * 384 + 1 * (i 1).val = (i 1).val
    rw [(idx1 t).2]; omega

variable (hA : V m c main_arg2 = tab A) (hB : V m c main_arg0 = tab B)
include hA hB

/-- The sum after a point, from the sum before it. -/
theorem step (n : ℕ) (hn : n = t.val % 8) :
    k0_pay2 (F := Ideal) (tab (part A B (t.val / 8) n)) (iblk m c 0 t) (iblk m c 1 t) = tab (part A B (t.val / 8) (n + 1)) := by
  have e := pay2 (part A B (t.val / 8) n) (fun k f => A (row (t.val % 8) k) (col 1024 (t.val / 8) f)) (fun k d => B (row (t.val % 8) k) d)
  rw [blk0 m c t A hA, blk1 m c t B hB, ← part_succ, hn]
  rw [hn] at e
  exact e

omit hA hB in
/-- The sum after a first row tile, of the point's blocks. -/
theorem ptA (h0 : t.val % 8 = 0) (h1 : ¬t.val % 8 = 7) : (outsAt0 m c t.val t.isLt).2 = k0_pay2 (k0_pay1 (F := Ideal)) (iblk m c 0 t) (iblk m c 1 t) := by
  rw [outsAt0_A m c t h0 h1]
  dsimp only
  rw [accA]

omit hA hB in
/-- The sum after a middle row tile, of the point's blocks. -/
theorem ptB (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  rw [accB]

omit hA hB in
/-- The sum after a last row tile, of the point's blocks. -/
theorem ptC (h0 : ¬t.val % 8 = 0) (h1 : t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_C m c t h0 h1]
  dsimp only
  rw [accC]

omit hA hB in
/-- The output after a last row tile, of the point's blocks. -/
theorem ptOut (h0 : ¬t.val % 8 = 0) (h1 : t.val % 8 = 7) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t h0 h1]
  dsimp only
  rw [outC]

/-- The sum after a first row tile. -/
theorem first (h0 : t.val % 8 = 0) : (outsAt0 m c t.val t.isLt).2 = tab (part A B (t.val / 8) (t.val % 8 + 1)) := by
  have h1 : ¬t.val % 8 = 7 := by omega
  rw [ptA m c t h0 h1, pay1, ← part_zero A B (t.val / 8)]
  refine (step m c t A B hA hB 0 h0.symm).trans ?_
  rw [h0]

/-- The sum after a later row tile, the one before it given. -/
theorem next (h0 : ¬t.val % 8 = 0) (ih : (outsAt0 m c (t.val - 1) (Nat.lt_of_le_of_lt (Nat.sub_le _ _) t.isLt)).2
    = tab (part A B ((t.val - 1) / 8) ((t.val - 1) % 8 + 1))) : (outsAt0 m c t.val t.isLt).2 = tab (part A B (t.val / 8) (t.val % 8 + 1)) := by
  have hd : (t.val - 1) / 8 = t.val / 8 := by omega
  have hm : (t.val - 1) % 8 + 1 = t.val % 8 := by omega
  rw [hd, hm] at ih
  by_cases h1 : t.val % 8 = 7
  · rw [ptC m c t h0 h1, ih]
    exact step m c t A B hA hB _ rfl
  · rw [ptB m c t h0 h1, ih]
    exact step m c t A B hA hB _ rfl

/-- The sum after every point. -/
theorem sums : ∀ (n : ℕ) (hn : n < cfg0.N), (outsAt0 m c n hn).2 = tab (part A B (n / 8) (n % 8 + 1))
  | 0, hn => first m c ⟨0, hn⟩ A B hA hB (Nat.zero_mod _)
  | n + 1, hn => by
    by_cases h0 : (n + 1) % 8 = 0
    · exact first m c ⟨n + 1, hn⟩ A B hA hB h0
    · exact next m c ⟨n + 1, hn⟩ A B hA hB h0 (sums n (by omega))

/-- The output after a last row tile. -/
theorem last (h1 : t.val % 8 = 7) : (outsAt0 m c t.val t.isLt).1 = tab fun f d => tn A B (col 1024 (t.val / 8) f) d := by
  have h0 : ¬t.val % 8 = 0 := by omega
  have hd : (t.val - 1) / 8 = t.val / 8 := by omega
  have hm : (t.val - 1) % 8 + 1 = 7 := by omega
  have ih := sums m c A B hA hB (t.val - 1) (Nat.lt_of_le_of_lt (Nat.sub_le _ _) t.isLt)
  rw [hd, hm] at ih
  rw [ptOut m c t h0 h1, ih, step m c t A B hA hB 7 h1.symm]
  exact congrArg tab (funext fun f => funext fun d => part_all A B _ f d)

/-- The weights' gradient. -/
theorem final2 : (dats m 0 c).arrAt 2 cfg0.N = tab (tn A B) := by
  refine (dats m 0 c).arrAt_eq_of_covers 2 _ (by decide +kernel) fun t hf y => ?_
  rw [after0_2, last m c t A B hA hB ((flush0_2 t).mp hf)]
  generalize tn A B = M
  refine spot M (t.val / 8) _ _ _ _ ?_ ?_
  · show win0_2.index t (0 : Fin 2) * 1024 + 1 * (y 0).val = _
    rw [(idx2 t).1]
  · show win0_2.index t (1 : Fin 2) * 384 + 1 * (y 1).val = _
    rw [(idx2 t).2]

end Arrays

/-- From any arguments, every run of the kernel and every run of the reference end with the same gradient. -/
theorem equal : Cert.algebraic_Kernel22Ideal_Reference22Ideal (hKernel22Ideal := Cert.Kernel22Ideal.Gen.facts)
    (hReference22Ideal := Cert.Reference22Ideal.Gen.facts) := by
  intro m g m' g' _ hargs
  refine ⟨fun c => tab (tn (ent (m ((c : Thread nD τ).loc main_arg2))) (ent (m ((c : Thread nD τ).loc main_arg0)))),
    (θ_run _ _ _).mono (fun r h c => ?_) (Cert.Kernel22Ideal.Value.run_blocks m g),
    (θ_run _ _ _).mono (fun r h c => ?_) (Cert.Reference22Ideal.Value.run m' g')⟩
  · have e0 := eq_tab (m ((c : Thread nD τ).loc main_arg2))
    have e2 := eq_tab (m ((c : Thread nD τ).loc main_arg0))
    obtain ⟨p0, rest⟩ := h c
    exact ⟨p0.trans (final2 m c _ _ ((V_main_arg2 m c).trans e0) ((V_main_arg0 m c).trans e2)), rest⟩
  · have e0 := eq_tab (m ((c : Thread nD τ).loc main_arg2))
    have e2 := eq_tab (m ((c : Thread nD τ).loc main_arg0))
    obtain ⟨a0, a1, a2⟩ := hargs c
    obtain ⟨p0, rest⟩ := h c
    refine ⟨p0.trans ?_, rest⟩
    refine (Cert.Reference22Ideal.Read.val_main_v5_eq ..).trans ?_
    refine Eq.trans ?_ (Ref.v5 ..)
    rw [a0, a2, ← e0, ← e2]

end Cert.QUpDw

end
-- ==== Proof.KvUp.lean ====
/- The keys' and values' projection up: the kernel's result is the normed input times the weights, and so is the
   reference's. -/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.KvUp

open Idealize.ShloMosaic Idealize.ShloMosaic.TcCoe Idealize.ShloMosaic.Tactic Idealize.SL.Sem
open Cert.Ffn (tab tab1 ent ent1 eq_tab eq_tab1 tab_apply tab1_apply narrow widen)
open Cert.Kernel23Ideal Cert.Kernel23Ideal.Gen Cert.Kernel23Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The rows times the weights. -/
def out {n : ℕ} (w : Fin 256 → Fin 2048 → EReal) (x : Fin n → Fin 256 → EReal) (s : Fin n) (d : Fin 2048) : EReal := ∑ e, x s e * w e d

/-- What the kernel computes of one block. -/
theorem pay1 (w : Fin 256 → Fin 2048 → EReal) (x : Fin 1024 → Fin 256 → EReal) : k0_pay1 (F := Ideal) (tab x) (tab fun f d => w d f) = tab (out w x) := by
  unfold k0_pay1
  simp only [shapeCast_self, narrow]
  funext i
  pointwise
  simp only [Ideal.ofBits_zero_f32, zero_add, tab_apply]
  rfl

/-- What one block's output holds. -/
theorem out2 (w : Fin 256 → Fin 2048 → EReal) (x : Fin 1024 → Fin 256 → EReal) : out0_2 (F := Ideal) (tab x) (tab fun f d => w d f) = tab (out w x) := by
  unfold out0_2
  rw [View.canon_unit_zero (S := S1024x2048) hz]
  simp only [View.ld_unit_zero (S := S1024x256) hz, View.ld_unit_zero (S := S2048x256) hz]
  exact pay1 w x

/-- The reference's result. -/
theorem ref (w : Fin 256 → Fin 2048 → EReal) (x : Fin 16384 → Fin 256 → EReal) :
    Cert.Reference23Ideal.Read.val_main_v2 (F := Ideal) (tab x) (tab w) = tab (out w x) := by
  funext i
  rw [Cert.Reference23Ideal.Read.val_main_v2_apply, Cert.Reference23Ideal.Read.val_main_v1_apply]
  rfl

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel

section Arrays

variable (m : (ℓ : Loc nD τ sig) → Buf (Elt Ideal) ℓ) (c : Dev nD) (t : Fin cfg0.N)
variable (w : Fin 256 → Fin 2048 → EReal) (x : Fin 16384 → Fin 256 → EReal)

/-- The transposed weights. -/
theorem v1 (hw : m ((c : Thread nD τ).loc main_arg1) = tab w) : V m c main_v1 = tab fun f d => w d f := by
  have e : V m c main_v1 = transpose (α := EReal) S2048x256 [1, 0] (m ((c : Thread nD τ).loc main_arg1)) transposes_S256x2048_S2048x256_1_0 := by
    dsimp only [V, hostOps0]
    after_results
    rfl
  rw [e, hw]
  funext i
  pointwise
  rfl

/-- The rows of a point. -/
theorem blk0 (M : Fin 16384 → Fin 256 → EReal) (h : V m c main_arg0 = tab M) : iblk m c 0 t = tab fun k d => M (row t.val k) d := by
  funext i
  unfold iblk
  rw [View.read_apply]
  show V m c main_arg0 _ = _
  rw [h]
  refine (spot M t.val _ _ _ _ ?_ ?_).symm
  · show win0_0.index t (0 : Fin 2) * 1024 + 1 * (i 0).val = _
    rw [(idx0 t).1]
  · show win0_0.index t (1 : Fin 2) * 256 + 1 * (i 1).val = _
    rw [(idx0 t).2]

/-- The weights at a point. -/
theorem blk1 (M : Fin 2048 → Fin 256 → EReal) (h : V m c main_v1 = tab M) : iblk m c 1 t = tab M := by
  funext i
  unfold iblk
  rw [View.read_apply]
  show V m c main_v1 _ = _
  rw [h]
  refine congrArg₂ M (Fin.ext ?_) (Fin.ext ?_)
  · show win0_1.index t (0 : Fin 2) * 2048 + 1 * (i 0).val = (i 0).val
    rw [(idx1 t).1]; omega
  · show win0_1.index t (1 : Fin 2) * 256 + 1 * (i 1).val = (i 1).val
    rw [(idx1 t).2]; omega

/-- The kernel's result. -/
theorem final2 (h1 : m ((c : Thread nD τ).loc main_arg1) = tab w) (h2 : m ((c : Thread nD τ).loc main_arg0) = tab x) :
    (dats m 0 c).arrAt 2 cfg0.N = tab (out w x) := by
  refine (dats m 0 c).arrAt_eq_of_covers 2 _ (by decide +kernel) fun t hf y => ?_
  rw [after0_2, blk0 m c t x ((V_main_arg0 m c).trans h2), blk1 m c t _ (v1 m c w h1), out2]
  refine spot (out w x) t.val _ _ _ _ ?_ ?_
  · show win0_2.index t (0 : Fin 2) * 1024 + 1 * (y 0).val = _
    rw [(idx2 t).1]
  · show win0_2.index t (1 : Fin 2) * 2048 + 1 * (y 1).val = _
    rw [(idx2 t).2]

end Arrays

/-- From any arguments, every run of the kernel and every run of the reference end with the same array. -/
theorem equal : Cert.algebraic_Kernel23Ideal_Reference23Ideal (hKernel23Ideal := Cert.Kernel23Ideal.Gen.facts)
    (hReference23Ideal := Cert.Reference23Ideal.Gen.facts) := by
  intro m g m' g' _ hargs
  refine ⟨fun c => tab (out (ent (m ((c : Thread nD τ).loc main_arg1))) (ent (m ((c : Thread nD τ).loc main_arg0)))),
    (θ_run _ _ _).mono (fun r h c => ?_) (Cert.Kernel23Ideal.Value.run_blocks m g),
    (θ_run _ _ _).mono (fun r h c => ?_) (Cert.Reference23Ideal.Value.run m' g')⟩
  · have e1 := eq_tab (m ((c : Thread nD τ).loc main_arg1))
    have e2 := eq_tab (m ((c : Thread nD τ).loc main_arg0))
    obtain ⟨p0, rest⟩ := h c
    exact ⟨p0.trans (final2 m c _ _ e1 e2), rest⟩
  · have e1 := eq_tab (m ((c : Thread nD τ).loc main_arg1))
    have e2 := eq_tab (m ((c : Thread nD τ).loc main_arg0))
    obtain ⟨a0, a1⟩ := hargs c
    obtain ⟨p0, rest⟩ := h c
    refine ⟨p0.trans ?_, rest⟩
    refine (Cert.Reference23Ideal.Read.val_main_v2_eq ..).trans ?_
    refine Eq.trans ?_ (ref ..)
    rw [a0, a1, ← e1, ← e2]

end Cert.KvUp

end
-- ==== Proof.KvUpBwd.lean ====
/- The keys' and values' projection up, backward: the kernel's result is the cotangent times the transposed weights, and so is the
   reference's. -/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Tab
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.KvUpBwd

open Idealize.ShloMosaic Idealize.ShloMosaic.TcCoe Idealize.ShloMosaic.Tactic Idealize.SL.Sem
open Cert.Ffn (tab tab1 ent ent1 eq_tab eq_tab1 tab_apply tab1_apply narrow widen)
open Cert.Kernel24Ideal Cert.Kernel24Ideal.Gen Cert.Kernel24Ideal.Value

private theorem hz : (![0, 0] : Fin 2 → Nat) = fun _ => 0 := funext fun a => by fin_cases a <;> rfl

/-- Row `k` of row tile `n`. -/
def row (n : ℕ) (k : Fin 1024) : Fin 16384 := Fin.ofNat 16384 (1024 * n + k.val)

/-- Rows of a tile, at the place its block has in the array. -/
theorem spot {w : ℕ} (M : Fin 16384 → Fin w → EReal) (n : ℕ) (k : Fin 1024) (d : Fin w) (i : Fin 16384) (j : Fin w)
    (hi : i.val = n * 1024 + 1 * k.val) (hj : j.val = 0 * w + 1 * d.val) : M (row n k) d = M i j := by
  have e : row n k = i := by
    apply Fin.ext
    have := i.isLt
    show (1024 * n + k.val) % 16384 = i.val
    omega
  have f : d = j := by apply Fin.ext; omega
  rw [e, f]

/-- The cotangent times the transposed weights. -/
def out {n : ℕ} (w : Fin 256 → Fin 2048 → EReal) (x : Fin n → Fin 2048 → EReal) (s : Fin n) (d : Fin 256) : EReal := ∑ e, x s e * w d e

/-- What the kernel computes of one block. -/
theorem pay1 (w : Fin 256 → Fin 2048 → EReal) (x : Fin 1024 → Fin 2048 → EReal) : k0_pay1 (F := Ideal) (tab x) (tab fun f d => w d f) = tab (out w x) := by
  unfold k0_pay1
  simp only [shapeCast_self, narrow]
  funext i
  pointwise
  simp only [Ideal.ofBits_zero_f32, zero_add, tab_apply]
  rfl

/-- What one block's output holds. -/
theorem out2 (w : Fin 256 → Fin 2048 → EReal) (x : Fin 1024 → Fin 2048 → EReal) : out0_2 (F := Ideal) (tab x) (tab fun f d => w d f) = tab (out w x) := by
  unfold out0_2
  rw [View.canon_unit_zero (S := S1024x256) hz]
  simp only [View.ld_unit_zero (S := S1024x2048) hz, View.ld_unit_zero (S := S2048x256) hz]
  exact pay1 w x

/-- The reference's result. -/
theorem ref (w : Fin 256 → Fin 2048 → EReal) (x : Fin 16384 → Fin 2048 → EReal) :
    Cert.Reference24Ideal.Read.val_main_v3 (F := Ideal) (tab w) (tab x) = tab (out w x) := by
  funext i
  rw [Cert.Reference24Ideal.Read.val_main_v3_apply]
  rfl

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel

section Arrays

variable (m : (ℓ : Loc nD τ sig) → Buf (Elt Ideal) ℓ) (c : Dev nD) (t : Fin cfg0.N)
variable (w : Fin 256 → Fin 2048 → EReal) (x : Fin 16384 → Fin 2048 → EReal)

/-- The transposed weights. -/
theorem v1 (hw : m ((c : Thread nD τ).loc main_arg1) = tab w) : V m c main_v1 = tab fun f d => w d f := by
  have e : V m c main_v1 = transpose (α := EReal) S2048x256 [1, 0] (m ((c : Thread nD τ).loc main_arg1)) transposes_S256x2048_S2048x256_1_0 := by
    dsimp only [V, hostOps0]
    after_results
    rfl
  rw [e, hw]
  funext i
  pointwise
  rfl

/-- The rows of a point. -/
theorem blk0 (M : Fin 16384 → Fin 2048 → EReal) (h : V m c main_arg2 = tab M) : iblk m c 0 t = tab fun k d => M (row t.val k) d := by
  funext i
  unfold iblk
  rw [View.read_apply]
  show V m c main_arg2 _ = _
  rw [h]
  refine (spot M t.val _ _ _ _ ?_ ?_).symm
  · show win0_0.index t (0 : Fin 2) * 1024 + 1 * (i 0).val = _
    rw [(idx0 t).1]
  · show win0_0.index t (1 : Fin 2) * 2048 + 1 * (i 1).val = _
    rw [(idx0 t).2]

/-- The weights at a point. -/
theorem blk1 (M : Fin 2048 → Fin 256 → EReal) (h : V m c main_v1 = tab M) : iblk m c 1 t = tab M := by
  funext i
  unfold iblk
  rw [View.read_apply]
  show V m c main_v1 _ = _
  rw [h]
  refine congrArg₂ M (Fin.ext ?_) (Fin.ext ?_)
  · show win0_1.index t (0 : Fin 2) * 2048 + 1 * (i 0).val = (i 0).val
    rw [(idx1 t).1]; omega
  · show win0_1.index t (1 : Fin 2) * 256 + 1 * (i 1).val = (i 1).val
    rw [(idx1 t).2]; omega

/-- The kernel's result. -/
theorem final2 (h1 : m ((c : Thread nD τ).loc main_arg1) = tab w) (h2 : m ((c : Thread nD τ).loc main_arg2) = tab x) :
    (dats m 0 c).arrAt 2 cfg0.N = tab (out w x) := by
  refine (dats m 0 c).arrAt_eq_of_covers 2 _ (by decide +kernel) fun t hf y => ?_
  rw [after0_2, blk0 m c t x ((V_main_arg2 m c).trans h2), blk1 m c t _ (v1 m c w h1), out2]
  refine spot (out w x) t.val _ _ _ _ ?_ ?_
  · show win0_2.index t (0 : Fin 2) * 1024 + 1 * (y 0).val = _
    rw [(idx2 t).1]
  · show win0_2.index t (1 : Fin 2) * 256 + 1 * (y 1).val = _
    rw [(idx2 t).2]

end Arrays

/-- From any arguments, every run of the kernel and every run of the reference end with the same gradient. -/
theorem equal : Cert.algebraic_Kernel24Ideal_Reference24Ideal (hKernel24Ideal := Cert.Kernel24Ideal.Gen.facts)
    (hReference24Ideal := Cert.Reference24Ideal.Gen.facts) := by
  intro m g m' g' _ hargs
  refine ⟨fun c => tab (out (ent (m ((c : Thread nD τ).loc main_arg1))) (ent (m ((c : Thread nD τ).loc main_arg2)))),
    (θ_run _ _ _).mono (fun r h c => ?_) (Cert.Kernel24Ideal.Value.run_blocks m g),
    (θ_run _ _ _).mono (fun r h c => ?_) (Cert.Reference24Ideal.Value.run m' g')⟩
  · have e1 := eq_tab (m ((c : Thread nD τ).loc main_arg1))
    have e2 := eq_tab (m ((c : Thread nD τ).loc main_arg2))
    obtain ⟨p0, rest⟩ := h c
    exact ⟨p0.trans (final2 m c _ _ e1 e2), rest⟩
  · have e1 := eq_tab (m ((c : Thread nD τ).loc main_arg1))
    have e2 := eq_tab (m ((c : Thread nD τ).loc main_arg2))
    obtain ⟨a0, a1, a2⟩ := hargs c
    obtain ⟨p0, rest⟩ := h c
    refine ⟨p0.trans ?_, rest⟩
    refine (Cert.Reference24Ideal.Read.val_main_v3_eq ..).trans ?_
    refine Eq.trans ?_ (ref ..)
    rw [a1, a2, ← e1, ← e2]

end Cert.KvUpBwd

end
-- ==== Proof.KvUpDw.lean ====
/- The keys' and values' projection up, the weights' gradient: the kernel's result is the cotangent, transposed, times the normed
   input, and so is the reference's. -/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Tn
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.KvUpDw

open Idealize.ShloMosaic Idealize.ShloMosaic.TcCoe Idealize.ShloMosaic.Tactic Idealize.SL.Sem
open Cert.Ffn (tab tab1 ent ent1 eq_tab eq_tab1 tab_apply tab1_apply narrow widen mul_tab)
open Cert.Tn
open Cert.Kernel25Ideal Cert.Kernel25Ideal.Gen Cert.Kernel25Ideal.Value

private theorem hz : (![0, 0] : Fin 2 → Nat) = fun _ => 0 := funext fun a => by fin_cases a <;> rfl

/-! ## One block -/

/-- The sum starts at zero. -/
theorem pay1 : k0_pay1 (F := Ideal) = tab fun _ _ => 0 := by
  unfold k0_pay1
  simp only [shapeCast_self]
  funext i
  exact Ideal.ofBits_zero_f32

/-- A block pair's transposed product, added to the sum. -/
theorem pay2 (acc : Fin 1024 → Fin 256 → EReal) (a : Fin 2048 → Fin 1024 → EReal) (b : Fin 2048 → Fin 256 → EReal) :
    k0_pay2 (F := Ideal) (tab acc) (tab a) (tab b) = tab fun f d => acc f d + ∑ k, a k f * b k d := by
  unfold k0_pay2
  simp only [shapeCast_self, narrow]
  have e : matmul (F := Ideal) (φ₁ := .bf16) (φ₂ := .bf16) dot_S2048x1024_S2048x256_S1024x256_0_0_1_1_n_n none (tab a) (tab b)
      (constant S1024x256 .f32 0x00000000#32) = tab fun f d => ∑ k, a k f * b k d := by
    funext i
    pointwise
    simp only [Ideal.ofBits_zero_f32, zero_add, tab_apply]
    rfl
  rw [e]
  rfl

section Points

variable (c : Dev nD) (i : grid0.Coords) (arg2 : Memref sig .tc .vmem S2048x1024 .bf16) (h2 : arg2.IsWhole) (arg3 : Memref sig .tc .vmem S2048x256 .bf16) (h3 : arg3.IsWhole)
  (arg4 : Memref sig .tc .vmem S1024x256 .f32) (h4 : arg4.IsWhole) (arg5 : Memref sig .tc .vmem S1024x256 .f32) (h5 : arg5.IsWhole)
  (x0 : Vec Ideal S2048x1024 .bf16) (x1 : Vec Ideal S2048x256 .bf16) (xs0 : Vec Ideal S1024x256 .f32)

/-- The sum after a first row tile. -/
theorem accA (hc0 : cond0_0 i) (hc1 : ¬cond0_1 i) : sout0_A_0 (F := Ideal) c i arg2 h2 arg3 h3 arg4 h4 arg5 h5 hc0 hc1 x0 x1 = k0_pay2 (k0_pay1 (F := Ideal)) x0 x1 := by
  unfold sout0_A_0
  rw [View.read_writes_eq_canon _ _ _ (scover0_A_0 c i arg2 h2 arg3 h3 arg4 h4 arg5 h5 hc0 hc1 x0 x1)]
  unfold kernelRun0_A
  dsimp only
  sl_unfold_words
  rw [View.canon_cons_unit_zero (S := S1024x256) hz]
  simp only [View.readAt_eq_ld, h2.read_unread, h3.read_unread, h5.read_unread, View.ld_unit_zero (S := S2048x1024) hz, View.ld_unit_zero (S := S2048x256) hz,
    View.ld_unit_zero (S := S1024x256) hz, View.readCov_unit_zero (S := S1024x256) _ hz]

/-- The sum after a middle row tile. -/
theorem accB (hc0 : ¬cond0_0 i) (hc1 : ¬cond0_1 i) : sout0_B_0 (F := Ideal) c i arg2 h2 arg3 h3 arg4 h4 arg5 h5 hc0 hc1 x0 x1 xs0 = k0_pay2 xs0 x0 x1 := by
  unfold sout0_B_0
  rw [View.read_writes_eq_canon _ _ _ (scover0_B_0 c i arg2 h2 arg3 h3 arg4 h4 arg5 h5 hc0 hc1 x0 x1 xs0)]
  unfold kernelRun0_B
  dsimp only
  sl_unfold_words
  rw [View.canon_unit_zero (S := S1024x256) hz]
  simp only [View.readAt_eq_ld, h2.read_unread, h3.read_unread, h5.read_unread, View.ld_unit_zero (S := S2048x1024) hz, View.ld_unit_zero (S := S2048x256) hz,
    View.ld_unit_zero (S := S1024x256) hz, View.readCov_unit_zero (S := S1024x256) _ hz]

/-- The sum after a last row tile. -/
theorem accC (hc0 : ¬cond0_0 i) (hc1 : cond0_1 i) : sout0_C_0 (F := Ideal) c i arg2 h2 arg3 h3 arg4 h4 arg5 h5 hc0 hc1 x0 x1 xs0 = k0_pay2 xs0 x0 x1 := by
  unfold sout0_C_0
  rw [View.read_writes_eq_canon _ _ _ (scover0_C_0 c i arg2 h2 arg3 h3 arg4 h4 arg5 h5 hc0 hc1 x0 x1 xs0)]
  unfold kernelRun0_C
  dsimp only
  sl_unfold_words
  rw [View.canon_unit_zero (S := S1024x256) hz]
  simp only [View.readAt_eq_ld, h2.read_unread, h3.read_unread, h5.read_unread, View.ld_unit_zero (S := S2048x1024) hz, View.ld_unit_zero (S := S2048x256) hz,
    View.ld_unit_zero (S := S1024x256) hz, View.readCov_unit_zero (S := S1024x256) _ hz]

/-- The output after a last row tile. -/
theorem outC (hc0 : ¬cond0_0 i) (hc1 : cond0_1 i) : out0_C_2 (F := Ideal) c i arg2 h2 arg3 h3 arg4 h4 arg5 h5 hc0 hc1 x0 x1 xs0 = k0_pay2 xs0 x0 x1 := by
  unfold out0_C_2
  rw [View.read_writes_eq_canon _ _ _ (cover0_C_2 c i arg2 h2 arg3 h3 arg4 h4 arg5 h5 hc0 hc1 x0 x1 xs0)]
  unfold kernelRun0_C
  dsimp only
  sl_unfold_words
  rw [View.canon_unit_zero (S := S1024x256) hz]
  simp only [View.readAt_eq_ld, h2.read_unread, h3.read_unread, h5.read_unread, View.ld_unit_zero (S := S2048x1024) hz, View.ld_unit_zero (S := S2048x256) hz,
    View.ld_unit_zero (S := S1024x256) hz, View.readCov_unit_zero (S := S1024x256) _ hz]

end Points

/-! ## The reference -/

namespace Ref

open Cert.Reference25Ideal.Read

variable (v : Fin 16384 → Fin 256 → EReal) (ct : Fin 16384 → Fin 2048 → EReal)

/-- The weights' gradient. -/
theorem v5 : val_main_v5 (F := Ideal) (tab v) (tab ct) = tab (tn ct v) := by
  funext i
  rw [val_main_v5_apply, val_main_v4_apply, val_main_v3_apply]
  rfl

end Ref

/-! ## The arrays -/

theorem idx0 : ∀ t : Fin grid0.N, win0_0.index t (0 : Fin 2) = t.val % 8 ∧ win0_0.index t (1 : Fin 2) = t.val / 8 := by decide +kernel
theorem idx1 : ∀ t : Fin grid0.N, win0_1.index t (0 : Fin 2) = t.val % 8 ∧ win0_1.index t (1 : Fin 2) = 0 := by decide +kernel
theorem idx2 : ∀ t : Fin grid0.N, win0_2.index t (0 : Fin 2) = t.val / 8 ∧ win0_2.index t (1 : Fin 2) = 0 := by decide +kernel

section Arrays

variable (m : (ℓ : Loc nD τ sig) → Buf (Elt Ideal) ℓ) (c : Dev nD) (t : Fin cfg0.N)
variable (A : Fin 16384 → Fin 2048 → EReal) (B : Fin 16384 → Fin 256 → EReal)

/-- The transposed array's block at a point. -/
theorem blk0 (h : V m c main_arg2 = tab A) : iblk m c 0 t = tab fun k f => A (row (t.val % 8) k) (col 2048 (t.val / 8) f) := by
  funext i
  unfold iblk
  rw [View.read_apply]
  show V m c main_arg2 _ = _
  rw [h]
  have ht : t.val < 16 := lt_of_lt_of_eq t.isLt N_0
  have h0 : (i 0).val < 2048 := (i 0).isLt
  have h1 : (i 1).val < 1024 := (i 1).isLt
  refine congrArg₂ A (Fin.ext ?_) (Fin.ext ?_)
  · show win0_0.index t (0 : Fin 2) * 2048 + 1 * (i 0).val = (2048 * (t.val % 8) + (i 0).val) % 16384
    rw [(idx0 t).1]; omega
  · show win0_0.index t (1 : Fin 2) * 1024 + 1 * (i 1).val = (1024 * (t.val / 8) + (i 1).val) % 2048
    rw [(idx0 t).2]; omega

/-- The other array's block at a point. -/
theorem blk1 (h : V m c main_arg0 = tab B) : iblk m c 1 t = tab fun k d => B (row (t.val % 8) k) d := by
  funext i
  unfold iblk
  rw [View.read_apply]
  show V m c main_arg0 _ = _
  rw [h]
  have ht : t.val < 16 := lt_of_lt_of_eq t.isLt N_0
  have h0 : (i 0).val < 2048 := (i 0).isLt
  refine congrArg₂ B (Fin.ext ?_) (Fin.ext ?_)
  · show win0_1.index t (0 : Fin 2) * 2048 + 1 * (i 0).val = (2048 * (t.val % 8) + (i 0).val) % 16384
    rw [(idx1 t).1]; omega
  · show win0_1.index t (1 : Fin 2) * 256 + 1 * (i 1).val = (i 1).val
    rw [(idx1 t).2]; omega

variable (hA : V m c main_arg2 = tab A) (hB : V m c main_arg0 = tab B)
include hA hB

/-- The sum after a point, from the sum before it. -/
theorem step (n : ℕ) (hn : n = t.val % 8) :
    k0_pay2 (F := Ideal) (tab (part A B (t.val / 8) n)) (iblk m c 0 t) (iblk m c 1 t) = tab (part A B (t.val / 8) (n + 1)) := by
  have e := pay2 (part A B (t.val / 8) n) (fun k f => A (row (t.val % 8) k) (col 2048 (t.val / 8) f)) (fun k d => B (row (t.val % 8) k) d)
  rw [blk0 m c t A hA, blk1 m c t B hB, ← part_succ, hn]
  rw [hn] at e
  exact e

omit hA hB in
/-- The sum after a first row tile, of the point's blocks. -/
theorem ptA (h0 : t.val % 8 = 0) (h1 : ¬t.val % 8 = 7) : (outsAt0 m c t.val t.isLt).2 = k0_pay2 (k0_pay1 (F := Ideal)) (iblk m c 0 t) (iblk m c 1 t) := by
  rw [outsAt0_A m c t h0 h1]
  dsimp only
  rw [accA]

omit hA hB in
/-- The sum after a middle row tile, of the point's blocks. -/
theorem ptB (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  rw [accB]

omit hA hB in
/-- The sum after a last row tile, of the point's blocks. -/
theorem ptC (h0 : ¬t.val % 8 = 0) (h1 : t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_C m c t h0 h1]
  dsimp only
  rw [accC]

omit hA hB in
/-- The output after a last row tile, of the point's blocks. -/
theorem ptOut (h0 : ¬t.val % 8 = 0) (h1 : t.val % 8 = 7) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t h0 h1]
  dsimp only
  rw [outC]

/-- The sum after a first row tile. -/
theorem first (h0 : t.val % 8 = 0) : (outsAt0 m c t.val t.isLt).2 = tab (part A B (t.val / 8) (t.val % 8 + 1)) := by
  have h1 : ¬t.val % 8 = 7 := by omega
  rw [ptA m c t h0 h1, pay1, ← part_zero A B (t.val / 8)]
  refine (step m c t A B hA hB 0 h0.symm).trans ?_
  rw [h0]

/-- The sum after a later row tile, the one before it given. -/
theorem next (h0 : ¬t.val % 8 = 0) (ih : (outsAt0 m c (t.val - 1) (Nat.lt_of_le_of_lt (Nat.sub_le _ _) t.isLt)).2
    = tab (part A B ((t.val - 1) / 8) ((t.val - 1) % 8 + 1))) : (outsAt0 m c t.val t.isLt).2 = tab (part A B (t.val / 8) (t.val % 8 + 1)) := by
  have hd : (t.val - 1) / 8 = t.val / 8 := by omega
  have hm : (t.val - 1) % 8 + 1 = t.val % 8 := by omega
  rw [hd, hm] at ih
  by_cases h1 : t.val % 8 = 7
  · rw [ptC m c t h0 h1, ih]
    exact step m c t A B hA hB _ rfl
  · rw [ptB m c t h0 h1, ih]
    exact step m c t A B hA hB _ rfl

/-- The sum after every point. -/
theorem sums : ∀ (n : ℕ) (hn : n < cfg0.N), (outsAt0 m c n hn).2 = tab (part A B (n / 8) (n % 8 + 1))
  | 0, hn => first m c ⟨0, hn⟩ A B hA hB (Nat.zero_mod _)
  | n + 1, hn => by
    by_cases h0 : (n + 1) % 8 = 0
    · exact first m c ⟨n + 1, hn⟩ A B hA hB h0
    · exact next m c ⟨n + 1, hn⟩ A B hA hB h0 (sums n (by omega))

/-- The output after a last row tile. -/
theorem last (h1 : t.val % 8 = 7) : (outsAt0 m c t.val t.isLt).1 = tab fun f d => tn A B (col 2048 (t.val / 8) f) d := by
  have h0 : ¬t.val % 8 = 0 := by omega
  have hd : (t.val - 1) / 8 = t.val / 8 := by omega
  have hm : (t.val - 1) % 8 + 1 = 7 := by omega
  have ih := sums m c A B hA hB (t.val - 1) (Nat.lt_of_le_of_lt (Nat.sub_le _ _) t.isLt)
  rw [hd, hm] at ih
  rw [ptOut m c t h0 h1, ih, step m c t A B hA hB 7 h1.symm]
  exact congrArg tab (funext fun f => funext fun d => part_all A B _ f d)

/-- The weights' gradient. -/
theorem final2 : (dats m 0 c).arrAt 2 cfg0.N = tab (tn A B) := by
  refine (dats m 0 c).arrAt_eq_of_covers 2 _ (by decide +kernel) fun t hf y => ?_
  rw [after0_2, last m c t A B hA hB ((flush0_2 t).mp hf)]
  generalize tn A B = M
  refine spot M (t.val / 8) _ _ _ _ ?_ ?_
  · show win0_2.index t (0 : Fin 2) * 1024 + 1 * (y 0).val = _
    rw [(idx2 t).1]
  · show win0_2.index t (1 : Fin 2) * 256 + 1 * (y 1).val = _
    rw [(idx2 t).2]

end Arrays

/-- From any arguments, every run of the kernel and every run of the reference end with the same gradient. -/
theorem equal : Cert.algebraic_Kernel25Ideal_Reference25Ideal (hKernel25Ideal := Cert.Kernel25Ideal.Gen.facts)
    (hReference25Ideal := Cert.Reference25Ideal.Gen.facts) := by
  intro m g m' g' _ hargs
  refine ⟨fun c => tab (tn (ent (m ((c : Thread nD τ).loc main_arg2))) (ent (m ((c : Thread nD τ).loc main_arg0)))),
    (θ_run _ _ _).mono (fun r h c => ?_) (Cert.Kernel25Ideal.Value.run_blocks m g),
    (θ_run _ _ _).mono (fun r h c => ?_) (Cert.Reference25Ideal.Value.run m' g')⟩
  · have e0 := eq_tab (m ((c : Thread nD τ).loc main_arg2))
    have e2 := eq_tab (m ((c : Thread nD τ).loc main_arg0))
    obtain ⟨p0, rest⟩ := h c
    exact ⟨p0.trans (final2 m c _ _ ((V_main_arg2 m c).trans e0) ((V_main_arg0 m c).trans e2)), rest⟩
  · have e0 := eq_tab (m ((c : Thread nD τ).loc main_arg2))
    have e2 := eq_tab (m ((c : Thread nD τ).loc main_arg0))
    obtain ⟨a0, a1, a2⟩ := hargs c
    obtain ⟨p0, rest⟩ := h c
    refine ⟨p0.trans ?_, rest⟩
    refine (Cert.Reference25Ideal.Read.val_main_v5_eq ..).trans ?_
    refine Eq.trans ?_ (Ref.v5 ..)
    rw [a0, a2, ← e0, ← e2]

end Cert.KvUpDw

end
-- ==== Proof.AttnOutDw.lean ====
/- The attention's half of the even layers' output projection, the weights' gradient: the kernel's result is the input, transposed,
   times the cotangent, and so is the reference's. -/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Tn
public import Idealize.ShloMosaic.Lib.Claim
public import Idealize.ShloMosaic.Lib.Pointwise
public import Idealize.ShloMosaic.Lib.Pipeline.Value
public import Idealize.ShloMosaic.Lib.Pipeline.ValueKit.Geometry

@[expose] public section

set_option maxRecDepth 16384

noncomputable section

open scoped BigOperators

namespace Cert.AttnOutDw

open Idealize.ShloMosaic Idealize.ShloMosaic.TcCoe Idealize.ShloMosaic.Tactic Idealize.SL.Sem
open Cert.Ffn (tab tab1 ent ent1 eq_tab eq_tab1 tab_apply tab1_apply narrow widen mul_tab)
open Cert.Tn
open Cert.Kernel26Ideal Cert.Kernel26Ideal.Gen Cert.Kernel26Ideal.Value

private theorem hz : (![0, 0] : Fin 2 → Nat) = fun _ => 0 := funext fun a => by fin_cases a <;> rfl

/-! ## One block -/

/-- The sum starts at zero. -/
theorem pay1 : k0_pay1 (F := Ideal) = tab fun _ _ => 0 := by
  unfold k0_pay1
  simp only [shapeCast_self]
  funext i
  exact Ideal.ofBits_zero_f32

/-- A block pair's transposed product, added to the sum. -/
theorem pay2 (acc : Fin 1024 → Fin 1024 → EReal) (a : Fin 2048 → Fin 1024 → EReal) (b : Fin 2048 → Fin 1024 → EReal) :
    k0_pay2 (F := Ideal) (tab acc) (tab a) (tab b) = tab fun f d => acc f d + ∑ k, a k f * b k d := by
  unfold k0_pay2
  simp only [shapeCast_self, narrow]
  have e : matmul (F := Ideal) (φ₁ := .bf16) (φ₂ := .bf16) dot_S2048x1024_S2048x1024_S1024x1024_0_0_1_1_n_n none (tab a) (tab b)
      (constant S1024x1024 .f32 0x00000000#32) = tab fun f d => ∑ k, a k f * b k d := by
    funext i
    pointwise
    simp only [Ideal.ofBits_zero_f32, zero_add, tab_apply]
    rfl
  rw [e]
  rfl

section Points

variable (c : Dev nD) (i : grid0.Coords) (arg2 : Memref sig .tc .vmem S2048x1024 .bf16) (h2 : arg2.IsWhole) (arg3 : Memref sig .tc .vmem S2048x1024 .f32) (h3 : arg3.IsWhole)
  (arg4 : Memref sig .tc .vmem S1024x1024 .f32) (h4 : arg4.IsWhole) (arg5 : Memref sig .tc .vmem S1024x1024 .f32) (h5 : arg5.IsWhole)
  (x0 : Vec Ideal S2048x1024 .bf16) (x1 : Vec Ideal S2048x1024 .f32) (xs0 : Vec Ideal S1024x1024 .f32)

/-- The sum after a first row tile. -/
theorem accA (hc0 : cond0_0 i) (hc1 : ¬cond0_1 i) : sout0_A_0 (F := Ideal) c i arg2 h2 arg3 h3 arg4 h4 arg5 h5 hc0 hc1 x0 x1 = k0_pay2 (k0_pay1 (F := Ideal)) x0 x1 := by
  unfold sout0_A_0
  rw [View.read_writes_eq_canon _ _ _ (scover0_A_0 c i arg2 h2 arg3 h3 arg4 h4 arg5 h5 hc0 hc1 x0 x1)]
  unfold kernelRun0_A
  dsimp only
  sl_unfold_words
  rw [View.canon_cons_unit_zero (S := S1024x1024) hz]
  simp only [View.readAt_eq_ld, h2.read_unread, h3.read_unread, h5.read_unread, View.ld_unit_zero (S := S2048x1024) hz, View.ld_unit_zero (S := S2048x1024) hz,
    View.ld_unit_zero (S := S1024x1024) hz, View.readCov_unit_zero (S := S1024x1024) _ hz]

/-- The sum after a middle row tile. -/
theorem accB (hc0 : ¬cond0_0 i) (hc1 : ¬cond0_1 i) : sout0_B_0 (F := Ideal) c i arg2 h2 arg3 h3 arg4 h4 arg5 h5 hc0 hc1 x0 x1 xs0 = k0_pay2 xs0 x0 x1 := by
  unfold sout0_B_0
  rw [View.read_writes_eq_canon _ _ _ (scover0_B_0 c i arg2 h2 arg3 h3 arg4 h4 arg5 h5 hc0 hc1 x0 x1 xs0)]
  unfold kernelRun0_B
  dsimp only
  sl_unfold_words
  rw [View.canon_unit_zero (S := S1024x1024) hz]
  simp only [View.readAt_eq_ld, h2.read_unread, h3.read_unread, h5.read_unread, View.ld_unit_zero (S := S2048x1024) hz, View.ld_unit_zero (S := S2048x1024) hz,
    View.ld_unit_zero (S := S1024x1024) hz, View.readCov_unit_zero (S := S1024x1024) _ hz]

/-- The sum after a last row tile. -/
theorem accC (hc0 : ¬cond0_0 i) (hc1 : cond0_1 i) : sout0_C_0 (F := Ideal) c i arg2 h2 arg3 h3 arg4 h4 arg5 h5 hc0 hc1 x0 x1 xs0 = k0_pay2 xs0 x0 x1 := by
  unfold sout0_C_0
  rw [View.read_writes_eq_canon _ _ _ (scover0_C_0 c i arg2 h2 arg3 h3 arg4 h4 arg5 h5 hc0 hc1 x0 x1 xs0)]
  unfold kernelRun0_C
  dsimp only
  sl_unfold_words
  rw [View.canon_unit_zero (S := S1024x1024) hz]
  simp only [View.readAt_eq_ld, h2.read_unread, h3.read_unread, h5.read_unread, View.ld_unit_zero (S := S2048x1024) hz, View.ld_unit_zero (S := S2048x1024) hz,
    View.ld_unit_zero (S := S1024x1024) hz, View.readCov_unit_zero (S := S1024x1024) _ hz]

/-- The output after a last row tile. -/
theorem outC (hc0 : ¬cond0_0 i) (hc1 : cond0_1 i) : out0_C_2 (F := Ideal) c i arg2 h2 arg3 h3 arg4 h4 arg5 h5 hc0 hc1 x0 x1 xs0 = k0_pay2 xs0 x0 x1 := by
  unfold out0_C_2
  rw [View.read_writes_eq_canon _ _ _ (cover0_C_2 c i arg2 h2 arg3 h3 arg4 h4 arg5 h5 hc0 hc1 x0 x1 xs0)]
  unfold kernelRun0_C
  dsimp only
  sl_unfold_words
  rw [View.canon_unit_zero (S := S1024x1024) hz]
  simp only [View.readAt_eq_ld, h2.read_unread, h3.read_unread, h5.read_unread, View.ld_unit_zero (S := S2048x1024) hz, View.ld_unit_zero (S := S2048x1024) hz,
    View.ld_unit_zero (S := S1024x1024) hz, View.readCov_unit_zero (S := S1024x1024) _ hz]

end Points

/-! ## The reference -/

namespace Ref

open Cert.Reference26Ideal.Read

variable (v : Fin 16384 → Fin 1024 → EReal) (ct : Fin 16384 → Fin 1024 → EReal)

/-- The weights' gradient. -/
theorem v3 : val_main_v3 (F := Ideal) (tab v) (tab ct) = tab (tn v ct) := by
  have e : val_main_v3 (F := Ideal) (tab v) (tab ct) = tab fun f d => ∑ s, ct s d * v s f := by
    funext i
    rw [val_main_v3_apply, val_main_v2_apply]
    rfl
  rw [e]
  exact congrArg tab (funext fun f => funext fun d => Finset.sum_congr rfl fun s _ => mul_comm (ct s d) (v s f))

end Ref

/-! ## The arrays -/

theorem idx0 : ∀ t : Fin grid0.N, win0_0.index t (0 : Fin 2) = t.val % 8 ∧ win0_0.index t (1 : Fin 2) = t.val / 8 := by decide +kernel
theorem idx1 : ∀ t : Fin grid0.N, win0_1.index t (0 : Fin 2) = t.val % 8 ∧ win0_1.index t (1 : Fin 2) = 0 := by decide +kernel
theorem idx2 : ∀ t : Fin grid0.N, win0_2.index t (0 : Fin 2) = t.val / 8 ∧ win0_2.index t (1 : Fin 2) = 0 := by decide +kernel

section Arrays

variable (m : (ℓ : Loc nD τ sig) → Buf (Elt Ideal) ℓ) (c : Dev nD) (t : Fin cfg0.N)
variable (A : Fin 16384 → Fin 1024 → EReal) (B : Fin 16384 → Fin 1024 → EReal)

/-- The transposed array's block at a point. -/
theorem blk0 (h : V m c main_arg0 = tab A) : iblk m c 0 t = tab fun k f => A (row (t.val % 8) k) (col 1024 (t.val / 8) f) := by
  funext i
  unfold iblk
  rw [View.read_apply]
  show V m c main_arg0 _ = _
  rw [h]
  have ht : t.val < 8 := lt_of_lt_of_eq t.isLt N_0
  have h0 : (i 0).val < 2048 := (i 0).isLt
  have h1 : (i 1).val < 1024 := (i 1).isLt
  refine congrArg₂ A (Fin.ext ?_) (Fin.ext ?_)
  · show win0_0.index t (0 : Fin 2) * 2048 + 1 * (i 0).val = (2048 * (t.val % 8) + (i 0).val) % 16384
    rw [(idx0 t).1]; omega
  · show win0_0.index t (1 : Fin 2) * 1024 + 1 * (i 1).val = (1024 * (t.val / 8) + (i 1).val) % 1024
    rw [(idx0 t).2]; omega

/-- The other array's block at a point. -/
theorem blk1 (h : V m c main_arg2 = tab B) : iblk m c 1 t = tab fun k d => B (row (t.val % 8) k) d := by
  funext i
  unfold iblk
  rw [View.read_apply]
  show V m c main_arg2 _ = _
  rw [h]
  have ht : t.val < 8 := lt_of_lt_of_eq t.isLt N_0
  have h0 : (i 0).val < 2048 := (i 0).isLt
  refine congrArg₂ B (Fin.ext ?_) (Fin.ext ?_)
  · show win0_1.index t (0 : Fin 2) * 2048 + 1 * (i 0).val = (2048 * (t.val % 8) + (i 0).val) % 16384
    rw [(idx1 t).1]; omega
  · show win0_1.index t (1 : Fin 2) * 1024 + 1 * (i 1).val = (i 1).val
    rw [(idx1 t).2]; omega

variable (hA : V m c main_arg0 = tab A) (hB : V m c main_arg2 = tab B)
include hA hB

/-- The sum after a point, from the sum before it. -/
theorem step (n : ℕ) (hn : n = t.val % 8) :
    k0_pay2 (F := Ideal) (tab (part A B (t.val / 8) n)) (iblk m c 0 t) (iblk m c 1 t) = tab (part A B (t.val / 8) (n + 1)) := by
  have e := pay2 (part A B (t.val / 8) n) (fun k f => A (row (t.val % 8) k) (col 1024 (t.val / 8) f)) (fun k d => B (row (t.val % 8) k) d)
  rw [blk0 m c t A hA, blk1 m c t B hB, ← part_succ, hn]
  rw [hn] at e
  exact e

omit hA hB in
/-- The sum after a first row tile, of the point's blocks. -/
theorem ptA (h0 : t.val % 8 = 0) (h1 : ¬t.val % 8 = 7) : (outsAt0 m c t.val t.isLt).2 = k0_pay2 (k0_pay1 (F := Ideal)) (iblk m c 0 t) (iblk m c 1 t) := by
  rw [outsAt0_A m c t h0 h1]
  dsimp only
  rw [accA]

omit hA hB in
/-- The sum after a middle row tile, of the point's blocks. -/
theorem ptB (h0 : ¬t.val % 8 = 0) (h1 : ¬t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  rw [accB]

omit hA hB in
/-- The sum after a last row tile, of the point's blocks. -/
theorem ptC (h0 : ¬t.val % 8 = 0) (h1 : t.val % 8 = 7) : (outsAt0 m c t.val t.isLt).2
    = k0_pay2 (outsAt0 m c (t.val - 1) (Nat.lt_of_le_of_lt (Nat.sub_le _ _) t.isLt)).2 (iblk m c 0 t) (iblk m c 1 t) := by
  rw [outsAt0_C m c t h0 h1]
  dsimp only
  rw [accC]

omit hA hB in
/-- The output after a last row tile, of the point's blocks. -/
theorem ptOut (h0 : ¬t.val % 8 = 0) (h1 : t.val % 8 = 7) : (outsAt0 m c t.val t.isLt).1
    = k0_pay2 (outsAt0 m c (t.val - 1) (Nat.lt_of_le_of_lt (Nat.sub_le _ _) t.isLt)).2 (iblk m c 0 t) (iblk m c 1 t) := by
  rw [outsAt0_C m c t h0 h1]
  dsimp only
  rw [outC]

/-- The sum after a first row tile. -/
theorem first (h0 : t.val % 8 = 0) : (outsAt0 m c t.val t.isLt).2 = tab (part A B (t.val / 8) (t.val % 8 + 1)) := by
  have h1 : ¬t.val % 8 = 7 := by omega
  rw [ptA m c t h0 h1, pay1, ← part_zero A B (t.val / 8)]
  refine (step m c t A B hA hB 0 h0.symm).trans ?_
  rw [h0]

/-- The sum after a later row tile, the one before it given. -/
theorem next (h0 : ¬t.val % 8 = 0) (ih : (outsAt0 m c (t.val - 1) (Nat.lt_of_le_of_lt (Nat.sub_le _ _) t.isLt)).2
    = tab (part A B ((t.val - 1) / 8) ((t.val - 1) % 8 + 1))) : (outsAt0 m c t.val t.isLt).2 = tab (part A B (t.val / 8) (t.val % 8 + 1)) := by
  have hd : (t.val - 1) / 8 = t.val / 8 := by omega
  have hm : (t.val - 1) % 8 + 1 = t.val % 8 := by omega
  rw [hd, hm] at ih
  by_cases h1 : t.val % 8 = 7
  · rw [ptC m c t h0 h1, ih]
    exact step m c t A B hA hB _ rfl
  · rw [ptB m c t h0 h1, ih]
    exact step m c t A B hA hB _ rfl

/-- The sum after every point. -/
theorem sums : ∀ (n : ℕ) (hn : n < cfg0.N), (outsAt0 m c n hn).2 = tab (part A B (n / 8) (n % 8 + 1))
  | 0, hn => first m c ⟨0, hn⟩ A B hA hB (Nat.zero_mod _)
  | n + 1, hn => by
    by_cases h0 : (n + 1) % 8 = 0
    · exact first m c ⟨n + 1, hn⟩ A B hA hB h0
    · exact next m c ⟨n + 1, hn⟩ A B hA hB h0 (sums n (by omega))

/-- The output after a last row tile. -/
theorem last (h1 : t.val % 8 = 7) : (outsAt0 m c t.val t.isLt).1 = tab fun f d => tn A B (col 1024 (t.val / 8) f) d := by
  have h0 : ¬t.val % 8 = 0 := by omega
  have hd : (t.val - 1) / 8 = t.val / 8 := by omega
  have hm : (t.val - 1) % 8 + 1 = 7 := by omega
  have ih := sums m c A B hA hB (t.val - 1) (Nat.lt_of_le_of_lt (Nat.sub_le _ _) t.isLt)
  rw [hd, hm] at ih
  rw [ptOut m c t h0 h1, ih, step m c t A B hA hB 7 h1.symm]
  exact congrArg tab (funext fun f => funext fun d => part_all A B _ f d)

/-- The weights' gradient. -/
theorem final2 : (dats m 0 c).arrAt 2 cfg0.N = tab (tn A B) := by
  refine (dats m 0 c).arrAt_eq_of_covers 2 _ (by decide +kernel) fun t hf y => ?_
  rw [after0_2, last m c t A B hA hB ((flush0_2 t).mp hf)]
  generalize tn A B = M
  refine spot M (t.val / 8) _ _ _ _ ?_ ?_
  · show win0_2.index t (0 : Fin 2) * 1024 + 1 * (y 0).val = _
    rw [(idx2 t).1]
  · show win0_2.index t (1 : Fin 2) * 1024 + 1 * (y 1).val = _
    rw [(idx2 t).2]

end Arrays

/-- From any arguments, every run of the kernel and every run of the reference end with the same gradient. -/
theorem equal : Cert.algebraic_Kernel26Ideal_Reference26Ideal (hKernel26Ideal := Cert.Kernel26Ideal.Gen.facts)
    (hReference26Ideal := Cert.Reference26Ideal.Gen.facts) := by
  intro m g m' g' _ hargs
  refine ⟨fun c => tab (tn (ent (m ((c : Thread nD τ).loc main_arg0))) (ent (m ((c : Thread nD τ).loc main_arg2)))),
    (θ_run _ _ _).mono (fun r h c => ?_) (Cert.Kernel26Ideal.Value.run_blocks m g),
    (θ_run _ _ _).mono (fun r h c => ?_) (Cert.Reference26Ideal.Value.run m' g')⟩
  · have e0 := eq_tab (m ((c : Thread nD τ).loc main_arg0))
    have e2 := eq_tab (m ((c : Thread nD τ).loc main_arg2))
    obtain ⟨p0, rest⟩ := h c
    exact ⟨p0.trans (final2 m c _ _ ((V_main_arg0 m c).trans e0) ((V_main_arg2 m c).trans e2)), rest⟩
  · have e0 := eq_tab (m ((c : Thread nD τ).loc main_arg0))
    have e2 := eq_tab (m ((c : Thread nD τ).loc main_arg2))
    obtain ⟨a0, a1, a2⟩ := hargs c
    obtain ⟨p0, rest⟩ := h c
    refine ⟨p0.trans ?_, rest⟩
    refine (Cert.Reference26Ideal.Read.val_main_v3_eq ..).trans ?_
    refine Eq.trans ?_ (Ref.v3 ..)
    rw [a0, a2, ← e0, ← e2]

end Cert.AttnOutDw

end
-- ==== Proof.lean ====
module

public import proofs.«01_k».proof.Defs
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Pre_finite
public import proofs.«01_k».proof.Proof.Bwd.Result
public import proofs.«01_k».proof.Proof.Dw.Result
public import proofs.«01_k».proof.Proof.Conv.Result
public import proofs.«01_k».proof.Proof.Fwd.Result
public import proofs.«01_k».proof.Proof.InBwd.Result
public import proofs.«01_k».proof.Proof.InDw
public import proofs.«01_k».proof.Proof.OutBwd
public import proofs.«01_k».proof.Proof.OutDw
public import proofs.«01_k».proof.Proof.InFwd
public import proofs.«01_k».proof.Proof.Conv.Fwd
public import proofs.«01_k».proof.Proof.OutFwd
public import proofs.«01_k».proof.Proof.Adam
public import proofs.«01_k».proof.Proof.Loss.Result
public import proofs.«01_k».proof.Proof.SgFwd
public import proofs.«01_k».proof.Proof.SgBwd
public import proofs.«01_k».proof.Proof.SgDw
public import proofs.«01_k».proof.Proof.EvenFwd
public import proofs.«01_k».proof.Proof.EvenBwd.Result
public import proofs.«01_k».proof.Proof.EvenDw
public import proofs.«01_k».proof.Proof.QUp
public import proofs.«01_k».proof.Proof.QUpBwd
public import proofs.«01_k».proof.Proof.QUpDw
public import proofs.«01_k».proof.Proof.KvUp
public import proofs.«01_k».proof.Proof.KvUpBwd
public import proofs.«01_k».proof.Proof.KvUpDw
public import proofs.«01_k».proof.Proof.AttnOutDw

@[expose] public section

noncomputable section

namespace Cert.Proof

open Idealize.ShloMosaic Idealize.SL.Sem

/-- The reference of the input-gradient kernel terminates, keeps its arguments, and has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2, sem_eq_zero_of_no_sems (by decide) r.2⟩) (Cert.ReferenceIdeal.Value.run m ρ)

/-- The reference of the weight-gradient kernel terminates, keeps its arguments, and has no semaphore. -/
theorem frame_reference2 : Cert.quiescent_Reference2Ideal (hReference2Ideal := Cert.Reference2Ideal.Gen.facts) := fun m ρ _ =>
  (θ_run Cert.Reference2Ideal.defs _ _).mono
    (fun r h => ⟨fun c => (h c).2.2.2, sem_eq_zero_of_no_sems (by decide) r.2⟩) (Cert.Reference2Ideal.Value.run m ρ)

/-- The reference of the convolution-gradient kernel terminates, keeps its arguments, and has no semaphore. -/
theorem frame_reference3 : Cert.quiescent_Reference3Ideal (hReference3Ideal := Cert.Reference3Ideal.Gen.facts) := fun m ρ _ =>
  (θ_run Cert.Reference3Ideal.defs _ _).mono
    (fun r h => ⟨fun c => (h c).2.2, sem_eq_zero_of_no_sems (by decide) r.2⟩) (Cert.Reference3Ideal.Value.run m ρ)

/-- The reference of the forward kernel terminates, keeps its arguments, and has no semaphore. -/
theorem frame_reference4 : Cert.quiescent_Reference4Ideal (hReference4Ideal := Cert.Reference4Ideal.Gen.facts) := fun m ρ _ =>
  (θ_run Cert.Reference4Ideal.defs _ _).mono
    (fun r h => ⟨fun c => (h c).2.2.2, sem_eq_zero_of_no_sems (by decide) r.2⟩) (Cert.Reference4Ideal.Value.run m ρ)

/-- The reference of the input-projection-gradient kernel terminates, keeps its arguments, and has no semaphore. -/
theorem frame_reference5 : Cert.quiescent_Reference5Ideal (hReference5Ideal := Cert.Reference5Ideal.Gen.facts) := fun m ρ _ =>
  (θ_run Cert.Reference5Ideal.defs _ _).mono
    (fun r h => ⟨fun c => (h c).2.2, sem_eq_zero_of_no_sems (by decide) r.2⟩) (Cert.Reference5Ideal.Value.run m ρ)

/-- The reference of the input-weight-gradient kernel terminates, keeps its arguments, and has no semaphore. -/
theorem frame_reference6 : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run m ρ)

/-- The reference of the output-projection-gradient kernel terminates, keeps its arguments, and has no semaphore. -/
theorem frame_reference7 : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩) (Cert.Reference7Ideal.Value.run m ρ)

/-- The reference of the output-weight-gradient kernel terminates, keeps its arguments, and has no semaphore. -/
theorem frame_reference8 : Cert.quiescent_Reference8Ideal (hReference8Ideal := Cert.Reference8Ideal.Gen.facts) := fun m ρ _ =>
  (θ_run Cert.Reference8Ideal.defs _ _).mono
    (fun r h => ⟨fun c => (h c).2, sem_eq_zero_of_no_sems (by decide) r.2⟩) (Cert.Reference8Ideal.Value.run m ρ)

/-- The reference of the input-projection kernel terminates, keeps its arguments, and has no semaphore. -/
theorem frame_reference9 : Cert.quiescent_Reference9Ideal (hReference9Ideal := Cert.Reference9Ideal.Gen.facts) := fun m ρ _ =>
  (θ_run Cert.Reference9Ideal.defs _ _).mono
    (fun r h => ⟨fun c => (h c).2.2, sem_eq_zero_of_no_sems (by decide) r.2⟩) (Cert.Reference9Ideal.Value.run m ρ)

/-- The reference of the convolution kernel terminates, keeps its arguments, and has no semaphore. -/
theorem frame_reference10 : Cert.quiescent_Reference10Ideal (hReference10Ideal := Cert.Reference10Ideal.Gen.facts) := fun m ρ _ =>
  (θ_run Cert.Reference10Ideal.defs _ _).mono
    (fun r h => ⟨fun c => (h c).2, sem_eq_zero_of_no_sems (by decide) r.2⟩) (Cert.Reference10Ideal.Value.run m ρ)

/-- The reference of the output-projection kernel terminates, keeps its arguments, and has no semaphore. -/
theorem frame_reference11 : Cert.quiescent_Reference11Ideal (hReference11Ideal := Cert.Reference11Ideal.Gen.facts) := fun m ρ _ =>
  (θ_run Cert.Reference11Ideal.defs _ _).mono
    (fun r h => ⟨fun c => (h c).2, sem_eq_zero_of_no_sems (by decide) r.2⟩) (Cert.Reference11Ideal.Value.run m ρ)

/-- The reference of the optimiser kernel terminates, keeps its arguments, and has no semaphore. -/
theorem frame_reference12 : Cert.quiescent_Reference12Ideal (hReference12Ideal := Cert.Reference12Ideal.Gen.facts) := fun m ρ _ =>
  (θ_run Cert.Reference12Ideal.defs _ _).mono
    (fun r h => ⟨fun c => (h c).2.2.2, sem_eq_zero_of_no_sems (by decide) r.2⟩) (Cert.Reference12Ideal.Value.run m ρ)

/-- The reference of the loss kernel terminates, keeps its arguments, and has no semaphore. -/
theorem frame_reference13 : Cert.quiescent_Reference13Ideal (hReference13Ideal := Cert.Reference13Ideal.Gen.facts) := fun m ρ _ =>
  (θ_run Cert.Reference13Ideal.defs _ _).mono
    (fun r h => ⟨fun c => (h c).2.2.2, sem_eq_zero_of_no_sems (by decide) r.2⟩) (Cert.Reference13Ideal.Value.run m ρ)

/-- The reference of the gate-output-projection kernel terminates, keeps its arguments, and has no semaphore. -/
theorem frame_reference14 : Cert.quiescent_Reference14Ideal (hReference14Ideal := Cert.Reference14Ideal.Gen.facts) := fun m ρ _ =>
  (θ_run Cert.Reference14Ideal.defs _ _).mono
    (fun r h => ⟨fun c => (h c).2, sem_eq_zero_of_no_sems (by decide) r.2⟩) (Cert.Reference14Ideal.Value.run m ρ)

/-- The reference of the gate-output-gradient kernel terminates, keeps its arguments, and has no semaphore. -/
theorem frame_reference15 : Cert.quiescent_Reference15Ideal (hReference15Ideal := Cert.Reference15Ideal.Gen.facts) := fun m ρ _ =>
  (θ_run Cert.Reference15Ideal.defs _ _).mono
    (fun r h => ⟨fun c => (h c).2, sem_eq_zero_of_no_sems (by decide) r.2⟩) (Cert.Reference15Ideal.Value.run m ρ)

/-- The reference of the gate-output-weight-gradient kernel terminates, keeps its arguments, and has no semaphore. -/
theorem frame_reference16 : Cert.quiescent_Reference16Ideal (hReference16Ideal := Cert.Reference16Ideal.Gen.facts) := fun m ρ _ =>
  (θ_run Cert.Reference16Ideal.defs _ _).mono
    (fun r h => ⟨fun c => (h c).2, sem_eq_zero_of_no_sems (by decide) r.2⟩) (Cert.Reference16Ideal.Value.run m ρ)

/-- The reference of the even-input-projection kernel terminates, keeps its arguments, and has no semaphore. -/
theorem frame_reference17 : Cert.quiescent_Reference17Ideal (hReference17Ideal := Cert.Reference17Ideal.Gen.facts) := fun m ρ _ =>
  (θ_run Cert.Reference17Ideal.defs _ _).mono
    (fun r h => ⟨fun c => (h c).2.2, sem_eq_zero_of_no_sems (by decide) r.2⟩) (Cert.Reference17Ideal.Value.run m ρ)

/-- The reference of the even-input-gradient kernel terminates, keeps its arguments, and has no semaphore. -/
theorem frame_reference18 : Cert.quiescent_Reference18Ideal (hReference18Ideal := Cert.Reference18Ideal.Gen.facts) := fun m ρ _ =>
  (θ_run Cert.Reference18Ideal.defs _ _).mono
    (fun r h => ⟨fun c => (h c).2.2, sem_eq_zero_of_no_sems (by decide) r.2⟩) (Cert.Reference18Ideal.Value.run m ρ)

/-- The reference of the even-input-weight-gradient kernel terminates, keeps its arguments, and has no semaphore. -/
theorem frame_reference19 : Cert.quiescent_Reference19Ideal (hReference19Ideal := Cert.Reference19Ideal.Gen.facts) := fun m ρ _ =>
  (θ_run Cert.Reference19Ideal.defs _ _).mono
    (fun r h => ⟨fun c => (h c).2, sem_eq_zero_of_no_sems (by decide) r.2⟩) (Cert.Reference19Ideal.Value.run m ρ)

/-- The reference of the query-projection kernel terminates, keeps its arguments, and has no semaphore. -/
theorem frame_reference20 : Cert.quiescent_Reference20Ideal (hReference20Ideal := Cert.Reference20Ideal.Gen.facts) := fun m ρ _ =>
  (θ_run Cert.Reference20Ideal.defs _ _).mono
    (fun r h => ⟨fun c => (h c).2, sem_eq_zero_of_no_sems (by decide) r.2⟩) (Cert.Reference20Ideal.Value.run m ρ)

/-- The reference of the query-projection-gradient kernel terminates, keeps its arguments, and has no semaphore. -/
theorem frame_reference21 : Cert.quiescent_Reference21Ideal (hReference21Ideal := Cert.Reference21Ideal.Gen.facts) := fun m ρ _ =>
  (θ_run Cert.Reference21Ideal.defs _ _).mono
    (fun r h => ⟨fun c => (h c).2, sem_eq_zero_of_no_sems (by decide) r.2⟩) (Cert.Reference21Ideal.Value.run m ρ)

/-- The reference of the query-weight-gradient kernel terminates, keeps its arguments, and has no semaphore. -/
theorem frame_reference22 : Cert.quiescent_Reference22Ideal (hReference22Ideal := Cert.Reference22Ideal.Gen.facts) := fun m ρ _ =>
  (θ_run Cert.Reference22Ideal.defs _ _).mono
    (fun r h => ⟨fun c => (h c).2, sem_eq_zero_of_no_sems (by decide) r.2⟩) (Cert.Reference22Ideal.Value.run m ρ)

/-- The reference of the key-value-projection kernel terminates, keeps its arguments, and has no semaphore. -/
theorem frame_reference23 : Cert.quiescent_Reference23Ideal (hReference23Ideal := Cert.Reference23Ideal.Gen.facts) := fun m ρ _ =>
  (θ_run Cert.Reference23Ideal.defs _ _).mono
    (fun r h => ⟨fun c => (h c).2, sem_eq_zero_of_no_sems (by decide) r.2⟩) (Cert.Reference23Ideal.Value.run m ρ)

/-- The reference of the key-value-projection-gradient kernel terminates, keeps its arguments, and has no semaphore. -/
theorem frame_reference24 : Cert.quiescent_Reference24Ideal (hReference24Ideal := Cert.Reference24Ideal.Gen.facts) := fun m ρ _ =>
  (θ_run Cert.Reference24Ideal.defs _ _).mono
    (fun r h => ⟨fun c => (h c).2, sem_eq_zero_of_no_sems (by decide) r.2⟩) (Cert.Reference24Ideal.Value.run m ρ)

/-- The reference of the key-value-weight-gradient kernel terminates, keeps its arguments, and has no semaphore. -/
theorem frame_reference25 : Cert.quiescent_Reference25Ideal (hReference25Ideal := Cert.Reference25Ideal.Gen.facts) := fun m ρ _ =>
  (θ_run Cert.Reference25Ideal.defs _ _).mono
    (fun r h => ⟨fun c => (h c).2, sem_eq_zero_of_no_sems (by decide) r.2⟩) (Cert.Reference25Ideal.Value.run m ρ)

/-- The reference of the attention-output-weight-gradient kernel terminates, keeps its arguments, and has no semaphore. -/
theorem frame_reference26 : Cert.quiescent_Reference26Ideal (hReference26Ideal := Cert.Reference26Ideal.Gen.facts) := fun m ρ _ =>
  (θ_run Cert.Reference26Ideal.defs _ _).mono
    (fun r h => ⟨fun c => (h c).2, sem_eq_zero_of_no_sems (by decide) r.2⟩) (Cert.Reference26Ideal.Value.run m ρ)

/-- All the claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  frame_reference20,
  fun m ρ _ => Cert.Kernel21.Gen.frame m ρ,
  fun m ρ _ => Cert.Kernel21Ideal.Gen.frame m ρ,
  frame_reference21,
  fun m ρ _ => Cert.Kernel22.Gen.frame m ρ,
  fun m ρ _ => Cert.Kernel22Ideal.Gen.frame m ρ,
  frame_reference22,
  fun m ρ _ => Cert.Kernel23.Gen.frame m ρ,
  fun m ρ _ => Cert.Kernel23Ideal.Gen.frame m ρ,
  frame_reference23,
  fun m ρ _ => Cert.Kernel24.Gen.frame m ρ,
  fun m ρ _ => Cert.Kernel24Ideal.Gen.frame m ρ,
  frame_reference24,
  fun m ρ _ => Cert.Kernel25.Gen.frame m ρ,
  fun m ρ _ => Cert.Kernel25Ideal.Gen.frame m ρ,
  frame_reference25,
  fun m ρ _ => Cert.Kernel26.Gen.frame m ρ,
  fun m ρ _ => Cert.Kernel26Ideal.Gen.frame m ρ,
  frame_reference26,
  trivial, Cert.Ffn.Bwd.equal,
  trivial, Cert.Ffn.Dw.equal,
  trivial, Cert.Conv.equal,
  trivial, Cert.Ffn.Fwd.equal,
  trivial, Cert.InBwd.equal,
  trivial, Cert.InDw.equal,
  trivial, Cert.OutBwd.equal,
  trivial, Cert.OutDw.equal,
  trivial, Cert.InFwd.equal,
  trivial, Cert.Conv.Fwd.equal,
  trivial, Cert.OutFwd.equal,
  trivial, Cert.Adam.equal,
  trivial, Cert.Loss.equal,
  trivial, Cert.SgFwd.equal,
  trivial, Cert.SgBwd.equal,
  trivial, Cert.SgDw.equal,
  trivial, Cert.EvenFwd.equal,
  trivial, Cert.EvenBwd.equal,
  trivial, Cert.EvenDw.equal,
  trivial, Cert.QUp.equal,
  trivial, Cert.QUpBwd.equal,
  trivial, Cert.QUpDw.equal,
  trivial, Cert.KvUp.equal,
  trivial, Cert.KvUpBwd.equal,
  trivial, Cert.KvUpDw.equal,
  trivial, Cert.AttnOutDw.equal⟩

end Cert.Proof

end
